-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_in_range : Cert.Pre_experts_in_range.Facts] (m : (ℓ : Loc Cert.Kernel3.nD Cert.Kernel3.τ Cert.Kernel3.sig) → Buf (Elt Bits) ℓ) : Prop :=
  ∀ c : Dev Cert.Kernel3.nD,
    (Cert.Pre_experts_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_experts_in_range : Cert.Pre_experts_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_in_range [hPre_experts_in_range : Cert.Pre_experts_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_router_finite [hPre_router_finite : Cert.Pre_router_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_router_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_router_finite [hPre_router_finite : Cert.Pre_router_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_router_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_sticks_finite [hPre_sticks_finite : Cert.Pre_sticks_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_sticks_finite.fn (F := Ideal) (m ((c.tc : Thread Cert.Kernel7Ideal.nD Cert.Kernel7Ideal.τ).loc Cert.Kernel7Ideal.main_arg0))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_sticks_finite [hPre_sticks_finite : Cert.Pre_sticks_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_sticks_finite.fn (F := Ideal) (m ((c.tc : Thread Cert.Reference7Ideal.nD Cert.Reference7Ideal.τ).loc Cert.Reference7Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_experts_in_range : Cert.Pre_experts_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_experts_in_range : Cert.Pre_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_experts_in_range [hReference3Ideal : Cert.Reference3Ideal.Facts] [hPre_experts_in_range : Cert.Pre_experts_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_router_finite [hKernel5Ideal : Cert.Kernel5Ideal.Facts] [hPre_router_finite : Cert.Pre_router_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_router_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_router_finite [hReference5Ideal : Cert.Reference5Ideal.Facts] [hPre_router_finite : Cert.Pre_router_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_router_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Kernel7Ideal_pre_sticks_finite [hKernel7Ideal : Cert.Kernel7Ideal.Facts] [hPre_sticks_finite : Cert.Pre_sticks_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_sticks_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Reference7Ideal_pre_sticks_finite [hReference7Ideal : Cert.Reference7Ideal.Facts] [hPre_sticks_finite : Cert.Pre_sticks_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_sticks_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] [hPre_experts_in_range : Cert.Pre_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_router_finite [hKernel5Ideal : Cert.Kernel5Ideal.Facts] [hReference5Ideal : Cert.Reference5Ideal.Facts] [hPre_router_finite : Cert.Pre_router_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_router_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v25_0)) (v1 : (c : Dev Cert.Kernel5Ideal.nD) → Buf (Elt Ideal) ((c.tc : Thread Cert.Kernel5Ideal.nD Cert.Kernel5Ideal.τ).loc Cert.Kernel5Ideal.main_v25_1)) (v2 : (c : Dev Cert.Kernel5Ideal.nD) → Buf (Elt Ideal) ((c.tc : Thread Cert.Kernel5Ideal.nD Cert.Kernel5Ideal.τ).loc Cert.Kernel5Ideal.main_v25_2)) (v3 : (c : Dev Cert.Kernel5Ideal.nD) → Buf (Elt Ideal) ((c.tc : Thread Cert.Kernel5Ideal.nD Cert.Kernel5Ideal.τ).loc Cert.Kernel5Ideal.main_v25_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25_0) = v0 c
          ∧ r.2.mem ((c.tc : Thread Cert.Kernel5Ideal.nD Cert.Kernel5Ideal.τ).loc Cert.Kernel5Ideal.main_v25_1) = v1 c
          ∧ r.2.mem ((c.tc : Thread Cert.Kernel5Ideal.nD Cert.Kernel5Ideal.τ).loc Cert.Kernel5Ideal.main_v25_2) = v2 c
          ∧ r.2.mem ((c.tc : Thread Cert.Kernel5Ideal.nD Cert.Kernel5Ideal.τ).loc Cert.Kernel5Ideal.main_v25_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_v53) = v2 c
          ∧ r.2.mem ((c.tc : Thread Cert.Reference5Ideal.nD Cert.Reference5Ideal.τ).loc Cert.Reference5Ideal.main_v56) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "skip" .f32 0xC2D00000#32 ⊥

def algebraic_Kernel7Ideal_Reference7Ideal_pre_sticks_finite [hKernel7Ideal : Cert.Kernel7Ideal.Facts] [hReference7Ideal : Cert.Reference7Ideal.Facts] [hPre_sticks_finite : Cert.Pre_sticks_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_sticks_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_experts_in_range : Cert.Pre_experts_in_range.Facts) (hPre_router_finite : Cert.Pre_router_finite.Facts) (hPre_sticks_finite : Cert.Pre_sticks_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_in_range := hPre_experts_in_range)
    ∧ quiescent_Kernel3Ideal (hKernel3Ideal := hKernel3Ideal) (hPre_experts_in_range := hPre_experts_in_range)
    ∧ quiescent_Reference3Ideal (hReference3Ideal := hReference3Ideal)
    ∧ quiescent_Reference3Ideal_pre_experts_in_range (hReference3Ideal := hReference3Ideal) (hPre_experts_in_range := hPre_experts_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_router_finite (hKernel5Ideal := hKernel5Ideal) (hPre_router_finite := hPre_router_finite)
    ∧ quiescent_Reference5Ideal (hReference5Ideal := hReference5Ideal)
    ∧ quiescent_Reference5Ideal_pre_router_finite (hReference5Ideal := hReference5Ideal) (hPre_router_finite := hPre_router_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_sticks_finite (hKernel7Ideal := hKernel7Ideal) (hPre_sticks_finite := hPre_sticks_finite)
    ∧ quiescent_Reference7Ideal (hReference7Ideal := hReference7Ideal)
    ∧ quiescent_Reference7Ideal_pre_sticks_finite (hReference7Ideal := hReference7Ideal) (hPre_sticks_finite := hPre_sticks_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_in_range := hPre_experts_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_router_finite (hKernel5Ideal := hKernel5Ideal) (hReference5Ideal := hReference5Ideal) (hPre_router_finite := hPre_router_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_sticks_finite (hKernel7Ideal := hKernel7Ideal) (hReference7Ideal := hReference7Ideal) (hPre_sticks_finite := hPre_sticks_finite)
-- ==== Pre_experts_in_range.lean ====
abbrev S147456x1024 : Shape := ⟨2, ![147456, 1024]⟩
abbrev S288 : Shape := ⟨1, ![288]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : FVec F S147456x1024 .f32) (main_arg1 : IVec S288 32) (main_arg2 : IVec S1 32) (main_arg3 : FVec F S2x32x1024x2048 .f32) (main_arg4 : FVec F S2x32x2048 .f32) (main_arg5 : FVec F S2x32x1024x1024 .f32) (main_arg6 : FVec F S2x32x1024 .f32) : IVec S288 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  main_v4
-- ==== Pre_finite.lean ====
abbrev S32768x3072 : Shape := ⟨2, ![32768, 3072]⟩
abbrev S16x2048x128 : Shape := ⟨3, ![16, 2048, 128]⟩
abbrev S_ : Shape := ⟨0, ![]⟩

class Facts : Prop where
  bitsLt_bf16_f32 : FTy.bits .bf16 < FTy.bits .f32
  bcast_S_S32768x3072 : S_.BroadcastsInDim S32768x3072 (![] : Fin 0 → Fin S32768x3072.rank)
  reducesTo_S32768x3072_S_d0_1 : S32768x3072.ReducesTo [0, 1] S_
  h_S_ : 0 < S_.numel
  bcast_S_S16x2048x128 : S_.BroadcastsInDim S16x2048x128 (![] : Fin 0 → Fin S16x2048x128.rank)
  reducesTo_S16x2048x128_S_d0_1_2 : S16x2048x128.ReducesTo [0, 1, 2] S_

variable [Facts]

def fn {F : FTy → Type} [FloatOps F] (main_arg0 : FVec F S32768x3072 .bf16) (main_arg1 : FVec F S16x2048x128 .f32) : IVec S_ 1 :=
  let main_v0 : FVec F S32768x3072 .f32 := (extf .f32 · bitsLt_bf16_f32) main_arg0
  let main_v1 : FVec F S32768x3072 .f32 := Host.absf main_v0
  let main_cst : FVec F S_ .f32 := constant S_ .f32 0x7F800000#32
  let main_v2 : FVec F S32768x3072 .f32 := broadcastInDim S32768x3072 ![] bcast_S_S32768x3072 main_cst
  let main_v3 : IVec S32768x3072 1 := cmpf .olt main_v1 main_v2
  let main_c : IVec S_ 1 := constantI S_ 1 1#1
  let main_v4 : IVec S_ 1 := (fun x v => Host.reduce IntOp.andi x v reducesTo_S32768x3072_S_d0_1 h_S_) main_v3 main_c
  let main_v5 : FVec F S16x2048x128 .f32 := Host.absf main_arg1
  let main_cst_0 : FVec F S_ .f32 := constant S_ .f32 0x7F800000#32
  let main_v6 : FVec F S16x2048x128 .f32 := broadcastInDim S16x2048x128 ![] bcast_S_S16x2048x128 main_cst_0
  let main_v7 : IVec S16x2048x128 1 := cmpf .olt main_v5 main_v6
  let main_c_1 : IVec S_ 1 := constantI S_ 1 1#1
  let main_v8 : IVec S_ 1 := (fun x v => Host.reduce IntOp.andi x v reducesTo_S16x2048x128_S_d0_1_2 h_S_) main_v7 main_c_1
  let main_v9 : IVec S_ 1 := andi main_v4 main_v8
  main_v9
-- ==== Pre_router_finite.lean ====
abbrev S32768x1024 : Shape := ⟨2, ![32768, 1024]⟩
abbrev S2x1024x1024 : Shape := ⟨3, ![2, 1024, 1024]⟩
abbrev S2x1024 : Shape := ⟨2, ![2, 1024]⟩
abbrev S2x1024x32 : Shape := ⟨3, ![2, 1024, 32]⟩
abbrev S2x32 : Shape := ⟨2, ![2, 32]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S2x1024x32 : S_.BroadcastsInDim S2x1024x32 (![] : Fin 0 → Fin S2x1024x32.rank)
  reducesTo_S2x1024x32_S_d0_1_2 : S2x1024x32.ReducesTo [0, 1, 2] S_
  bcast_S_S2x32 : S_.BroadcastsInDim S2x32 (![] : Fin 0 → Fin S2x32.rank)
  reducesTo_S2x32_S_d0_1 : S2x32.ReducesTo [0, 1] S_

variable [Facts]

def fn_part1 {F : FTy → Type} [FloatOps F] (main_arg4 : FVec F S2x1024x32 .f32) (main_arg5 : FVec F S2x32 .f32) (main_v14 : IVec S_ 1) (main_v15 : FVec F S2x1024 .f32) (main_v16 : FVec F S2x1024 .f32) : IVec S_ 1 :=
  let main_v17 : IVec S2x1024 1 := cmpf .olt main_v15 main_v16
  let main_c_5 : IVec S_ 1 := constantI S_ 1 1#1
  let main_v18 : IVec S_ 1 := (fun x v => Host.reduce IntOp.andi x v reducesTo_S2x1024_S_d0_1 h_S_) main_v17 main_c_5
  let main_v19 : IVec S_ 1 := andi main_v14 main_v18
  let main_v20 : FVec F S2x1024x32 .f32 := Host.absf main_arg4
  let main_cst_6 : FVec F S_ .f32 := constant S_ .f32 0x7F800000#32
  let main_v21 : FVec F S2x1024x32 .f32 := broadcastInDim S2x1024x32 ![] bcast_S_S2x1024x32 main_cst_6
  let main_v22 : IVec S2x1024x32 1 := cmpf .olt main_v20 main_v21
  let main_c_7 : IVec S_ 1 := constantI S_ 1 1#1
  let main_v23 : IVec S_ 1 := (fun x v => Host.reduce IntOp.andi x v reducesTo_S2x1024x32_S_d0_1_2 h_S_) main_v22 main_c_7
  let main_v24 : IVec S_ 1 := andi main_v19 main_v23
  let main_v25 : FVec F S2x32 .f32 := Host.absf main_arg5
  let main_cst_8 : FVec F S_ .f32 := constant S_ .f32 0x7F800000#32
  let main_v26 : FVec F S2x32 .f32 := broadcastInDim S2x32 ![] bcast_S_S2x32 main_cst_8
  let main_v27 : IVec S2x32 1 := cmpf .olt main_v25 main_v26
  let main_c_9 : IVec S_ 1 := constantI S_ 1 1#1
  let main_v28 : IVec S_ 1 := (fun x v => Host.reduce IntOp.andi x v reducesTo_S2x32_S_d0_1 h_S_) main_v27 main_c_9
  let main_v29 : IVec S_ 1 := andi main_v24 main_v28
  main_v29

def fn {F : FTy → Type} [FloatOps F] (main_arg0 : FVec F S32768x1024 .bf16) (main_arg1 : FVec F S32768x1024 .f32) (main_arg2 : FVec F S2x1024x1024 .f32) (main_arg3 : FVec F S2x1024 .f32) (main_arg4 : FVec F S2x1024x32 .f32) (main_arg5 : FVec F S2x32 .f32) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x1024 .f32 := Host.absf main_arg1
  let main_cst_0 : FVec F S_ .f32 := constant S_ .f32 0x7F800000#32
  let main_v6 : FVec F S32768x1024 .f32 := broadcastInDim S32768x1024 ![] bcast_S_S32768x1024 main_cst_0
  let main_v7 : IVec S32768x1024 1 := cmpf .olt main_v5 main_v6
  let main_c_1 : IVec S_ 1 := constantI S_ 1 1#1
  let main_v8 : IVec S_ 1 := (fun x v => Host.reduce IntOp.andi x v reducesTo_S32768x1024_S_d0_1 h_S_) main_v7 main_c_1
  let main_v9 : IVec S_ 1 := andi main_v4 main_v8
  let main_v10 : FVec F S2x1024x1024 .f32 := Host.absf main_arg2
  let main_cst_2 : FVec F S_ .f32 := constant S_ .f32 0x7F800000#32
  let main_v11 : FVec F S2x1024x1024 .f32 := broadcastInDim S2x1024x1024 ![] bcast_S_S2x1024x1024 main_cst_2
  let main_v12 : IVec S2x1024x1024 1 := cmpf .olt main_v10 main_v11
  let main_c_3 : IVec S_ 1 := constantI S_ 1 1#1
  let main_v13 : IVec S_ 1 := (fun x v => Host.reduce IntOp.andi x v reducesTo_S2x1024x1024_S_d0_1_2 h_S_) main_v12 main_c_3
  let main_v14 : IVec S_ 1 := andi main_v9 main_v13
  let main_v15 : FVec F S2x1024 .f32 := Host.absf main_arg3
  let main_cst_4 : FVec F S_ .f32 := constant S_ .f32 0x7F800000#32
  let main_v16 : FVec F S2x1024 .f32 := broadcastInDim S2x1024 ![] bcast_S_S2x1024 main_cst_4
  fn_part1 (F := F) main_arg4 main_arg5 main_v14 main_v15 main_v16
-- ==== Pre_sticks_finite.lean ====
abbrev S32768x3072 : Shape := ⟨2, ![32768, 3072]⟩
abbrev S_ : Shape := ⟨0, ![]⟩

class Facts : Prop where
  bitsLt_bf16_f32 : FTy.bits .bf16 < FTy.bits .f32
  bcast_S_S32768x3072 : S_.BroadcastsInDim S32768x3072 (![] : Fin 0 → Fin S32768x3072.rank)
  reducesTo_S32768x3072_S_d0_1 : S32768x3072.ReducesTo [0, 1] S_
  h_S_ : 0 < S_.numel

variable [Facts]

def fn {F : FTy → Type} [FloatOps F] (main_arg0 : FVec F S32768x3072 .bf16) : IVec S_ 1 :=
  let main_v0 : FVec F S32768x3072 .f32 := (extf .f32 · bitsLt_bf16_f32) main_arg0
  let main_v1 : FVec F S32768x3072 .f32 := Host.absf main_v0
  let main_cst : FVec F S_ .f32 := constant S_ .f32 0x7F800000#32
  let main_v2 : FVec F S32768x3072 .f32 := broadcastInDim S32768x3072 ![] bcast_S_S32768x3072 main_cst
  let main_v3 : IVec S32768x3072 1 := cmpf .olt main_v1 main_v2
  let main_c : IVec S_ 1 := constantI S_ 1 1#1
  let main_v4 : IVec S_ 1 := (fun x v => Host.reduce IntOp.andi x v reducesTo_S32768x3072_S_d0_1 h_S_) main_v3 main_c
  main_v4
-- ==== Kernel.lean ====
abbrev S32768x3072 : Shape := ⟨2, ![32768, 3072]⟩
abbrev S16x2048x128 : Shape := ⟨3, ![16, 2048, 128]⟩
abbrev S16x2048x3072 : Shape := ⟨3, ![16, 2048, 3072]⟩
abbrev S16x2048x16 : Shape := ⟨3, ![16, 2048, 16]⟩
abbrev S16x16x2048 : Shape := ⟨3, ![16, 16, 2048]⟩
abbrev S16x2048x1024 : Shape := ⟨3, ![16, 2048, 1024]⟩
abbrev S1x256x256 : Shape := ⟨3, ![1, 256, 256]⟩
abbrev S1x2048x256 : Shape := ⟨3, ![1, 2048, 256]⟩
abbrev S1x256x128 : Shape := ⟨3, ![1, 256, 128]⟩
abbrev S1x16x2048 : Shape := ⟨3, ![1, 16, 2048]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1x2048x128 : Shape := ⟨3, ![1, 2048, 128]⟩
abbrev S2048x128 : Shape := ⟨2, ![2048, 128]⟩
abbrev S1x1x2048 : Shape := ⟨3, ![1, 1, 2048]⟩
abbrev S1x2048 : Shape := ⟨2, ![1, 2048]⟩
abbrev S256x2048 : Shape := ⟨2, ![256, 2048]⟩
abbrev S256x1792 : Shape := ⟨2, ![256, 1792]⟩
abbrev S4096x128 : Shape := ⟨2, ![4096, 128]⟩
abbrev S256x4096 : Shape := ⟨2, ![256, 4096]⟩
abbrev S1x1792x128 : Shape := ⟨3, ![1, 1792, 128]⟩
abbrev S1792x128 : Shape := ⟨2, ![1792, 128]⟩
abbrev S1x1x1792 : Shape := ⟨3, ![1, 1, 1792]⟩
abbrev S1x1792 : Shape := ⟨2, ![1, 1792]⟩
abbrev S256x1536 : Shape := ⟨2, ![256, 1536]⟩
abbrev S3584x128 : Shape := ⟨2, ![3584, 128]⟩
abbrev S256x3584 : Shape := ⟨2, ![256, 3584]⟩
abbrev S1x1536x128 : Shape := ⟨3, ![1, 1536, 128]⟩
abbrev S1536x128 : Shape := ⟨2, ![1536, 128]⟩
abbrev S1x1x1536 : Shape := ⟨3, ![1, 1, 1536]⟩
abbrev S1x1536 : Shape := ⟨2, ![1, 1536]⟩
abbrev S256x1280 : Shape := ⟨2, ![256, 1280]⟩
abbrev S3072x128 : Shape := ⟨2, ![3072, 128]⟩
abbrev S256x3072 : Shape := ⟨2, ![256, 3072]⟩
abbrev S1x1280x128 : Shape := ⟨3, ![1, 1280, 128]⟩
abbrev S1280x128 : Shape := ⟨2, ![1280, 128]⟩
abbrev S1x1x1280 : Shape := ⟨3, ![1, 1, 1280]⟩
abbrev S1x1280 : Shape := ⟨2, ![1, 1280]⟩
abbrev S256x1024 : Shape := ⟨2, ![256, 1024]⟩
abbrev S2560x128 : Shape := ⟨2, ![2560, 128]⟩
abbrev S256x2560 : Shape := ⟨2, ![256, 2560]⟩
abbrev S1x1024x128 : Shape := ⟨3, ![1, 1024, 128]⟩
abbrev S1024x128 : Shape := ⟨2, ![1024, 128]⟩
abbrev S1x1x1024 : Shape := ⟨3, ![1, 1, 1024]⟩
abbrev S1x1024 : Shape := ⟨2, ![1, 1024]⟩
abbrev S256x768 : Shape := ⟨2, ![256, 768]⟩
abbrev S1x768x128 : Shape := ⟨3, ![1, 768, 128]⟩
abbrev S768x128 : Shape := ⟨2, ![768, 128]⟩
abbrev S1x1x768 : Shape := ⟨3, ![1, 1, 768]⟩
abbrev S1x768 : Shape := ⟨2, ![1, 768]⟩
abbrev S256x512 : Shape := ⟨2, ![256, 512]⟩
abbrev S1x512x128 : Shape := ⟨3, ![1, 512, 128]⟩
abbrev S512x128 : Shape := ⟨2, ![512, 128]⟩
abbrev S1x1x512 : Shape := ⟨3, ![1, 1, 512]⟩
abbrev S1x512 : Shape := ⟨2, ![1, 512]⟩
abbrev S1x1x256 : Shape := ⟨3, ![1, 1, 256]⟩
abbrev S1x256 : Shape := ⟨2, ![1, 256]⟩

abbrev nBuf : Space → Nat
  | .hbm => 6
  | .vmem => 12
  | .smem => 0
  | _ => 0

abbrev bufTy : (tb : Table) → Fin (tcTables nBuf tb) → BufTy
  | .hbm, ⟨0, _⟩ => ⟨S32768x3072, .bf16⟩
  | .hbm, ⟨1, _⟩ => ⟨S16x2048x128, .f32⟩
  | .hbm, ⟨2, _⟩ => ⟨S16x2048x3072, .bf16⟩
  | .hbm, ⟨3, _⟩ => ⟨S16x2048x16, .f32⟩
  | .hbm, ⟨4, _⟩ => ⟨S16x16x2048, .f32⟩
  | .hbm, ⟨5, _⟩ => ⟨S16x2048x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x128, .f32⟩
  | .local _ .vmem, ⟨7, _⟩ => ⟨S1x256x128, .f32⟩
  | .local _ .vmem, ⟨8, _⟩ => ⟨S1x16x2048, .f32⟩
  | .local _ .vmem, ⟨9, _⟩ => ⟨S1x16x2048, .f32⟩
  | .local _ .vmem, ⟨10, _⟩ => ⟨S1x256x256, .bf16⟩
  | .local _ .vmem, ⟨11, _⟩ => ⟨S1x256x256, .bf16⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 8], ![false, false, false]⟩

def k0_cond1 (i : grid0.Coords) : BitVec 1 :=
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_47 : BitVec 32 := 2048#32
  let v123 : BitVec 32 := Scalar.muli v29 c2048_i32_47
  let v124 : BitVec 32 := Scalar.subi v12 v123
  let c0_i32_49 : BitVec 32 := 0#32
  let v126 : BitVec 1 := Scalar.cmpi .sgt v124 c0_i32_49
  let v127 : BitVec 32 := Scalar.extui v126
  let c0_i32_50 : BitVec 32 := 0#32
  let v128 : BitVec 1 := Scalar.cmpi .slt v124 c0_i32_50
  let v129 : BitVec 32 := Scalar.extui v128
  let v130 : BitVec 32 := Scalar.subi v127 v129
  let c256_i32_48 : BitVec 32 := 256#32
  let c0_i32_51 : BitVec 32 := 0#32
  let v131 : BitVec 1 := Scalar.cmpi .sgt c256_i32_48 c0_i32_51
  let v132 : BitVec 32 := Scalar.extui v131
  let c0_i32_52 : BitVec 32 := 0#32
  let v133 : BitVec 1 := Scalar.cmpi .slt c256_i32_48 c0_i32_52
  let v134 : BitVec 32 := Scalar.extui v133
  let v135 : BitVec 32 := Scalar.subi v132 v134
  let v136 : BitVec 1 := Scalar.cmpi .ne v130 v135
  let v137 : BitVec 32 := Scalar.remsi v124 c256_i32_48
  let c0_i32_53 : BitVec 32 := 0#32
  let v138 : BitVec 1 := Scalar.cmpi .ne v137 c0_i32_53
  let v139 : BitVec 1 := Scalar.andi v136 v138
  let v125 : BitVec 32 := Scalar.divsi v124 c256_i32_48
  let c1_i32_54 : BitVec 32 := 1#32
  let v140 : BitVec 32 := Scalar.subi v125 c1_i32_54
  let v141 : BitVec 32 := Scalar.select v139 v140 v125
  let c0_i32_55 : BitVec 32 := 0#32
  let v142 : BitVec 32 := Scalar.maxsi v141 c0_i32_55
  let c7_i32 : BitVec 32 := 7#32
  let v143 : BitVec 32 := Scalar.minsi v142 c7_i32
  let c0_i32_56 : BitVec 32 := 0#32
  let v144 : BitVec 1 := Scalar.cmpi .ne v143 c0_i32_56
  v144

def k0_cond2 (i : grid0.Coords) : BitVec 1 :=
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_47 : BitVec 32 := 2048#32
  let v123 : BitVec 32 := Scalar.muli v29 c2048_i32_47
  let v124 : BitVec 32 := Scalar.subi v12 v123
  let c0_i32_49 : BitVec 32 := 0#32
  let v126 : BitVec 1 := Scalar.cmpi .sgt v124 c0_i32_49
  let v127 : BitVec 32 := Scalar.extui v126
  let c0_i32_50 : BitVec 32 := 0#32
  let v128 : BitVec 1 := Scalar.cmpi .slt v124 c0_i32_50
  let v129 : BitVec 32 := Scalar.extui v128
  let v130 : BitVec 32 := Scalar.subi v127 v129
  let c256_i32_48 : BitVec 32 := 256#32
  let c0_i32_51 : BitVec 32 := 0#32
  let v131 : BitVec 1 := Scalar.cmpi .sgt c256_i32_48 c0_i32_51
  let v132 : BitVec 32 := Scalar.extui v131
  let c0_i32_52 : BitVec 32 := 0#32
  let v133 : BitVec 1 := Scalar.cmpi .slt c256_i32_48 c0_i32_52
  let v134 : BitVec 32 := Scalar.extui v133
  let v135 : BitVec 32 := Scalar.subi v132 v134
  let v136 : BitVec 1 := Scalar.cmpi .ne v130 v135
  let v137 : BitVec 32 := Scalar.remsi v124 c256_i32_48
  let c0_i32_53 : BitVec 32 := 0#32
  let v138 : BitVec 1 := Scalar.cmpi .ne v137 c0_i32_53
  let v139 : BitVec 1 := Scalar.andi v136 v138
  let v125 : BitVec 32 := Scalar.divsi v124 c256_i32_48
  let c1_i32_54 : BitVec 32 := 1#32
  let v140 : BitVec 32 := Scalar.subi v125 c1_i32_54
  let v141 : BitVec 32 := Scalar.select v139 v140 v125
  let c0_i32_55 : BitVec 32 := 0#32
  let v142 : BitVec 32 := Scalar.maxsi v141 c0_i32_55
  let c7_i32 : BitVec 32 := 7#32
  let v143 : BitVec 32 := Scalar.minsi v142 c7_i32
  let c1_i32_60 : BitVec 32 := 1#32
  let v153 : BitVec 32 := Scalar.subi v143 c1_i32_60
  let c0_i32_61 : BitVec 32 := 0#32
  let v154 : BitVec 1 := Scalar.cmpi .ne v153 c0_i32_61
  v154

def k0_cond3 (i : grid0.Coords) : BitVec 1 :=
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_47 : BitVec 32 := 2048#32
  let v123 : BitVec 32 := Scalar.muli v29 c2048_i32_47
  let v124 : BitVec 32 := Scalar.subi v12 v123
  let c0_i32_49 : BitVec 32 := 0#32
  let v126 : BitVec 1 := Scalar.cmpi .sgt v124 c0_i32_49
  let v127 : BitVec 32 := Scalar.extui v126
  let c0_i32_50 : BitVec 32 := 0#32
  let v128 : BitVec 1 := Scalar.cmpi .slt v124 c0_i32_50
  let v129 : BitVec 32 := Scalar.extui v128
  let v130 : BitVec 32 := Scalar.subi v127 v129
  let c256_i32_48 : BitVec 32 := 256#32
  let c0_i32_51 : BitVec 32 := 0#32
  let v131 : BitVec 1 := Scalar.cmpi .sgt c256_i32_48 c0_i32_51
  let v132 : BitVec 32 := Scalar.extui v131
  let c0_i32_52 : BitVec 32 := 0#32
  let v133 : BitVec 1 := Scalar.cmpi .slt c256_i32_48 c0_i32_52
  let v134 : BitVec 32 := Scalar.extui v133
  let v135 : BitVec 32 := Scalar.subi v132 v134
  let v136 : BitVec 1 := Scalar.cmpi .ne v130 v135
  let v137 : BitVec 32 := Scalar.remsi v124 c256_i32_48
  let c0_i32_53 : BitVec 32 := 0#32
  let v138 : BitVec 1 := Scalar.cmpi .ne v137 c0_i32_53
  let v139 : BitVec 1 := Scalar.andi v136 v138
  let v125 : BitVec 32 := Scalar.divsi v124 c256_i32_48
  let c1_i32_54 : BitVec 32 := 1#32
  let v140 : BitVec 32 := Scalar.subi v125 c1_i32_54
  let v141 : BitVec 32 := Scalar.select v139 v140 v125
  let c0_i32_55 : BitVec 32 := 0#32
  let v142 : BitVec 32 := Scalar.maxsi v141 c0_i32_55
  let c7_i32 : BitVec 32 := 7#32
  let v143 : BitVec 32 := Scalar.minsi v142 c7_i32
  let c1_i32_60 : BitVec 32 := 1#32
  let v153 : BitVec 32 := Scalar.subi v143 c1_i32_60
  let c1_i32_62 : BitVec 32 := 1#32
  let v156 : BitVec 32 := Scalar.subi v153 c1_i32_62
  let c0_i32_63 : BitVec 32 := 0#32
  let v157 : BitVec 1 := Scalar.cmpi .ne v156 c0_i32_63
  v157

def k0_cond4 (i : grid0.Coords) : BitVec 1 :=
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_47 : BitVec 32 := 2048#32
  let v123 : BitVec 32 := Scalar.muli v29 c2048_i32_47
  let v124 : BitVec 32 := Scalar.subi v12 v123
  let c0_i32_49 : BitVec 32 := 0#32
  let v126 : BitVec 1 := Scalar.cmpi .sgt v124 c0_i32_49
  let v127 : BitVec 32 := Scalar.extui v126
  let c0_i32_50 : BitVec 32 := 0#32
  let v128 : BitVec 1 := Scalar.cmpi .slt v124 c0_i32_50
  let v129 : BitVec 32 := Scalar.extui v128
  let v130 : BitVec 32 := Scalar.subi v127 v129
  let c256_i32_48 : BitVec 32 := 256#32
  let c0_i32_51 : BitVec 32 := 0#32
  let v131 : BitVec 1 := Scalar.cmpi .sgt c256_i32_48 c0_i32_51
  let v132 : BitVec 32 := Scalar.extui v131
  let c0_i32_52 : BitVec 32 := 0#32
  let v133 : BitVec 1 := Scalar.cmpi .slt c256_i32_48 c0_i32_52
  let v134 : BitVec 32 := Scalar.extui v133
  let v135 : BitVec 32 := Scalar.subi v132 v134
  let v136 : BitVec 1 := Scalar.cmpi .ne v130 v135
  let v137 : BitVec 32 := Scalar.remsi v124 c256_i32_48
  let c0_i32_53 : BitVec 32 := 0#32
  let v138 : BitVec 1 := Scalar.cmpi .ne v137 c0_i32_53
  let v139 : BitVec 1 := Scalar.andi v136 v138
  let v125 : BitVec 32 := Scalar.divsi v124 c256_i32_48
  let c1_i32_54 : BitVec 32 := 1#32
  let v140 : BitVec 32 := Scalar.subi v125 c1_i32_54
  let v141 : BitVec 32 := Scalar.select v139 v140 v125
  let c0_i32_55 : BitVec 32 := 0#32
  let v142 : BitVec 32 := Scalar.maxsi v141 c0_i32_55
  let c7_i32 : BitVec 32 := 7#32
  let v143 : BitVec 32 := Scalar.minsi v142 c7_i32
  let c1_i32_60 : BitVec 32 := 1#32
  let v153 : BitVec 32 := Scalar.subi v143 c1_i32_60
  let c1_i32_62 : BitVec 32 := 1#32
  let v156 : BitVec 32 := Scalar.subi v153 c1_i32_62
  let c1_i32_64 : BitVec 32 := 1#32
  let v159 : BitVec 32 := Scalar.subi v156 c1_i32_64
  let c0_i32_65 : BitVec 32 := 0#32
  let v160 : BitVec 1 := Scalar.cmpi .ne v159 c0_i32_65
  v160

def k0_cond5 (i : grid0.Coords) : BitVec 1 :=
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_47 : BitVec 32 := 2048#32
  let v123 : BitVec 32 := Scalar.muli v29 c2048_i32_47
  let v124 : BitVec 32 := Scalar.subi v12 v123
  let c0_i32_49 : BitVec 32 := 0#32
  let v126 : BitVec 1 := Scalar.cmpi .sgt v124 c0_i32_49
  let v127 : BitVec 32 := Scalar.extui v126
  let c0_i32_50 : BitVec 32 := 0#32
  let v128 : BitVec 1 := Scalar.cmpi .slt v124 c0_i32_50
  let v129 : BitVec 32 := Scalar.extui v128
  let v130 : BitVec 32 := Scalar.subi v127 v129
  let c256_i32_48 : BitVec 32 := 256#32
  let c0_i32_51 : BitVec 32 := 0#32
  let v131 : BitVec 1 := Scalar.cmpi .sgt c256_i32_48 c0_i32_51
  let v132 : BitVec 32 := Scalar.extui v131
  let c0_i32_52 : BitVec 32 := 0#32
  let v133 : BitVec 1 := Scalar.cmpi .slt c256_i32_48 c0_i32_52
  let v134 : BitVec 32 := Scalar.extui v133
  let v135 : BitVec 32 := Scalar.subi v132 v134
  let v136 : BitVec 1 := Scalar.cmpi .ne v130 v135
  let v137 : BitVec 32 := Scalar.remsi v124 c256_i32_48
  let c0_i32_53 : BitVec 32 := 0#32
  let v138 : BitVec 1 := Scalar.cmpi .ne v137 c0_i32_53
  let v139 : BitVec 1 := Scalar.andi v136 v138
  let v125 : BitVec 32 := Scalar.divsi v124 c256_i32_48
  let c1_i32_54 : BitVec 32 := 1#32
  let v140 : BitVec 32 := Scalar.subi v125 c1_i32_54
  let v141 : BitVec 32 := Scalar.select v139 v140 v125
  let c0_i32_55 : BitVec 32 := 0#32
  let v142 : BitVec 32 := Scalar.maxsi v141 c0_i32_55
  let c7_i32 : BitVec 32 := 7#32
  let v143 : BitVec 32 := Scalar.minsi v142 c7_i32
  let c1_i32_60 : BitVec 32 := 1#32
  let v153 : BitVec 32 := Scalar.subi v143 c1_i32_60
  let c1_i32_62 : BitVec 32 := 1#32
  let v156 : BitVec 32 := Scalar.subi v153 c1_i32_62
  let c1_i32_64 : BitVec 32 := 1#32
  let v159 : BitVec 32 := Scalar.subi v156 c1_i32_64
  let c1_i32_66 : BitVec 32 := 1#32
  let v162 : BitVec 32 := Scalar.subi v159 c1_i32_66
  let c0_i32_67 : BitVec 32 := 0#32
  let v163 : BitVec 1 := Scalar.cmpi .ne v162 c0_i32_67
  v163

def k0_cond6 (i : grid0.Coords) : BitVec 1 :=
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_47 : BitVec 32 := 2048#32
  let v123 : BitVec 32 := Scalar.muli v29 c2048_i32_47
  let v124 : BitVec 32 := Scalar.subi v12 v123
  let c0_i32_49 : BitVec 32 := 0#32
  let v126 : BitVec 1 := Scalar.cmpi .sgt v124 c0_i32_49
  let v127 : BitVec 32 := Scalar.extui v126
  let c0_i32_50 : BitVec 32 := 0#32
  let v128 : BitVec 1 := Scalar.cmpi .slt v124 c0_i32_50
  let v129 : BitVec 32 := Scalar.extui v128
  let v130 : BitVec 32 := Scalar.subi v127 v129
  let c256_i32_48 : BitVec 32 := 256#32
  let c0_i32_51 : BitVec 32 := 0#32
  let v131 : BitVec 1 := Scalar.cmpi .sgt c256_i32_48 c0_i32_51
  let v132 : BitVec 32 := Scalar.extui v131
  let c0_i32_52 : BitVec 32 := 0#32
  let v133 : BitVec 1 := Scalar.cmpi .slt c256_i32_48 c0_i32_52
  let v134 : BitVec 32 := Scalar.extui v133
  let v135 : BitVec 32 := Scalar.subi v132 v134
  let v136 : BitVec 1 := Scalar.cmpi .ne v130 v135
  let v137 : BitVec 32 := Scalar.remsi v124 c256_i32_48
  let c0_i32_53 : BitVec 32 := 0#32
  let v138 : BitVec 1 := Scalar.cmpi .ne v137 c0_i32_53
  let v139 : BitVec 1 := Scalar.andi v136 v138
  let v125 : BitVec 32 := Scalar.divsi v124 c256_i32_48
  let c1_i32_54 : BitVec 32 := 1#32
  let v140 : BitVec 32 := Scalar.subi v125 c1_i32_54
  let v141 : BitVec 32 := Scalar.select v139 v140 v125
  let c0_i32_55 : BitVec 32 := 0#32
  let v142 : BitVec 32 := Scalar.maxsi v141 c0_i32_55
  let c7_i32 : BitVec 32 := 7#32
  let v143 : BitVec 32 := Scalar.minsi v142 c7_i32
  let c1_i32_60 : BitVec 32 := 1#32
  let v153 : BitVec 32 := Scalar.subi v143 c1_i32_60
  let c1_i32_62 : BitVec 32 := 1#32
  let v156 : BitVec 32 := Scalar.subi v153 c1_i32_62
  let c1_i32_64 : BitVec 32 := 1#32
  let v159 : BitVec 32 := Scalar.subi v156 c1_i32_64
  let c1_i32_66 : BitVec 32 := 1#32
  let v162 : BitVec 32 := Scalar.subi v159 c1_i32_66
  let c1_i32_68 : BitVec 32 := 1#32
  let v165 : BitVec 32 := Scalar.subi v162 c1_i32_68
  let c0_i32_69 : BitVec 32 := 0#32
  let v166 : BitVec 1 := Scalar.cmpi .ne v165 c0_i32_69
  v166

def k0_cond7 (i : grid0.Coords) : BitVec 1 :=
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_47 : BitVec 32 := 2048#32
  let v123 : BitVec 32 := Scalar.muli v29 c2048_i32_47
  let v124 : BitVec 32 := Scalar.subi v12 v123
  let c0_i32_49 : BitVec 32 := 0#32
  let v126 : BitVec 1 := Scalar.cmpi .sgt v124 c0_i32_49
  let v127 : BitVec 32 := Scalar.extui v126
  let c0_i32_50 : BitVec 32 := 0#32
  let v128 : BitVec 1 := Scalar.cmpi .slt v124 c0_i32_50
  let v129 : BitVec 32 := Scalar.extui v128
  let v130 : BitVec 32 := Scalar.subi v127 v129
  let c256_i32_48 : BitVec 32 := 256#32
  let c0_i32_51 : BitVec 32 := 0#32
  let v131 : BitVec 1 := Scalar.cmpi .sgt c256_i32_48 c0_i32_51
  let v132 : BitVec 32 := Scalar.extui v131
  let c0_i32_52 : BitVec 32 := 0#32
  let v133 : BitVec 1 := Scalar.cmpi .slt c256_i32_48 c0_i32_52
  let v134 : BitVec 32 := Scalar.extui v133
  let v135 : BitVec 32 := Scalar.subi v132 v134
  let v136 : BitVec 1 := Scalar.cmpi .ne v130 v135
  let v137 : BitVec 32 := Scalar.remsi v124 c256_i32_48
  let c0_i32_53 : BitVec 32 := 0#32
  let v138 : BitVec 1 := Scalar.cmpi .ne v137 c0_i32_53
  let v139 : BitVec 1 := Scalar.andi v136 v138
  let v125 : BitVec 32 := Scalar.divsi v124 c256_i32_48
  let c1_i32_54 : BitVec 32 := 1#32
  let v140 : BitVec 32 := Scalar.subi v125 c1_i32_54
  let v141 : BitVec 32 := Scalar.select v139 v140 v125
  let c0_i32_55 : BitVec 32 := 0#32
  let v142 : BitVec 32 := Scalar.maxsi v141 c0_i32_55
  let c7_i32 : BitVec 32 := 7#32
  let v143 : BitVec 32 := Scalar.minsi v142 c7_i32
  let c1_i32_60 : BitVec 32 := 1#32
  let v153 : BitVec 32 := Scalar.subi v143 c1_i32_60
  let c1_i32_62 : BitVec 32 := 1#32
  let v156 : BitVec 32 := Scalar.subi v153 c1_i32_62
  let c1_i32_64 : BitVec 32 := 1#32
  let v159 : BitVec 32 := Scalar.subi v156 c1_i32_64
  let c1_i32_66 : BitVec 32 := 1#32
  let v162 : BitVec 32 := Scalar.subi v159 c1_i32_66
  let c1_i32_68 : BitVec 32 := 1#32
  let v165 : BitVec 32 := Scalar.subi v162 c1_i32_68
  let c1_i32_70 : BitVec 32 := 1#32
  let v168 : BitVec 32 := Scalar.subi v165 c1_i32_70
  let c0_i32_71 : BitVec 32 := 0#32
  let v169 : BitVec 1 := Scalar.cmpi .ne v168 c0_i32_71
  v169

def k0_mult1 (i : grid0.Coords) : BitVec 32 :=
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_46 : BitVec 32 := 2048#32
  let v122 : BitVec 32 := Scalar.muli v29 c2048_i32_46
  v122
def k0_off1 (i : grid0.Coords) : Fin 3 → Nat :=
  let c0_72 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_46 : BitVec 32 := 2048#32
  let v122 : BitVec 32 := Scalar.muli v29 c2048_i32_46
  let v171 : BitVec 32 := v122
  let v175 : Index := Scalar.indexCast v171
  let c0_73 : Index := 0#32
  ![0, v175.toNat, 0]
def k0_off2 (i : grid0.Coords) (c0_i32_75 : BitVec 32) (c0_i32_77 : BitVec 32) : Fin 3 → Nat :=
  let c0_78 : Index := 0#32
  let arg1 : BitVec 32 := BitVec.ofNat 32 (i 1).val
  let c2_i32_74 : BitVec 32 := 2#32
  let v178 : BitVec 32 := Scalar.muli arg1 c2_i32_74
  let v179 : BitVec 32 := Scalar.addi v178 c0_i32_75
  let c2_i32_76 : BitVec 32 := 2#32
  let v180 : BitVec 32 := Scalar.muli v179 c2_i32_76
  let v181 : BitVec 32 := Scalar.addi v180 c0_i32_77
  let v182 : Index := Scalar.indexCast v181
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_46 : BitVec 32 := 2048#32
  let v122 : BitVec 32 := Scalar.muli v29 c2048_i32_46
  let v171 : BitVec 32 := v122
  let v183 : Index := Scalar.indexCast v171
  ![0, v182.toNat, v183.toNat]
def k0_off3 (i : grid0.Coords) : Fin 3 → Nat :=
  let c0_88 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_46 : BitVec 32 := 2048#32
  let v122 : BitVec 32 := Scalar.muli v29 c2048_i32_46
  let v171 : BitVec 32 := v122
  let v210 : Index := Scalar.indexCast v171
  let c128_89 : Index := 128#32
  ![0, v210.toNat, 128]
def k0_mult2 (i : grid0.Coords) : BitVec 32 :=
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_45 : BitVec 32 := 2048#32
  let v121 : BitVec 32 := Scalar.muli v29 c2048_i32_45
  v121
def k0_off4 (i : grid0.Coords) : Fin 3 → Nat :=
  let c0_72 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_45 : BitVec 32 := 2048#32
  let v121 : BitVec 32 := Scalar.muli v29 c2048_i32_45
  let v171 : BitVec 32 := v121
  let v175 : Index := Scalar.indexCast v171
  let c0_73 : Index := 0#32
  ![0, v175.toNat, 0]
def k0_off5 (i : grid0.Coords) (c0_i32_75 : BitVec 32) (c0_i32_77 : BitVec 32) : Fin 3 → Nat :=
  let c0_78 : Index := 0#32
  let arg1 : BitVec 32 := BitVec.ofNat 32 (i 1).val
  let c2_i32_74 : BitVec 32 := 2#32
  let v178 : BitVec 32 := Scalar.muli arg1 c2_i32_74
  let v179 : BitVec 32 := Scalar.addi v178 c0_i32_75
  let c2_i32_76 : BitVec 32 := 2#32
  let v180 : BitVec 32 := Scalar.muli v179 c2_i32_76
  let v181 : BitVec 32 := Scalar.addi v180 c0_i32_77
  let v182 : Index := Scalar.indexCast v181
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_45 : BitVec 32 := 2048#32
  let v121 : BitVec 32 := Scalar.muli v29 c2048_i32_45
  let v171 : BitVec 32 := v121
  let v183 : Index := Scalar.indexCast v171
  ![0, v182.toNat, v183.toNat]
def k0_off6 (i : grid0.Coords) : Fin 3 → Nat :=
  let c0_88 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_45 : BitVec 32 := 2048#32
  let v121 : BitVec 32 := Scalar.muli v29 c2048_i32_45
  let v171 : BitVec 32 := v121
  let v210 : Index := Scalar.indexCast v171
  let c128_89 : Index := 128#32
  ![0, v210.toNat, 128]
def k0_mult3 (i : grid0.Coords) : BitVec 32 :=
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_44 : BitVec 32 := 2048#32
  let v120 : BitVec 32 := Scalar.muli v29 c2048_i32_44
  v120
def k0_off7 (i : grid0.Coords) : Fin 3 → Nat :=
  let c0_70 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_44 : BitVec 32 := 2048#32
  let v120 : BitVec 32 := Scalar.muli v29 c2048_i32_44
  let v168 : BitVec 32 := v120
  let v172 : Index := Scalar.indexCast v168
  let c0_71 : Index := 0#32
  ![0, v172.toNat, 0]
def k0_off8 (i : grid0.Coords) (c0_i32_73 : BitVec 32) (c0_i32_75 : BitVec 32) : Fin 3 → Nat :=
  let c0_76 : Index := 0#32
  let arg1 : BitVec 32 := BitVec.ofNat 32 (i 1).val
  let c2_i32_72 : BitVec 32 := 2#32
  let v175 : BitVec 32 := Scalar.muli arg1 c2_i32_72
  let v176 : BitVec 32 := Scalar.addi v175 c0_i32_73
  let c2_i32_74 : BitVec 32 := 2#32
  let v177 : BitVec 32 := Scalar.muli v176 c2_i32_74
  let v178 : BitVec 32 := Scalar.addi v177 c0_i32_75
  let v179 : Index := Scalar.indexCast v178
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_44 : BitVec 32 := 2048#32
  let v120 : BitVec 32 := Scalar.muli v29 c2048_i32_44
  let v168 : BitVec 32 := v120
  let v180 : Index := Scalar.indexCast v168
  ![0, v179.toNat, v180.toNat]
def k0_off9 (i : grid0.Coords) : Fin 3 → Nat :=
  let c0_86 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_44 : BitVec 32 := 2048#32
  let v120 : BitVec 32 := Scalar.muli v29 c2048_i32_44
  let v168 : BitVec 32 := v120
  let v207 : Index := Scalar.indexCast v168
  let c128_87 : Index := 128#32
  ![0, v207.toNat, 128]
def k0_mult4 (i : grid0.Coords) : BitVec 32 :=
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_43 : BitVec 32 := 2048#32
  let v119 : BitVec 32 := Scalar.muli v29 c2048_i32_43
  v119
def k0_off10 (i : grid0.Coords) : Fin 3 → Nat :=
  let c0_68 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_43 : BitVec 32 := 2048#32
  let v119 : BitVec 32 := Scalar.muli v29 c2048_i32_43
  let v165 : BitVec 32 := v119
  let v169 : Index := Scalar.indexCast v165
  let c0_69 : Index := 0#32
  ![0, v169.toNat, 0]
def k0_off11 (i : grid0.Coords) (c0_i32_71 : BitVec 32) (c0_i32_73 : BitVec 32) : Fin 3 → Nat :=
  let c0_74 : Index := 0#32
  let arg1 : BitVec 32 := BitVec.ofNat 32 (i 1).val
  let c2_i32_70 : BitVec 32 := 2#32
  let v172 : BitVec 32 := Scalar.muli arg1 c2_i32_70
  let v173 : BitVec 32 := Scalar.addi v172 c0_i32_71
  let c2_i32_72 : BitVec 32 := 2#32
  let v174 : BitVec 32 := Scalar.muli v173 c2_i32_72
  let v175 : BitVec 32 := Scalar.addi v174 c0_i32_73
  let v176 : Index := Scalar.indexCast v175
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_43 : BitVec 32 := 2048#32
  let v119 : BitVec 32 := Scalar.muli v29 c2048_i32_43
  let v165 : BitVec 32 := v119
  let v177 : Index := Scalar.indexCast v165
  ![0, v176.toNat, v177.toNat]
def k0_off12 (i : grid0.Coords) : Fin 3 → Nat :=
  let c0_84 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_43 : BitVec 32 := 2048#32
  let v119 : BitVec 32 := Scalar.muli v29 c2048_i32_43
  let v165 : BitVec 32 := v119
  let v204 : Index := Scalar.indexCast v165
  let c128_85 : Index := 128#32
  ![0, v204.toNat, 128]
def k0_mult5 (i : grid0.Coords) : BitVec 32 :=
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_42 : BitVec 32 := 2048#32
  let v118 : BitVec 32 := Scalar.muli v29 c2048_i32_42
  v118
def k0_off13 (i : grid0.Coords) : Fin 3 → Nat :=
  let c0_66 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_42 : BitVec 32 := 2048#32
  let v118 : BitVec 32 := Scalar.muli v29 c2048_i32_42
  let v162 : BitVec 32 := v118
  let v166 : Index := Scalar.indexCast v162
  let c0_67 : Index := 0#32
  ![0, v166.toNat, 0]
def k0_off14 (i : grid0.Coords) (c0_i32_69 : BitVec 32) (c0_i32_71 : BitVec 32) : Fin 3 → Nat :=
  let c0_72 : Index := 0#32
  let arg1 : BitVec 32 := BitVec.ofNat 32 (i 1).val
  let c2_i32_68 : BitVec 32 := 2#32
  let v169 : BitVec 32 := Scalar.muli arg1 c2_i32_68
  let v170 : BitVec 32 := Scalar.addi v169 c0_i32_69
  let c2_i32_70 : BitVec 32 := 2#32
  let v171 : BitVec 32 := Scalar.muli v170 c2_i32_70
  let v172 : BitVec 32 := Scalar.addi v171 c0_i32_71
  let v173 : Index := Scalar.indexCast v172
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_42 : BitVec 32 := 2048#32
  let v118 : BitVec 32 := Scalar.muli v29 c2048_i32_42
  let v162 : BitVec 32 := v118
  let v174 : Index := Scalar.indexCast v162
  ![0, v173.toNat, v174.toNat]
def k0_off15 (i : grid0.Coords) : Fin 3 → Nat :=
  let c0_82 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_42 : BitVec 32 := 2048#32
  let v118 : BitVec 32 := Scalar.muli v29 c2048_i32_42
  let v162 : BitVec 32 := v118
  let v201 : Index := Scalar.indexCast v162
  let c128_83 : Index := 128#32
  ![0, v201.toNat, 128]
def k0_mult6 (i : grid0.Coords) : BitVec 32 :=
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_41 : BitVec 32 := 2048#32
  let v117 : BitVec 32 := Scalar.muli v29 c2048_i32_41
  v117
def k0_off16 (i : grid0.Coords) : Fin 3 → Nat :=
  let c0_64 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_41 : BitVec 32 := 2048#32
  let v117 : BitVec 32 := Scalar.muli v29 c2048_i32_41
  let v159 : BitVec 32 := v117
  let v163 : Index := Scalar.indexCast v159
  let c0_65 : Index := 0#32
  ![0, v163.toNat, 0]
def k0_off17 (i : grid0.Coords) (c0_i32_67 : BitVec 32) (c0_i32_69 : BitVec 32) : Fin 3 → Nat :=
  let c0_70 : Index := 0#32
  let arg1 : BitVec 32 := BitVec.ofNat 32 (i 1).val
  let c2_i32_66 : BitVec 32 := 2#32
  let v166 : BitVec 32 := Scalar.muli arg1 c2_i32_66
  let v167 : BitVec 32 := Scalar.addi v166 c0_i32_67
  let c2_i32_68 : BitVec 32 := 2#32
  let v168 : BitVec 32 := Scalar.muli v167 c2_i32_68
  let v169 : BitVec 32 := Scalar.addi v168 c0_i32_69
  let v170 : Index := Scalar.indexCast v169
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_41 : BitVec 32 := 2048#32
  let v117 : BitVec 32 := Scalar.muli v29 c2048_i32_41
  let v159 : BitVec 32 := v117
  let v171 : Index := Scalar.indexCast v159
  ![0, v170.toNat, v171.toNat]
def k0_off18 (i : grid0.Coords) : Fin 3 → Nat :=
  let c0_80 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_41 : BitVec 32 := 2048#32
  let v117 : BitVec 32 := Scalar.muli v29 c2048_i32_41
  let v159 : BitVec 32 := v117
  let v198 : Index := Scalar.indexCast v159
  let c128_81 : Index := 128#32
  ![0, v198.toNat, 128]
def k0_mult7 (i : grid0.Coords) : BitVec 32 :=
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_40 : BitVec 32 := 2048#32
  let v116 : BitVec 32 := Scalar.muli v29 c2048_i32_40
  v116
def k0_off19 (i : grid0.Coords) : Fin 3 → Nat :=
  let c0_62 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_40 : BitVec 32 := 2048#32
  let v116 : BitVec 32 := Scalar.muli v29 c2048_i32_40
  let v156 : BitVec 32 := v116
  let v160 : Index := Scalar.indexCast v156
  let c0_63 : Index := 0#32
  ![0, v160.toNat, 0]
def k0_off20 (i : grid0.Coords) (c0_i32_65 : BitVec 32) (c0_i32_67 : BitVec 32) : Fin 3 → Nat :=
  let c0_68 : Index := 0#32
  let arg1 : BitVec 32 := BitVec.ofNat 32 (i 1).val
  let c2_i32_64 : BitVec 32 := 2#32
  let v163 : BitVec 32 := Scalar.muli arg1 c2_i32_64
  let v164 : BitVec 32 := Scalar.addi v163 c0_i32_65
  let c2_i32_66 : BitVec 32 := 2#32
  let v165 : BitVec 32 := Scalar.muli v164 c2_i32_66
  let v166 : BitVec 32 := Scalar.addi v165 c0_i32_67
  let v167 : Index := Scalar.indexCast v166
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_40 : BitVec 32 := 2048#32
  let v116 : BitVec 32 := Scalar.muli v29 c2048_i32_40
  let v156 : BitVec 32 := v116
  let v168 : Index := Scalar.indexCast v156
  ![0, v167.toNat, v168.toNat]
def k0_off21 (i : grid0.Coords) : Fin 3 → Nat :=
  let c0_78 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_40 : BitVec 32 := 2048#32
  let v116 : BitVec 32 := Scalar.muli v29 c2048_i32_40
  let v156 : BitVec 32 := v116
  let v195 : Index := Scalar.indexCast v156
  let c128_79 : Index := 128#32
  ![0, v195.toNat, 128]
def k0_mult8 (i : grid0.Coords) : BitVec 32 :=
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_39 : BitVec 32 := 2048#32
  let v115 : BitVec 32 := Scalar.muli v29 c2048_i32_39
  v115
def k0_off22 (i : grid0.Coords) : Fin 3 → Nat :=
  let c0_60 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_39 : BitVec 32 := 2048#32
  let v115 : BitVec 32 := Scalar.muli v29 c2048_i32_39
  let v153 : BitVec 32 := v115
  let v157 : Index := Scalar.indexCast v153
  let c0_61 : Index := 0#32
  ![0, v157.toNat, 0]
def k0_off23 (i : grid0.Coords) (c0_i32_63 : BitVec 32) (c0_i32_65 : BitVec 32) : Fin 3 → Nat :=
  let c0_66 : Index := 0#32
  let arg1 : BitVec 32 := BitVec.ofNat 32 (i 1).val
  let c2_i32_62 : BitVec 32 := 2#32
  let v160 : BitVec 32 := Scalar.muli arg1 c2_i32_62
  let v161 : BitVec 32 := Scalar.addi v160 c0_i32_63
  let c2_i32_64 : BitVec 32 := 2#32
  let v162 : BitVec 32 := Scalar.muli v161 c2_i32_64
  let v163 : BitVec 32 := Scalar.addi v162 c0_i32_65
  let v164 : Index := Scalar.indexCast v163
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_39 : BitVec 32 := 2048#32
  let v115 : BitVec 32 := Scalar.muli v29 c2048_i32_39
  let v153 : BitVec 32 := v115
  let v165 : Index := Scalar.indexCast v153
  ![0, v164.toNat, v165.toNat]
def k0_off24 (i : grid0.Coords) : Fin 3 → Nat :=
  let c0_76 : Index := 0#32
  let arg2 : BitVec 32 := BitVec.ofNat 32 (i 2).val
  let c256_i32 : BitVec 32 := 256#32
  let v12 : BitVec 32 := Scalar.muli arg2 c256_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2048_i32 : BitVec 32 := 2048#32
  let c0_i32_3 : BitVec 32 := 0#32
  let v19 : BitVec 1 := Scalar.cmpi .sgt c2048_i32 c0_i32_3
  let v20 : BitVec 32 := Scalar.extui v19
  let c0_i32_4 : BitVec 32 := 0#32
  let v21 : BitVec 1 := Scalar.cmpi .slt c2048_i32 c0_i32_4
  let v22 : BitVec 32 := Scalar.extui v21
  let v23 : BitVec 32 := Scalar.subi v20 v22
  let v24 : BitVec 1 := Scalar.cmpi .ne v18 v23
  let v25 : BitVec 32 := Scalar.remsi v12 c2048_i32
  let c0_i32_5 : BitVec 32 := 0#32
  let v26 : BitVec 1 := Scalar.cmpi .ne v25 c0_i32_5
  let v27 : BitVec 1 := Scalar.andi v24 v26
  let v13 : BitVec 32 := Scalar.divsi v12 c2048_i32
  let c1_i32 : BitVec 32 := 1#32
  let v28 : BitVec 32 := Scalar.subi v13 c1_i32
  let v29 : BitVec 32 := Scalar.select v27 v28 v13
  let c2048_i32_39 : BitVec 32 := 2048#32
  let v115 : BitVec 32 := Scalar.muli v29 c2048_i32_39
  let v153 : BitVec 32 := v115
  let v186 : Index := Scalar.indexCast v153
  let c128_77 : Index := 128#32
  ![0, v186.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S32768x3072 : Shape := ⟨2, ![32768, 3072]⟩
abbrev S16x2048x128 : Shape := ⟨3, ![16, 2048, 128]⟩
abbrev S16x2048x3072 : Shape := ⟨3, ![16, 2048, 3072]⟩
abbrev S16x2048x1024 : Shape := ⟨3, ![16, 2048, 1024]⟩
abbrev S16x2048x16x64 : Shape := ⟨4, ![16, 2048, 16, 64]⟩
abbrev S16x16x2048x64 : Shape := ⟨4, ![16, 16, 2048, 64]⟩
abbrev S16x2048x16 : Shape := ⟨3, ![16, 2048, 16]⟩
abbrev S16x16x2048 : Shape := ⟨3, ![16, 16, 2048]⟩
abbrev S16x16x2048x2048 : Shape := ⟨4, ![16, 16, 2048, 2048]⟩
abbrev S16x16x2048x1 : Shape := ⟨4, ![16, 16, 2048, 1]⟩
abbrev S16x16x1x2048 : Shape := ⟨4, ![16, 16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S16x2048x128, .f32⟩
  | .hbm, ⟨2, _⟩ => ⟨S16x2048x3072, .bf16⟩
  | .hbm, ⟨3, _⟩ => ⟨S16x2048x3072, .f32⟩
  | .hbm, ⟨4, _⟩ => ⟨S16x2048x1024, .f32⟩
  | .hbm, ⟨5, _⟩ => ⟨S16x2048x16x64, .f32⟩
  | .hbm, ⟨6, _⟩ => ⟨S16x16x2048x64, .f32⟩
  | .hbm, ⟨7, _⟩ => ⟨S16x2048x1024, .f32⟩
  | .hbm, ⟨8, _⟩ => ⟨S16x2048x16x64, .f32⟩
  | .hbm, ⟨9, _⟩ => ⟨S16x16x2048x64, .f32⟩
  | .hbm, ⟨10, _⟩ => ⟨S16x2048x1024, .f32⟩
  | .hbm, ⟨11, _⟩ => ⟨S16x2048x16x64, .f32⟩
  | .hbm, ⟨12, _⟩ => ⟨S16x16x2048x64, .f32⟩
  | .hbm, ⟨13, _⟩ => ⟨S16x2048x16, .f32⟩
  | .hbm, ⟨14, _⟩ => ⟨S16x16x2048, .f32⟩
  | .hbm, ⟨15, _⟩ => ⟨S16x16x2048x2048, .f32⟩
  | .hbm, ⟨16, _⟩ => ⟨S16x16x2048x1, .f32⟩
  | .hbm, ⟨17, _⟩ => ⟨S16x16x2048x2048, .f32⟩
  | .hbm, ⟨18, _⟩ => ⟨S16x16x2048x2048, .f32⟩
  | .hbm, ⟨19, _⟩ => ⟨S16x16x1x2048, .f32⟩
  | .hbm, ⟨20, _⟩ => ⟨S16x16x2048x2048, .f32⟩
  | .hbm, ⟨21, _⟩ => ⟨S16x16x2048x2048, .f32⟩
  | .hbm, ⟨22, _⟩ => ⟨S2048, .i32⟩
  | .hbm, ⟨23, _⟩ => ⟨S1x2048, .i32⟩
  | .hbm, ⟨24, _⟩ => ⟨S2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S16x16x2048x2048, .i1⟩
  | .hbm, ⟨32, _⟩ => ⟨S16x16x2048x2048, .f32⟩
  | .hbm, ⟨33, _⟩ => ⟨S16x16x2048x2048, .f32⟩
  | .hbm, ⟨34, _⟩ => ⟨S_, .f32⟩
  | .hbm, ⟨35, _⟩ => ⟨S16x16x2048, .f32⟩
  | .hbm, ⟨36, _⟩ => ⟨S_, .f32⟩
  | .hbm, ⟨37, _⟩ => ⟨S16x16x2048, .f32⟩
  | .hbm, ⟨38, _⟩ => ⟨S16x16x2048, .f32⟩
  | .hbm, ⟨39, _⟩ => ⟨S16x16x2048x1, .f32⟩
  | .hbm, ⟨40, _⟩ => ⟨S16x16x2048x2048, .f32⟩
  | .hbm, ⟨41, _⟩ => ⟨S16x16x2048x2048, .f32⟩
  | .hbm, ⟨42, _⟩ => ⟨S16x16x2048x2048, .f32⟩
  | .hbm, ⟨43, _⟩ => ⟨S_, .f32⟩
  | .hbm, ⟨44, _⟩ => ⟨S16x16x2048, .f32⟩
  | .hbm, ⟨45, _⟩ => ⟨S16x16x2048x1, .f32⟩
  | .hbm, ⟨46, _⟩ => ⟨S16x16x2048x2048, .f32⟩
  | .hbm, ⟨47, _⟩ => ⟨S16x16x2048x2048, .f32⟩
  | .hbm, ⟨48, _⟩ => ⟨S16x16x2048x64, .f32⟩
  | .hbm, ⟨49, _⟩ => ⟨S16x2048x16x64, .f32⟩
  | .hbm, ⟨50, _⟩ => ⟨S16x2048x1024, .f32⟩
  | .hbm, ⟨51, _⟩ => ⟨S16x2048x1024, .bf16⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== Kernel2.lean ====
abbrev S32768x1024 : Shape := ⟨2, ![32768, 1024]⟩
abbrev S2x1024 : Shape := ⟨2, ![2, 1024]⟩
abbrev S2x1024x3072 : Shape := ⟨3, ![2, 1024, 3072]⟩
abbrev S_ : Shape := ⟨0, ![]⟩
abbrev S1024 : Shape := ⟨1, ![1024]⟩
abbrev S2048 : Shape := ⟨1, ![2048]⟩
abbrev S3072 : Shape := ⟨1, ![3072]⟩
abbrev S1x1024x3072 : Shape := ⟨3, ![1, 1024, 3072]⟩
abbrev S1024x3072 : Shape := ⟨2, ![1024, 3072]⟩
abbrev S1x3072 : Shape := ⟨2, ![1, 3072]⟩
abbrev S1x1024 : Shape := ⟨2, ![1, 1024]⟩
abbrev S32768x3072 : Shape := ⟨2, ![32768, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 18
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x3072, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S2048, .f32⟩
  | .hbm, ⟨7, _⟩ => ⟨S3072, .f32⟩
  | .hbm, ⟨8, _⟩ => ⟨S1x1024x3072, .f32⟩
  | .hbm, ⟨9, _⟩ => ⟨S1024x3072, .f32⟩
  | .hbm, ⟨10, _⟩ => ⟨S1x3072, .f32⟩
  | .hbm, ⟨11, _⟩ => ⟨S1024x3072, .f32⟩
  | .hbm, ⟨12, _⟩ => ⟨S1024x3072, .f32⟩
  | .hbm, ⟨13, _⟩ => ⟨S1024x3072, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32768x1024 : Shape := ⟨2, ![32768, 1024]⟩
abbrev S2x1024 : Shape := ⟨2, ![2, 1024]⟩
abbrev S2x1024x3072 : Shape := ⟨3, ![2, 1024, 3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩
abbrev S1x1024x3072 : Shape := ⟨3, ![1, 1024, 3072]⟩
abbrev S1024x3072 : Shape := ⟨2, ![1024, 3072]⟩
abbrev S32768x3072 : Shape := ⟨2, ![32768, 3072]⟩
abbrev S32768x2048 : Shape := ⟨2, ![32768, 2048]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x3072, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1x1024x3072, .f32⟩
  | .hbm, ⟨22, _⟩ => ⟨S1024x3072, .f32⟩
  | .hbm, ⟨23, _⟩ => ⟨S32768x3072, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S32768x2048, .f32⟩
  | .hbm, ⟨29, _⟩ => ⟨S32768x3072, .f32⟩
  | .hbm, ⟨30, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel3.lean ====
abbrev S147456x1024 : Shape := ⟨2, ![147456, 1024]⟩
abbrev S288 : Shape := ⟨1, ![288]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S2x32x1x2048 : Shape := ⟨4, ![2, 32, 1, 2048]⟩
abbrev S2x32x1x1024 : Shape := ⟨4, ![2, 32, 1, 1024]⟩
abbrev S512x1024 : Shape := ⟨2, ![512, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S147456x1024, .f32⟩
  | .hbm, ⟨1, _⟩ => ⟨S2x32x1024x2048, .f32⟩
  | .hbm, ⟨2, _⟩ => ⟨S2x32x2048, .f32⟩
  | .hbm, ⟨3, _⟩ => ⟨S2x32x1024x1024, .f32⟩
  | .hbm, ⟨4, _⟩ => ⟨S2x32x1024, .f32⟩
  | .hbm, ⟨5, _⟩ => ⟨S2x32x1x2048, .f32⟩
  | .hbm, ⟨6, _⟩ => ⟨S2x32x1x1024, .f32⟩
  | .hbm, ⟨7, _⟩ => ⟨S147456x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S147456x1024 : Shape := ⟨2, ![147456, 1024]⟩
abbrev S288 : Shape := ⟨1, ![288]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S288x512x1024 : Shape := ⟨3, ![288, 512, 1024]⟩
abbrev S1x32x1024x2048 : Shape := ⟨4, ![1, 32, 1024, 2048]⟩
abbrev S32x1024x2048 : Shape := ⟨3, ![32, 1024, 2048]⟩
abbrev S288x1 : Shape := ⟨2, ![288, 1]⟩
abbrev S288x1024x2048 : Shape := ⟨3, ![288, 1024, 2048]⟩
abbrev S288x512x2048 : Shape := ⟨3, ![288, 512, 2048]⟩
abbrev S1x32x2048 : Shape := ⟨3, ![1, 32, 2048]⟩
abbrev S32x2048 : Shape := ⟨2, ![32, 2048]⟩
abbrev S288x2048 : Shape := ⟨2, ![288, 2048]⟩
abbrev S288x1x2048 : Shape := ⟨3, ![288, 1, 2048]⟩
abbrev S_ : Shape := ⟨0, ![]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1024 : Shape := ⟨3, ![1, 32, 1024]⟩
abbrev S32x1024 : Shape := ⟨2, ![32, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S147456x1024, .f32⟩
  | .hbm, ⟨1, _⟩ => ⟨S288, .i32⟩
  | .hbm, ⟨2, _⟩ => ⟨S1, .i32⟩
  | .hbm, ⟨3, _⟩ => ⟨S2x32x1024x2048, .f32⟩
  | .hbm, ⟨4, _⟩ => ⟨S2x32x2048, .f32⟩
  | .hbm, ⟨5, _⟩ => ⟨S2x32x1024x1024, .f32⟩
  | .hbm, ⟨6, _⟩ => ⟨S2x32x1024, .f32⟩
  | .hbm, ⟨7, _⟩ => ⟨S288x512x1024, .f32⟩
  | .hbm, ⟨8, _⟩ => ⟨S1x32x1024x2048, .f32⟩
  | .hbm, ⟨9, _⟩ => ⟨S32x1024x2048, .f32⟩
  | .hbm, ⟨10, _⟩ => ⟨S288x1, .i32⟩
  | .hbm, ⟨11, _⟩ => ⟨S288x1024x2048, .f32⟩
  | .hbm, ⟨12, _⟩ => ⟨S288x512x2048, .f32⟩
  | .hbm, ⟨13, _⟩ => ⟨S1x32x2048, .f32⟩
  | .hbm, ⟨14, _⟩ => ⟨S32x2048, .f32⟩
  | .hbm, ⟨15, _⟩ => ⟨S288x1, .i32⟩
  | .hbm, ⟨16, _⟩ => ⟨S288x2048, .f32⟩
  | .hbm, ⟨17, _⟩ => ⟨S288x1x2048, .f32⟩
  | .hbm, ⟨18, _⟩ => ⟨S288x512x2048, .f32⟩
  | .hbm, ⟨19, _⟩ => ⟨S288x512x2048, .f32⟩
  | .hbm, ⟨20, _⟩ => ⟨S288x512x1024, .f32⟩
  | .hbm, ⟨21, _⟩ => ⟨S_, .f32⟩
  | .hbm, ⟨22, _⟩ => ⟨S288x512x1024, .f32⟩
  | .hbm, ⟨23, _⟩ => ⟨S288x512x1024, .f32⟩
  | .hbm, ⟨24, _⟩ => ⟨S288x512x1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S288x512x1024, .f32⟩
  | .hbm, ⟨29, _⟩ => ⟨S288x512x1024, .f32⟩
  | .hbm, ⟨30, _⟩ => ⟨S_, .f32⟩
  | .hbm, ⟨31, _⟩ => ⟨S288x512x1024, .f32⟩
  | .hbm, ⟨32, _⟩ => ⟨S288x512x1024, .f32⟩
  | .hbm, ⟨33, _⟩ => ⟨S_, .f32⟩
  | .hbm, ⟨34, _⟩ => ⟨S288x512x1024, .f32⟩
  | .hbm, ⟨35, _⟩ => ⟨S288x512x1024, .f32⟩
  | .hbm, ⟨36, _⟩ => ⟨S288x512x1024, .f32⟩
  | .hbm, ⟨37, _⟩ => ⟨S288x512x1024, .f32⟩
  | .hbm, ⟨38, _⟩ => ⟨S_, .f32⟩
  | .hbm, ⟨39, _⟩ => ⟨S288x512x1024, .f32⟩
  | .hbm, ⟨40, _⟩ => ⟨S288x512x1024, .f32⟩
  | .hbm, ⟨41, _⟩ => ⟨S_, .f32⟩
  | .hbm, ⟨42, _⟩ => ⟨S288x512x1024, .f32⟩
  | .hbm, ⟨43, _⟩ => ⟨S288x512x1024, .f32⟩
  | .hbm, ⟨44, _⟩ => ⟨S288x512x1024, .f32⟩
  | .hbm, ⟨45, _⟩ => ⟨S_, .f32⟩
  | .hbm, ⟨46, _⟩ => ⟨S288x512x1024, .f32⟩
  | .hbm, ⟨47, _⟩ => ⟨S288x512x1024, .f32⟩
  | .hbm, ⟨48, _⟩ => ⟨S288x512x1024, .f32⟩
  | .hbm, ⟨49, _⟩ => ⟨S1x32x1024x1024, .f32⟩
  | .hbm, ⟨50, _⟩ => ⟨S32x1024x1024, .f32⟩
  | .hbm, ⟨51, _⟩ => ⟨S288x1, .i32⟩
  | .hbm, ⟨52, _⟩ => ⟨S288x1024x1024, .f32⟩
  | .hbm, ⟨53, _⟩ => ⟨S288x512x1024, .f32⟩
  | .hbm, ⟨54, _⟩ => ⟨S1x32x1024, .f32⟩
  | .hbm, ⟨55, _⟩ => ⟨S32x1024, .f32⟩
  | .hbm, ⟨56, _⟩ => ⟨S288x1, .i32⟩
  | .hbm, ⟨57, _⟩ => ⟨S288x1024, .f32⟩
  | .hbm, ⟨58, _⟩ => ⟨S288x1x1024, .f32⟩
  | .hbm, ⟨59, _⟩ => ⟨S288x512x1024, .f32⟩
  | .hbm, ⟨60, _⟩ => ⟨S288x512x1024, .f32⟩
  | .hbm, ⟨61, _⟩ => ⟨S288, .i32⟩
  | .hbm, ⟨62, _⟩ => ⟨S_, .i32⟩
  | .hbm, ⟨63, _⟩ => ⟨S288, .i32⟩
  | .hbm, ⟨64, _⟩ => ⟨S288, .i1⟩
  | .hbm, ⟨65, _⟩ => ⟨S288x1x1, .i1⟩
  | .hbm, ⟨66, _⟩ => ⟨S_, .f32⟩
  | .hbm, ⟨67, _⟩ => ⟨S_, .f32⟩
  | .hbm, ⟨68, _⟩ => ⟨S288x512x1024, .i1⟩
  | .hbm, ⟨69, _⟩ => ⟨S288x512x1024, .f32⟩
  | .hbm, ⟨70, _⟩ => ⟨S288x512x1024, .f32⟩
  | .hbm, ⟨71, _⟩ => ⟨S147456x1024, .f32⟩
  | _, _ => ⟨S147456x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_cst_1 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call3_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call4_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_call5_v0 : Ref sig .tc := ⟨.hbm, 67, rfl⟩
abbrev main_call5_v1 : Ref sig .tc := ⟨.hbm, 68, rfl⟩
abbrev main_call5_v2 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]
-- ==== Kernel4.lean ====
abbrev S32768x128 : Shape := ⟨2, ![32768, 128]⟩
abbrev S1x16 : Shape := ⟨2, ![1, 16]⟩
abbrev S16 : Shape := ⟨1, ![16]⟩
abbrev S_ : Shape := ⟨0, ![]⟩
abbrev S128 : Shape := ⟨1, ![128]⟩
abbrev S1x128 : Shape := ⟨2, ![1, 128]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S16x2048x128 : Shape := ⟨3, ![16, 2048, 128]⟩
abbrev S1x256x128 : Shape := ⟨3, ![1, 256, 128]⟩
abbrev S256x128 : Shape := ⟨2, ![256, 128]⟩

abbrev nBuf : Space → Nat
  | .hbm => 17
  | .vmem => 7
  | .smem => 0
  | _ => 0

abbrev bufTy : (tb : Table) → Fin (tcTables nBuf tb) → BufTy
  | .hbm, ⟨0, _⟩ => ⟨S32768x128, .f32⟩
  | .hbm, ⟨1, _⟩ => ⟨S1x16, .f32⟩
  | .hbm, ⟨2, _⟩ => ⟨S16, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S256, .i32⟩
  | .hbm, ⟨8, _⟩ => ⟨S1x256, .i32⟩
  | .hbm, ⟨9, _⟩ => ⟨S256, .i32⟩
  | .hbm, ⟨10, _⟩ => ⟨S256x1, .i32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S256x256, .bf16⟩
  | .hbm, ⟨15, _⟩ => ⟨S16x2048x128, .f32⟩
  | .hbm, ⟨16, _⟩ => ⟨S16x2048x128, .f32⟩
  | .local _ .vmem, ⟨0, _⟩ => ⟨S1x256x128, .f32⟩
  | .local _ .vmem, ⟨1, _⟩ => ⟨S1x256x128, .f32⟩
  | .local _ .vmem, ⟨2, _⟩ => ⟨S1x128, .f32⟩
  | .local _ .vmem, ⟨3, _⟩ => ⟨S256x256, .bf16⟩
  | .local _ .vmem, ⟨4, _⟩ => ⟨S1x256x128, .f32⟩
  | .local _ .vmem, ⟨5, _⟩ => ⟨S1x256x128, .f32⟩
  | .local _ .vmem, ⟨6, _⟩ => ⟨S1x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S32768x128 : Shape := ⟨2, ![32768, 128]⟩
abbrev S1x16 : Shape := ⟨2, ![1, 16]⟩
abbrev S16x2048x128 : Shape := ⟨3, ![16, 2048, 128]⟩
abbrev S16 : Shape := ⟨1, ![16]⟩
abbrev S_ : Shape := ⟨0, ![]⟩
abbrev S128 : Shape := ⟨1, ![128]⟩
abbrev S1x1x128 : Shape := ⟨3, ![1, 1, 128]⟩
abbrev S16x128x2048 : Shape := ⟨3, ![16, 128, 2048]⟩

abbrev nBuf : Space → Nat
  | .hbm => 31
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S1x16, .f32⟩
  | .hbm, ⟨2, _⟩ => ⟨S16x2048x128, .f32⟩
  | .hbm, ⟨3, _⟩ => ⟨S16, .f32⟩
  | .hbm, ⟨4, _⟩ => ⟨S_, .i32⟩
  | .hbm, ⟨5, _⟩ => ⟨S_, .f32⟩
  | .hbm, ⟨6, _⟩ => ⟨S128, .f32⟩
  | .hbm, ⟨7, _⟩ => ⟨S1x1x128, .f32⟩
  | .hbm, ⟨8, _⟩ => ⟨S16x2048x128, .f32⟩
  | .hbm, ⟨9, _⟩ => ⟨S16x2048x128, .f32⟩
  | .hbm, ⟨10, _⟩ => ⟨S16x2048x128, .f32⟩
  | .hbm, ⟨11, _⟩ => ⟨S_, .f32⟩
  | .hbm, ⟨12, _⟩ => ⟨S16x2048x128, .f32⟩
  | .hbm, ⟨13, _⟩ => ⟨S16x2048x128, .f32⟩
  | .hbm, ⟨14, _⟩ => ⟨S16x2048x128, .f32⟩
  | .hbm, ⟨15, _⟩ => ⟨S16x2048x128, .f32⟩
  | .hbm, ⟨16, _⟩ => ⟨S16x2048x128, .i1⟩
  | .hbm, ⟨17, _⟩ => ⟨S16x2048x128, .f32⟩
  | .hbm, ⟨18, _⟩ => ⟨S16x2048x128, .f32⟩
  | .hbm, ⟨19, _⟩ => ⟨S16x2048x128, .f32⟩
  | .hbm, ⟨20, _⟩ => ⟨S16x2048x128, .f32⟩
  | .hbm, ⟨21, _⟩ => ⟨S16x2048x128, .f32⟩
  | .hbm, ⟨22, _⟩ => ⟨S16x2048x128, .f32⟩
  | .hbm, ⟨23, _⟩ => ⟨S16x2048x128, .f32⟩
  | .hbm, ⟨24, _⟩ => ⟨S16x2048x128, .f32⟩
  | .hbm, ⟨25, _⟩ => ⟨S16x2048x128, .f32⟩
  | .hbm, ⟨26, _⟩ => ⟨S16x128x2048, .f32⟩
  | .hbm, ⟨27, _⟩ => ⟨S_, .f32⟩
  | .hbm, ⟨28, _⟩ => ⟨S_, .f32⟩
  | .hbm, ⟨29, _⟩ => ⟨S16x128x2048, .f32⟩
  | .hbm, ⟨30, _⟩ => ⟨S16x2048x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call1_v0 : Ref sig .tc := ⟨.hbm, 10, rfl⟩
abbrev main_call1_call0_cst : Ref sig .tc := ⟨.hbm, 11, rfl⟩
abbrev main_call1_call0_v0 : Ref sig .tc := ⟨.hbm, 12, rfl⟩
abbrev main_call1_call0_v1 : Ref sig .tc := ⟨.hbm, 13, rfl⟩
abbrev main_call1_call0_v2 : Ref sig .tc := ⟨.hbm, 14, rfl⟩
abbrev main_call1_call0_v3 : Ref sig .tc := ⟨.hbm, 15, rfl⟩
abbrev main_call1_call0_v4 : Ref sig .tc := ⟨.hbm, 16, rfl⟩
abbrev main_call1_call0_v5 : Ref sig .tc := ⟨.hbm, 17, rfl⟩
abbrev main_call1_call0_v6 : Ref sig .tc := ⟨.hbm, 18, rfl⟩
abbrev main_call1_call0_v7 : Ref sig .tc := ⟨.hbm, 19, rfl⟩
abbrev main_call1_call0_v8 : Ref sig .tc := ⟨.hbm, 20, rfl⟩
abbrev main_call1_call0_v9 : Ref sig .tc := ⟨.hbm, 21, rfl⟩
abbrev main_call1_call0_v10 : Ref sig .tc := ⟨.hbm, 22, rfl⟩
abbrev main_call1_call0_v11 : Ref sig .tc := ⟨.hbm, 23, rfl⟩
abbrev main_call1_v1 : Ref sig .tc := ⟨.hbm, 24, rfl⟩
abbrev main_v6 : Ref sig .tc := ⟨.hbm, 25, rfl⟩
abbrev main_v7 : Ref sig .tc := ⟨.hbm, 26, rfl⟩
abbrev main_call2_call0_cst : Ref sig .tc := ⟨.hbm, 27, rfl⟩
abbrev main_call2_call0_v0 : Ref sig .tc := ⟨.hbm, 28, rfl⟩
abbrev main_v8 : Ref sig .tc := ⟨.hbm, 29, rfl⟩
abbrev main_v9 : Ref sig .tc := ⟨.hbm, 30, rfl⟩

abbrev nD : Nat := 1
abbrev τ : Topo := Topo.v7x

variable {F : FTy → Type} [FloatOps F]
-- ==== Kernel5.lean ====
abbrev S32768x1024 : Shape := ⟨2, ![32768, 1024]⟩
abbrev S2x1024x1024 : Shape := ⟨3, ![2, 1024, 1024]⟩
abbrev S2x1024 : Shape := ⟨2, ![2, 1024]⟩
abbrev S2x1024x32 : Shape := ⟨3, ![2, 1024, 32]⟩
abbrev S2x32 : Shape := ⟨2, ![2, 32]⟩
abbrev S1x1024x32 : Shape := ⟨3, ![1, 1024, 32]⟩
abbrev S1024x32 : Shape := ⟨2, ![1024, 32]⟩
abbrev S_ : Shape := ⟨0, ![]⟩
abbrev S1024x128 : Shape := ⟨2, ![1024, 128]⟩
abbrev S1x32 : Shape := ⟨2, ![1, 32]⟩
abbrev S32 : Shape := ⟨1, ![32]⟩
abbrev S128 : Shape := ⟨1, ![128]⟩
abbrev S1x128 : Shape := ⟨2, ![1, 128]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S32768x128 : Shape := ⟨2, ![32768, 128]⟩
abbrev S8x128 : Shape := ⟨2, ![8, 128]⟩
abbrev S512x1024 : Shape := ⟨2, ![512, 1024]⟩
abbrev S512x128 : Shape := ⟨2, ![512, 128]⟩

abbrev nBuf : Space → Nat
  | .hbm => 39
  | .vmem => 18
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S2x1024x1024, .f32⟩
  | .hbm, ⟨3, _⟩ => ⟨S2x1024, .f32⟩
  | .hbm, ⟨4, _⟩ => ⟨S2x1024x32, .f32⟩
  | .hbm, ⟨5, _⟩ => ⟨S2x32, .f32⟩
  | .hbm, ⟨6, _⟩ => ⟨S1x1024x32, .f32⟩
  | .hbm, ⟨7, _⟩ => ⟨S1024x32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1024x128, .f32⟩
  | .hbm, ⟨13, _⟩ => ⟨S1024x128, .f32⟩
  | .hbm, ⟨14, _⟩ => ⟨S1024x128, .bf16⟩
  | .hbm, ⟨15, _⟩ => ⟨S1x32, .f32⟩
  | .hbm, ⟨16, _⟩ => ⟨S32, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S1x1024x1024, .f32⟩
  | .hbm, ⟨22, _⟩ => ⟨S1024x1024, .f32⟩
  | .hbm, ⟨23, _⟩ => ⟨S1024x1024, .bf16⟩
  | .hbm, ⟨24, _⟩ => ⟨S1x1024, .f32⟩
  | .hbm, ⟨25, _⟩ => ⟨S1024, .f32⟩
  | .hbm, ⟨26, _⟩ => ⟨S512, .i32⟩
  | .hbm, ⟨27, _⟩ => ⟨S1x512, .i32⟩
  | .hbm, ⟨28, _⟩ => ⟨S512, .i32⟩
  | .hbm, ⟨29, _⟩ => ⟨S512x1, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S512x512, .bf16⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S32768x128, .f32⟩
  | .hbm, ⟨38, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x128, .bf16⟩
  | .local _ .vmem, ⟨7, _⟩ => ⟨S1024x128, .bf16⟩
  | .local _ .vmem, ⟨8, _⟩ => ⟨S1x128, .f32⟩
  | .local _ .vmem, ⟨9, _⟩ => ⟨S512x512, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S8x128, .f32⟩
  | .local _ .vmem, ⟨17, _⟩ => ⟨S1x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev main_v25_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S32768x1024 : Shape := ⟨2, ![32768, 1024]⟩
abbrev S2x1024x1024 : Shape := ⟨3, ![2, 1024, 1024]⟩
abbrev S2x1024 : Shape := ⟨2, ![2, 1024]⟩
abbrev S2x1024x32 : Shape := ⟨3, ![2, 1024, 32]⟩
abbrev S2x32 : Shape := ⟨2, ![2, 32]⟩
abbrev S1x1024x1024 : Shape := ⟨3, ![1, 1024, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩
abbrev S1x1024x32 : Shape := ⟨3, ![1, 1024, 32]⟩
abbrev S1024x32 : Shape := ⟨2, ![1024, 32]⟩
abbrev S32768x32 : Shape := ⟨2, ![32768, 32]⟩
abbrev S1x32 : Shape := ⟨2, ![1, 32]⟩
abbrev S32 : Shape := ⟨1, ![32]⟩
abbrev S32768x4 : Shape := ⟨2, ![32768, 4]⟩
abbrev S32768x4x1 : Shape := ⟨3, ![32768, 4, 1]⟩
abbrev S1x1x32 : Shape := ⟨3, ![1, 1, 32]⟩
abbrev S32768x4x32 : Shape := ⟨3, ![32768, 4, 32]⟩
abbrev S32x32768 : Shape := ⟨2, ![32, 32768]⟩
abbrev S1x32x32768 : Shape := ⟨3, ![1, 32, 32768]⟩
abbrev S32768x1x32 : Shape := ⟨3, ![32768, 1, 32]⟩
abbrev S32768x116 : Shape := ⟨2, ![32768, 116]⟩
abbrev S32768x128 : Shape := ⟨2, ![32768, 128]⟩
abbrev S128 : Shape := ⟨1, ![128]⟩
abbrev S8x128 : Shape := ⟨2, ![8, 128]⟩

abbrev nBuf : Space → Nat
  | .hbm => 84
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S2x1024x1024, .f32⟩
  | .hbm, ⟨3, _⟩ => ⟨S2x1024, .f32⟩
  | .hbm, ⟨4, _⟩ => ⟨S2x1024x32, .f32⟩
  | .hbm, ⟨5, _⟩ => ⟨S2x32, .f32⟩
  | .hbm, ⟨6, _⟩ => ⟨S32768x1024, .f32⟩
  | .hbm, ⟨7, _⟩ => ⟨S1x1024x1024, .f32⟩
  | .hbm, ⟨8, _⟩ => ⟨S1024x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S1x1024x32, .f32⟩
  | .hbm, ⟨30, _⟩ => ⟨S1024x32, .f32⟩
  | .hbm, ⟨31, _⟩ => ⟨S32768x32, .f32⟩
  | .hbm, ⟨32, _⟩ => ⟨S1x32, .f32⟩
  | .hbm, ⟨33, _⟩ => ⟨S32, .f32⟩
  | .hbm, ⟨34, _⟩ => ⟨S1x32, .f32⟩
  | .hbm, ⟨35, _⟩ => ⟨S32768x32, .f32⟩
  | .hbm, ⟨36, _⟩ => ⟨S32768x32, .f32⟩
  | .hbm, ⟨37, _⟩ => ⟨S32768x4, .f32⟩
  | .hbm, ⟨38, _⟩ => ⟨S32768x4, .i32⟩
  | .hbm, ⟨39, _⟩ => ⟨S_, .f32⟩
  | .hbm, ⟨40, _⟩ => ⟨S32768, .f32⟩
  | .hbm, ⟨41, _⟩ => ⟨S_, .f32⟩
  | .hbm, ⟨42, _⟩ => ⟨S32768, .f32⟩
  | .hbm, ⟨43, _⟩ => ⟨S32768, .f32⟩
  | .hbm, ⟨44, _⟩ => ⟨S32768x1, .f32⟩
  | .hbm, ⟨45, _⟩ => ⟨S32768x4, .f32⟩
  | .hbm, ⟨46, _⟩ => ⟨S32768x4, .f32⟩
  | .hbm, ⟨47, _⟩ => ⟨S32768x4, .f32⟩
  | .hbm, ⟨48, _⟩ => ⟨S_, .f32⟩
  | .hbm, ⟨49, _⟩ => ⟨S32768, .f32⟩
  | .hbm, ⟨50, _⟩ => ⟨S32768x1, .f32⟩
  | .hbm, ⟨51, _⟩ => ⟨S32768x4, .f32⟩
  | .hbm, ⟨52, _⟩ => ⟨S32768x4, .f32⟩
  | .hbm, ⟨53, _⟩ => ⟨S32768x4x1, .i32⟩
  | .hbm, ⟨54, _⟩ => ⟨S1x1x32, .i32⟩
  | .hbm, ⟨55, _⟩ => ⟨S32768x4x32, .i32⟩
  | .hbm, ⟨56, _⟩ => ⟨S32768x4x32, .i32⟩
  | .hbm, ⟨57, _⟩ => ⟨S32768x4x32, .i1⟩
  | .hbm, ⟨58, _⟩ => ⟨S32768x4x32, .f32⟩
  | .hbm, ⟨59, _⟩ => ⟨S_, .f32⟩
  | .hbm, ⟨60, _⟩ => ⟨S32768x32, .f32⟩
  | .hbm, ⟨61, _⟩ => ⟨S32x32768, .f32⟩
  | .hbm, ⟨62, _⟩ => ⟨S1x32x32768, .f32⟩
  | .hbm, ⟨63, _⟩ => ⟨S_, .f32⟩
  | .hbm, ⟨64, _⟩ => ⟨S_, .f32⟩
  | .hbm, ⟨65, _⟩ => ⟨S1x32x32768, .f32⟩
  | .hbm, ⟨66, _⟩ => ⟨S32x32768, .f32⟩
  | .hbm, ⟨67, _⟩ => ⟨S32768x32, .f32⟩
  | .hbm, ⟨68, _⟩ => ⟨S32768x32, .f32⟩
  | .hbm, ⟨69, _⟩ => ⟨S32768x1x32, .f32⟩
  | .hbm, ⟨70, _⟩ => ⟨S32768x4x32, .f32⟩
  | .hbm, ⟨71, _⟩ => ⟨S32768x4x32, .f32⟩
  | .hbm, ⟨72, _⟩ => ⟨S_, .f32⟩
  | .hbm, ⟨73, _⟩ => ⟨S32768x4, .f32⟩
  | .hbm, ⟨74, _⟩ => ⟨S32768x4, .f32⟩
  | .hbm, ⟨75, _⟩ => ⟨S_, .f32⟩
  | .hbm, ⟨76, _⟩ => ⟨S32768x116, .f32⟩
  | .hbm, ⟨77, _⟩ => ⟨S32768x128, .f32⟩
  | .hbm, ⟨78, _⟩ => ⟨S_, .f32⟩
  | .hbm, ⟨79, _⟩ => ⟨S32, .f32⟩
  | .hbm, ⟨80, _⟩ => ⟨S_, .i32⟩
  | .hbm, ⟨81, _⟩ => ⟨S_, .f32⟩
  | .hbm, ⟨82, _⟩ => ⟨S128, .f32⟩
  | .hbm, ⟨83, _⟩ => ⟨S8x128, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_values : Ref sig .tc := ⟨.hbm, 37, rfl⟩
abbrev main_indices : Ref sig .tc := ⟨.hbm, 38, rfl⟩
abbrev main_cst_2 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_call0_cst : Ref sig .tc := ⟨.hbm, 63, rfl⟩
abbrev main_call1_call0_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_c : Ref sig .tc := ⟨.hbm, 80, rfl⟩
abbrev main_call2_v0 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== Kernel6.lean ====
abbrev S32768x1024 : Shape := ⟨2, ![32768, 1024]⟩
abbrev S2x1024 : Shape := ⟨2, ![2, 1024]⟩
abbrev S2x1024x3072 : Shape := ⟨3, ![2, 1024, 3072]⟩
abbrev S1x1024x16 : Shape := ⟨3, ![1, 1024, 16]⟩
abbrev S_ : Shape := ⟨0, ![]⟩
abbrev S1024 : Shape := ⟨1, ![1024]⟩
abbrev S2048 : Shape := ⟨1, ![2048]⟩
abbrev S3072 : Shape := ⟨1, ![3072]⟩
abbrev S1x1024x3072 : Shape := ⟨3, ![1, 1024, 3072]⟩
abbrev S1024x3072 : Shape := ⟨2, ![1024, 3072]⟩
abbrev S1x3072 : Shape := ⟨2, ![1, 3072]⟩
abbrev S1024x16 : Shape := ⟨2, ![1024, 16]⟩
abbrev S1024x128 : Shape := ⟨2, ![1024, 128]⟩
abbrev S1x1024 : Shape := ⟨2, ![1, 1024]⟩
abbrev S32768x3072 : Shape := ⟨2, ![32768, 3072]⟩
abbrev S32768x128 : Shape := ⟨2, ![32768, 128]⟩
abbrev S512x1024 : Shape := ⟨2, ![512, 1024]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩

abbrev nBuf : Space → Nat
  | .hbm => 25
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x3072, .f32⟩
  | .hbm, ⟨3, _⟩ => ⟨S1x1024x16, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S2048, .f32⟩
  | .hbm, ⟨8, _⟩ => ⟨S3072, .f32⟩
  | .hbm, ⟨9, _⟩ => ⟨S1x1024x3072, .f32⟩
  | .hbm, ⟨10, _⟩ => ⟨S1024x3072, .f32⟩
  | .hbm, ⟨11, _⟩ => ⟨S1x3072, .f32⟩
  | .hbm, ⟨12, _⟩ => ⟨S1024x3072, .f32⟩
  | .hbm, ⟨13, _⟩ => ⟨S1024x3072, .f32⟩
  | .hbm, ⟨14, _⟩ => ⟨S1024x3072, .bf16⟩
  | .hbm, ⟨15, _⟩ => ⟨S1024x16, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x128, .bf16⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S32768x3072, .bf16⟩
  | .hbm, ⟨24, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S512x3072, .bf16⟩
  | .local _ .vmem, ⟨6, _⟩ => ⟨S512x3072, .bf16⟩
  | .local _ .vmem, ⟨7, _⟩ => ⟨S512x128, .f32⟩
  | .local _ .vmem, ⟨8, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S32768x1024 : Shape := ⟨2, ![32768, 1024]⟩
abbrev S2x1024 : Shape := ⟨2, ![2, 1024]⟩
abbrev S2x1024x3072 : Shape := ⟨3, ![2, 1024, 3072]⟩
abbrev S1x1024x16 : Shape := ⟨3, ![1, 1024, 16]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩
abbrev S1x1024x3072 : Shape := ⟨3, ![1, 1024, 3072]⟩
abbrev S1024x3072 : Shape := ⟨2, ![1024, 3072]⟩
abbrev S32768x3072 : Shape := ⟨2, ![32768, 3072]⟩
abbrev S32768x2048 : Shape := ⟨2, ![32768, 2048]⟩
abbrev S1024x16 : Shape := ⟨2, ![1024, 16]⟩
abbrev S32768x16 : Shape := ⟨2, ![32768, 16]⟩
abbrev S32768x128 : Shape := ⟨2, ![32768, 128]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x3072, .f32⟩
  | .hbm, ⟨3, _⟩ => ⟨S1x1024x16, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1x1024x3072, .f32⟩
  | .hbm, ⟨23, _⟩ => ⟨S1024x3072, .f32⟩
  | .hbm, ⟨24, _⟩ => ⟨S32768x3072, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S32768x2048, .f32⟩
  | .hbm, ⟨30, _⟩ => ⟨S32768x3072, .f32⟩
  | .hbm, ⟨31, _⟩ => ⟨S32768x3072, .bf16⟩
  | .hbm, ⟨32, _⟩ => ⟨S1024x16, .f32⟩
  | .hbm, ⟨33, _⟩ => ⟨S32768x16, .f32⟩
  | .hbm, ⟨34, _⟩ => ⟨S_, .i32⟩
  | .hbm, ⟨35, _⟩ => ⟨S_, .f32⟩
  | .hbm, ⟨36, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_call0_v0 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel7.lean ====
abbrev S32768x3072 : Shape := ⟨2, ![32768, 3072]⟩
abbrev S16x2048x3072 : Shape := ⟨3, ![16, 2048, 3072]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512x256 : Shape := ⟨2, ![512, 256]⟩
abbrev S16x2048x1024 : Shape := ⟨3, ![16, 2048, 1024]⟩
abbrev S1x256x256 : Shape := ⟨3, ![1, 256, 256]⟩
abbrev S1x2048x256 : Shape := ⟨3, ![1, 2048, 256]⟩
abbrev S1x128 : Shape := ⟨2, ![1, 128]⟩
abbrev S1x256x128 : Shape := ⟨3, ![1, 256, 128]⟩
abbrev S256x128 : Shape := ⟨2, ![256, 128]⟩
abbrev S256x512 : Shape := ⟨2, ![256, 512]⟩
abbrev S1024x128 : Shape := ⟨2, ![1024, 128]⟩
abbrev S256x1024 : Shape := ⟨2, ![256, 1024]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 12
  | .vmem => 9
  | .smem => 0
  | _ => 0

abbrev bufTy : (tb : Table) → Fin (tcTables nBuf tb) → BufTy
  | .hbm, ⟨0, _⟩ => ⟨S32768x3072, .bf16⟩
  | .hbm, ⟨1, _⟩ => ⟨S16x2048x3072, .bf16⟩
  | .hbm, ⟨2, _⟩ => ⟨S256, .i32⟩
  | .hbm, ⟨3, _⟩ => ⟨S256x1, .i32⟩
  | .hbm, ⟨4, _⟩ => ⟨S256, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S256x256, .bf16⟩
  | .hbm, ⟨10, _⟩ => ⟨S512x256, .bf16⟩
  | .hbm, ⟨11, _⟩ => ⟨S16x2048x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S512x256, .bf16⟩
  | .local _ .vmem, ⟨7, _⟩ => ⟨S1x256x256, .bf16⟩
  | .local _ .vmem, ⟨8, _⟩ => ⟨S1x256x256, .bf16⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 4, 8], ![false, false, false]⟩

def k0_off1 (i : grid0.Coords) : Fin 3 → Nat :=
  let c0_18 : Index := 0#32
  let arg2 : BitVec 32 := BitVec.ofNat 32 (i 2).val
  let c256_i32 : BitVec 32 := 256#32
  let v50 : BitVec 32 := Scalar.muli arg2 c256_i32
  let v51 : Index := Scalar.indexCast v50
  let c0_19 : Index := 0#32
  ![0, v51.toNat, 0]
def k0_off2 (i : grid0.Coords) : Fin 3 → Nat :=
  let c0_26 : Index := 0#32
  let arg2 : BitVec 32 := BitVec.ofNat 32 (i 2).val
  let c256_i32_25 : BitVec 32 := 256#32
  let v60 : BitVec 32 := Scalar.muli arg2 c256_i32_25
  let v61 : Index := Scalar.indexCast v60
  let c128_27 : Index := 128#32
  ![0, v61.toNat, 128]
def k0_off3 (i : grid0.Coords) : Fin 3 → Nat :=
  let c0_34 : Index := 0#32
  let arg2 : BitVec 32 := BitVec.ofNat 32 (i 2).val
  let c1_i32_16 : BitVec 32 := 1#32
  let v45 : BitVec 32 := Scalar.subi arg2 c1_i32_16
  let c0_i32_17 : BitVec 32 := 0#32
  let v46 : BitVec 32 := Scalar.maxsi v45 c0_i32_17
  let c256_i32_33 : BitVec 32 := 256#32
  let v70 : BitVec 32 := Scalar.muli v46 c256_i32_33
  let v71 : Index := Scalar.indexCast v70
  let c0_35 : Index := 0#32
  ![0, v71.toNat, 0]
def k0_off4 (i : grid0.Coords) : Fin 3 → Nat :=
  let c0_42 : Index := 0#32
  let arg2 : BitVec 32 := BitVec.ofNat 32 (i 2).val
  let c1_i32_16 : BitVec 32 := 1#32
  let v45 : BitVec 32 := Scalar.subi arg2 c1_i32_16
  let c0_i32_17 : BitVec 32 := 0#32
  let v46 : BitVec 32 := Scalar.maxsi v45 c0_i32_17
  let c256_i32_41 : BitVec 32 := 256#32
  let v80 : BitVec 32 := Scalar.muli v46 c256_i32_41
  let v81 : Index := Scalar.indexCast v80
  let c128_43 : Index := 128#32
  ![0, v81.toNat, 128]
def k0_off5 (arg8 : BitVec 32) : Fin 3 → Nat :=
  let c0_124 : Index := 0#32
  let c256_i32_123 : BitVec 32 := 256#32
  let v377 : BitVec 32 := Scalar.muli arg8 c256_i32_123
  let v378 : Index := Scalar.indexCast v377
  let c0_125 : Index := 0#32
  ![0, v378.toNat, 0]

def k0_off6 (arg8 : BitVec 32) : Fin 3 → Nat :=
  let c0_132 : Index := 0#32
  let c256_i32_131 : BitVec 32 := 256#32
  let v387 : BitVec 32 := Scalar.muli arg8 c256_i32_131
  let v388 : Index := Scalar.indexCast v387
  let c128_133 : Index := 128#32
  ![0, v388.toNat, 128]
def k0_off7 (arg8 : BitVec 32) : Fin 3 → Nat :=
  let c0_140 : Index := 0#32
  let c1_i32_121 : BitVec 32 := 1#32
  let v375 : BitVec 32 := Scalar.subi arg8 c1_i32_121
  let c0_i32_122 : BitVec 32 := 0#32
  let v376 : BitVec 32 := Scalar.maxsi v375 c0_i32_122
  let c256_i32_139 : BitVec 32 := 256#32
  let v397 : BitVec 32 := Scalar.muli v376 c256_i32_139
  let v398 : Index := Scalar.indexCast v397
  let c0_141 : Index := 0#32
  ![0, v398.toNat, 0]
def k0_off8 (arg8 : BitVec 32) : Fin 3 → Nat :=
  let c0_148 : Index := 0#32
  let c1_i32_121 : BitVec 32 := 1#32
  let v375 : BitVec 32 := Scalar.subi arg8 c1_i32_121
  let c0_i32_122 : BitVec 32 := 0#32
  let v376 : BitVec 32 := Scalar.maxsi v375 c0_i32_122
  let c256_i32_147 : BitVec 32 := 256#32
  let v407 : BitVec 32 := Scalar.muli v376 c256_i32_147
  let v408 : Index := Scalar.indexCast v407
  let c128_149 : Index := 128#32
  ![0, v408.toNat, 128]

def k0_chk1 (arg8 : BitVec 32) : Prop :=
  (∀ a, (k0_off5 arg8) a + S1x256x128.size a ≤ S1x2048x256.size a) ∧
  (∀ a, (k0_off6 arg8) a + S1x256x128.size a ≤ S1x2048x256.size a) ∧
  (∀ a, (k0_off7 arg8) a + S1x256x128.size a ≤ S1x2048x256.size a) ∧
  (∀ a, (k0_off8 arg8) a + S1x256x128.size a ≤ S1x2048x256.size a)
theorem k0_off5_inb : ∀ (arg8 : BitVec 32) (k0_hw1 : k0_chk1 arg8), ∀ a, (k0_off5 arg8) a + S1x256x128.size a ≤ S1x2048x256.size a := fun arg8 k0_hw1 => k0_hw1.1
theorem k0_off6_inb : ∀ (arg8 : BitVec 32) (k0_hw1 : k0_chk1 arg8), ∀ a, (k0_off6 arg8) a + S1x256x128.size a ≤ S1x2048x256.size a := fun arg8 k0_hw1 => k0_hw1.2.1
theorem k0_off7_inb : ∀ (arg8 : BitVec 32) (k0_hw1 : k0_chk1 arg8), ∀ a, (k0_off7 arg8) a + S1x256x128.size a ≤ S1x2048x256.size a := fun arg8 k0_hw1 => k0_hw1.2.2.1
theorem k0_off8_inb : ∀ (arg8 : BitVec 32) (k0_hw1 : k0_chk1 arg8), ∀ a, (k0_off8 arg8) a + S1x256x128.size a ≤ S1x2048x256.size a := fun arg8 k0_hw1 => k0_hw1.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel7Ideal.lean ====
variable {F : FTy → Type} [FloatOps F] [Named F]
def κ : String → Option EReal := fun
  | "skip" => some ⊥
  | _ => none
-- ==== Reference7Ideal.lean ====
abbrev S32768x3072 : Shape := ⟨2, ![32768, 3072]⟩
abbrev S16x2048x3072 : Shape := ⟨3, ![16, 2048, 3072]⟩
abbrev S16x2048x1024 : Shape := ⟨3, ![16, 2048, 1024]⟩
abbrev S16x2048x16x64 : Shape := ⟨4, ![16, 2048, 16, 64]⟩
abbrev S16x16x2048x64 : Shape := ⟨4, ![16, 16, 2048, 64]⟩
abbrev S16x16x2048x2048 : Shape := ⟨4, ![16, 16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S16x2048x3072, .bf16⟩
  | .hbm, ⟨2, _⟩ => ⟨S16x2048x3072, .f32⟩
  | .hbm, ⟨3, _⟩ => ⟨S16x2048x1024, .f32⟩
  | .hbm, ⟨4, _⟩ => ⟨S16x2048x16x64, .f32⟩
  | .hbm, ⟨5, _⟩ => ⟨S16x16x2048x64, .f32⟩
  | .hbm, ⟨6, _⟩ => ⟨S16x2048x1024, .f32⟩
  | .hbm, ⟨7, _⟩ => ⟨S16x2048x16x64, .f32⟩
  | .hbm, ⟨8, _⟩ => ⟨S16x16x2048x64, .f32⟩
  | .hbm, ⟨9, _⟩ => ⟨S16x2048x1024, .f32⟩
  | .hbm, ⟨10, _⟩ => ⟨S16x2048x16x64, .f32⟩
  | .hbm, ⟨11, _⟩ => ⟨S16x16x2048x64, .f32⟩
  | .hbm, ⟨12, _⟩ => ⟨S16x16x2048x2048, .f32⟩
  | .hbm, ⟨13, _⟩ => ⟨S2048, .i32⟩
  | .hbm, ⟨14, _⟩ => ⟨S1x2048, .i32⟩
  | .hbm, ⟨15, _⟩ => ⟨S2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S16x16x2048x2048, .f32⟩
  | .hbm, ⟨21, _⟩ => ⟨S16x16x2048x2048, .f32⟩
  | .hbm, ⟨22, _⟩ => ⟨S_, .f32⟩
  | .hbm, ⟨23, _⟩ => ⟨S16x16x2048x2048, .f32⟩
  | .hbm, ⟨24, _⟩ => ⟨S16x16x2048x2048, .f32⟩
  | .hbm, ⟨25, _⟩ => ⟨S16x16x2048x2048, .f32⟩
  | .hbm, ⟨26, _⟩ => ⟨S16x16x2048x2048, .f32⟩
  | .hbm, ⟨27, _⟩ => ⟨S16x16x2048x2048, .i1⟩
  | .hbm, ⟨28, _⟩ => ⟨S16x16x2048x2048, .f32⟩
  | .hbm, ⟨29, _⟩ => ⟨S16x16x2048x2048, .f32⟩
  | .hbm, ⟨30, _⟩ => ⟨S16x16x2048x2048, .f32⟩
  | .hbm, ⟨31, _⟩ => ⟨S16x16x2048x2048, .f32⟩
  | .hbm, ⟨32, _⟩ => ⟨S16x16x2048x2048, .f32⟩
  | .hbm, ⟨33, _⟩ => ⟨S16x16x2048x2048, .f32⟩
  | .hbm, ⟨34, _⟩ => ⟨S16x16x2048x2048, .f32⟩
  | .hbm, ⟨35, _⟩ => ⟨S16x16x2048x2048, .f32⟩
  | .hbm, ⟨36, _⟩ => ⟨S16x16x2048x2048, .f32⟩
  | .hbm, ⟨37, _⟩ => ⟨S_, .f32⟩
  | .hbm, ⟨38, _⟩ => ⟨S_, .f32⟩
  | .hbm, ⟨39, _⟩ => ⟨S16x16x2048x2048, .i1⟩
  | .hbm, ⟨40, _⟩ => ⟨S16x16x2048x2048, .f32⟩
  | .hbm, ⟨41, _⟩ => ⟨S16x16x2048x2048, .f32⟩
  | .hbm, ⟨42, _⟩ => ⟨S_, .f32⟩
  | .hbm, ⟨43, _⟩ => ⟨S_, .f32⟩
  | .hbm, ⟨44, _⟩ => ⟨S16x16x2048x2048, .f32⟩
  | .hbm, ⟨45, _⟩ => ⟨S16x16x2048x2048, .f32⟩
  | .hbm, ⟨46, _⟩ => ⟨S16x16x2048x2048, .f32⟩
  | .hbm, ⟨47, _⟩ => ⟨S_, .f32⟩
  | .hbm, ⟨48, _⟩ => ⟨S16x16x2048x2048, .f32⟩
  | .hbm, ⟨49, _⟩ => ⟨S16x16x2048x2048, .f32⟩
  | .hbm, ⟨50, _⟩ => ⟨S16x16x2048x2048, .f32⟩
  | .hbm, ⟨51, _⟩ => ⟨S16x16x2048x2048, .f32⟩
  | .hbm, ⟨52, _⟩ => ⟨S16x16x2048x2048, .i1⟩
  | .hbm, ⟨53, _⟩ => ⟨S16x16x2048x2048, .f32⟩
  | .hbm, ⟨54, _⟩ => ⟨S16x16x2048x2048, .f32⟩
  | .hbm, ⟨55, _⟩ => ⟨S16x16x2048x2048, .f32⟩
  | .hbm, ⟨56, _⟩ => ⟨S16x16x2048x2048, .f32⟩
  | .hbm, ⟨57, _⟩ => ⟨S16x16x2048x2048, .f32⟩
  | .hbm, ⟨58, _⟩ => ⟨S16x16x2048x2048, .f32⟩
  | .hbm, ⟨59, _⟩ => ⟨S16x16x2048x2048, .f32⟩
  | .hbm, ⟨60, _⟩ => ⟨S16x16x2048x2048, .f32⟩
  | .hbm, ⟨61, _⟩ => ⟨S16x16x2048x2048, .f32⟩
  | .hbm, ⟨62, _⟩ => ⟨S16x16x2048x2048, .f32⟩
  | .hbm, ⟨63, _⟩ => ⟨S16x16x2048x2048, .f32⟩
  | .hbm, ⟨64, _⟩ => ⟨S_, .f32⟩
  | .hbm, ⟨65, _⟩ => ⟨S_, .f32⟩
  | .hbm, ⟨66, _⟩ => ⟨S16x16x2048x2048, .i1⟩
  | .hbm, ⟨67, _⟩ => ⟨S16x16x2048x2048, .f32⟩
  | .hbm, ⟨68, _⟩ => ⟨S16x16x2048x2048, .f32⟩
  | .hbm, ⟨69, _⟩ => ⟨S16x16x2048x64, .f32⟩
  | .hbm, ⟨70, _⟩ => ⟨S16x2048x16x64, .f32⟩
  | .hbm, ⟨71, _⟩ => ⟨S16x2048x1024, .f32⟩
  | .hbm, ⟨72, _⟩ => ⟨S16x2048x1024, .bf16⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v20 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_call2_cst : Ref sig .tc := ⟨.hbm, 42, rfl⟩
abbrev main_call2_v0 : Ref sig .tc := ⟨.hbm, 43, rfl⟩
abbrev main_v22 : Ref sig .tc := ⟨.hbm, 44, rfl⟩
abbrev main_v23 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_0 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩

abbrev nD : Nat := 1
abbrev τ : Topo := Topo.v7x

variable {F : FTy → Type} [FloatOps F]
-- ==== Proof.Fox.Step.lean ====
/- The forgetting attention's one softmax step, written once for every key width `n`: the eight branches of the
   printed kernel are this step at `n = 256, 512, …, 2048`. -/
module

public import proofs.«01_k».proof.Proof.Gen.KernelIdeal.Frame
public import proofs.«01_k».proof.Proof.Gen.KernelIdeal.Skeleton

@[expose] public section

set_option maxRecDepth 16384

noncomputable section

namespace Cert.KernelIdeal.Fox

open Idealize.ShloMosaic Idealize.ShloMosaic.TcCoe Idealize.ShloMosaic.Tactic
open Cert.KernelIdeal Cert.KernelIdeal.Gen

variable {F : FTy → Type} [FloatOps F]

/-- What the step's shapes must satisfy at width `n` (`m` is twice `n`). -/
structure Fits (n m : ℕ) : Prop where
  castK : (⟨3, ![1, n, 128]⟩ : Shape).ShapeCasts ⟨2, ![n, 128]⟩
  castC : (⟨3, ![1, 1, n]⟩ : Shape).ShapeCasts ⟨2, ![1, n]⟩
  bcC : (⟨2, ![1, n]⟩ : Shape).Broadcasts ⟨2, ![256, n]⟩
  wfS : DotDims.WF ⟨2, ![256, 128]⟩ ⟨2, ![n, 128]⟩ ⟨2, ![256, n]⟩ [1] [1] [0] [0] [] []
  red : (⟨2, ![256, n]⟩ : Shape).Reduces [1] S256
  bcOne : S256x1.Broadcasts ⟨2, ![256, n]⟩
  bcM : S1x128.Broadcasts ⟨2, ![n, 128]⟩
  catV : Shape.Concatenates [⟨2, ![n, 128]⟩, ⟨2, ![n, 128]⟩] ⟨2, ![m, 128]⟩ 0
  catP : Shape.Concatenates [⟨2, ![256, n]⟩, ⟨2, ![256, n]⟩] ⟨2, ![256, m]⟩ 1
  wfO : DotDims.WF ⟨2, ![256, m]⟩ ⟨2, ![m, 128]⟩ ⟨2, ![256, 128]⟩ [1] [0] [0] [1] [] []

/-- What the causal mask of the last 256 keys needs, after `e` keys in front of them. -/
structure FitsCausal (n e : ℕ) : Prop where
  last : (⟨2, ![256, n]⟩ : Shape).Slices ![0, e] S256x256
  front : (⟨2, ![256, n]⟩ : Shape).Slices ![0, 0] ⟨2, ![256, e]⟩
  cat : Shape.Concatenates [⟨2, ![256, e]⟩, S256x256] ⟨2, ![256, n]⟩ 1

variable {n m e : ℕ}

/-- The score product's dimension numbers: both operands contract their lanes. -/
def dotS (h : Fits n m) : DotDims ⟨2, ![256, 128]⟩ ⟨2, ![n, 128]⟩ ⟨2, ![256, n]⟩ where
  lhsContracting := [1]
  rhsContracting := [1]
  lhsNonContracting := [0]
  rhsNonContracting := [0]
  lhsBatch := []
  rhsBatch := []
  wf := h.wfS

/-- The output product's dimension numbers. -/
def dotO (h : Fits n m) : DotDims ⟨2, ![256, m]⟩ ⟨2, ![m, 128]⟩ ⟨2, ![256, 128]⟩ where
  lhsContracting := [1]
  rhsContracting := [0]
  lhsNonContracting := [0]
  rhsNonContracting := [1]
  lhsBatch := []
  rhsBatch := []
  wf := h.wfO

/-- Query rows against the keys, less the keys' cumulative gates. -/
def score (h : Fits n m) (q : FVec F S256x128 .bf16) (k : Vec F ⟨3, ![1, n, 128]⟩ .bf16) (ck : Vec F ⟨3, ![1, 1, n]⟩ .f32) :
    FVec F ⟨2, ![256, n]⟩ .f32 :=
  subf (matmul (dotS h) none q (shapeCast ⟨2, ![n, 128]⟩ k h.castK) (constant ⟨2, ![256, n]⟩ .f32 0x00000000#32))
    (broadcastTo ⟨2, ![256, n]⟩ (shapeCast ⟨2, ![1, n]⟩ ck h.castC) h.bcC)

/-- The 256 keys of the query block itself: those no later than the row. -/
def own (w : FVec F S256x256 .f32) : FVec F S256x256 .f32 :=
  select k0_pay180 w (broadcast S256x256 (Scalar.ofBits .f32 0xFF800000#32))

/-- The mask on a wider block: every key in front of the last 256, then `own`. -/
def causal (h : FitsCausal n e) (w : FVec F ⟨2, ![256, n]⟩ .f32) : FVec F ⟨2, ![256, n]⟩ .f32 :=
  concatenate ⟨2, ![256, n]⟩ 1 [⟨⟨2, ![256, e]⟩, extractStridedSlice ⟨2, ![256, e]⟩ ![0, 0] w h.front⟩,
    ⟨S256x256, own (extractStridedSlice S256x256 ![0, e] w h.last)⟩] h.cat

/-- One value per row on head 0's lanes, another on head 1's. -/
def halves (a b : FVec F S256x1 .f32) : FVec F S256x128 .f32 :=
  select (broadcastTo S256x128 (shapeCast S1x128 k0_pay198 shapeCasts_S1x128_S1x128) broadcasts_S1x128_S256x128)
    (broadcastTo S256x128 (shapeCast S256x1 a shapeCasts_S256x1_S256x1) broadcasts_S256x1_S256x128)
    (broadcastTo S256x128 (shapeCast S256x1 b shapeCasts_S256x1_S256x1) broadcasts_S256x1_S256x128)

/-- A row's largest score, -/
def rowMax (h : Fits n m) (w : FVec F ⟨2, ![256, n]⟩ .f32) : FVec F S256x1 .f32 :=
  shapeCast S256x1 (multiReduction .maximumf [1] S256 w 0xFF800000#32 h.red (.inl rfl) rfl) shapeCasts_S256_S256x1

/-- and a row's sum. -/
def rowSum (h : Fits n m) (p : FVec F ⟨2, ![256, n]⟩ .f32) : FVec F S256x1 .f32 :=
  shapeCast S256x1 (multiReduction .add [1] S256 p 0x00000000#32 h.red (.inl rfl) rfl) shapeCasts_S256_S256x1

/-- The running maximum after the step, from its initial value −∞. -/
def newMax (h : Fits n m) (cq : FVec F S256x128 .f32) (w0 w1 : FVec F ⟨2, ![256, n]⟩ .f32) : FVec F S256x128 .f32 :=
  maximumf (broadcast S256x128 (Scalar.ofBits .f32 0xFF800000#32)) (addf cq (halves (rowMax h w0) (rowMax h w1)))

/-- The factor the initial sum and accumulator are scaled by. -/
def fade (h : Fits n m) (cq : FVec F S256x128 .f32) (w0 w1 : FVec F ⟨2, ![256, n]⟩ .f32) : FVec F S256x128 .f32 :=
  exp (subf (broadcast S256x128 (Scalar.ofBits .f32 0xFF800000#32)) (newMax h cq w0 w1))

/-- Head 0's weights, -/
def weight0 (h : Fits n m) (cq : FVec F S256x128 .f32) (w0 w1 : FVec F ⟨2, ![256, n]⟩ .f32) : FVec F ⟨2, ![256, n]⟩ .f32 :=
  exp (subf w0 (broadcastTo ⟨2, ![256, n]⟩
    (extractStridedSlice S256x1 ![0, 0] (subf (newMax h cq w0 w1) cq) slices_S256x128_o0_0_S256x1) h.bcOne))

/-- and head 1's. -/
def weight1 (h : Fits n m) (cq : FVec F S256x128 .f32) (w0 w1 : FVec F ⟨2, ![256, n]⟩ .f32) : FVec F ⟨2, ![256, n]⟩ .f32 :=
  exp (subf w1 (broadcastTo ⟨2, ![256, n]⟩
    (extractStridedSlice S256x1 ![0, 64] (subf (newMax h cq w0 w1) cq) slices_S256x128_o0_64_S256x1) h.bcOne))

/-- The sum of the weights after the step, on the lanes of each head. -/
def total (h : Fits n m) (cq : FVec F S256x128 .f32) (w0 w1 : FVec F ⟨2, ![256, n]⟩ .f32) : FVec F S256x128 .f32 :=
  addf (mulf (fade h cq w0 w1) (broadcast S256x128 (Scalar.ofBits .f32 0x00000000#32)))
    (halves (rowSum h (weight0 h cq w0 w1)) (rowSum h (weight1 h cq w0 w1)))

/-- The values on one head's lanes, zero on the other's. -/
def lanes (h : Fits n m) (mask : IVec S1x128 1) (v : Vec F ⟨3, ![1, n, 128]⟩ .bf16) : FVec F ⟨2, ![n, 128]⟩ .bf16 :=
  select (broadcastTo ⟨2, ![n, 128]⟩ (shapeCast S1x128 mask shapeCasts_S1x128_S1x128) h.bcM)
    (shapeCast ⟨2, ![n, 128]⟩ v h.castK) (broadcast ⟨2, ![n, 128]⟩ (Scalar.ofBits .bf16 0x0000#16))

/-- The accumulator after the step: both heads' weights side by side against their values one above the other. -/
def acc (h : Fits n m) (cq : FVec F S256x128 .f32) (w0 w1 : FVec F ⟨2, ![256, n]⟩ .f32) (v : Vec F ⟨3, ![1, n, 128]⟩ .bf16) :
    FVec F S256x128 .f32 :=
  addf (mulf (broadcast S256x128 (Scalar.ofBits .f32 0x00000000#32)) (fade h cq w0 w1))
    (matmul (dotO h) none
      (concatenate ⟨2, ![256, m]⟩ 1 [⟨⟨2, ![256, n]⟩, truncf .bf16 (weight0 h cq w0 w1) bitsLt_bf16_f32⟩,
        ⟨⟨2, ![256, n]⟩, truncf .bf16 (weight1 h cq w0 w1) bitsLt_bf16_f32⟩] h.catP)
      (concatenate ⟨2, ![m, 128]⟩ 0 [⟨⟨2, ![n, 128]⟩, lanes h k0_pay198 v⟩, ⟨⟨2, ![n, 128]⟩, lanes h k0_pay199 v⟩] h.catV)
      (constant S256x128 .f32 0x00000000#32))

/-- What the kernel reads at a point, at key width `n`: for each of the two lane groups the query rows, the keys, the
    values and the two heads' key gates; and the query rows' gates. -/
structure Reads (F : FTy → Type) (n : ℕ) where
  c : Vec F S1x256x128 .f32
  q : Fin 2 → Vec F S1x256x128 .bf16
  k : Fin 2 → Vec F ⟨3, ![1, n, 128]⟩ .bf16
  ck : Fin 2 → Fin 2 → Vec F ⟨3, ![1, 1, n]⟩ .f32
  v : Fin 2 → Vec F ⟨3, ![1, n, 128]⟩ .bf16

/-- A lane group's query rows on one head's lanes. -/
def qlanes (mask : IVec S1x128 1) (q : Vec F S1x256x128 .bf16) : FVec F S256x128 .bf16 :=
  select (broadcastTo S256x128 (shapeCast S1x128 mask shapeCasts_S1x128_S1x128) broadcasts_S1x128_S256x128)
    (shapeCast S256x128 q shapeCasts_S1x256x128_S256x128) (broadcast S256x128 (Scalar.ofBits .bf16 0x0000#16))

/-- The gate of lane `w` of each query row. -/
def pick (w : BitVec 32) (c : Vec F S1x256x128 .f32) : FVec F S256x1 .f32 :=
  shapeCast S256x1 (multiReduction .add [1] S256
    (select (broadcastTo S256x128 (shapeCast S1x128 (cmpi .eq (iota .tc S1x128 32 [1] iota_S1x128_d1_w32) (broadcast S1x128 w))
        shapeCasts_S1x128_S1x128) broadcasts_S1x128_S256x128)
      (shapeCast S256x128 c shapeCasts_S1x256x128_S256x128) (broadcast S256x128 (Scalar.ofBits .f32 0x00000000#32)))
    0x00000000#32 reduces_S256x128_S256 (.inl rfl) rfl) shapeCasts_S256_S256x1

/-- The first head of lane group `g` at the point's second coordinate, as the kernel computes it. -/
def headWord (hp : BitVec 32) (g : BitVec 32) : BitVec 32 :=
  Scalar.muli (Scalar.addi (Scalar.muli hp 2#32) g) 2#32

/-- The query rows' gates of lane group `g`, on the lanes of each head. -/
def gates (hp g : BitVec 32) (c : Vec F S1x256x128 .f32) : FVec F S256x128 .f32 :=
  halves (pick (Scalar.addi (headWord hp g) 0#32) c) (pick (Scalar.addi (headWord hp g) 1#32) c)

/-- The stored block from the masked scores `w g hh`. -/
def store (h : Fits n m) (hp : BitVec 32) (x : Reads F n) (w : Fin 2 → Fin 2 → FVec F ⟨2, ![256, n]⟩ .f32) :
    FVec F S1x256x256 .bf16 :=
  k0_pay53 (total h (gates hp 0#32 x.c) (w 0 0) (w 0 1)) (acc h (gates hp 0#32 x.c) (w 0 0) (w 0 1) (x.v 0))
    (total h (gates hp 1#32 x.c) (w 1 0) (w 1 1)) (acc h (gates hp 1#32 x.c) (w 1 0) (w 1 1) (x.v 1))

/-- The lane mask of head `hh` of a pair. -/
def headMask : Fin 2 → IVec S1x128 1
  | 0 => k0_pay198
  | 1 => k0_pay199

/-- Lane group `g`'s scores of head `hh`. -/
def scores (h : Fits n m) (x : Reads F n) (g hh : Fin 2) : FVec F ⟨2, ![256, n]⟩ .f32 :=
  score h (qlanes (headMask hh) (x.q g)) (x.k g) (x.ck g hh)

/-- The block stored where the query block is the first, -/
def storeOwn (h : Fits 256 512) (hp : BitVec 32) (x : Reads F 256) : FVec F S1x256x256 .bf16 :=
  store h hp x fun g hh => own (scores h x g hh)

/-- and where `e` keys lie in front of it. -/
def storeWide (h : Fits n m) (hc : FitsCausal n e) (hp : BitVec 32) (x : Reads F n) : FVec F S1x256x256 .bf16 :=
  store h hp x fun g hh => causal hc (scores h x g hh)

end Cert.KernelIdeal.Fox

end
-- ==== Proof.Fox.Body.lean ====
/- The kernel body's run: at every grid point the output's buffer ends at one block computed from the input blocks. -/
module

public import proofs.«01_k».proof.Proof.Fox.Step

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The stored rectangle: the whole output block. -/
abbrev rOut : Rect S1x256x256 := Rect.unit (s := S1x256x256) ![0, 0, 0] S1x256x256.size inb_S1x256x256_S1x256x256_0_0_0

theorem cover_out (p : Vec F S1x256x256 .bf16) (y : S1x256x256.Idx) :
    ∃ pc ∈ ([⟨rOut, p⟩] : List (View.Piece (Elt F) S1x256x256 .bf16)), y ∈ pc.1.set :=
  View.cover_of_tiled [⟨rOut, p⟩] S1x256x256.size (by rfl) y

theorem fits256 : Fits 256 512 := by constructor <;> decide
theorem fits512 : Fits 512 1024 := by constructor <;> decide
theorem fits768 : Fits 768 1536 := by constructor <;> decide
theorem fits1024 : Fits 1024 2048 := by constructor <;> decide
theorem fits1280 : Fits 1280 2560 := by constructor <;> decide
theorem fits1536 : Fits 1536 3072 := by constructor <;> decide
theorem fits1792 : Fits 1792 3584 := by constructor <;> decide
theorem fits2048 : Fits 2048 4096 := by constructor <;> decide
theorem causal512 : FitsCausal 512 256 := by constructor <;> decide
theorem causal768 : FitsCausal 768 512 := by constructor <;> decide
theorem causal1024 : FitsCausal 1024 768 := by constructor <;> decide
theorem causal1280 : FitsCausal 1280 1024 := by constructor <;> decide
theorem causal1536 : FitsCausal 1536 1280 := by constructor <;> decide
theorem causal1792 : FitsCausal 1792 1536 := by constructor <;> decide
theorem causal2048 : FitsCausal 2048 1792 := by constructor <;> decide

/-- The body at grid coordinates `i` leaves `out` of its five input blocks in the output's buffer. -/
def Leaves (i : grid0.Coords) (out : Vec F S1x256x256 .bf16 → Vec F S1x2048x256 .bf16 → Vec F S1x2048x256 .bf16 →
    Vec F S1x256x128 .f32 → Vec F S1x16x2048 .f32 → Vec F S1x256x256 .bf16) : Prop :=
  ∀ (c : Dev nD) (E : Set ℕ) (arg3 : Memref sig .tc .vmem S1x256x256 .bf16) (harg3 : arg3.IsWhole)
    (arg4 : Memref sig .tc .vmem S1x2048x256 .bf16) (harg4 : arg4.IsWhole) (arg5 : Memref sig .tc .vmem S1x2048x256 .bf16) (harg5 : arg5.IsWhole)
    (arg6 : Memref sig .tc .vmem S1x256x128 .f32) (harg6 : arg6.IsWhole) (arg7 : Memref sig .tc .vmem S1x16x2048 .f32) (harg7 : arg7.IsWhole)
    (arg8 : Memref sig .tc .vmem S1x256x256 .bf16) (harg8 : arg8.IsWhole)
    (x0 : Vec F S1x256x256 .bf16) (x1 x2 : Vec F S1x2048x256 .bf16) (x3 : Vec F S1x256x128 .f32) (x4 : Vec F S1x16x2048 .f32)
    (K : PUnit → sProp 𝕄),
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4
          ∗ owns (c : Thread nD τ) arg8 fullShare (View.canon [⟨rOut, out x0 x1 x2 x3 x4⟩])) -∗ K ⟨⟩))
      ⊢ wp frame (wpE (defs₀ (F := F)) Variants.none c none) E
          (cc0_attention i arg3 harg3 arg4 harg4 arg5 harg5 arg6 harg6 arg7 harg7 arg8 harg8) K

/-- The two lane groups of the query block, and the first `n` keys, values and key gates of the sequence, as the kernel
    loads them: the keys and values of the groups at `lo` and `hi`, the gates of group `g`'s head `hh` at `gate g hh`. -/
def readsAt (n : ℕ) (lo hi : Fin 3 → ℕ) (gate : BitVec 32 → BitVec 32 → Fin 3 → ℕ)
    (hlo : ∀ a, lo a + (![1, n, 128] : Fin 3 → ℕ) a ≤ S1x2048x256.size a)
    (hhi : ∀ a, hi a + (![1, n, 128] : Fin 3 → ℕ) a ≤ S1x2048x256.size a)
    (hgate : ∀ g hh : Fin 2, ∀ a, gate (BitVec.ofNat 32 g.val) (BitVec.ofNat 32 hh.val) a + (![1, 1, n] : Fin 3 → ℕ) a ≤ S1x16x2048.size a)
    (x0 : Vec F S1x256x256 .bf16) (x1 x2 : Vec F S1x2048x256 .bf16) (x3 : Vec F S1x256x128 .f32) (x4 : Vec F S1x16x2048 .f32) :
    Reads F n where
  c := View.ld x3 (Rect.unit (s := S1x256x128) ![0, 0, 0] S1x256x128.size inb_S1x256x128_S1x256x128_0_0_0)
  q := ![View.ld x0 (Rect.unit (s := S1x256x256) ![0, 0, 0] S1x256x128.size inb_S1x256x256_S1x256x128_0_0_0),
    View.ld x0 (Rect.unit (s := S1x256x256) ![0, 0, 128] S1x256x128.size inb_S1x256x256_S1x256x128_0_0_128)]
  k := ![View.ld x1 (Rect.unit (s := S1x2048x256) lo ![1, n, 128] hlo), View.ld x1 (Rect.unit (s := S1x2048x256) hi ![1, n, 128] hhi)]
  ck g hh := View.ld x4 (Rect.unit (s := S1x16x2048) (gate (BitVec.ofNat 32 g.val) (BitVec.ofNat 32 hh.val)) ![1, 1, n] (hgate g hh))
  v := ![View.ld x2 (Rect.unit (s := S1x2048x256) lo ![1, n, 128] hlo), View.ld x2 (Rect.unit (s := S1x2048x256) hi ![1, n, 128] hhi)]

/-- The block the body stores at coordinates `i`, from its input blocks: one of eight widths, by the query block's index. -/
def out (i : grid0.Coords) : Vec F S1x256x256 .bf16 → Vec F S1x2048x256 .bf16 → Vec F S1x2048x256 .bf16 →
    Vec F S1x256x128 .f32 → Vec F S1x16x2048 .f32 → Vec F S1x256x256 .bf16 :=
  if h1 : k0_cond1 i = 1#1 then
    if h2 : k0_cond2 i = 1#1 then
      if h3 : k0_cond3 i = 1#1 then
        if h4 : k0_cond4 i = 1#1 then
          if h5 : k0_cond5 i = 1#1 then
            if h6 : k0_cond6 i = 1#1 then
              if h7 : k0_cond7 i = 1#1 then
                fun x0 x1 x2 x3 x4 => storeWide fits2048 causal2048 (BitVec.ofNat 32 (i 1).val)
                  (readsAt 2048 (k0_off1 i) (k0_off3 i) (k0_off2 i) (k0_off1_inb i h1 h2 h3 h4 h5 h6 h7) (k0_off3_inb i h1 h2 h3 h4 h5 h6 h7) (k0_off2_inb i h1 h2 h3 h4 h5 h6 h7) x0 x1 x2 x3 x4)
              else fun x0 x1 x2 x3 x4 => storeWide fits1792 causal1792 (BitVec.ofNat 32 (i 1).val)
                  (readsAt 1792 (k0_off4 i) (k0_off6 i) (k0_off5 i) (k0_off4_inb i h1 h2 h3 h4 h5 h6 h7) (k0_off6_inb i h1 h2 h3 h4 h5 h6 h7) (k0_off5_inb i h1 h2 h3 h4 h5 h6 h7) x0 x1 x2 x3 x4)
            else fun x0 x1 x2 x3 x4 => storeWide fits1536 causal1536 (BitVec.ofNat 32 (i 1).val)
                (readsAt 1536 (k0_off7 i) (k0_off9 i) (k0_off8 i) (k0_off7_inb i h1 h2 h3 h4 h5 h6) (k0_off9_inb i h1 h2 h3 h4 h5 h6) (k0_off8_inb i h1 h2 h3 h4 h5 h6) x0 x1 x2 x3 x4)
          else fun x0 x1 x2 x3 x4 => storeWide fits1280 causal1280 (BitVec.ofNat 32 (i 1).val)
              (readsAt 1280 (k0_off10 i) (k0_off12 i) (k0_off11 i) (k0_off10_inb i h1 h2 h3 h4 h5) (k0_off12_inb i h1 h2 h3 h4 h5) (k0_off11_inb i h1 h2 h3 h4 h5) x0 x1 x2 x3 x4)
        else fun x0 x1 x2 x3 x4 => storeWide fits1024 causal1024 (BitVec.ofNat 32 (i 1).val)
            (readsAt 1024 (k0_off13 i) (k0_off15 i) (k0_off14 i) (k0_off13_inb i h1 h2 h3 h4) (k0_off15_inb i h1 h2 h3 h4) (k0_off14_inb i h1 h2 h3 h4) x0 x1 x2 x3 x4)
      else fun x0 x1 x2 x3 x4 => storeWide fits768 causal768 (BitVec.ofNat 32 (i 1).val)
          (readsAt 768 (k0_off16 i) (k0_off18 i) (k0_off17 i) (k0_off16_inb i h1 h2 h3) (k0_off18_inb i h1 h2 h3) (k0_off17_inb i h1 h2 h3) x0 x1 x2 x3 x4)
    else fun x0 x1 x2 x3 x4 => storeWide fits512 causal512 (BitVec.ofNat 32 (i 1).val)
        (readsAt 512 (k0_off19 i) (k0_off21 i) (k0_off20 i) (k0_off19_inb i h1 h2) (k0_off21_inb i h1 h2) (k0_off20_inb i h1 h2) x0 x1 x2 x3 x4)
  else fun x0 x1 x2 x3 x4 => storeOwn fits256 (BitVec.ofNat 32 (i 1).val)
      (readsAt 256 (k0_off22 i) (k0_off24 i) (k0_off23 i) (k0_off22_inb i h1) (k0_off24_inb i h1) (k0_off23_inb i h1) x0 x1 x2 x3 x4)

set_option maxHeartbeats 40000000 in
/-- The body's run, the branch taken known in each of the eight cases: its loads, its payloads and its one store. -/
theorem leaves (i : grid0.Coords) : Leaves (F := F) i (out i) := by
  unfold out
  repeat' split
  all_goals
    unfold Leaves
    intro c E arg3 harg3 arg4 harg4 arg5 harg5 arg6 harg6 arg7 harg7 arg8 harg8 x0 x1 x2 x3 x4 K
    simp only [cc0_attention_eq_skeleton]; unfold cc0_attention_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    subst hf0 hf1 hf2 hf3 hf4
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    exact (View.read_writes_eq_canon _ _ _ (cover_out _)).trans rfl

end Cert.KernelIdeal.Fox

end
-- ==== Proof.Fox.Run.lean ====
/- The attention launch's run: the pipeline's proof data, the body obligation at every grid point, and the run of @main. -/
module

public import proofs.«01_k».proof.Proof.Fox.Body
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block at grid point `t`: the body's block of the five input blocks there. -/
def outAt (c : Dev nD) (t : Fin cfg0.N) : Vec F S1x256x256 .bf16 :=
  View.canon [⟨rOut, out (grid0.coords t) (iblk m c 0 t) (iblk m c 1 t) (iblk m c 2 t) (iblk m c 3 t) (iblk m c 4 t)⟩]

/-- The pipeline's proof data: arrays as the region finds them, each input's buffer left at its block, the output's at
    `outAt`; each window's share of its array
    (the three windows of the projected array share it), nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_c (c : Dev nD) (t : Fin cfg0.N) : (dats m 0 c).after 3 t = iblk m c 3 t := by dsimp only [dats]
theorem after_ck (c : Dev nD) (t : Fin cfg0.N) : (dats m 0 c).after 4 t = iblk m c 4 t := by dsimp only [dats]
theorem after_o (c : Dev nD) (t : Fin cfg0.N) : (dats m 0 c).after 5 t = outAt m c t := by dsimp only [dats]

/-- What the body is called with at point `t`: every input's buffer at its block, the output's at anything, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point, from `leaves`: the invariant and what is owed pass through. -/
theorem body_at (c : Dev nD) (t : Fin cfg0.N) :
    pre m c t ⊢ wp frame (wpE (defs₀ (F := F)) Variants.none c none) Set.univ (bodyAt0 t) (fun _ => post m c t) := by
  have b0 := fun d => before0_0_of m (dats m 0 c) (A_eq m c 0) (after_q m c) t d
  have b1 := fun d => before0_1_of m (dats m 0 c) (A_eq m c 1) (after_k m c) t d
  have b2 := fun d => before0_2_of m (dats m 0 c) (A_eq m c 2) (after_v m c) t d
  have b3 := fun d => before0_3_of m (dats m 0 c) (A_eq m c 3) (after_c m c) t d
  have b4 := fun d => before0_4_of m (dats m 0 c) (A_eq m c 4) (after_ck m c) t d
  unfold pre post bodyAt0
  simp only [b0, b1, b2, b3, b4]
  rw [show (dats m 0 c).Φ t.succ = (dats m 0 c).Φ t.castSucc from rfl,
    show (dats m 0 c).owesAt () t.succ = (dats m 0 c).owesAt () t.castSucc from rfl,
    after_q, after_k, after_v, after_c, after_ck, after_o]
  iintro ⟨HΦ, Ho, ⟨%d0, H0⟩, ⟨%d1, H1⟩, ⟨%d2, H2⟩, ⟨%d3, H3⟩, ⟨%d4, H4⟩, ⟨%d5, H5⟩⟩
  iapply (leaves (grid0.coords t) c Set.univ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body on the point's staging buffers. -/
theorem row (t : Fin cfg0.N) : defs₀ (F := F) .tc cfg0.body (cfg0.bodyArgs t (cfg0.slots t)) = bodyAt0 t := by
  unfold defs₀; rw [Defs.onTc_tc]

/-- The library's body obligation at every point. -/
theorem obligation (c : Dev nD) : BodyObligation (dats (F := F) m 0 c) (defs₀ (F := F)) Variants.none () Set.univ := fun t => by
  rw [bigSep_W0, bigSep_W0, row]
  exact triple_restated (body_at m c t) rfl .rfl fun _ => .rfl

set_option backward.isDefEq.respectTransparency.types false in
set_option maxHeartbeats 800000 in
/-- @main runs to its end: every array of the pipeline at what the proof data give, every other buffer as the region
    found it, every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The arguments end unchanged and the counters at zero, at any `F`. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Fox

end
-- ==== Proof.Fox.Elements.lean ====
/- The step's vectors read at an index, over the extended reals, at any key width. -/
module

public import proofs.«01_k».proof.Proof.Fox.Step
public import Idealize.ShloMosaic.Lib.Pointwise
public import Idealize.ShloMosaic.Lib.MatmulPlain

@[expose] public section

set_option maxRecDepth 16384

noncomputable section

namespace Cert.KernelIdeal.Fox

open Idealize.ShloMosaic Idealize.ShloMosaic.TcCoe Idealize.ShloMosaic.Tactic
open Cert.KernelIdeal Cert.KernelIdeal.Gen

variable {n m e : ℕ}

/-- A select on a bit is the case distinction on the bit. -/
theorem select_iff {α : Type} {b : BitVec 1} {p : Prop} [Decidable p] (h : b = 1#1 ↔ p) (x y : α) :
    Scalar.select b x y = if p then x else y := by
  unfold Scalar.select; exact if_congr h rfl rfl

theorem ofNat_toInt {a : ℕ} (h : a < 2147483648) : (BitVec.ofNat 32 a).toInt = a := by
  rw [BitVec.toInt_ofNat']; norm_num [Int.bmod]; omega

/-- Signed comparison of two small numbers' words. -/
theorem sle_small {a b : ℕ} (ha : a < 2147483648) (hb : b < 2147483648) :
    IntOp.cmpi .sle (BitVec.ofNat 32 a) (BitVec.ofNat 32 b) = 1#1 ↔ a ≤ b := by
  rw [IntOp.cmpi_sle, ofNat_toInt ha, ofNat_toInt hb]; omega

/-- The kernel's two lane masks, one bit per lane. -/
theorem mask0_bit : ∀ l : Fin 128, IntOp.andi (IntOp.cmpi .sge (BitVec.ofNat 32 l.val) 0#32) (IntOp.cmpi .slt (BitVec.ofNat 32 l.val) 64#32) = 1#1
    ↔ l.val < 64 := by decide +kernel
theorem mask1_bit : ∀ l : Fin 128, IntOp.andi (IntOp.cmpi .sge (BitVec.ofNat 32 l.val) 64#32) (IntOp.cmpi .slt (BitVec.ofNat 32 l.val) 128#32) = 1#1
    ↔ ¬ l.val < 64 := by decide +kernel

theorem reshape_rows {k : ℕ} (h : (⟨2, ![n, k]⟩ : Shape).numel = (⟨3, ![1, n, k]⟩ : Shape).numel) (i : Fin n) (l : Fin k) :
    Shape.reshapeEquiv h (ix2 i l) = ix3 0 i l :=
  Shape.reshapeEquiv_eq_of_rowMajor h (by
    rw [rowMajor_val2 _ k rfl, rowMajor_val3 _ (n * k) k rfl rfl]; simp)

theorem reshape_row (h : (⟨2, ![1, n]⟩ : Shape).numel = (⟨3, ![1, 1, n]⟩ : Shape).numel) (l : Fin n) :
    Shape.reshapeEquiv h (ix2 0 l) = ix3 0 0 l :=
  Shape.reshapeEquiv_eq_of_rowMajor h (by
    rw [rowMajor_val2 _ n rfl, rowMajor_val3 _ (1 * n) n rfl rfl]; simp)

theorem negInf_word : Ideal.ofBits .f32 0xFF800000#32 = ⊥ := by simp [Ideal.ofBits, Ideal.ieee]

theorem halves_apply (a b : FVec Ideal S256x1 .f32) (i : Fin 256) (l : Fin 128) :
    halves a b (ix2 i l) = if l.val < 64 then a (ix2 i 0) else b (ix2 i 0) := by
  unfold halves k0_pay198
  pointwise
  exact select_iff (mask0_bit l) _ _

/-- One head's lanes of a pair: the first 64, or the last. -/
def onHead (hh : Fin 2) (l : Fin 128) : Prop := if hh = 0 then l.val < 64 else ¬ l.val < 64

instance (hh : Fin 2) (l : Fin 128) : Decidable (onHead hh l) := by unfold onHead; infer_instance

theorem qlanes_apply (hh : Fin 2) (q : Vec Ideal S1x256x128 .bf16) (i : Fin 256) (l : Fin 128) :
    qlanes (headMask hh) q (ix2 i l) = if onHead hh l then q (ix3 0 i l) else 0 := by
  fin_cases hh
  all_goals
    unfold qlanes headMask k0_pay198 k0_pay199
    pointwise
  · exact select_iff (mask0_bit l) _ _
  · exact select_iff (mask1_bit l) _ _

theorem lanes_apply (h : Fits n m) (hh : Fin 2) (v : Vec Ideal ⟨3, ![1, n, 128]⟩ .bf16) (i : Fin n) (l : Fin 128) :
    lanes h (headMask hh) v (ix2 i l) = if onHead hh l then v (ix3 0 i l) else 0 := by
  fin_cases hh
  all_goals
    unfold lanes headMask k0_pay198 k0_pay199
    pointwise
    rw [reshape_rows]
  · exact select_iff (mask0_bit l) _ _
  · exact select_iff (mask1_bit l) _ _

theorem score_apply (h : Fits n m) (hn : 1 < n) (q : FVec Ideal S256x128 .bf16) (k : Vec Ideal ⟨3, ![1, n, 128]⟩ .bf16)
    (ck : Vec Ideal ⟨3, ![1, 1, n]⟩ .f32) (i : Fin 256) (s : Fin n) :
    score h q k ck (ix2 i s) = (∑ l : Fin 128, q (ix2 i l) * k (ix3 0 s l)) - ck (ix3 0 0 s) := by
  have hd := Ideal.matmul_transposedRhs_apply (φ₂ := .bf16) none q (shapeCast ⟨2, ![n, 128]⟩ k h.castK) (constant ⟨2, ![256, n]⟩ .f32 0x00000000#32) i s
  have hc : broadcastTo ⟨2, ![256, n]⟩ (shapeCast ⟨2, ![1, n]⟩ ck h.castC) h.bcC (ix2 i s) = ck (ix3 0 0 s) := by
    pointwise
    rw [← reshape_row h.castC s]
    refine congrArg (fun j => ck (Shape.reshapeEquiv _ j)) ?_
    funext a
    match a with
    | ⟨0, _⟩ => rfl
    | ⟨1, _⟩ => exact dif_neg (by show n ≠ 1; omega)
  unfold score
  rw [subf_apply, hc]
  refine congrArg (· - ck (ix3 0 0 s)) (hd.trans ?_)
  have z : (constant (F := Ideal) ⟨2, ![256, n]⟩ .f32 0x00000000#32) (ix2 i s) = 0 := by pointwise
  refine (congrArg (· + _) z).trans ((zero_add _).trans (Finset.sum_congr rfl fun l _ => congrArg (q (ix2 i l) * ·) ?_))
  show k (Shape.reshapeEquiv _ (ix2 s l)) = _
  rw [reshape_rows]

theorem rowMax_apply (h : Fits n m) (w : FVec Ideal ⟨2, ![256, n]⟩ .f32) (i : Fin 256) :
    rowMax h w (ix2 i 0) = Finset.univ.fold max ⊥ fun s : Fin n => w (ix2 i s) := by
  unfold rowMax
  pointwise
  rw [negInf_word]

theorem rowSum_apply (h : Fits n m) (w : FVec Ideal ⟨2, ![256, n]⟩ .f32) (i : Fin 256) :
    rowSum h w (ix2 i 0) = ∑ s : Fin n, w (ix2 i s) := by
  unfold rowSum
  pointwise

theorem own_apply (w : FVec Ideal S256x256 .f32) (i s : Fin 256) :
    own w (ix2 i s) = if s.val ≤ i.val then w (ix2 i s) else ⊥ := by
  unfold own k0_pay180
  pointwise
  rw [negInf_word]
  exact select_iff (sle_small (by omega) (by omega)) _ _

theorem causal_apply (h : FitsCausal n e) (hn : n = e + 256) (w : FVec Ideal ⟨2, ![256, n]⟩ .f32) (i : Fin 256) (s : Fin n) :
    causal h w (ix2 i s) = if s.val ≤ e + i.val then w (ix2 i s) else ⊥ := by
  unfold causal
  pointwise
  split
  · rw [if_pos (by omega)]
    refine congrArg w ?_
    funext a
    match a with
    | ⟨0, _⟩ => exact Fin.ext (by simp [Shape.Idx.norm])
    | ⟨1, _⟩ => exact Fin.ext (by simp [Shape.Idx.norm])
  · rw [own_apply]
    refine if_congr (by show s.val - e ≤ i.val ↔ _; omega) ?_ rfl
    refine congrArg w ?_
    funext a
    match a with
    | ⟨0, _⟩ => exact Fin.ext (by simp [Shape.Idx.norm])
    | ⟨1, _⟩ => exact Fin.ext (by simp [Shape.Idx.norm]; omega)

theorem acc_apply (h : Fits n m) (hm : m = n + n) (cq : FVec Ideal S256x128 .f32) (w0 w1 : FVec Ideal ⟨2, ![256, n]⟩ .f32)
    (v : Vec Ideal ⟨3, ![1, n, 128]⟩ .bf16) (i : Fin 256) (l : Fin 128) :
    acc h cq w0 w1 v (ix2 i l) =
      (∑ s : Fin n, weight0 h cq w0 w1 (ix2 i s) * lanes h k0_pay198 v (ix2 s l))
        + ∑ s : Fin n, weight1 h cq w0 w1 (ix2 i s) * lanes h k0_pay199 v (ix2 s l) := by
  subst hm
  have hd := Ideal.matmul_plain_apply none
    (concatenate ⟨2, ![256, n + n]⟩ 1 [⟨⟨2, ![256, n]⟩, truncf .bf16 (weight0 h cq w0 w1) bitsLt_bf16_f32⟩,
        ⟨⟨2, ![256, n]⟩, truncf .bf16 (weight1 h cq w0 w1) bitsLt_bf16_f32⟩] h.catP)
    (concatenate ⟨2, ![n + n, 128]⟩ 0 [⟨⟨2, ![n, 128]⟩, lanes h k0_pay198 v⟩, ⟨⟨2, ![n, 128]⟩, lanes h k0_pay199 v⟩] h.catV)
    (constant S256x128 .f32 0x00000000#32) i l
  have z : (constant (F := Ideal) S256x128 .f32 0x00000000#32) (ix2 i l) = 0 := by pointwise
  unfold acc
  rw [addf_apply, mulf_apply]
  refine (congrArg (_ + ·) (hd.trans (congrArg (· + _) z))).trans ?_
  rw [zero_add, Fin.sum_univ_add]
  have zz : broadcast S256x128 (Scalar.ofBits (F := Ideal) .f32 0x00000000#32) (ix2 i l) = 0 := by pointwise
  rw [zz]
  refine (congrArg (· + _) (zero_mul _)).trans ((zero_add _).trans (congrArg₂ (· + ·) ?_ ?_))
  · refine Finset.sum_congr rfl fun s _ => congrArg₂ (· * ·) ?_ ?_
    · show concatenate _ _ _ _ (ix2 i (Fin.castAdd n s)) = _
      pointwise
      refine (dif_pos s.isLt).trans (congrArg (weight0 h cq w0 w1) ?_)
      funext a
      match a with
      | ⟨0, _⟩ => rfl
      | ⟨1, _⟩ => rfl
    · show concatenate _ _ _ _ (ix2 (Fin.castAdd n s) l) = _
      pointwise
      refine (dif_pos s.isLt).trans (congrArg (lanes h k0_pay198 v) ?_)
      funext a
      match a with
      | ⟨0, _⟩ => rfl
      | ⟨1, _⟩ => rfl
  · refine Finset.sum_congr rfl fun s _ => congrArg₂ (· * ·) ?_ ?_
    · show concatenate _ _ _ _ (ix2 i (Fin.natAdd n s)) = _
      pointwise
      refine (dif_neg (Nat.not_lt.mpr (Nat.le_add_right n s.val))).trans (congrArg (weight1 h cq w0 w1) ?_)
      funext a
      match a with
      | ⟨0, _⟩ => rfl
      | ⟨1, _⟩ => exact Fin.ext (Nat.add_sub_cancel_left n s.val)
    · show concatenate _ _ _ _ (ix2 (Fin.natAdd n s) l) = _
      pointwise
      refine (dif_neg (Nat.not_lt.mpr (Nat.le_add_right n s.val))).trans (congrArg (lanes h k0_pay199 v) ?_)
      funext a
      match a with
      | ⟨0, _⟩ => exact Fin.ext (Nat.add_sub_cancel_left n s.val)
      | ⟨1, _⟩ => rfl

theorem weight0_apply (h : Fits n m) (cq : FVec Ideal S256x128 .f32) (w0 w1 : FVec Ideal ⟨2, ![256, n]⟩ .f32) (i : Fin 256) (s : Fin n) :
    weight0 h cq w0 w1 (ix2 i s) = Ideal.exp (w0 (ix2 i s) - (newMax h cq w0 w1 (ix2 i 0) - cq (ix2 i 0))) := by
  unfold weight0
  pointwise

theorem weight1_apply (h : Fits n m) (cq : FVec Ideal S256x128 .f32) (w0 w1 : FVec Ideal ⟨2, ![256, n]⟩ .f32) (i : Fin 256) (s : Fin n) :
    weight1 h cq w0 w1 (ix2 i s) = Ideal.exp (w1 (ix2 i s) - (newMax h cq w0 w1 (ix2 i 64) - cq (ix2 i 64))) := by
  unfold weight1
  pointwise

theorem newMax_apply (h : Fits n m) (cq : FVec Ideal S256x128 .f32) (w0 w1 : FVec Ideal ⟨2, ![256, n]⟩ .f32) (i : Fin 256) (l : Fin 128) :
    newMax h cq w0 w1 (ix2 i l) = cq (ix2 i l) + if l.val < 64 then Finset.univ.fold max ⊥ fun s : Fin n => w0 (ix2 i s)
      else Finset.univ.fold max ⊥ fun s : Fin n => w1 (ix2 i s) := by
  unfold newMax
  pointwise
  rw [negInf_word, halves_apply, rowMax_apply, rowMax_apply]
  exact max_bot_left _

theorem total_apply (h : Fits n m) (cq : FVec Ideal S256x128 .f32) (w0 w1 : FVec Ideal ⟨2, ![256, n]⟩ .f32) (i : Fin 256) (l : Fin 128) :
    total h cq w0 w1 (ix2 i l) = if l.val < 64 then ∑ s : Fin n, weight0 h cq w0 w1 (ix2 i s)
      else ∑ s : Fin n, weight1 h cq w0 w1 (ix2 i s) := by
  unfold total
  pointwise
  rw [halves_apply, rowSum_apply, rowSum_apply]
  first | exact zero_add _ | exact (congrArg (· + _) (mul_zero _)).trans (zero_add _) | rfl

theorem pick_apply (w : BitVec 32) (hw : w.toNat < 128) (c : Vec Ideal S1x256x128 .f32) (i : Fin 256) :
    pick w c (ix2 i 0) = c (ix3 0 i ⟨w.toNat, hw⟩) := by
  unfold pick
  pointwise
  rw [Finset.sum_eq_single (⟨w.toNat, hw⟩ : Fin 128)]
  · rw [select_iff (p := True) (by simp [IntOp.cmpi_eq])]; simp
  · intro b _ hb
    rw [select_iff (p := False)]
    · simp
    · rw [IntOp.cmpi_eq]
      refine iff_of_false (fun hh => hb (Fin.ext ?_)) id
      have := congrArg BitVec.toNat hh
      rw [BitVec.toNat_ofNat, Nat.mod_eq_of_lt (by omega)] at this
      exact this
  · intro hh; exact absurd (Finset.mem_univ _) hh

end Cert.KernelIdeal.Fox

end
-- ==== Proof.Fox.Soft.lean ====
/- One row of causal softmax attention in real numbers, and the extended-real computations that come to it: whatever
   real number the scores are shifted by, and whether the weights are normalised before or after the values are summed. -/
module

public import Idealize.ShloMosaic.PureOps.Ideal

@[expose] public section

noncomputable section

namespace Cert.Fox

open Idealize.ShloMosaic

/-- Row `t`: the values up to `t` averaged with weights `exp (a s)`. -/
def softRow (t : ℕ) (a v : ℕ → ℝ) : ℝ :=
  (∑ s ∈ Finset.range (t + 1), Real.exp (a s) * v s) / ∑ s ∈ Finset.range (t + 1), Real.exp (a s)

theorem mass_pos (t : ℕ) (a : ℕ → ℝ) : 0 < ∑ s ∈ Finset.range (t + 1), Real.exp (a s) :=
  Finset.sum_pos (fun _ _ => Real.exp_pos _) ⟨0, Finset.mem_range.mpr (Nat.succ_pos t)⟩

/-- Shifting every score by one number changes nothing. -/
theorem softRow_shift (t : ℕ) (a v : ℕ → ℝ) (x : ℝ) : softRow t (fun s => a s - x) v = softRow t a v := by
  unfold softRow
  simp only [sub_eq_add_neg, Real.exp_add]
  rw [show (∑ s ∈ Finset.range (t + 1), Real.exp (a s) * Real.exp (-x) * v s)
      = (∑ s ∈ Finset.range (t + 1), Real.exp (a s) * v s) * Real.exp (-x) by
        rw [Finset.sum_mul]; exact Finset.sum_congr rfl fun s _ => by ring,
    ← Finset.sum_mul]
  exact mul_div_mul_right _ _ (Real.exp_pos _).ne'

/-- Row `t` depends on the scores and values up to `t` only. -/
theorem softRow_congr {t : ℕ} {a a' v v' : ℕ → ℝ} (ha : ∀ s, s ≤ t → a s = a' s) (hv : ∀ s, s ≤ t → v s = v' s) :
    softRow t a v = softRow t a' v' := by
  have h1 : ∀ s ∈ Finset.range (t + 1), a s = a' s := fun s hs => ha s (by have := Finset.mem_range.mp hs; omega)
  have h2 : ∀ s ∈ Finset.range (t + 1), v s = v' s := fun s hs => hv s (by have := Finset.mem_range.mp hs; omega)
  unfold softRow
  exact congrArg₂ (· / ·) (Finset.sum_congr rfl fun s hs => by rw [h1 s hs, h2 s hs]) (Finset.sum_congr rfl fun s hs => by rw [h1 s hs])

variable {n t : ℕ}

theorem coe_sum {ι : Type} (S : Finset ι) (f : ι → ℝ) : (∑ s ∈ S, ((f s : ℝ) : EReal)) = ((∑ s ∈ S, f s : ℝ) : EReal) := by
  classical
  induction S using Finset.induction_on with
  | empty => simp
  | insert a S ha ih => rw [Finset.sum_insert ha, Finset.sum_insert ha, ih, EReal.coe_add]

/-- The largest of a row's scores, the later keys masked by −∞, is a real number. -/
theorem top_real (ht : t < n) (a : ℕ → ℝ) (w : Fin n → EReal) (hw : ∀ s, w s = if s.val ≤ t then ((a s.val : ℝ) : EReal) else ⊥) :
    ∃ μ : ℝ, Finset.univ.fold max ⊥ w = μ := by
  have key : ∀ S : Finset (Fin n), S.fold max ⊥ w = ⊥ ∨ ∃ μ : ℝ, S.fold max ⊥ w = μ := by
    intro S
    induction S using Finset.induction_on with
    | empty => exact .inl rfl
    | insert s S hs ih =>
      rw [Finset.fold_insert hs, hw s]
      rcases ih with h | ⟨μ, h⟩ <;> rw [h] <;> split
      · exact .inr ⟨a s.val, max_bot_right _⟩
      · exact .inl rfl
      · exact .inr ⟨max (a s.val) μ, (EReal.coe_strictMono.monotone.map_max).symm⟩
      · exact .inr ⟨μ, max_bot_left _⟩
  rcases key Finset.univ with h | h
  · exfalso
    have hle : w ⟨t, ht⟩ ≤ Finset.univ.fold max ⊥ w := Finset.le_fold_max (c := w ⟨t, ht⟩) |>.mpr (.inr ⟨⟨t, ht⟩, Finset.mem_univ _, le_rfl⟩)
    rw [h, hw, if_pos le_rfl] at hle
    exact (EReal.bot_lt_coe _).not_ge hle
  · exact h

/-- A masked score's weight: the exponential up to `t`, zero after. -/
theorem weight_real (a : ℕ → ℝ) (x : ℝ) (s : ℕ) :
    Ideal.exp ((if s ≤ t then ((a s : ℝ) : EReal) else ⊥) - (x : EReal)) = ((if s ≤ t then Real.exp (a s - x) else 0 : ℝ) : EReal) := by
  split
  · rw [← EReal.coe_sub]; rfl
  · rw [EReal.bot_sub]; rfl

/-- A sum over `n` keys that vanishes after `t` is the sum up to `t`. -/
theorem sum_upto (ht : t < n) (f : ℕ → ℝ) : (∑ s : Fin n, if s.val ≤ t then f s.val else 0) = ∑ s ∈ Finset.range (t + 1), f s := by
  rw [Fin.sum_univ_eq_sum_range (fun s => if s ≤ t then f s else 0) n, ← Finset.sum_filter]
  refine Finset.sum_congr ?_ fun _ _ => rfl
  ext s; simp only [Finset.mem_filter, Finset.mem_range]; omega

theorem div_real {x y : ℝ} (hy : 0 < y) : Ideal.div (x : EReal) (y : EReal) = ((x / y : ℝ) : EReal) := by
  unfold Ideal.div
  rw [if_neg (by exact_mod_cast hy.ne'), ← EReal.coe_inv, ← EReal.coe_mul, div_eq_mul_inv]

/-- Weights and values summed first, then one division. -/
theorem late_division (ht : t < n) (a v : ℕ → ℝ) (x : ℝ) :
    Ideal.div (∑ s : Fin n, ((if s.val ≤ t then Real.exp (a s.val - x) else 0 : ℝ) : EReal) * ((v s.val : ℝ) : EReal))
      (∑ s : Fin n, ((if s.val ≤ t then Real.exp (a s.val - x) else 0 : ℝ) : EReal)) = ((softRow t a v : ℝ) : EReal) := by
  simp only [← EReal.coe_mul, coe_sum, ite_mul, zero_mul]
  rw [sum_upto ht fun s => Real.exp (a s - x) * v s, sum_upto ht fun s => Real.exp (a s - x), div_real (mass_pos t fun s => a s - x),
    ← softRow_shift t a v x]
  rfl

/-- Each weight divided first, then the values summed. -/
theorem early_division (ht : t < n) (a v : ℕ → ℝ) (x : ℝ) :
    (∑ s : Fin n, Ideal.div ((if s.val ≤ t then Real.exp (a s.val - x) else 0 : ℝ) : EReal)
        (∑ s : Fin n, ((if s.val ≤ t then Real.exp (a s.val - x) else 0 : ℝ) : EReal)) * ((v s.val : ℝ) : EReal))
      = ((softRow t a v : ℝ) : EReal) := by
  have hpos := mass_pos t fun s => a s - x
  simp only [coe_sum, sum_upto ht fun s => Real.exp (a s - x), div_real hpos, ← EReal.coe_mul, ite_div, ite_mul, zero_div, zero_mul]
  rw [sum_upto ht fun s => Real.exp (a s - x) / _ * v s, ← softRow_shift t a v x]
  unfold softRow
  rw [Finset.sum_div]
  exact congrArg _ (Finset.sum_congr rfl fun s _ => by ring)

/-- The forgetting attention in real numbers: of batch `b`, row `t` and column `j` of the result, from the projected array `A`
    and the cumulative gates `C`. -/
def spec (A : ℕ → ℕ → ℝ) (C : ℕ → ℕ → ℕ → ℝ) (b t j : ℕ) : ℝ :=
  softRow t (fun s => (∑ d : Fin 64, A (b * 2048 + t) (64 * (j / 64) + d.val) * A (b * 2048 + s) (1024 + (64 * (j / 64) + d.val))) - C b s (j / 64))
    (fun s => A (b * 2048 + s) (2048 + j))

end Cert.Fox

end
-- ==== Proof.Fox.Row.lean ====
/- One row of the kernel's stored block, over the extended reals, where everything it reads is a real number. -/
module

public import proofs.«01_k».proof.Proof.Fox.Elements
public import proofs.«01_k».proof.Proof.Fox.Soft

@[expose] public section

set_option maxRecDepth 16384

noncomputable section

namespace Cert.KernelIdeal.Fox

open Idealize.ShloMosaic Idealize.ShloMosaic.TcCoe Idealize.ShloMosaic.Tactic
open Cert.KernelIdeal Cert.KernelIdeal.Gen Cert.Fox

variable {n m e t : ℕ}

/-- A lane group's row: on each head's lanes the softmax of that head's masked scores against the lane's values. -/
theorem group_apply (h : Fits n m) (hm : m = n + n) (ht : t < n) (cq : FVec Ideal S256x128 .f32) (w0 w1 : FVec Ideal ⟨2, ![256, n]⟩ .f32)
    (v : Vec Ideal ⟨3, ![1, n, 128]⟩ .bf16) (i : Fin 256) (l : Fin 128) (c0 c1 : ℝ) (a0 a1 V : ℕ → ℝ)
    (hc0 : cq (ix2 i 0) = (c0 : EReal)) (hc1 : cq (ix2 i 64) = (c1 : EReal))
    (hw0 : ∀ s : Fin n, w0 (ix2 i s) = if s.val ≤ t then ((a0 s.val : ℝ) : EReal) else ⊥)
    (hw1 : ∀ s : Fin n, w1 (ix2 i s) = if s.val ≤ t then ((a1 s.val : ℝ) : EReal) else ⊥)
    (hv : ∀ s : Fin n, v (ix3 0 s l) = ((V s.val : ℝ) : EReal)) :
    Ideal.div (acc h cq w0 w1 v (ix2 i l)) (total h cq w0 w1 (ix2 i l)) = ((softRow t (if l.val < 64 then a0 else a1) V : ℝ) : EReal) := by
  obtain ⟨μ0, h0⟩ := top_real ht a0 (fun s => w0 (ix2 i s)) hw0
  obtain ⟨μ1, h1⟩ := top_real ht a1 (fun s => w1 (ix2 i s)) hw1
  have e0 : newMax h cq w0 w1 (ix2 i 0) - cq (ix2 i 0) = (μ0 : EReal) := by
    rw [newMax_apply, hc0, if_pos (show (0 : Fin 128).val < 64 by decide), h0, ← EReal.coe_add, ← EReal.coe_sub, add_sub_cancel_left]
  have e1 : newMax h cq w0 w1 (ix2 i 64) - cq (ix2 i 64) = (μ1 : EReal) := by
    rw [newMax_apply, hc1, if_neg (show ¬ (64 : Fin 128).val < 64 by decide), h1, ← EReal.coe_add, ← EReal.coe_sub, add_sub_cancel_left]
  have p0 : ∀ s : Fin n, weight0 h cq w0 w1 (ix2 i s) = ((if s.val ≤ t then Real.exp (a0 s.val - μ0) else 0 : ℝ) : EReal) := fun s => by
    rw [weight0_apply, e0, hw0, weight_real]
  have p1 : ∀ s : Fin n, weight1 h cq w0 w1 (ix2 i s) = ((if s.val ≤ t then Real.exp (a1 s.val - μ1) else 0 : ℝ) : EReal) := fun s => by
    rw [weight1_apply, e1, hw1, weight_real]
  have v0 : ∀ s : Fin n, lanes h k0_pay198 v (ix2 s l) = if l.val < 64 then ((V s.val : ℝ) : EReal) else 0 := fun s => by
    rw [show (k0_pay198 : IVec S1x128 1) = headMask 0 from rfl, lanes_apply, hv]; exact if_congr Iff.rfl rfl rfl
  have v1 : ∀ s : Fin n, lanes h k0_pay199 v (ix2 s l) = if l.val < 64 then 0 else ((V s.val : ℝ) : EReal) := fun s => by
    rw [show (k0_pay199 : IVec S1x128 1) = headMask 1 from rfl, lanes_apply, hv]
    exact (if_congr (show onHead 1 l ↔ ¬ l.val < 64 from Iff.rfl) rfl rfl).trans (by split <;> simp_all)
  rw [acc_apply h hm, total_apply]
  simp only [p0, p1, v0, v1]
  by_cases hl : l.val < 64
  · simp only [if_pos hl, mul_zero, Finset.sum_const_zero, add_zero]
    exact late_division ht a0 V μ0
  · simp only [if_neg hl, mul_zero, Finset.sum_const_zero, zero_add]
    exact late_division ht a1 V μ1

/-- The lanes of the head: a sum over one head's 64 lanes of a group of 128. -/
def headSum (hh : Fin 2) (f : Fin 128 → ℝ) : ℝ := ∑ l : Fin 128, if onHead hh l then f l else 0

/-- What a point reads, in real numbers: the query row, the keys and values, the gates of the keys. -/
structure Reals (x : Reads Ideal n) (i : Fin 256) where
  q : Fin 2 → Fin 128 → ℝ
  k : Fin 2 → ℕ → Fin 128 → ℝ
  ck : Fin 2 → Fin 2 → ℕ → ℝ
  v : Fin 2 → ℕ → Fin 128 → ℝ
  c : Fin 128 → ℝ
  hq : ∀ g l, x.q g (ix3 0 i l) = (q g l : EReal)
  hk : ∀ g (s : Fin n) l, x.k g (ix3 0 s l) = (k g s.val l : EReal)
  hck : ∀ g hh (s : Fin n), x.ck g hh (ix3 0 0 s) = (ck g hh s.val : EReal)
  hv : ∀ g (s : Fin n) l, x.v g (ix3 0 s l) = (v g s.val l : EReal)
  hc : ∀ l, x.c (ix3 0 i l) = (c l : EReal)

/-- The scores in real numbers. -/
def Reals.score {x : Reads Ideal n} {i : Fin 256} (r : Reals x i) (g hh : Fin 2) (s : ℕ) : ℝ :=
  headSum hh (fun l => r.q g l * r.k g s l) - r.ck g hh s

theorem scores_real (h : Fits n m) (hn : 1 < n) {x : Reads Ideal n} {i : Fin 256} (r : Reals x i) (g hh : Fin 2) (s : Fin n) :
    scores h x g hh (ix2 i s) = (r.score g hh s.val : EReal) := by
  unfold scores
  rw [score_apply h hn, r.hck]
  unfold Reals.score headSum
  rw [EReal.coe_sub, ← coe_sum]
  refine congrArg (· - _) (Finset.sum_congr rfl fun l _ => ?_)
  rw [qlanes_apply, r.hq, r.hk]
  split
  · exact (EReal.coe_mul _ _).symm
  · exact zero_mul _

/-- The last payload at an index: the quotient of the lane group the lane lies in. -/
theorem pay53_apply (L0 A0 L1 A1 : FVec Ideal S256x128 .f32) (i j : Fin 256) :
    k0_pay53 L0 A0 L1 A1 (ix3 0 i j) = if h : j.val < 128 then Ideal.div (A0 (ix2 i ⟨j.val, h⟩)) (L0 (ix2 i ⟨j.val, h⟩))
      else Ideal.div (A1 (ix2 i ⟨j.val - 128, by omega⟩)) (L1 (ix2 i ⟨j.val - 128, by omega⟩)) := by
  unfold k0_pay53
  pointwise

/-- The stored block at row `i` and lane `j`: lane group `j / 128`, head `j % 128 / 64` of the group. -/
theorem store_apply (h : Fits n m) (hm : m = n + n) (hn : 1 < n) (ht : t < n) (hp : BitVec 32)
    (hlane : ∀ g hh : Fin 2, (Scalar.addi (headWord hp (BitVec.ofNat 32 g.val)) (BitVec.ofNat 32 hh.val)).toNat < 128)
    (x : Reads Ideal n) (i : Fin 256) (r : Reals x i) (w : Fin 2 → Fin 2 → FVec Ideal ⟨2, ![256, n]⟩ .f32)
    (hw : ∀ g hh (s : Fin n), w g hh (ix2 i s) = if s.val ≤ t then scores h x g hh (ix2 i s) else ⊥) (j : Fin 256) (g hh : Fin 2) (l : Fin 128)
    (hj : j.val = g.val * 128 + l.val) (hl : l.val / 64 = hh.val) :
    store h hp x w (ix3 0 i j) = ((softRow t (r.score g hh) (fun s => r.v g s l) : ℝ) : EReal) := by
  have hg (g : Fin 2) : ∃ c0 c1 : ℝ, gates hp (BitVec.ofNat 32 g.val) x.c (ix2 i 0) = (c0 : EReal)
      ∧ gates hp (BitVec.ofNat 32 g.val) x.c (ix2 i 64) = (c1 : EReal) := by
    refine ⟨r.c ⟨_, hlane g 0⟩, r.c ⟨_, hlane g 1⟩, ?_, ?_⟩ <;> unfold gates
    · rw [halves_apply, if_pos (show (0 : Fin 128).val < 64 by decide)]
      exact (pick_apply _ (hlane g 0) x.c i).trans (r.hc _)
    · rw [halves_apply, if_neg (show ¬ (64 : Fin 128).val < 64 by decide)]
      exact (pick_apply _ (hlane g 1) x.c i).trans (r.hc _)
  have hws (g hh : Fin 2) (s : Fin n) : w g hh (ix2 i s) = if s.val ≤ t then ((r.score g hh s.val : ℝ) : EReal) else ⊥ := by
    rw [hw, scores_real h hn]
  choose c0 c1 h0 h1 using hg
  have hgr (g : Fin 2) := group_apply h hm ht (gates hp (BitVec.ofNat 32 g.val) x.c) (w g 0) (w g 1) (x.v g) i l (c0 g) (c1 g)
    (r.score g 0) (r.score g 1) (fun s => r.v g s l) (h0 g) (h1 g) (hws g 0) (hws g 1) (fun s => r.hv g s l)
  have hsel : (if l.val < 64 then r.score g 0 else r.score g 1) = r.score g hh := by
    have := l.isLt
    split
    · rw [show hh = 0 from Fin.ext (by show hh.val = 0; omega)]
    · rw [show hh = 1 from Fin.ext (by show hh.val = 1; omega)]
  rw [← hsel]
  unfold store
  rw [pay53_apply]
  have hlt := l.isLt
  have h2 : g = 0 ∨ g = 1 := by omega
  rcases h2 with rfl | rfl
  · have hj' : j.val = l.val := by simpa using hj
    rw [dif_pos (by omega), show (⟨j.val, by omega⟩ : Fin 128) = l from Fin.ext hj']
    exact hgr 0
  · have hj' : j.val = 128 + l.val := by simpa using hj
    rw [dif_neg (by omega), show (⟨j.val - 128, by omega⟩ : Fin 128) = l from Fin.ext (by simp [hj'])]
    exact hgr 1

end Cert.KernelIdeal.Fox

end
-- ==== Proof.Fox.Places.lean ====
/- Where the attention kernel reads, in closed form, and the block it stores where everything it reads is a real number. -/
module

public import proofs.«01_k».proof.Proof.Fox.Run
public import proofs.«01_k».proof.Proof.Fox.Row
public import Idealize.ShloMosaic.Lib.Pipeline.Value
public import Idealize.ShloMosaic.Lib.Pipeline.ValueKit.Tiles

@[expose] public section

set_option maxRecDepth 16384

noncomputable section

namespace Cert.KernelIdeal.Fox

open Idealize.ShloMosaic Idealize.ShloMosaic.TcCoe Idealize.ShloMosaic.Tactic
open Cert.KernelIdeal Cert.KernelIdeal.Gen Cert.Fox

/-- The three offset families of one width: keys and values of both lane groups from position 0, the gates of the four heads
    of the point's second coordinate. -/
def AtStart (lo hi : Fin 3 → ℕ) (gate : BitVec 32 → BitVec 32 → Fin 3 → ℕ) (p : ℕ) : Prop :=
  lo = ![0, 0, 0] ∧ hi = ![0, 0, 128] ∧ ∀ g hh : Fin 2, gate (BitVec.ofNat 32 g.val) (BitVec.ofNat 32 hh.val) = ![0, 4 * p + 2 * g.val + hh.val, 0]

instance (lo hi : Fin 3 → ℕ) (gate : BitVec 32 → BitVec 32 → Fin 3 → ℕ) (p : ℕ) : Decidable (AtStart lo hi gate p) := by
  unfold AtStart; infer_instance

/-- All eight widths read from there. -/
theorem starts : ∀ t : Fin grid0.N, let i := grid0.coords t
    AtStart (k0_off1 i) (k0_off3 i) (k0_off2 i) (i 1).val ∧ AtStart (k0_off4 i) (k0_off6 i) (k0_off5 i) (i 1).val
    ∧ AtStart (k0_off7 i) (k0_off9 i) (k0_off8 i) (i 1).val ∧ AtStart (k0_off10 i) (k0_off12 i) (k0_off11 i) (i 1).val
    ∧ AtStart (k0_off13 i) (k0_off15 i) (k0_off14 i) (i 1).val ∧ AtStart (k0_off16 i) (k0_off18 i) (k0_off17 i) (i 1).val
    ∧ AtStart (k0_off19 i) (k0_off21 i) (k0_off20 i) (i 1).val ∧ AtStart (k0_off22 i) (k0_off24 i) (k0_off23 i) (i 1).val := by
  decide +kernel

/-- Each condition asks whether the query block is not the one of its branch. -/
theorem branches : ∀ t : Fin grid0.N, let i := grid0.coords t
    (k0_cond1 i = 1#1 ↔ (i 2).val ≠ 0) ∧ (k0_cond2 i = 1#1 ↔ (i 2).val ≠ 1) ∧ (k0_cond3 i = 1#1 ↔ (i 2).val ≠ 2)
    ∧ (k0_cond4 i = 1#1 ↔ (i 2).val ≠ 3) ∧ (k0_cond5 i = 1#1 ↔ (i 2).val ≠ 4) ∧ (k0_cond6 i = 1#1 ↔ (i 2).val ≠ 5)
    ∧ (k0_cond7 i = 1#1 ↔ (i 2).val ≠ 6) := by
  decide +kernel

/-- The heads' gates lie in the first lanes. -/
theorem head_lane : ∀ (p : Fin 4) (g hh : Fin 2),
    (Scalar.addi (headWord (BitVec.ofNat 32 p.val) (BitVec.ofNat 32 g.val)) (BitVec.ofNat 32 hh.val)).toNat < 128 := by decide +kernel

/-- A head's 64 lanes of a group of 128. -/
theorem headSum_eq (hh : Fin 2) (f : ℕ → ℝ) : headSum hh (fun l => f l.val) = ∑ d : Fin 64, f (64 * hh.val + d.val) := by
  unfold headSum
  rw [Fin.sum_univ_eq_sum_range (fun d => f (64 * hh.val + d)) 64]
  have h2 : hh = 0 ∨ hh = 1 := by omega
  rcases h2 with rfl | rfl
  · rw [show (∑ l : Fin 128, if onHead 0 l then f l.val else 0) = ∑ l : Fin 128, if l.val < 64 then f l.val else 0 from
        Finset.sum_congr rfl fun l _ => if_congr Iff.rfl rfl rfl,
      Fin.sum_univ_eq_sum_range (fun l => if l < 64 then f l else 0) 128, show (128 : ℕ) = 64 + 64 from rfl, Finset.sum_range_add,
      Finset.sum_eq_zero (s := Finset.range 64) (f := fun x => if 64 + x < 64 then f (64 + x) else 0) (fun x _ => if_neg (by omega)), add_zero]
    exact Finset.sum_congr rfl fun x hx => by rw [if_pos (Finset.mem_range.mp hx)]; simp
  · rw [show (∑ l : Fin 128, if onHead 1 l then f l.val else 0) = ∑ l : Fin 128, if l.val < 64 then 0 else f l.val from
        Finset.sum_congr rfl fun l _ => (if_congr (show onHead 1 l ↔ ¬ l.val < 64 from Iff.rfl) rfl rfl).trans (by split <;> simp_all),
      Fin.sum_univ_eq_sum_range (fun l => if l < 64 then 0 else f l) 128, show (128 : ℕ) = 64 + 64 from rfl, Finset.sum_range_add,
      Finset.sum_eq_zero (s := Finset.range 64) (f := fun x => if x < 64 then 0 else f x) (fun x hx => if_pos (Finset.mem_range.mp hx)), zero_add]
    exact Finset.sum_congr rfl fun x _ => by rw [if_neg (by omega)]; simp

/-- The point's blocks at query row `i`, in real numbers: the row's lanes, the keys and values of the sequence, the row's
    gates, and the gates of every head's keys. -/
structure Ready (x0 : Vec Ideal S1x256x256 .bf16) (x1 x2 : Vec Ideal S1x2048x256 .bf16) (x3 : Vec Ideal S1x256x128 .f32)
    (x4 : Vec Ideal S1x16x2048 .f32) (i : Fin 256) (Q : ℕ → ℝ) (K V : ℕ → ℕ → ℝ) (C : ℕ → ℝ) (G : ℕ → ℕ → ℝ) : Prop where
  q : ∀ l : Fin 256, x0 (ix3 0 i l) = (Q l.val : EReal)
  k : ∀ (s : Fin 2048) (l : Fin 256), x1 (ix3 0 s l) = (K s.val l.val : EReal)
  v : ∀ (s : Fin 2048) (l : Fin 256), x2 (ix3 0 s l) = (V s.val l.val : EReal)
  c : ∀ l : Fin 128, x3 (ix3 0 i l) = (C l.val : EReal)
  g : ∀ (h : Fin 16) (s : Fin 2048), x4 (ix3 0 h s) = (G h.val s.val : EReal)

/-- What the block holds at row `i` and lane `j`. -/
def cell (t : ℕ) (p : ℕ) (Q : ℕ → ℝ) (K V : ℕ → ℕ → ℝ) (G : ℕ → ℕ → ℝ) (j : ℕ) : ℝ :=
  softRow t (fun s => (∑ d : Fin 64, Q (64 * (j / 64) + d.val) * K s (64 * (j / 64) + d.val)) - G (4 * p + j / 64) s) (fun s => V s j)

variable {n m' e : ℕ} {x0 : Vec Ideal S1x256x256 .bf16} {x1 x2 : Vec Ideal S1x2048x256 .bf16} {x3 : Vec Ideal S1x256x128 .f32}
  {x4 : Vec Ideal S1x16x2048 .f32} {i : Fin 256} {Q : ℕ → ℝ} {K V : ℕ → ℕ → ℝ} {C : ℕ → ℝ} {G : ℕ → ℕ → ℝ}

/-- The loads of a point, in real numbers. -/
def Ready.reals (r : Ready x0 x1 x2 x3 x4 i Q K V C G) (hn : n ≤ 2048) {p : ℕ} (hp : p < 4) {lo hi : Fin 3 → ℕ}
    {gate : BitVec 32 → BitVec 32 → Fin 3 → ℕ} (hs : AtStart lo hi gate p) (hlo hhi hgate) :
    Reals (readsAt n lo hi gate hlo hhi hgate x0 x1 x2 x3 x4) i where
  q g l := Q (128 * g.val + l.val)
  k g s l := K s (128 * g.val + l.val)
  ck g hh s := G (4 * p + 2 * g.val + hh.val) s
  v g s l := V s (128 * g.val + l.val)
  c l := C l.val
  hq g l := by
    obtain ⟨h1, h2, h3⟩ := hs
    have h2 : g = 0 ∨ g = 1 := by omega
    rcases h2 with rfl | rfl
    · refine (View.ld_unit_apply_of _ _ _ _ _ (ix3 0 i ⟨128 * (0 : Fin 2).val + l.val, by simp; omega⟩) ?_).trans (r.q _)
      intro a; match a with | ⟨0, _⟩ => rfl | ⟨1, _⟩ => simp | ⟨2, _⟩ => simp
    · refine (View.ld_unit_apply_of _ _ _ _ _ (ix3 0 i ⟨128 * (1 : Fin 2).val + l.val, by simp; omega⟩) ?_).trans (r.q _)
      intro a; match a with | ⟨0, _⟩ => rfl | ⟨1, _⟩ => simp | ⟨2, _⟩ => simp
  hk g s l := by
    obtain ⟨h1, h2, h3⟩ := hs
    subst h1 h2
    have h2 : g = 0 ∨ g = 1 := by omega
    rcases h2 with rfl | rfl
    · refine (View.ld_unit_apply_of _ _ _ _ _ (ix3 0 ⟨s.val, by omega⟩ ⟨128 * (0 : Fin 2).val + l.val, by simp; omega⟩) ?_).trans (r.k _ _)
      intro a; match a with | ⟨0, _⟩ => rfl | ⟨1, _⟩ => simp | ⟨2, _⟩ => simp
    · refine (View.ld_unit_apply_of _ _ _ _ _ (ix3 0 ⟨s.val, by omega⟩ ⟨128 * (1 : Fin 2).val + l.val, by simp; omega⟩) ?_).trans (r.k _ _)
      intro a; match a with | ⟨0, _⟩ => rfl | ⟨1, _⟩ => simp | ⟨2, _⟩ => simp
  hck g hh s := by
    obtain ⟨h1, h2, h3⟩ := hs
    refine (View.ld_unit_apply_of _ _ _ _ _ (ix3 0 ⟨4 * p + 2 * g.val + hh.val, by omega⟩ ⟨s.val, by omega⟩) ?_).trans (r.g _ _)
    intro a; rw [congrFun (h3 g hh) a]; match a with | ⟨0, _⟩ => rfl | ⟨1, _⟩ => simp | ⟨2, _⟩ => simp
  hv g s l := by
    obtain ⟨h1, h2, h3⟩ := hs
    subst h1 h2
    have h2 : g = 0 ∨ g = 1 := by omega
    rcases h2 with rfl | rfl
    · refine (View.ld_unit_apply_of _ _ _ _ _ (ix3 0 ⟨s.val, by omega⟩ ⟨128 * (0 : Fin 2).val + l.val, by simp; omega⟩) ?_).trans (r.v _ _)
      intro a; match a with | ⟨0, _⟩ => rfl | ⟨1, _⟩ => simp | ⟨2, _⟩ => simp
    · refine (View.ld_unit_apply_of _ _ _ _ _ (ix3 0 ⟨s.val, by omega⟩ ⟨128 * (1 : Fin 2).val + l.val, by simp; omega⟩) ?_).trans (r.v _ _)
      intro a; match a with | ⟨0, _⟩ => rfl | ⟨1, _⟩ => simp | ⟨2, _⟩ => simp
  hc l := by
    refine (View.ld_unit_apply_of _ _ _ _ _ (ix3 0 i l) ?_).trans (r.c _)
    intro a; match a with | ⟨0, _⟩ => rfl | ⟨1, _⟩ => simp | ⟨2, _⟩ => simp

/-- The stored block from any masked scores of a width. -/
theorem store_cell (r : Ready x0 x1 x2 x3 x4 i Q K V C G) (h : Fits n m') (hm : m' = n + n) (hn1 : 1 < n) (hn : n ≤ 2048) (p : Fin 4)
    {lo hi : Fin 3 → ℕ} {gate : BitVec 32 → BitVec 32 → Fin 3 → ℕ} (hs : AtStart lo hi gate p.val) (hlo hhi hgate) {t : ℕ} (ht : t < n)
    (w : Fin 2 → Fin 2 → FVec Ideal ⟨2, ![256, n]⟩ .f32)
    (hw : ∀ g hh (s : Fin n), w g hh (ix2 i s) = if s.val ≤ t then scores h (readsAt n lo hi gate hlo hhi hgate x0 x1 x2 x3 x4) g hh (ix2 i s) else ⊥)
    (j : Fin 256) :
    store h (BitVec.ofNat 32 p.val) (readsAt n lo hi gate hlo hhi hgate x0 x1 x2 x3 x4) w (ix3 0 i j) = ((cell t p.val Q K V G j.val : ℝ) : EReal) := by
  have hj := j.isLt
  rw [store_apply h hm hn1 ht _ (head_lane p) _ i (r.reals hn p.isLt hs hlo hhi hgate) w hw j ⟨j.val / 128, by omega⟩ ⟨j.val % 128 / 64, by omega⟩
    ⟨j.val % 128, by omega⟩ (by simp only; omega) rfl]
  unfold cell Reals.score Ready.reals
  simp only
  refine congrArg _ (congrArg₂ (softRow t) (funext fun s => ?_) (funext fun s => congrArg (V s) (by omega)))
  rw [headSum_eq _ fun l => Q (128 * (j.val / 128) + l) * K s (128 * (j.val / 128) + l)]
  refine congrArg₂ (· - ·) (Finset.sum_congr rfl fun d _ => ?_) (congrArg (G · s) (by omega))
  have e : 128 * (j.val / 128) + (64 * (j.val % 128 / 64) + d.val) = 64 * (j.val / 64) + d.val := by omega
  simp only [e]

theorem own_cell (r : Ready x0 x1 x2 x3 x4 i Q K V C G) (p : Fin 4)
    {lo hi : Fin 3 → ℕ} {gate : BitVec 32 → BitVec 32 → Fin 3 → ℕ} (hs : AtStart lo hi gate p.val) (hlo hhi hgate) {q : ℕ} (hq : q = 0) (j : Fin 256) :
    storeOwn fits256 (BitVec.ofNat 32 p.val) (readsAt 256 lo hi gate hlo hhi hgate x0 x1 x2 x3 x4) (ix3 0 i j)
      = ((cell (256 * q + i.val) p.val Q K V G j.val : ℝ) : EReal) := by
  subst hq
  refine store_cell r fits256 rfl (by decide) (by decide) p hs hlo hhi hgate (by omega) _ (fun g hh s => ?_) j
  rw [own_apply]; exact if_congr (by omega) rfl rfl

theorem wide_cell (r : Ready x0 x1 x2 x3 x4 i Q K V C G) (h : Fits n m') (hc : FitsCausal n e) (hm : m' = n + n) (he : n = e + 256) (hn : n ≤ 2048)
    (p : Fin 4) {lo hi : Fin 3 → ℕ} {gate : BitVec 32 → BitVec 32 → Fin 3 → ℕ} (hs : AtStart lo hi gate p.val) (hlo hhi hgate)
    {q : ℕ} (hq : e = 256 * q) (j : Fin 256) :
    storeWide h hc (BitVec.ofNat 32 p.val) (readsAt n lo hi gate hlo hhi hgate x0 x1 x2 x3 x4) (ix3 0 i j)
      = ((cell (256 * q + i.val) p.val Q K V G j.val : ℝ) : EReal) := by
  subst hq
  refine store_cell r h hm (by omega) hn p hs hlo hhi hgate (by omega) _ (fun g hh s => ?_) j
  rw [causal_apply hc he]

/-- The block the body stores at a grid point: one row's softmax against the keys up to the row, whatever branch is taken. -/
theorem out_cell (t : Fin grid0.N) (r : Ready x0 x1 x2 x3 x4 i Q K V C G) (j : Fin 256) :
    out (F := Ideal) (grid0.coords t) x0 x1 x2 x3 x4 (ix3 0 i j)
      = ((cell (256 * (grid0.coords t 2).val + i.val) (grid0.coords t 1).val Q K V G j.val : ℝ) : EReal) := by
  obtain ⟨s1, s2, s3, s4, s5, s6, s7, s8⟩ := starts t
  obtain ⟨b1, b2, b3, b4, b5, b6, b7⟩ := branches t
  have hb : (grid0.coords t 2).val < 8 := (grid0.coords t 2).isLt
  unfold out
  split_ifs with h1 h2 h3 h4 h5 h6 h7
  · exact wide_cell r fits2048 causal2048 rfl rfl (by decide) (grid0.coords t 1) s1 _ _ _ (by simp only [b1, b2, b3, b4, b5, b6, b7] at *; omega) j
  · exact wide_cell r fits1792 causal1792 rfl rfl (by decide) (grid0.coords t 1) s2 _ _ _ (by simp only [b1, b2, b3, b4, b5, b6, b7] at *; omega) j
  · exact wide_cell r fits1536 causal1536 rfl rfl (by decide) (grid0.coords t 1) s3 _ _ _ (by simp only [b1, b2, b3, b4, b5, b6, b7] at *; omega) j
  · exact wide_cell r fits1280 causal1280 rfl rfl (by decide) (grid0.coords t 1) s4 _ _ _ (by simp only [b1, b2, b3, b4, b5, b6, b7] at *; omega) j
  · exact wide_cell r fits1024 causal1024 rfl rfl (by decide) (grid0.coords t 1) s5 _ _ _ (by simp only [b1, b2, b3, b4, b5, b6, b7] at *; omega) j
  · exact wide_cell r fits768 causal768 rfl rfl (by decide) (grid0.coords t 1) s6 _ _ _ (by simp only [b1, b2, b3, b4, b5, b6, b7] at *; omega) j
  · exact wide_cell r fits512 causal512 rfl rfl (by decide) (grid0.coords t 1) s7 _ _ _ (by simp only [b1, b2, b3, b4, b5, b6, b7] at *; omega) j
  · exact own_cell r (grid0.coords t 1) s8 _ _ _ (by have := mt b1.mpr h1; omega) j

end Cert.KernelIdeal.Fox

end
-- ==== Proof.Fox.Value.lean ====
/- The attention kernel's result array, in real numbers. -/
module

public import proofs.«01_k».proof.Proof.Fox.Places
public import Idealize.ShloMosaic.Lib.Pipeline.ValueKit.Geometry
public import Idealize.ShloMosaic.Lib.Pipeline.ValueKit.Point
public import Idealize.ShloMosaic.Lib.Pipeline.ValueKit.Acc

@[expose] public section

set_option maxRecDepth 16384

noncomputable section

namespace Cert.KernelIdeal.Fox

open Idealize.ShloMosaic Idealize.ShloMosaic.TcCoe Idealize.ShloMosaic.Tactic
open Idealize.ShloMosaic.Pipeline (Dat Cfg Window)
open Cert.KernelIdeal Cert.KernelIdeal.Gen Cert.Fox

variable (m : (ℓ : Loc nD τ sig) → Buf (Elt Ideal) ℓ) (c : Dev nD)

/-- The blocks' places: batch, query block and head group. -/
theorem index : ∀ t : Fin cfg0.N, let i := grid0.coords t
    win0_0.index t = ![(i 0).val, (i 2).val, (i 1).val] ∧ win0_1.index t = ![(i 0).val, 0, 4 + (i 1).val]
    ∧ win0_2.index t = ![(i 0).val, 0, 8 + (i 1).val] ∧ win0_3.index t = ![(i 0).val, (i 2).val, 0]
    ∧ win0_4.index t = ![(i 0).val, 0, 0] ∧ win0_5.index t = ![(i 0).val, (i 2).val, (i 1).val] :=
  (by decide +kernel : ∀ t : Fin grid0.N, _)

/-- The projected array as the kernel's region finds it: batch by batch. -/
theorem projected (b : Fin 16) (s : Fin 2048) (k : Fin 3072) :
    V m c main_v0 (ix3 b s k) = m ((c : Thread nD τ).loc main_arg0) (ix2 ⟨b.val * 2048 + s.val, by omega⟩ k) := by
  entry_read
  pointwise

/-- The key gates as the region finds them: head by head. -/
theorem keyGates (b : Fin 16) (h : Fin 16) (s : Fin 2048) :
    V m c main_v2 (ix3 b h s) = m ((c : Thread nD τ).loc main_arg1) (ix3 b s ⟨h.val, by omega⟩) := by
  entry_read
  pointwise

variable (A : ℕ → ℕ → ℝ) (C : ℕ → ℕ → ℕ → ℝ)

/-- Every block of a point, in real numbers. -/
theorem ready (hA : ∀ r k, m ((c : Thread nD τ).loc main_arg0) (ix2 r k) = (A r.val k.val : EReal))
    (hC : ∀ b s h, m ((c : Thread nD τ).loc main_arg1) (ix3 b s h) = (C b.val s.val h.val : EReal)) (t : Fin cfg0.N) (i : Fin 256) :
    let b := (grid0.coords t 0).val; let p := (grid0.coords t 1).val; let q := (grid0.coords t 2).val
    Ready (iblk m c 0 t) (iblk m c 1 t) (iblk m c 2 t) (iblk m c 3 t) (iblk m c 4 t) i
      (fun l => A (b * 2048 + (256 * q + i.val)) (256 * p + l)) (fun s l => A (b * 2048 + s) (1024 + (256 * p + l)))
      (fun s l => A (b * 2048 + s) (2048 + (256 * p + l))) (fun l => C b (256 * q + i.val) l) (fun h s => C b s h) := by
  intro b p q
  obtain ⟨e0, e1, e2, e3, e4, e5⟩ := index t
  have hb : b < 16 := (grid0.coords t 0).isLt
  have hp : p < 4 := (grid0.coords t 1).isLt
  have hq : q < 8 := (grid0.coords t 2).isLt
  constructor
  · intro l
    refine Eq.trans ?_ ((projected m c ⟨b, hb⟩ ⟨256 * q + i.val, by omega⟩ ⟨256 * p + l.val, by omega⟩).trans (hA _ _))
    blk_ext [iblk, e0]
  · intro s l
    refine Eq.trans ?_ ((projected m c ⟨b, hb⟩ s ⟨1024 + (256 * p + l.val), by omega⟩).trans (hA _ _))
    blk_ext [iblk, e1]
  · intro s l
    refine Eq.trans ?_ ((projected m c ⟨b, hb⟩ s ⟨2048 + (256 * p + l.val), by omega⟩).trans (hA _ _))
    blk_ext [iblk, e2]
  · intro l
    refine Eq.trans ?_ (hC ⟨b, hb⟩ ⟨256 * q + i.val, by omega⟩ l)
    rw [← V_main_arg1 m c]
    blk_ext [iblk, e3]
  · intro h s
    refine Eq.trans ?_ ((keyGates m c ⟨b, hb⟩ h s).trans (hC _ _ _))
    blk_ext [iblk, e4]

theorem array (hA : ∀ r k, m ((c : Thread nD τ).loc main_arg0) (ix2 r k) = (A r.val k.val : EReal))
    (hC : ∀ b s h, m ((c : Thread nD τ).loc main_arg1) (ix3 b s h) = (C b.val s.val h.val : EReal)) :
    (dats m 0 c).arrAt 5 cfg0.N = fun y : S16x2048x1024.Idx => ((spec A C (y 0).val (y 1).val (y 2).val : ℝ) : EReal) := by
  refine (dats m 0 c).arrAt_eq_of_covers 5 _ (by decide +kernel) fun t hf y => ?_
  obtain ⟨e0, e1, e2, e3, e4, e5⟩ := index t
  have hb : (grid0.coords t 0).val < 16 := (grid0.coords t 0).isLt
  have hp : (grid0.coords t 1).val < 4 := (grid0.coords t 1).isLt
  have hq : (grid0.coords t 2).val < 8 := (grid0.coords t 2).isLt
  blk_simp [e5]
  rw [after_o]
  unfold outAt rOut
  rw [View.canon_unit_zero (S := S1x256x256) (funext fun a => by fin_cases a <;> rfl)]
  have hy : y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  rw [hy]
  refine (out_cell t (ready m c A C hA hC t (y 1)) (y 2)).trans (congrArg _ ?_)
  generalize (grid0.coords t 0).val = b at *
  generalize (grid0.coords t 1).val = p at *
  generalize (grid0.coords t 2).val = q at *
  have h2 : (y 2).val < 256 := (y 2).isLt
  show cell (256 * q + (y 1).val) p _ _ _ _ (y 2).val = spec A C b (q * 256 + (y 1).val) (p * 256 + (y 2).val)
  unfold cell spec
  have e1 (d : Fin 64) : p * 256 + (64 * ((y 2).val / 64) + d.val) = 64 * ((p * 256 + (y 2).val) / 64) + d.val := by omega
  have e2 : 4 * p + (y 2).val / 64 = (p * 256 + (y 2).val) / 64 := by omega
  simp only [Nat.mul_comm 256, e2, e1]

end Cert.KernelIdeal.Fox

end
-- ==== Proof.Fox.Reference.lean ====
/- The plain attention of the reference program, in real numbers: one row's softmax against the keys up to the row. -/
module

public import proofs.«01_k».proof.Proof.Gen.ReferenceIdeal.Run
public import proofs.«01_k».proof.Proof.Fox.Soft
public import Idealize.ShloMosaic.Lib.Pointwise
public import Idealize.ShloMosaic.Lib.MatmulPlain

@[expose] public section

set_option maxRecDepth 16384

noncomputable section

namespace Cert.ReferenceIdeal.Fox

open Idealize.ShloMosaic Idealize.ShloMosaic.TcCoe Idealize.ShloMosaic.Tactic
open Cert.ReferenceIdeal Cert.ReferenceIdeal.Gen Cert.Fox

/-- One of the three projected arrays, head by head: the columns from `o` on. -/
def heads (o : ℕ) (h : S16x2048x3072.Slices ![0, 0, o] S16x2048x1024) (x : FVec Ideal S32768x3072 .bf16) : FVec Ideal S16x16x2048x64 .f32 :=
  transpose S16x16x2048x64 [0, 2, 1, 3] (shapeCast S16x2048x16x64 (extractStridedSlice S16x2048x1024 ![0, 0, o]
    (extf .f32 (shapeCast S16x2048x3072 x shapeCasts_S32768x3072_S16x2048x3072) bitsLt_bf16_f32) h) shapeCasts_S16x2048x1024_S16x2048x16x64)
    transposes_S16x2048x16x64_S16x16x2048x64_0_2_1_3

/-- The cumulative gates, head by head. -/
def gate (x : FVec Ideal S16x2048x128 .f32) : FVec Ideal S16x16x2048 .f32 :=
  transpose S16x16x2048 [0, 2, 1] (extractStridedSlice S16x2048x16 ![0, 0, 0] x slices_S16x2048x128_S16x2048x16_0_0_0) transposes_S16x2048x16_S16x16x2048_0_2_1

/-- The masked scores. -/
def masked (x : FVec Ideal S32768x3072 .bf16) (y : FVec Ideal S16x2048x128 .f32) : FVec Ideal S16x16x2048x2048 .f32 :=
  select (broadcastInDim S16x16x2048x2048 ![2, 3] bcast_S2048x2048_S16x16x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (subf (addf (Host.dotGeneral dot_S16x16x2048x64_S16x16x2048x64_S16x16x2048x2048_3_3_2_2_01_01 none
        (heads 0 slices_S16x2048x3072_S16x2048x1024_0_0_0 x) (heads 1024 slices_S16x2048x3072_S16x2048x1024_0_0_1024 x))
      (broadcastInDim S16x16x2048x2048 ![0, 1, 2, 3] bcast_S16x16x2048x1_S16x16x2048x2048_0_1_2_3
        (broadcastInDim S16x16x2048x1 ![0, 1, 2] bcast_S16x16x2048_S16x16x2048x1_0_1_2 (gate y))))
      (broadcastInDim S16x16x2048x2048 ![0, 1, 2, 3] bcast_S16x16x1x2048_S16x16x2048x2048_0_1_2_3
        (broadcastInDim S16x16x1x2048 ![0, 1, 3] bcast_S16x16x2048_S16x16x1x2048_0_1_3 (gate y))))
    (broadcastInDim S16x16x2048x2048 ![] bcast_S_S16x16x2048x2048 (id (constant S_ .f32 0xFF800000#32)))

/-- Each row's largest score, at any extents. -/
def top {p q r n : ℕ} (bc : S_.BroadcastsInDim ⟨3, ![p, q, r]⟩ (![] : Fin 0 → Fin 3)) (h : (⟨4, ![p, q, r, n]⟩ : Shape).ReducesTo [3] ⟨3, ![p, q, r]⟩)
    (w : FVec Ideal ⟨4, ![p, q, r, n]⟩ .f32) : FVec Ideal ⟨3, ![p, q, r]⟩ .f32 :=
  maximumf (broadcastInDim ⟨3, ![p, q, r]⟩ ![] bc (constant S_ .f32 0xFF800000#32))
    (Host.reduce FloatOps.maximumf w (constant S_ .f32 0xFF800000#32) h h_S_)

/-- The launch's row maxima. -/
abbrev tops (w : FVec Ideal S16x16x2048x2048 .f32) : FVec Ideal S16x16x2048 .f32 :=
  top bcast_S_S16x16x2048 reducesTo_S16x16x2048x2048_S16x16x2048_d3 w

/-- The unnormalised weights. -/
def weight (w : FVec Ideal S16x16x2048x2048 .f32) : FVec Ideal S16x16x2048x2048 .f32 :=
  Host.exp (subf w (broadcastInDim S16x16x2048x2048 ![0, 1, 2, 3] bcast_S16x16x2048x1_S16x16x2048x2048_0_1_2_3
    (broadcastInDim S16x16x2048x1 ![0, 1, 2] bcast_S16x16x2048_S16x16x2048x1_0_1_2 (tops w))))

/-- The weights. -/
def prob (w : FVec Ideal S16x16x2048x2048 .f32) : FVec Ideal S16x16x2048x2048 .f32 :=
  Host.divf (weight w) (broadcastInDim S16x16x2048x2048 ![0, 1, 2, 3] bcast_S16x16x2048x1_S16x16x2048x2048_0_1_2_3
    (broadcastInDim S16x16x2048x1 ![0, 1, 2] bcast_S16x16x2048_S16x16x2048x1_0_1_2
      (Host.reduceAdd (weight w) (constant S_ .f32 0x00000000#32) reducesTo_S16x16x2048x2048_S16x16x2048_d3 h_S_)))

/-- The weighted values, in the layout returned. -/
def mixed (p : FVec Ideal S16x16x2048x2048 .f32) (v : FVec Ideal S16x16x2048x64 .f32) : FVec Ideal S16x2048x1024 .bf16 :=
  truncf .bf16 (shapeCast S16x2048x1024 (transpose S16x2048x16x64 [0, 2, 1, 3]
    (Host.dotGeneral dot_S16x16x2048x2048_S16x16x2048x64_S16x16x2048x64_3_2_2_3_01_01 none p v) transposes_S16x16x2048x64_S16x2048x16x64_0_2_1_3)
    shapeCasts_S16x2048x16x64_S16x2048x1024) bitsLt_bf16_f32

theorem res_eq (m : (ℓ : Loc nD τ sig) → Buf (Elt Ideal) ℓ) (c : Dev nD) :
    Value.res_main_v42 m c = mixed (prob (masked (m ((c : Thread nD τ).loc main_arg0)) (m ((c : Thread nD τ).loc main_arg1))))
      (heads 2048 slices_S16x2048x3072_S16x2048x1024_0_0_2048 (m ((c : Thread nD τ).loc main_arg0))) := rfl

theorem heads_apply (o : ℕ) (h : S16x2048x3072.Slices ![0, 0, o] S16x2048x1024) (ho : o + 1024 ≤ 3072) (x : FVec Ideal S32768x3072 .bf16)
    (b g : Fin 16) (t : Fin 2048) (d : Fin 64) :
    heads o h x (ix4 b g t d) = x (ix2 ⟨b.val * 2048 + t.val, by omega⟩ ⟨o + (g.val * 64 + d.val), by omega⟩) := by
  unfold heads
  pointwise

theorem gate_apply (x : FVec Ideal S16x2048x128 .f32) (b g : Fin 16) (t : Fin 2048) :
    gate x (ix3 b g t) = x (ix3 b t ⟨g.val, by omega⟩) := by
  unfold gate
  pointwise

theorem negInf_word : Ideal.ofBits .f32 0xFF800000#32 = ⊥ := by simp [Ideal.ofBits, Ideal.ieee]

theorem top_apply {p q r n : ℕ} (bc : S_.BroadcastsInDim ⟨3, ![p, q, r]⟩ (![] : Fin 0 → Fin 3)) (h : (⟨4, ![p, q, r, n]⟩ : Shape).ReducesTo [3] ⟨3, ![p, q, r]⟩)
    (w : FVec Ideal ⟨4, ![p, q, r, n]⟩ .f32) (b : Fin p) (g : Fin q) (t : Fin r) :
    top bc h w (ix3 b g t) = Finset.univ.fold max ⊥ fun s : Fin n => w (ix4 b g t s) := by
  unfold top
  pointwise
  rw [negInf_word]
  exact max_bot_left _

theorem weight_apply (w : FVec Ideal S16x16x2048x2048 .f32) (b g : Fin 16) (t s : Fin 2048) :
    weight w (ix4 b g t s) = Ideal.exp (w (ix4 b g t s) - tops w (ix3 b g t)) := by
  unfold weight
  pointwise

/-- A row's sum, at any extents. -/
theorem hostSum_apply {p q r n : ℕ} {u : Shape} (w : FVec Ideal ⟨4, ![p, q, r, n]⟩ .f32) (init : FVec Ideal u .f32)
    (h : (⟨4, ![p, q, r, n]⟩ : Shape).ReducesTo [3] ⟨3, ![p, q, r]⟩) (hu : 0 < u.numel) (b : Fin p) (g : Fin q) (t : Fin r) :
    Host.reduceAdd (F := Ideal) (φ := .f32) w init h hu (ix3 b g t)
      = init (Shape.Idx.first hu) + ∑ s : Fin n, w (ix4 b g t s) := by
  pointwise

theorem prob_apply (w : FVec Ideal S16x16x2048x2048 .f32) (b g : Fin 16) (t s : Fin 2048) :
    prob w (ix4 b g t s) = Ideal.div (weight w (ix4 b g t s)) (∑ s : Fin 2048, weight w (ix4 b g t s)) := by
  have h := hostSum_apply (weight w) (constant S_ .f32 0x00000000#32) reducesTo_S16x16x2048x2048_S16x16x2048_d3 h_S_ b g t
  have e : constant (F := Ideal) S_ .f32 0x00000000#32 (Shape.Idx.first h_S_) = (0 : EReal) := by
    show Ideal.ofBits .f32 0x00000000#32 = 0
    simp [Ideal.ofBits, Ideal.ieee]
  rw [e, zero_add] at h
  unfold prob
  generalize Host.reduceAdd (weight w) (constant S_ .f32 0x00000000#32) reducesTo_S16x16x2048x2048_S16x16x2048_d3 h_S_ = z at h ⊢
  pointwise
  rw [h]

theorem mixed_apply (p : FVec Ideal S16x16x2048x2048 .f32) (v : FVec Ideal S16x16x2048x64 .f32) (b : Fin 16) (t : Fin 2048) (j : Fin 1024) :
    mixed p v (ix3 b t j) = ∑ s : Fin 2048, p (ix4 b ⟨j.val / 64, by omega⟩ t s) * v (ix4 b ⟨j.val / 64, by omega⟩ s ⟨j.val % 64, by omega⟩) := by
  unfold mixed
  pointwise

theorem sle_small {a b : ℕ} (ha : a < 2048) (hb : b < 2048) :
    IntOp.cmpi .sle (BitVec.ofNat 32 a) (BitVec.ofNat 32 b) = 1#1 ↔ a ≤ b := by
  have small {a : ℕ} (h : a < 2048) : (BitVec.ofNat 32 a).toInt = a := by
    rw [BitVec.toInt_ofNat']; norm_num [Int.bmod]; omega
  rw [IntOp.cmpi_sle, small ha, small hb]; omega

theorem masked_apply (x : FVec Ideal S32768x3072 .bf16) (y : FVec Ideal S16x2048x128 .f32) (b g : Fin 16) (t s : Fin 2048) :
    masked x y (ix4 b g t s) = if s.val ≤ t.val then
      (∑ d : Fin 64, heads 0 slices_S16x2048x3072_S16x2048x1024_0_0_0 x (ix4 b g t d) * heads 1024 slices_S16x2048x3072_S16x2048x1024_0_0_1024 x (ix4 b g s d))
        + gate y (ix3 b g t) - gate y (ix3 b g s) else ⊥ := by
  unfold masked
  pointwise
  rw [show id (constant (F := Ideal) S_ FTy.f32 0xFF800000#32) ix0 = (⊥ : EReal) from negInf_word]
  unfold Scalar.select
  exact if_congr (sle_small s.isLt t.isLt) rfl rfl

/-- The reference's result, on real arguments. -/
theorem res_spec (x : FVec Ideal S32768x3072 .bf16) (y : FVec Ideal S16x2048x128 .f32) (A : ℕ → ℕ → ℝ) (C : ℕ → ℕ → ℕ → ℝ)
    (hA : ∀ r k, x (ix2 r k) = (A r.val k.val : EReal)) (hC : ∀ b s h, y (ix3 b s h) = (C b.val s.val h.val : EReal))
    (b : Fin 16) (t : Fin 2048) (j : Fin 1024) :
    mixed (prob (masked x y)) (heads 2048 slices_S16x2048x3072_S16x2048x1024_0_0_2048 x) (ix3 b t j) = ((spec A C b.val t.val j.val : ℝ) : EReal) := by
  have hj := j.isLt
  let g : Fin 16 := ⟨j.val / 64, by omega⟩
  let a : ℕ → ℝ := fun s => (∑ d : Fin 64, A (b.val * 2048 + t.val) (64 * (j.val / 64) + d.val) * A (b.val * 2048 + s) (1024 + (64 * (j.val / 64) + d.val)))
    - C b.val s (j.val / 64) - -C b.val t.val (j.val / 64)
  have hw (s : Fin 2048) : masked x y (ix4 b g t s) = if s.val ≤ t.val then ((a s.val : ℝ) : EReal) else ⊥ := by
    rw [masked_apply]
    refine if_congr Iff.rfl ?_ rfl
    simp only [heads_apply 0 _ (by decide), heads_apply 1024 _ (by decide), gate_apply, hA, hC, ← EReal.coe_mul, coe_sum]
    rw [← EReal.coe_add, ← EReal.coe_sub]
    refine congrArg _ ?_
    show _ = (∑ d : Fin 64, A (b.val * 2048 + t.val) (64 * (j.val / 64) + d.val) * A (b.val * 2048 + s.val) (1024 + (64 * (j.val / 64) + d.val)))
      - C b.val s.val (j.val / 64) - -C b.val t.val (j.val / 64)
    have e (d : Fin 64) : j.val / 64 * 64 + d.val = 64 * (j.val / 64) + d.val := by omega
    simp only [g, e, Nat.zero_add]
    ring
  obtain ⟨μ, hμ⟩ := top_real t.isLt a (fun s => masked x y (ix4 b g t s)) hw
  have hp (s : Fin 2048) : weight (masked x y) (ix4 b g t s) = ((if s.val ≤ t.val then Real.exp (a s.val - μ) else 0 : ℝ) : EReal) := by
    rw [weight_apply, show tops (masked x y) (ix3 b g t) = _ from top_apply _ _ _ _ _ _, hμ, hw, weight_real]
  have hv (s : Fin 2048) : heads 2048 slices_S16x2048x3072_S16x2048x1024_0_0_2048 x (ix4 b g s ⟨j.val % 64, by omega⟩)
      = ((A (b.val * 2048 + s.val) (2048 + j.val) : ℝ) : EReal) := by
    rw [heads_apply 2048 _ (by decide), hA]
    refine congrArg (fun k => ((A (b.val * 2048 + s.val) k : ℝ) : EReal)) ?_
    show 2048 + (j.val / 64 * 64 + j.val % 64) = 2048 + j.val
    omega
  rw [mixed_apply]
  simp only [prob_apply]
  have key := early_division t.isLt a (fun s => A (b.val * 2048 + s) (2048 + j.val)) μ
  refine Eq.trans (Finset.sum_congr rfl fun s _ => ?_) (key.trans (congrArg _ ?_))
  · refine congrArg₂ (· * ·) (congrArg₂ Ideal.div (hp s) (Finset.sum_congr rfl fun s _ => hp s)) (hv s)
  · exact softRow_shift _ _ _ _

end Cert.ReferenceIdeal.Fox

end
-- ==== Proof.Fox.Claims.lean ====
/- The attention call's claims: the arguments' finiteness read as real numbers, and the two programs' results side by side. -/
module

public import proofs.«01_k».proof.Defs
public import proofs.«01_k».proof.Proof.Gen.Kernel
public import proofs.«01_k».proof.Proof.Gen.Pre_finite
public import proofs.«01_k».proof.Proof.Fox.Value
public import proofs.«01_k».proof.Proof.Fox.Reference
public import Idealize.ShloMosaic.Lib.ReduceAll

@[expose] public section

set_option maxRecDepth 16384

noncomputable section

namespace Cert.Fox

open Idealize.ShloMosaic Idealize.ShloMosaic.TcCoe Idealize.ShloMosaic.Tactic

/-- A magnitude below infinity is a real number's. -/
theorem real_of_lt {x : EReal} (h : Ideal.cmp .olt (max x (-x)) (Ideal.ofBits .f32 0x7F800000#32) = 1#1) : ((x.toReal : ℝ) : EReal) = x := by
  have e : Ideal.ofBits .f32 0x7F800000#32 = ⊤ := by simp [Ideal.ofBits, Ideal.ieee]
  rw [e] at h
  refine EReal.coe_toReal ?_ ?_ <;> rintro rfl <;> simp [Ideal.cmp] at h

/-- The precondition's reading: every entry of both arguments is a real number. -/
theorem entries_real (x : FVec Ideal ⟨2, ![32768, 3072]⟩ .bf16) (y : FVec Ideal ⟨3, ![16, 2048, 128]⟩ .f32)
    (h : Cert.Pre_finite.fn (F := Ideal) x y = fun _ => 1#1) :
    (∀ i, (((x i).toReal : ℝ) : EReal) = x i) ∧ ∀ i, (((y i).toReal : ℝ) : EReal) = y i := by
  have h0 := congrFun h ix0
  dsimp only [Cert.Pre_finite.fn] at h0
  obtain ⟨hx, hy⟩ := IntOp.andi_eq_one.mp h0
  exact ⟨fun i => real_of_lt (Host.reduce_andi_all _ _ _ _ _ hx i), fun i => real_of_lt (Host.reduce_andi_all _ _ _ _ _ hy i)⟩

end Cert.Fox

namespace Cert.Proof

open Idealize.ShloMosaic Idealize.ShloMosaic.TcCoe

/-- The printed program and the idealized one have the same bodies. -/
theorem bodies : Cert.Kernel.defs₀ (F := Bits) = Cert.KernelIdeal.defs₀ (F := Bits) := by
  refine congrArg Defs.onTc (funext fun l => funext fun a => ?_)
  match l, a with
  | 0, (t, s) => rfl

/-- The attention call's frame as printed: its run at words. -/
theorem frame_kernel : Cert.quiescent_Kernel := by
  intro m ρ _
  rw [show Cert.Kernel.defs (F := Bits) = Cert.KernelIdeal.defs (F := Bits) from congrArg (Pipeline.defs Cert.KernelIdeal.pcfgs) bodies]
  exact Cert.KernelIdeal.Fox.unchanged (F := Bits) m ρ

/-- The idealized attention call's frame. -/
theorem frame_ideal : Cert.quiescent_KernelIdeal := fun m ρ _ => Cert.KernelIdeal.Fox.unchanged (F := Ideal) m ρ

theorem frame_ideal_finite : Cert.quiescent_KernelIdeal_pre_finite := fun m ρ _ => Cert.KernelIdeal.Fox.unchanged (F := Ideal) m ρ

/-- The reference's frame: it waits on nothing and writes no argument. -/
theorem frame_reference : Cert.quiescent_ReferenceIdeal := fun m ρ _ =>
  (θ_run Cert.ReferenceIdeal.defs _ _).mono (fun r h => ⟨fun c => ⟨(h c).2.1, (h c).2.2⟩, Idealize.ShloMosaic.sem_eq_zero_of_no_sems (by decide) r.2⟩)
    (Cert.ReferenceIdeal.Value.run (F := Ideal) m ρ)

theorem frame_reference_finite : Cert.quiescent_ReferenceIdeal_pre_finite := fun m ρ _ => frame_reference m ρ trivial

/-- On finite arguments the attention kernel and the plain attention give the same array. -/
theorem attention : Cert.algebraic_KernelIdeal_ReferenceIdeal_pre_finite := by
  intro m g m' g' hfin hargs
  let A (c : Dev Cert.KernelIdeal.nD) (r k : ℕ) : ℝ :=
    (m ((c.tc : Thread Cert.KernelIdeal.nD Cert.KernelIdeal.τ).loc Cert.KernelIdeal.main_arg0) (ix2 ⟨r % 32768, Nat.mod_lt _ (by norm_num)⟩ ⟨k % 3072, Nat.mod_lt _ (by norm_num)⟩) : EReal).toReal
  let C (c : Dev Cert.KernelIdeal.nD) (b s h : ℕ) : ℝ :=
    (m ((c.tc : Thread Cert.KernelIdeal.nD Cert.KernelIdeal.τ).loc Cert.KernelIdeal.main_arg1) (ix3 ⟨b % 16, Nat.mod_lt _ (by norm_num)⟩ ⟨s % 2048, Nat.mod_lt _ (by norm_num)⟩ ⟨h % 128, Nat.mod_lt _ (by norm_num)⟩) : EReal).toReal
  have hA (c : Dev Cert.KernelIdeal.nD) (r : Fin 32768) (k : Fin 3072) :
      m ((c.tc : Thread Cert.KernelIdeal.nD Cert.KernelIdeal.τ).loc Cert.KernelIdeal.main_arg0) (ix2 r k) = (A c r.val k.val : EReal) := by
    refine Eq.trans ((Cert.Fox.entries_real _ _ (hfin c)).1 (ix2 r k)).symm ?_
    simp only [A, Nat.mod_eq_of_lt r.isLt, Nat.mod_eq_of_lt k.isLt]
  have hC (c : Dev Cert.KernelIdeal.nD) (b : Fin 16) (s : Fin 2048) (h : Fin 128) :
      m ((c.tc : Thread Cert.KernelIdeal.nD Cert.KernelIdeal.τ).loc Cert.KernelIdeal.main_arg1) (ix3 b s h) = (C c b.val s.val h.val : EReal) := by
    refine Eq.trans ((Cert.Fox.entries_real _ _ (hfin c)).2 (ix3 b s h)).symm ?_
    simp only [C, Nat.mod_eq_of_lt b.isLt, Nat.mod_eq_of_lt s.isLt, Nat.mod_eq_of_lt h.isLt]
  refine ⟨fun c => fun y : Cert.KernelIdeal.S16x2048x1024.Idx => ((Cert.Fox.spec (A c) (C c) (y 0).val (y 1).val (y 2).val : ℝ) : EReal), ?_, ?_⟩
  · refine (θ_run Cert.KernelIdeal.defs _ _).mono (fun r h c => ⟨?_, (h.2.1 c).1, (h.2.1 c).2⟩)
      (θ_run_and (Cert.KernelIdeal.Fox.run_main (F := Ideal) m g) (Cert.KernelIdeal.Fox.unchanged (F := Ideal) m g))
    exact ((h.1.1 c).1 5).trans (Cert.KernelIdeal.Fox.array m c (A c) (C c) (hA c) (hC c))
  · refine (θ_run Cert.ReferenceIdeal.defs _ _).mono (fun r h c => ⟨(h c).1.trans ?_, (h c).2.1, (h c).2.2⟩) (Cert.ReferenceIdeal.Value.run (F := Ideal) m' g')
    rw [Cert.ReferenceIdeal.Fox.res_eq]
    obtain ⟨e0, e1⟩ := hargs c
    funext y
    have hy : y = ix3 (y 0) (y 1) (y 2) := by
      funext a
      match a with
      | ⟨0, _⟩ => rfl
      | ⟨1, _⟩ => rfl
      | ⟨2, _⟩ => rfl
    rw [hy]
    refine Cert.ReferenceIdeal.Fox.res_spec _ _ (A c) (C c) (fun r k => ?_) (fun b s h => ?_) (y 0) (y 1) (y 2)
    · exact (congrFun e0 (ix2 r k)).trans (hA c r k)
    · exact (congrFun e1 (ix3 b s h)).trans (hC c b s h)

end Cert.Proof

end
-- ==== Proof.Proj.Cells.lean ====
/- The projection's cells: a normalised row against a column of weights. -/
module

public import proofs.«01_k».proof.Proof.Gen.Kernel2Ideal.Value
public import proofs.«01_k».proof.Proof.Gen.Reference2Ideal.Run
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Pointwise
public import Idealize.ShloMosaic.Lib.MatmulPlain

@[expose] public section

set_option maxRecDepth 16384

noncomputable section

namespace Cert.Proj

open Idealize.ShloMosaic Idealize.ShloMosaic.TcCoe Idealize.ShloMosaic.Tactic

/-- A row scaled to unit mean square, times the gain. -/
def normed (h g : Fin 1024 → EReal) (k : Fin 1024) : EReal :=
  h k * Ideal.rsqrt (Ideal.div (∑ k, h k * h k) (Ideal.ofBits .f32 0x44800000#32) + Ideal.ofBits .f32 0x358637BD#32) * g k

/-- The normalised row against one column. -/
def dots (h g w : Fin 1024 → EReal) : EReal := ∑ k, normed h g k * w k

/-- A finite nonnegative factor comes out of a sum of products. -/
theorem sum_scaled {ι : Type} (s : Finset ι) (f w : ι → EReal) {a : EReal} (h0 : 0 ≤ a) (h1 : a ≠ ⊤) :
    ∑ k ∈ s, f k * (w k * a) = (∑ k ∈ s, f k * w k) * a := by
  induction s using Finset.cons_induction with
  | empty => simp
  | cons i s hi ih => rw [Finset.sum_cons, Finset.sum_cons, EReal.right_distrib_of_nonneg_of_ne_top h0 h1, ih, mul_assoc]

theorem eighth : Ideal.ofBits .f32 0x3E000000#32 = ((1 / 8 : ℝ) : EReal) := by
  simp [Ideal.ofBits, Ideal.ieee]; rw [← EReal.coe_mul]; norm_num

theorem unit : Ideal.ofBits .f32 0x3F800000#32 = (1 : EReal) := by
  simp [Ideal.ofBits, Ideal.ieee]; rw [← EReal.coe_mul]; norm_num

theorem zero : Ideal.ofBits .f32 0x00000000#32 = (0 : EReal) := by simp [Ideal.ofBits, Ideal.ieee]

end Cert.Proj

namespace Cert.Kernel2Ideal.Proj

open Idealize.ShloMosaic Idealize.ShloMosaic.TcCoe Idealize.ShloMosaic.Tactic
open Cert.Kernel2Ideal Cert.Kernel2Ideal.Gen Cert.Proj

/-- One cell of a block the kernel stores. -/
theorem pay_cell (x0 : Vec Ideal S512x1024 .f32) (x1 : Vec Ideal S1x1024 .f32) (x2 : Vec Ideal S1024x3072 .bf16) (i : Fin 512) (j : Fin 3072) :
    k0_pay1 x0 x1 x2 (ix2 i j) = dots (fun k => x0 (ix2 i k)) (fun k => x1 (ix2 0 k)) (fun k => x2 (ix2 k j)) := by
  unfold dots normed
  pointwise [k0_pay1]

end Cert.Kernel2Ideal.Proj

end
-- ==== Proof.Proj.Value.lean ====
/- The projection kernel's result array: each row normalised, against the weights with their scale folded in. -/
module

public import proofs.«01_k».proof.Proof.Proj.Cells

@[expose] public section

set_option maxRecDepth 16384

noncomputable section

namespace Cert.Kernel2Ideal.Proj

open Idealize.ShloMosaic Idealize.ShloMosaic.TcCoe Idealize.ShloMosaic.Tactic
open Idealize.ShloMosaic.Pipeline (Dat Cfg Window)
open Cert.Kernel2Ideal Cert.Kernel2Ideal.Gen Cert.Proj

variable (m : (ℓ : Loc nD τ sig) → Buf (Elt Ideal) ℓ) (c : Dev nD)

/-- The launch's three arguments. -/
abbrev rows : S32768x1024.Idx → EReal := m ((c : Thread nD τ).loc main_arg0)
abbrev gains : S2x1024.Idx → EReal := m ((c : Thread nD τ).loc main_arg1)
abbrev weights : S2x1024x3072.Idx → EReal := m ((c : Thread nD τ).loc main_arg2)

/-- The blocks' places. -/
theorem index : ∀ t : Fin cfg0.N, win0_0.index t = ![(grid0.coords t 0).val, 0] ∧ win0_1.index t = ![0, 0]
    ∧ win0_2.index t = ![0, 0] ∧ win0_3.index t = ![(grid0.coords t 0).val, 0] :=
  (by decide +kernel : ∀ t : Fin grid0.N, _)

/-- The gain row the region finds: the first layer's. -/
theorem gain_row (k : Fin 1024) : V m c main_v11 (ix2 0 k) = gains m c (ix2 0 k) := by
  entry_read
  pointwise

/-- The weights the region finds: the first layer's, column by column scaled. -/
theorem scaled (k : Fin 1024) (j : Fin 3072) :
    V m c main_v8 (ix2 k j) = weights m c (ix3 0 k j) * (if j.val < 1024 then (Ideal.ofBits .f32 0x3E000000#32 : EReal) else Ideal.ofBits .f32 0x3F800000#32) := by
  entry_read
  pointwise
  split <;> rfl

/-- What the kernel computes at row `r`, column `j`. -/
def cell (r : Fin 32768) (j : Fin 3072) : EReal :=
  dots (fun k => rows m c (ix2 r k)) (fun k => gains m c (ix2 0 k)) (fun k => weights m c (ix3 0 k j))
    * (if j.val < 1024 then Ideal.ofBits .f32 0x3E000000#32 else Ideal.ofBits .f32 0x3F800000#32)

/-- The same at natural numbers. -/
def at' (r j : ℕ) : EReal := if h : r < 32768 ∧ j < 3072 then cell m c ⟨r, h.1⟩ ⟨j, h.2⟩ else 0

theorem at_eq {r j : ℕ} (hr : r < 32768) (hj : j < 3072) : at' m c r j = cell m c ⟨r, hr⟩ ⟨j, hj⟩ := dif_pos ⟨hr, hj⟩

theorem scale_ok (j : Fin 3072) : (0 : EReal) ≤ (if j.val < 1024 then Ideal.ofBits .f32 0x3E000000#32 else Ideal.ofBits .f32 0x3F800000#32)
    ∧ (if j.val < 1024 then Ideal.ofBits .f32 0x3E000000#32 else Ideal.ofBits .f32 0x3F800000#32) ≠ (⊤ : EReal) := by
  rw [eighth, unit]
  split
  · exact ⟨by norm_cast; norm_num, EReal.coe_ne_top _⟩
  · exact ⟨zero_le_one, EReal.coe_ne_top 1⟩

/-- A staged block of rows. -/
theorem block_rows (t : Fin cfg0.N) (i : Fin 512) (k : Fin 1024) :
    iblk m c 0 t (ix2 i k) = rows m c (ix2 ⟨(grid0.coords t 0).val * 512 + i.val, by have : (grid0.coords t 0).val < 64 := (grid0.coords t 0).isLt; omega⟩ k) := by
  obtain ⟨e0, e1, e2, e3⟩ := index t
  show _ = m ((c : Thread nD τ).loc main_arg0) _
  rw [← V_main_arg0 m c]
  blk_ext [iblk, e0]

/-- The staged gains. -/
theorem block_gains (t : Fin cfg0.N) (k : Fin 1024) : iblk m c 1 t (ix2 0 k) = gains m c (ix2 0 k) := by
  obtain ⟨e0, e1, e2, e3⟩ := index t
  rw [← gain_row]
  blk_ext [iblk, e1]

/-- The staged weights. -/
theorem block_weights (t : Fin cfg0.N) (k : Fin 1024) (j : Fin 3072) : iblk m c 2 t (ix2 k j) =
    weights m c (ix3 0 k j) * (if j.val < 1024 then (Ideal.ofBits .f32 0x3E000000#32 : EReal) else Ideal.ofBits .f32 0x3F800000#32) := by
  obtain ⟨e0, e1, e2, e3⟩ := index t
  rw [← scaled]
  blk_ext [iblk, e2]

theorem array_at : (dats m 0 c).arrAt 3 cfg0.N = fun y : S32768x3072.Idx => at' m c (y 0).val (y 1).val := by
  refine (dats m 0 c).arrAt_eq_of_covers 3 _ (by decide +kernel) fun t hf y => ?_
  obtain ⟨e0, e1, e2, e3⟩ := index t
  have ht : (grid0.coords t 0).val < 64 := (grid0.coords t 0).isLt
  blk_simp [e3]
  rw [after0_3]
  unfold out0_3
  rw [View.canon_unit_zero (S := S512x3072) (funext fun a => by fin_cases a <;> rfl)]
  obtain ⟨i, j, rfl⟩ : ∃ (i : Fin 512) (j : Fin 3072), y = ix2 i j := ⟨y 0, y 1, by
    funext a
    match a with
    | ⟨0, _⟩ => rfl
    | ⟨1, _⟩ => rfl⟩
  refine (pay_cell _ _ _ i j).trans ?_
  unfold r0_0 r0_1 r0_2
  rw [View.ld_unit_zero (S := S512x1024) (funext fun a => by fin_cases a <;> rfl), View.ld_unit_zero (S := S1x1024) (funext fun a => by fin_cases a <;> rfl),
    View.ld_unit_zero (S := S1024x3072) (funext fun a => by fin_cases a <;> rfl)]
  simp only [block_rows, block_gains, block_weights]
  refine Eq.trans ?_ (at_eq m c (r := (grid0.coords t 0).val * 512 + i.val) (j := j.val) (by omega) j.isLt).symm
  unfold cell
  exact sum_scaled _ _ _ (scale_ok _).1 (scale_ok _).2

theorem array : (dats m 0 c).arrAt 3 cfg0.N = fun y : S32768x3072.Idx => cell m c (y 0) (y 1) := by
  rw [array_at]
  exact funext fun y => at_eq m c (y 0).isLt (y 1).isLt

end Cert.Kernel2Ideal.Proj

end
-- ==== Proof.Proj.Reference.lean ====
/- The plain projection of the reference program: each row normalised, against the weights, the first columns scaled after. -/
module

public import proofs.«01_k».proof.Proof.Proj.Cells

@[expose] public section

set_option maxRecDepth 16384

noncomputable section

namespace Cert.Reference2Ideal.Proj

open Idealize.ShloMosaic Idealize.ShloMosaic.TcCoe Idealize.ShloMosaic.Tactic
open Cert.Reference2Ideal Cert.Reference2Ideal.Gen Cert.Proj

/-- The mean square of each row, with the small constant, to the power minus a half. -/
def inverse (z : FVec Ideal S32768 .f32) : FVec Ideal S32768x1 .f32 :=
  Host.rsqrt (addf (Host.divf (broadcastInDim S32768x1 ![0] bcast_S32768_S32768x1_0 z) (broadcastInDim S32768x1 ![] bcast_S_S32768x1 (constant S_ .f32 0x44800000#32)))
    (broadcastInDim S32768x1 ![] bcast_S_S32768x1 (constant S_ .f32 0x358637BD#32)))

/-- The rows' sums of squares. -/
def squares (x : FVec Ideal S32768x1024 .f32) : FVec Ideal S32768 .f32 :=
  Host.reduceAdd (mulf x x) (constant S_ .f32 0x00000000#32) reducesTo_S32768x1024_S32768_d1 h_S_

/-- The normalised rows. -/
def normal (x : FVec Ideal S32768x1024 .f32) (g : FVec Ideal S2x1024 .f32) : FVec Ideal S32768x1024 .f32 :=
  mulf (mulf x (broadcastInDim S32768x1024 ![0, 1] bcast_S32768x1_S32768x1024_0_1 (inverse (squares x))))
    (broadcastInDim S32768x1024 ![0, 1] bcast_S1x1024_S32768x1024_0_1 (broadcastInDim S1x1024 ![1] bcast_S1024_S1x1024_1
      (shapeCast _ (extractStridedSlice S1x1024 ![0, 0] g slices_S2x1024_S1x1024_0_0) shapeCasts_S1x1024_S1024)))

/-- All three projections. -/
def product (x : FVec Ideal S32768x1024 .f32) (g : FVec Ideal S2x1024 .f32) (w : FVec Ideal S2x1024x3072 .f32) : FVec Ideal S32768x3072 .f32 :=
  Host.dotGeneral dot_S32768x1024_S1024x3072_S32768x3072_1_0_0_1_n_n none (normal x g)
    (shapeCast _ (extractStridedSlice S1x1024x3072 ![0, 0, 0] w slices_S2x1024x3072_S1x1024x3072_0_0_0) shapeCasts_S1x1024x3072_S1024x3072)

/-- The program's result. -/
def out (z : FVec Ideal S32768x3072 .f32) : FVec Ideal S32768x3072 .bf16 :=
  truncf .bf16 (concatenate S32768x3072 1 [⟨S32768x1024, (mulf (extractStridedSlice S32768x1024 ![0, 0] z slices_S32768x3072_S32768x1024_0_0)
    (broadcastInDim S32768x1024 ![] bcast_S_S32768x1024 (constant S_ .f32 0x3E000000#32)))⟩,
    ⟨S32768x2048, (extractStridedSlice S32768x2048 ![0, 1024] z slices_S32768x3072_S32768x2048_0_1024)⟩] concatenates_S32768x1024_S32768x2048_S32768x3072_d1) bitsLt_bf16_f32

/-- The run, with the result named. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v23) = out (product (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Value.run m ρ

/-- A row's sum, at any extents. -/
theorem rowSum {p n : ℕ} {u : Shape} (w : FVec Ideal ⟨2, ![p, n]⟩ .f32) (init : FVec Ideal u .f32)
    (h : (⟨2, ![p, n]⟩ : Shape).ReducesTo [1] ⟨1, ![p]⟩) (hu : 0 < u.numel) (b : Fin p) :
    Host.reduceAdd (F := Ideal) (φ := .f32) w init h hu (ix1 b) = init (Shape.Idx.first hu) + ∑ s : Fin n, w (ix2 b s) := by
  pointwise

theorem squares_cell (x : FVec Ideal S32768x1024 .f32) (r : Fin 32768) : squares x (ix1 r) = ∑ k : Fin 1024, x (ix2 r k) * x (ix2 r k) := by
  unfold squares
  rw [rowSum]
  have e : constant (F := Ideal) S_ .f32 0x00000000#32 (Shape.Idx.first h_S_) = (0 : EReal) := zero
  rw [e, zero_add]
  rfl

theorem normal_cell (x : FVec Ideal S32768x1024 .f32) (g : FVec Ideal S2x1024 .f32) (r : Fin 32768) (k : Fin 1024) :
    normal x g (ix2 r k) = normed (fun k => x (ix2 r k)) (fun k => g (ix2 0 k)) k := by
  unfold normed
  rw [← squares_cell]
  unfold normal inverse
  generalize squares x = z
  pointwise

theorem product_cell (x : FVec Ideal S32768x1024 .f32) (g : FVec Ideal S2x1024 .f32) (w : FVec Ideal S2x1024x3072 .f32) (r : Fin 32768) (j : Fin 3072) :
    product x g w (ix2 r j) = dots (fun k => x (ix2 r k)) (fun k => g (ix2 0 k)) (fun k => w (ix3 0 k j)) := by
  unfold dots
  simp only [← normal_cell]
  unfold product
  generalize normal x g = z
  pointwise

theorem out_cell (z : FVec Ideal S32768x3072 .f32) (r : Fin 32768) (j : Fin 3072) :
    out z (ix2 r j) = z (ix2 r j) * (if j.val < 1024 then (Ideal.ofBits .f32 0x3E000000#32 : EReal) else Ideal.ofBits .f32 0x3F800000#32) := by
  unfold out
  pointwise
  by_cases hj : j.val < 1024
  · rw [if_pos hj]
    exact dif_pos hj
  · rw [if_neg hj, mul_one]
    refine (dif_neg hj).trans (congrArg (fun k => z (ix2 r k)) (Fin.ext ?_))
    show 1024 + (j.val - 1024) = j.val
    omega

end Cert.Reference2Ideal.Proj

end
-- ==== Proof.Proj.Claims.lean ====
/- The projection call's claims. -/
module

public import proofs.«01_k».proof.Defs
public import proofs.«01_k».proof.Proof.Gen.Kernel2
public import proofs.«01_k».proof.Proof.Proj.Value
public import proofs.«01_k».proof.Proof.Proj.Reference

@[expose] public section

set_option maxRecDepth 16384

noncomputable section

namespace Cert.Proof

open Idealize.ShloMosaic Idealize.ShloMosaic.TcCoe

/-- The printed program and the idealized one have the same bodies. -/
theorem bodies2 : Cert.Kernel2.defs₀ (F := Bits) = Cert.Kernel2Ideal.defs₀ (F := Bits) := by
  refine congrArg Defs.onTc (funext fun l => funext fun a => ?_)
  match l, a with
  | 0, (t, s) => rfl

/-- The projection call's frame as printed: its run at words. -/
theorem frame_kernel2 : Cert.quiescent_Kernel2 := by
  intro m ρ _
  rw [show Cert.Kernel2.defs (F := Bits) = Cert.Kernel2Ideal.defs (F := Bits) from congrArg (Pipeline.defs Cert.Kernel2Ideal.pcfgs) bodies2]
  exact Cert.Kernel2Ideal.Gen.frame (F := Bits) m ρ

theorem frame_ideal2 : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The projection kernel and the plain projection give the same array, on every input. -/
theorem projection : Cert.algebraic_Kernel2Ideal_Reference2Ideal := by
  intro m g m' g' _ hargs
  refine ⟨fun c => fun y : Cert.Kernel2Ideal.S32768x3072.Idx => Cert.Kernel2Ideal.Proj.cell m c (y 0) (y 1), ?_, ?_⟩
  · exact (θ_run Cert.Kernel2Ideal.defs _ _).mono (fun r h c => ⟨(h c).1.trans (Cert.Kernel2Ideal.Proj.array m c), (h c).2⟩)
      (Cert.Kernel2Ideal.Value.run_blocks (F := Ideal) m g)
  · refine (θ_run Cert.Reference2Ideal.defs _ _).mono (fun r h c => ⟨(h c).1.trans ?_, (h c).2⟩) (Cert.Reference2Ideal.Proj.run m' g')
    obtain ⟨e0, e1, e2⟩ := hargs c
    rw [e0, e1, e2]
    funext y
    have hy : y = ix2 (y 0) (y 1) := by
      funext a
      match a with
      | ⟨0, _⟩ => rfl
      | ⟨1, _⟩ => rfl
    rw [hy]
    refine (Cert.Reference2Ideal.Proj.out_cell _ (y 0) (y 1)).trans ?_
    exact congrArg (· * _) (Cert.Reference2Ideal.Proj.product_cell _ _ _ (y 0) (y 1))

end Cert.Proof

end
-- ==== Proof.Experts.Body.lean ====
/- The expert launch's kernel body at one grid point: what its two scratch buffers and its output's buffer end at, in the
   three cases the words it reads select. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Tactic

@[expose] public section

set_option maxRecDepth 16384

noncomputable section

namespace Cert.Kernel3Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-- The table of the blocks' experts and the one word counting the blocks in use, as buffers of core `c`. -/
abbrev ExpertTable (c : Dev nD) := Buf (Elt F) ((Memref.whole main_arg1).view.loc (c : Thread nD τ))
abbrev CountTable (c : Dev nD) := Buf (Elt F) ((Memref.whole main_arg2).view.loc (c : Thread nD τ))

/-- The count of blocks in use, -/
def count (c : Dev nD) (T2 : CountTable (F := F) c) : BitVec 32 :=
  ((Memref.whole main_arg2).access (Rect.unit (s := S1) ![0] S1.size inb_S1_S1_0)).read (Elt F) T2 (Shape.Idx.first (numel1_S1.symm ▸ Nat.one_pos))
/-- the expert of the block at `i`, -/
def here (c : Dev nD) (T1 : ExpertTable (F := F) c) (i : grid0.Coords) : BitVec 32 :=
  ((Memref.whole main_arg1).access (Rect.unit (s := S288) (k0_off1 i) S1.size (k0_off1_inb i))).read (Elt F) T1 (Shape.Idx.first (numel1_S1.symm ▸ Nat.one_pos))
/-- and the expert of the block before it (of the first block: its own). -/
def before (c : Dev nD) (T1 : ExpertTable (F := F) c) (i : grid0.Coords) : BitVec 32 :=
  ((Memref.whole main_arg1).access (Rect.unit (s := S288) (k0_off2 i) S1.size (k0_off2_inb i))).read (Elt F) T1 (Shape.Idx.first (numel1_S1.symm ▸ Nat.one_pos))

/-- The bit the kernel computes for "this block is in use and its expert is not the one before's". -/
def fresh (i : grid0.Coords) (n e e' : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e e'))) : BitVec 32) 0#32

abbrev rOut : Rect S512x1024 := Rect.unit (s := S512x1024) ![0, 0] S512x1024.size inb_S512x1024_S512x1024_0_0
abbrev rUp : Rect S1024x2048 := Rect.unit (s := S1024x2048) ![0, 0] S1024x2048.size inb_S1024x2048_S1024x2048_0_0
abbrev rDown : Rect S1024x1024 := Rect.unit (s := S1024x1024) ![0, 0] S1024x1024.size inb_S1024x1024_S1024x1024_0_0

abbrev rGu : Rect S1x1x1024x2048 := Rect.unit (s := S1x1x1024x2048) ![0, 0, 0, 0] S1x1x1024x2048.size inb_S1x1x1024x2048_S1x1x1024x2048_0_0_0_0
abbrev rBu : Rect S1x1x1x2048 := Rect.unit (s := S1x1x1x2048) ![0, 0, 0, 0] S1x1x1x2048.size inb_S1x1x1x2048_S1x1x1x2048_0_0_0_0
abbrev rWd : Rect S1x1x1024x1024 := Rect.unit (s := S1x1x1024x1024) ![0, 0, 0, 0] S1x1x1024x1024.size inb_S1x1x1024x1024_S1x1x1024x1024_0_0_0_0
abbrev rBd : Rect S1x1x1x1024 := Rect.unit (s := S1x1x1x1024) ![0, 0, 0, 0] S1x1x1x1024.size inb_S1x1x1x1024_S1x1x1x1024_0_0_0_0

theorem cover_out (p : Vec F S512x1024 .f32) (y : S512x1024.Idx) :
    ∃ pc ∈ ([⟨rOut, p⟩] : List (View.Piece (Elt F) S512x1024 .f32)), y ∈ pc.1.set :=
  View.cover_of_tiled [⟨rOut, p⟩] S512x1024.size (by rfl) y
theorem cover_up (p : Vec F S1024x2048 .bf16) (y : S1024x2048.Idx) :
    ∃ pc ∈ ([⟨rUp, p⟩] : List (View.Piece (Elt F) S1024x2048 .bf16)), y ∈ pc.1.set :=
  View.cover_of_tiled [⟨rUp, p⟩] S1024x2048.size (by rfl) y
theorem cover_down (p : Vec F S1024x1024 .bf16) (y : S1024x1024.Idx) :
    ∃ pc ∈ ([⟨rDown, p⟩] : List (View.Piece (Elt F) S1024x1024 .bf16)), y ∈ pc.1.set :=
  View.cover_of_tiled [⟨rDown, p⟩] S1024x1024.size (by rfl) y

/-- An expert's two weight matrices, narrowed, as the scratch buffers keep them. -/
def up (x1 : Vec F S1x1x1024x2048 .f32) : Vec F S1024x2048 .bf16 := k0_pay1 (View.ld x1 rGu)
def down (x3 : Vec F S1x1x1024x1024 .f32) : Vec F S1024x1024 .bf16 := k0_pay2 (View.ld x3 rWd)

/-- The block stored from the rows, the two kept matrices and the two biases. -/
def out (x0 : Vec F S512x1024 .f32) (u : Vec F S1024x2048 .bf16) (x2 : Vec F S1x1x1x2048 .f32) (d : Vec F S1024x1024 .bf16)
    (x4 : Vec F S1x1x1x1024 .f32) : Vec F S512x1024 .f32 :=
  k0_pay4 (View.ld x0 rOut) u (View.ld x2 rBu) d (View.ld x4 rBd)

/-- A block not in use: the output's buffer ends at zeros, nothing else is touched. -/
theorem unusedAt (i : grid0.Coords) (c : Dev nD) (E : Set ℕ) (T1 : ExpertTable (F := F) c) (T2 : CountTable (F := F) c) (q : PosShare TreeShare)
    (hf : ¬ fresh i (count c T2) (here c T1 i) (before c T1 i) = 1#1) (h2 : ¬ k0_cond2 i (count c T2) = 1#1) (h3 : k0_cond3 i (count c T2) = 1#1)
    (arg3 : Memref sig .tc .vmem S512x1024 .f32) (harg3 : arg3.IsWhole) (arg4 : Memref sig .tc .vmem S1x1x1024x2048 .f32) (harg4 : arg4.IsWhole)
    (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S512x1024 .f32) (harg8 : arg8.IsWhole)
    (K : PUnit → sProp 𝕄) :
    iprop(((Memref.whole main_arg1).view.loc (c : Thread nD τ) ↦{q} T1) ∗ ((Memref.whole main_arg2).view.loc (c : Thread nD τ) ↦{q} T2)

        ∗ (∃ d, owns (c : Thread nD τ) arg8 fullShare d)
        ∗ (iprop(((Memref.whole main_arg1).view.loc (c : Thread nD τ) ↦{q} T1) ∗ ((Memref.whole main_arg2).view.loc (c : Thread nD τ) ↦{q} T2)
          ∗ owns (c : Thread nD τ) arg8 fullShare (View.canon [⟨rOut, k0_pay3 (F := F)⟩])) -∗ K ⟨⟩))
      ⊢ wp frame (wpE (defs₀ (F := F)) Variants.none c none) E
          (cc0_experts i (Memref.whole main_arg1) (Memref.isWhole_whole _) (Memref.whole main_arg2) (Memref.isWhole_whole _)
            arg3 harg3 arg4 harg4 arg5 harg5 arg6 harg6 arg7 harg7 arg8 harg8
            (Memref.whole cc0_scratch0) (Memref.isWhole_whole _) (Memref.whole cc0_scratch1) (Memref.isWhole_whole _)) K := by
  rw [cc0_experts_eq_skeleton]; unfold cc0_experts_skel
  unfold owns
  iintro ⟨HT1, HT2, ⟨%d5, %f5, -, H5⟩, Hk⟩
  unfold fresh count here before at hf
  unfold count at h2 h3
  sl_exec
  sl_step
  iapply Hk
  isplitl [HT1]; · iexact HT1
  isplitl [HT2]; · iexact HT2
  iexists _; isplitr; swap; · iexact H5
  ipureintro; exact (View.read_writes_eq_canon _ _ _ (cover_out _)).trans rfl

/-- A block in use whose expert is the one before's: the output from the matrices the scratch buffers hold. -/
theorem keptAt (i : grid0.Coords) (c : Dev nD) (E : Set ℕ) (T1 : ExpertTable (F := F) c) (T2 : CountTable (F := F) c) (q : PosShare TreeShare)
    (hf : ¬ fresh i (count c T2) (here c T1 i) (before c T1 i) = 1#1) (h2 : k0_cond2 i (count c T2) = 1#1) (h3 : ¬ k0_cond3 i (count c T2) = 1#1)
    (arg3 : Memref sig .tc .vmem S512x1024 .f32) (harg3 : arg3.IsWhole) (arg4 : Memref sig .tc .vmem S1x1x1024x2048 .f32) (harg4 : arg4.IsWhole)
    (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S512x1024 .f32) (harg8 : arg8.IsWhole)
    (x0 : Vec F S512x1024 .f32) (x2 : Vec F S1x1x1x2048 .f32) (x4 : Vec F S1x1x1x1024 .f32)
    (u : Vec F S1024x2048 .bf16) (d : Vec F S1024x1024 .bf16) (K : PUnit → sProp 𝕄) :
    iprop(((Memref.whole main_arg1).view.loc (c : Thread nD τ) ↦{q} T1) ∗ ((Memref.whole main_arg2).view.loc (c : Thread nD τ) ↦{q} T2)
        ∗ owns (c : Thread nD τ) arg3 fullShare x0 ∗ owns (c : Thread nD τ) arg5 fullShare x2 ∗ owns (c : Thread nD τ) arg7 fullShare x4
        ∗ owns (c : Thread nD τ) (Memref.whole cc0_scratch0) fullShare u ∗ owns (c : Thread nD τ) (Memref.whole cc0_scratch1) fullShare d
        ∗ (∃ d, owns (c : Thread nD τ) arg8 fullShare d)
        ∗ (iprop(((Memref.whole main_arg1).view.loc (c : Thread nD τ) ↦{q} T1) ∗ ((Memref.whole main_arg2).view.loc (c : Thread nD τ) ↦{q} T2)
          ∗ owns (c : Thread nD τ) arg3 fullShare x0 ∗ owns (c : Thread nD τ) arg5 fullShare x2 ∗ owns (c : Thread nD τ) arg7 fullShare x4
          ∗ owns (c : Thread nD τ) (Memref.whole cc0_scratch0) fullShare u ∗ owns (c : Thread nD τ) (Memref.whole cc0_scratch1) fullShare d
          ∗ owns (c : Thread nD τ) arg8 fullShare (View.canon [⟨rOut, out x0 (View.ld u rUp) x2 (View.ld d rDown) x4⟩])) -∗ K ⟨⟩))
      ⊢ wp frame (wpE (defs₀ (F := F)) Variants.none c none) E
          (cc0_experts i (Memref.whole main_arg1) (Memref.isWhole_whole _) (Memref.whole main_arg2) (Memref.isWhole_whole _)
            arg3 harg3 arg4 harg4 arg5 harg5 arg6 harg6 arg7 harg7 arg8 harg8
            (Memref.whole cc0_scratch0) (Memref.isWhole_whole _) (Memref.whole cc0_scratch1) (Memref.isWhole_whole _)) K := by
  rw [cc0_experts_eq_skeleton]; unfold cc0_experts_skel
  unfold owns
  iintro ⟨HT1, HT2, ⟨%f0, %hf0, H0⟩, ⟨%f2, %hf2, H2⟩, ⟨%f4, %hf4, H4⟩, ⟨%g0, %hg0, G0⟩, ⟨%g1, %hg1, G1⟩, ⟨%d5, %f5, -, H5⟩, Hk⟩
  unfold fresh count here before at hf
  unfold count at h2 h3
  subst hf0 hf2 hf4 hg0 hg1
  sl_exec
  sl_step
  iapply Hk
  isplitl [HT1]; · iexact HT1
  isplitl [HT2]; · iexact HT2
  isplitl [H0]
  · iexists f0; isplitr; · ipureintro; rfl
    iexact H0
  isplitl [H2]
  · iexists f2; isplitr; · ipureintro; rfl
    iexact H2
  isplitl [H4]
  · iexists f4; isplitr; · ipureintro; rfl
    iexact H4
  isplitl [G0]
  · iexists g0; isplitr; · ipureintro; rfl
    iexact G0
  isplitl [G1]
  · iexists g1; isplitr; · ipureintro; rfl
    iexact G1
  iexists _; isplitr; swap; · iexact H5
  ipureintro; exact (View.read_writes_eq_canon _ _ _ (cover_out _)).trans rfl

/-- A block in use whose expert is new: both scratch buffers refilled, the output from the new matrices. -/
theorem freshAt (i : grid0.Coords) (c : Dev nD) (E : Set ℕ) (T1 : ExpertTable (F := F) c) (T2 : CountTable (F := F) c) (q : PosShare TreeShare)
    (hf : fresh i (count c T2) (here c T1 i) (before c T1 i) = 1#1) (h2 : k0_cond2 i (count c T2) = 1#1) (h3 : ¬ k0_cond3 i (count c T2) = 1#1)
    (arg3 : Memref sig .tc .vmem S512x1024 .f32) (harg3 : arg3.IsWhole) (arg4 : Memref sig .tc .vmem S1x1x1024x2048 .f32) (harg4 : arg4.IsWhole)
    (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S512x1024 .f32) (harg8 : arg8.IsWhole)
    (x0 : Vec F S512x1024 .f32) (x1 : Vec F S1x1x1024x2048 .f32) (x2 : Vec F S1x1x1x2048 .f32) (x3 : Vec F S1x1x1024x1024 .f32) (x4 : Vec F S1x1x1x1024 .f32)
    (K : PUnit → sProp 𝕄) :
    iprop(((Memref.whole main_arg1).view.loc (c : Thread nD τ) ↦{q} T1) ∗ ((Memref.whole main_arg2).view.loc (c : Thread nD τ) ↦{q} T2)
        ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ u, owns (c : Thread nD τ) (Memref.whole cc0_scratch0) fullShare u) ∗ (∃ d, owns (c : Thread nD τ) (Memref.whole cc0_scratch1) fullShare d)
        ∗ (∃ d, owns (c : Thread nD τ) arg8 fullShare d)
        ∗ (iprop(((Memref.whole main_arg1).view.loc (c : Thread nD τ) ↦{q} T1) ∗ ((Memref.whole main_arg2).view.loc (c : Thread nD τ) ↦{q} T2)
          ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
          ∗ owns (c : Thread nD τ) (Memref.whole cc0_scratch0) fullShare (View.canon [⟨rUp, up x1⟩]) ∗ owns (c : Thread nD τ) (Memref.whole cc0_scratch1) fullShare (View.canon [⟨rDown, down x3⟩])
          ∗ owns (c : Thread nD τ) arg8 fullShare (View.canon [⟨rOut, out x0 (up x1) x2 (down x3) x4⟩])) -∗ K ⟨⟩))
      ⊢ wp frame (wpE (defs₀ (F := F)) Variants.none c none) E
          (cc0_experts i (Memref.whole main_arg1) (Memref.isWhole_whole _) (Memref.whole main_arg2) (Memref.isWhole_whole _)
            arg3 harg3 arg4 harg4 arg5 harg5 arg6 harg6 arg7 harg7 arg8 harg8
            (Memref.whole cc0_scratch0) (Memref.isWhole_whole _) (Memref.whole cc0_scratch1) (Memref.isWhole_whole _)) K := by
  rw [cc0_experts_eq_skeleton]; unfold cc0_experts_skel
  unfold owns
  iintro ⟨HT1, HT2, ⟨%f0, %hf0, H0⟩, ⟨%f1, %hf1, H1⟩, ⟨%f2, %hf2, H2⟩, ⟨%f3, %hf3, H3⟩, ⟨%f4, %hf4, H4⟩, ⟨%u0, %g0, -, G0⟩, ⟨%u1, %g1, -, G1⟩, ⟨%d5, %f5, -, H5⟩, Hk⟩
  unfold fresh count here before at hf
  unfold count at h2 h3
  subst hf0 hf1 hf2 hf3 hf4
  sl_exec
  sl_step
  iapply Hk
  isplitl [HT1]; · iexact HT1
  isplitl [HT2]; · iexact HT2
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [G0]
  · iexists _; isplitr; swap; · iexact G0
    ipureintro; exact (View.read_writes_eq_canon _ _ _ (cover_up _)).trans rfl
  isplitl [G1]
  · iexists _; isplitr; swap; · iexact G1
    ipureintro; exact (View.read_writes_eq_canon _ _ _ (cover_down _)).trans rfl
  iexists _; isplitr; swap; · iexact H5
  ipureintro; refine (View.read_writes_eq_canon _ _ _ (cover_out _)).trans ?_
  unfold freshAt.sl.r_3 freshAt.sl.v21 freshAt.sl.v47 freshAt.sl.G0_1 freshAt.sl.G1_1 out up down
  rw [View.readCov_cons_toLoadRect, View.readCov_cons_toLoadRect]
  rfl

end Cert.Kernel3Ideal.Experts

end
-- ==== Proof.Experts.Cells.lean ====
/- The experts' cells: one row of a block through one expert's two matrices, and the stored block read at a cell. -/
module

public import proofs.«01_k».proof.Proof.Experts.Body
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Pointwise
public import Idealize.ShloMosaic.Lib.MatmulPlain

@[expose] public section

set_option maxRecDepth 16384

noncomputable section

namespace Cert.Experts

open Idealize.ShloMosaic Idealize.ShloMosaic.TcCoe Idealize.ShloMosaic.Tactic

/-- A row through the first matrix, with its bias. -/
def middle (x : Fin 1024 → EReal) (w : Fin 1024 → Fin 2048 → EReal) (b : Fin 2048 → EReal) (j : Fin 2048) : EReal := (∑ k, x k * w k j) + b j

/-- The gate's column and the linear column of lane `f`. -/
def gateCol (f : Fin 1024) : Fin 2048 := ⟨f.val, by omega⟩
def linCol (f : Fin 1024) : Fin 2048 := ⟨1024 + f.val, by omega⟩

/-- The clipped gated unit of the two columns: the gate's clipped value, times its logistic, times the clipped linear value
    plus one. -/
def unit (g l : EReal) : EReal :=
  min g (Ideal.ofBits .f32 0x40E00000#32)
    * Ideal.div (Ideal.ofBits .f32 0x3F800000#32) (Ideal.ofBits .f32 0x3F800000#32 + Ideal.exp (-(Ideal.ofBits .f32 0x3FD9DB23#32 * min g (Ideal.ofBits .f32 0x40E00000#32))))
    * (min (Ideal.ofBits .f32 0x40E00000#32) (max (Ideal.ofBits .f32 0xC0E00000#32) l) + Ideal.ofBits .f32 0x3F800000#32)

/-- A row through an expert. -/
def through (x : Fin 1024 → EReal) (w : Fin 1024 → Fin 2048 → EReal) (b : Fin 2048 → EReal) (v : Fin 1024 → Fin 1024 → EReal) (e : Fin 1024 → EReal)
    (q : Fin 1024) : EReal :=
  (∑ f, unit (middle x w b (gateCol f)) (middle x w b (linCol f)) * v f q) + e q

theorem through_congr {x x' : Fin 1024 → EReal} {w w' : Fin 1024 → Fin 2048 → EReal} {b b' : Fin 2048 → EReal} {v v' : Fin 1024 → Fin 1024 → EReal} {e e' : Fin 1024 → EReal}
    (h0 : ∀ k, x k = x' k) (h1 : ∀ k j, w k j = w' k j) (h2 : ∀ j, b j = b' j) (h3 : ∀ f q, v f q = v' f q) (h4 : ∀ q, e q = e' q) (q : Fin 1024) :
    through x w b v e q = through x' w' b' v' e' q := by
  rw [funext h0, funext fun k => funext (h1 k), funext h2, funext fun f => funext (h3 f), funext h4]

open Cert.Kernel3Ideal in
/-- What the experts give for place `p` of block `t`, whose expert is `e`: zero from the first block not in use on. -/
def answer (x : S147456x1024.Idx → EReal) (n : BitVec 32) (w : S2x32x1024x2048.Idx → EReal) (b : S2x32x2048.Idx → EReal) (v : S2x32x1024x1024.Idx → EReal)
    (g : S2x32x1024.Idx → EReal) (e : Fin 32) (t : Fin 288) (p : Fin 512) (q : Fin 1024) : EReal :=
  if (BitVec.ofNat 32 t.val).slt n = true then
    through (fun k => x (ix2 ⟨t.val * 512 + p.val, by omega⟩ k)) (fun k j => w (ix4 0 e k j)) (fun j => b (ix3 0 e j)) (fun f q => v (ix4 0 e f q)) (fun q => g (ix3 0 e q)) q
  else 0

theorem neg_alpha : Ideal.ofBits .f32 0xBFD9DB23#32 = -Ideal.ofBits .f32 0x3FD9DB23#32 := by
  simp [Ideal.ofBits, Ideal.ieee]

theorem zero : Ideal.ofBits .f32 0x00000000#32 = (0 : EReal) := by simp [Ideal.ofBits, Ideal.ieee]

end Cert.Experts

namespace Cert.Kernel3Ideal.Experts

open Idealize.ShloMosaic Idealize.ShloMosaic.TcCoe Idealize.ShloMosaic.Tactic
open Cert.Kernel3Ideal Cert.Kernel3Ideal.Gen Cert.Experts

theorem pay4_cell (x0 : Vec Ideal S512x1024 .f32) (u : Vec Ideal S1024x2048 .bf16) (x2 : Vec Ideal S1x1x1x2048 .f32) (d : Vec Ideal S1024x1024 .bf16)
    (x4 : Vec Ideal S1x1x1x1024 .f32) (p : Fin 512) (q : Fin 1024) :
    k0_pay4 x0 u x2 d x4 (ix2 p q) = through (fun k => x0 (ix2 p k)) (fun k j => u (ix2 k j)) (fun j => x2 (ix4 0 0 0 j)) (fun f q => d (ix2 f q)) (fun q => x4 (ix4 0 0 0 q)) q := by
  unfold through unit middle gateCol linCol
  simp only [← EReal.neg_mul, ← neg_alpha]
  pointwise [k0_pay4]

theorem up_cell (x1 : Vec Ideal S1x1x1024x2048 .f32) (k : Fin 1024) (j : Fin 2048) : up x1 (ix2 k j) = x1 (ix4 0 0 k j) := by
  unfold up rGu
  rw [View.ld_unit_zero (S := S1x1x1024x2048) (funext fun x => by fin_cases x <;> rfl)]
  pointwise [k0_pay1]

theorem down_cell (x3 : Vec Ideal S1x1x1024x1024 .f32) (f q : Fin 1024) : down x3 (ix2 f q) = x3 (ix4 0 0 f q) := by
  unfold down rWd
  rw [View.ld_unit_zero (S := S1x1x1024x1024) (funext fun x => by fin_cases x <;> rfl)]
  pointwise [k0_pay2]

theorem out_cell (x0 : Vec Ideal S512x1024 .f32) (x1 : Vec Ideal S1x1x1024x2048 .f32) (x2 : Vec Ideal S1x1x1x2048 .f32) (x3 : Vec Ideal S1x1x1024x1024 .f32)
    (x4 : Vec Ideal S1x1x1x1024 .f32) (p : Fin 512) (q : Fin 1024) :
    out x0 (up x1) x2 (down x3) x4 (ix2 p q)
      = through (fun k => x0 (ix2 p k)) (fun k j => x1 (ix4 0 0 k j)) (fun j => x2 (ix4 0 0 0 j)) (fun f q => x3 (ix4 0 0 f q)) (fun q => x4 (ix4 0 0 0 q)) q := by
  simp only [← up_cell, ← down_cell]
  unfold out rOut rBu rBd
  rw [View.ld_unit_zero (S := S512x1024) (funext fun x => by fin_cases x <;> rfl), View.ld_unit_zero (S := S1x1x1x2048) (funext fun x => by fin_cases x <;> rfl),
    View.ld_unit_zero (S := S1x1x1x1024) (funext fun x => by fin_cases x <;> rfl)]
  exact pay4_cell x0 _ x2 _ x4 p q

theorem zeros_cell (p : Fin 512) (q : Fin 1024) : (k0_pay3 (F := Ideal)) (ix2 p q) = (0 : EReal) := by
  rw [← zero]; rfl

end Cert.Kernel3Ideal.Experts

end
-- ==== Proof.Experts.Tables.lean ====
/- The expert launch's run, up to the body: what the host lines leave, the two tables' words at a grid point, which blocks
   are in use and which change expert, and each window's block at a point. -/
module

public import proofs.«01_k».proof.Proof.Experts.Body
public import Idealize.ShloMosaic.Lib.Claim
public import Idealize.ShloMosaic.Lib.Pointwise
public import Idealize.ShloMosaic.Lib.Pipeline.Value
public import Idealize.ShloMosaic.Lib.Pipeline.ValueKit.Tiles
public import Idealize.ShloMosaic.Lib.Pipeline.ValueKit.Geometry
public import Idealize.ShloMosaic.Lib.Pipeline.ValueKit.Point

@[expose] public section

set_option maxRecDepth 16384

noncomputable section

namespace Cert.Kernel3Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ)

/-- Core `c`'s buffers when the region is entered: after the two host reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region: the host reshapes, then the region. -/
theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub hostOps0_fresh main_chain

/-- A buffer neither reshape writes is found as launched. -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

variable (a : (pcfg0 (F := F)).Adm)

theorem slt_bit (x n : BitVec 32) : Scalar.cmpi .slt x n = BitVec.ofBool (x.slt n) := rfl

/-- The block at `i` is in use: its position is below the count, -/
theorem cond2_iff (i : grid0.Coords) (n : BitVec 32) : k0_cond2 i n = 1#1 ↔ (BitVec.ofNat 32 (i 0).val).slt n = true := by
  unfold k0_cond2
  show Scalar.cmpi .ne (Scalar.extui (Scalar.cmpi .slt (BitVec.ofNat 32 (i 0).val) n) : BitVec 32) 0#32 = 1#1 ↔ _
  rw [slt_bit]
  cases (BitVec.ofNat 32 (i 0).val).slt n <;> decide
/-- the other condition asks for the contrary, -/
theorem cond3_iff (i : grid0.Coords) (n : BitVec 32) : k0_cond3 i n = 1#1 ↔ ¬ (BitVec.ofNat 32 (i 0).val).slt n = true := by
  unfold k0_cond3
  show Scalar.cmpi .ne (Scalar.extui (Scalar.xori (Scalar.cmpi .slt (BitVec.ofNat 32 (i 0).val) n) 1#1) : BitVec 32) 0#32 = 1#1 ↔ _
  rw [slt_bit]
  cases (BitVec.ofNat 32 (i 0).val).slt n <;> decide
/-- and the matrices are narrowed anew at a block in use that is the first or has another expert than the one before. -/
theorem fresh_iff (i : grid0.Coords) (n e e' : BitVec 32) :
    fresh i n e e' = 1#1 ↔ (BitVec.ofNat 32 (i 0).val).slt n = true ∧ ((i 0).val = 0 ∨ e ≠ e') := by
  unfold fresh
  rw [slt_bit, show Scalar.cmpi .eq (BitVec.ofNat 32 (i 0).val) 0#32 = BitVec.ofBool (BitVec.ofNat 32 (i 0).val == 0#32) from rfl,
    show Scalar.cmpi .ne e e' = BitVec.ofBool (e != e') from rfl,
    show ((i 0).val = 0 ∨ e ≠ e') ↔ ((BitVec.ofNat 32 (i 0).val == 0#32) || (e != e')) = true from by
      have h : (i 0).val < 288 := (i 0).isLt
      have hz : BitVec.ofNat 32 (i 0).val = 0#32 ↔ (i 0).val = 0 := by
        constructor
        · intro e; have := congrArg BitVec.toNat e; simp only [BitVec.toNat_ofNat] at this; omega
        · intro e; rw [e]
      simp [hz]]
  cases (BitVec.ofNat 32 (i 0).val).slt n <;> cases (BitVec.ofNat 32 (i 0).val == 0#32) <;> cases (e != e') <;> decide

theorem position : ∀ t : Fin grid0.N, (grid0.coords t 0).val = t.val := by decide +kernel
theorem off1_val (i : grid0.Coords) : k0_off1 i 0 = (i 0).val :=
  (by decide +kernel : ∀ k : Fin 288, (Scalar.indexCast (BitVec.ofNat 32 k.val)).toNat = k.val) (i 0)
theorem off2_val (i : grid0.Coords) : k0_off2 i 0 = (i 0).val - 1 :=
  (by decide +kernel : ∀ k : Fin 288, (Scalar.indexCast (Scalar.maxsi (Scalar.subi (BitVec.ofNat 32 k.val) 1#32) 0#32)).toNat = k.val - 1) (i 0)

variable (a : (pcfg0 (F := F)).Adm)

/-- The region's tables at admissible contents `a`, as the body's two tables. -/
abbrev T1 (c : Dev nD) : ExpertTable (F := F) c := a.1 0
abbrev T2 (c : Dev nD) : CountTable (F := F) c := a.1 1

/-- The table of experts at position `k`, and the count. -/
def expert (k : Fin 288) : BitVec 32 := a.1 0 (ix1 k)
def blocksInUse : BitVec 32 := a.1 1 (ix1 (0 : Fin 1))

/-- The block before. -/
def prev (k : Fin 288) : Fin 288 := ⟨k.val - 1, by omega⟩

theorem count_eq (c : Dev nD) : count c (T2 a c) = blocksInUse a := by
  unfold count blocksInUse T2
  exact congrArg (a.1 1) (funext fun x => by match x with | ⟨0, _⟩ => rfl)

theorem here_eq (c : Dev nD) (i : grid0.Coords) : here c (T1 a c) i = expert a (i 0) := by
  unfold here expert T1
  exact congrArg (a.1 0) (funext fun x => by
    match x with
    | ⟨0, _⟩ => exact Fin.ext (by show k0_off1 i 0 + 1 * 0 = (i 0).val; rw [off1_val]; rfl))

theorem before_eq (c : Dev nD) (i : grid0.Coords) : before c (T1 a c) i = expert a (prev (i 0)) := by
  unfold before expert T1
  exact congrArg (a.1 0) (funext fun x => by
    match x with
    | ⟨0, _⟩ => exact Fin.ext (by show k0_off2 i 0 + 1 * 0 = (i 0).val - 1; rw [off2_val]; rfl))

/-- Point `t`'s block is in use. -/
def Used (t : Fin grid0.N) : Prop := (BitVec.ofNat 32 t.val).slt (blocksInUse a) = true
instance (t : Fin grid0.N) : Decidable (Used a t) := by unfold Used; infer_instance

/-- Point `t`'s block is in use and is the first or has another expert than the block before. -/
def New (t : Fin grid0.N) : Prop := Used a t ∧ (t.val = 0 ∨ expert a (grid0.coords t 0) ≠ expert a (prev (grid0.coords t 0)))
instance (t : Fin grid0.N) : Decidable (New a t) := by unfold New; infer_instance

theorem used_cond2 (c : Dev nD) (t : Fin grid0.N) : k0_cond2 (grid0.coords t) (count c (T2 a c)) = 1#1 ↔ Used a t := by
  rw [cond2_iff, count_eq, position]; rfl
theorem used_cond3 (c : Dev nD) (t : Fin grid0.N) : k0_cond3 (grid0.coords t) (count c (T2 a c)) = 1#1 ↔ ¬ Used a t := by
  rw [cond3_iff, count_eq, position]; rfl
theorem new_fresh (c : Dev nD) (t : Fin grid0.N) :
    fresh (grid0.coords t) (count c (T2 a c)) (here c (T1 a c) (grid0.coords t)) (before c (T1 a c) (grid0.coords t)) = 1#1 ↔ New a t := by
  rw [fresh_iff, count_eq, here_eq, before_eq, position]; rfl

/-- The blocks in use are the first ones. -/
theorem Used.pred {s t : Fin grid0.N} (h : Used a t) (e : s.val + 1 = t.val) : Used a s := by
  unfold Used at h ⊢
  have h1 : t.val < 288 := t.isLt
  have hv : ∀ k : ℕ, k < 288 → (BitVec.ofNat 32 k).toInt = (k : ℤ) := fun k hk => by
    rw [BitVec.toInt_eq_toNat_of_lt] <;> simp only [BitVec.toNat_ofNat] <;> omega
  simp only [BitVec.slt, decide_eq_true_eq] at h ⊢
  rw [hv _ h1] at h
  rw [hv _ (by omega)]
  omega

/-- Window 5 is never idle: one of the two conditions holds. -/
theorem idle_out (t : Fin (cfg0 a).N) : (cfg0 a).idle 5 ((cfg0 a).grid.coords t) = false := by
  show (!(k0_cond2 (grid0.coords t) _ == 1#1) && !(k0_cond3 (grid0.coords t) _ == 1#1)) = false
  generalize hn : (a.1.atD 1 ![0] : BitVec 32) = n
  by_cases h : (BitVec.ofNat 32 (grid0.coords t 0).val).slt n = true
  · rw [(cond2_iff _ _).mpr h]; rfl
  · rw [(cond3_iff _ _).mpr h]; simp

/-- Window `w`'s block at point `t`, read off its array as the region finds it. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- The weight and bias windows' block index at a point: the block's expert. -/
theorem transform_of (pf : pre0.Contents (Elt F)) (i : grid0.Coords) :
    cc0_transform_1 k0_off1_inb numel1_S1 pf i = ![0, (pf 0 (ix1 (i 0)) : BitVec 32).toNat, 0, 0] := by
  have h : pf.at 0 (Rect.unit (s := S288) ![(Scalar.indexCast (BitVec.ofNat 32 (i 0).val)).toNat] S1.size (k0_off1_inb i)) numel1_S1 = pf 0 (ix1 (i 0)) :=
    congrArg (pf 0) (funext fun x => by
      match x with
      | ⟨0, _⟩ => exact Fin.ext (by show k0_off1 i 0 + 1 * 0 = (i 0).val; rw [off1_val]; rfl))
  exact congrArg (fun w : BitVec 32 => (![0, w.toNat, 0, 0] : Fin 4 → ℕ)) h
theorem transform (i : grid0.Coords) :
    cc0_transform_1 k0_off1_inb numel1_S1 a.1 i = ![0, (expert a (i 0)).toNat, 0, 0] := transform_of a.1 i

/-- Tables naming one of the 32 experts for every block are admissible. -/
theorem admissible (pf : pre0.Contents (Elt F)) (h : ∀ k : Fin 288, (pf 0 (ix1 k) : BitVec 32).toNat < 32) : ok0 pf := by
  have e := fun i => transform_of pf i
  refine ⟨fun i => ⟨fun x => ?_, .inl rfl⟩, fun i => ⟨fun x => ?_, .inl rfl⟩, fun i => ⟨fun x => ?_, .inl rfl⟩, fun i => ⟨fun x => ?_, .inl rfl⟩⟩
  · rw [e i]
    match x with
    | ⟨0, _⟩ => show (0 + 1) * 1 ≤ 2; omega
    | ⟨1, _⟩ => show ((pf 0 (ix1 (i 0)) : BitVec 32).toNat + 1) * 1 ≤ 32; have := h (i 0); omega
    | ⟨2, _⟩ => show (0 + 1) * 1024 ≤ 1024; omega
    | ⟨3, _⟩ => show (0 + 1) * 2048 ≤ 2048; omega
  · rw [show cc0_transform_2 k0_off1_inb numel1_S1 pf i = _ from e i]
    match x with
    | ⟨0, _⟩ => show (0 + 1) * 1 ≤ 2; omega
    | ⟨1, _⟩ => show ((pf 0 (ix1 (i 0)) : BitVec 32).toNat + 1) * 1 ≤ 32; have := h (i 0); omega
    | ⟨2, _⟩ => show (0 + 1) * 1 ≤ 1; omega
    | ⟨3, _⟩ => show (0 + 1) * 2048 ≤ 2048; omega
  · rw [show cc0_transform_3 k0_off1_inb numel1_S1 pf i = _ from e i]
    match x with
    | ⟨0, _⟩ => show (0 + 1) * 1 ≤ 2; omega
    | ⟨1, _⟩ => show ((pf 0 (ix1 (i 0)) : BitVec 32).toNat + 1) * 1 ≤ 32; have := h (i 0); omega
    | ⟨2, _⟩ => show (0 + 1) * 1024 ≤ 1024; omega
    | ⟨3, _⟩ => show (0 + 1) * 1024 ≤ 1024; omega
  · rw [show cc0_transform_4 k0_off1_inb numel1_S1 pf i = _ from e i]
    match x with
    | ⟨0, _⟩ => show (0 + 1) * 1 ≤ 2; omega
    | ⟨1, _⟩ => show ((pf 0 (ix1 (i 0)) : BitVec 32).toNat + 1) * 1 ≤ 32; have := h (i 0); omega
    | ⟨2, _⟩ => show (0 + 1) * 1 ≤ 1; omega
    | ⟨3, _⟩ => show (0 + 1) * 1024 ≤ 1024; omega

/-- The tables as launched, where every block names one of the 32 experts. -/
def InRange : Prop := ∀ (c : Dev nD) (k : Fin 288), (m ((c.tc : Thread nD τ).loc main_arg1) (ix1 k) : BitVec 32).toNat < 32

def tablesOf : pre0.Contents (Elt F) := fun k => V m 0 (pre0.ref k)

def tables (h : InRange m) : (pcfg0 (F := F)).Adm :=
  ⟨tablesOf m, admissible _ fun k => by
    rw [show tablesOf m 0 = m (((0 : Dev nD).tc : Thread nD τ).loc main_arg1) from V_of_ne m 0 main_arg1 (by decide) (by decide)]
    exact h 0 k⟩

theorem tables_eq (h : InRange m) (c : Dev nD) (k) : V m c (pre0.ref k) = (tables m h).1 k := by
  obtain rfl : c = 0 := Subsingleton.elim _ _
  rfl

/-- Admissible tables name one of the 32 experts. -/
theorem expert_lt (k : Fin 288) : (expert a k).toNat < 32 := by
  obtain ⟨h, _⟩ := a.2.1 (fun x => match x with | ⟨0, _⟩ => k)
  have h1 := h 1
  rw [transform] at h1
  have h2 : ((expert a k).toNat + 1) * 1 ≤ 32 := h1
  omega

def expertOf (k : Fin 288) : Fin 32 := ⟨(expert a k).toNat, expert_lt a k⟩

/-- The matrices of point `t`: those of its block's expert. -/
theorem iblk1_apply (c : Dev nD) (t : Fin grid0.N) (y : S1x1x1024x2048.Idx) :
    iblk m a c 1 t y = V m c main_arg3 (ix4 0 (expertOf a (grid0.coords t 0)) (y 2) (y 3)) := by
  unfold iblk
  refine congrArg (V m c main_arg3) (funext fun x => Fin.ext ?_)
  have e := transform a (grid0.coords t)
  match x with
  | ⟨0, _⟩ => show cc0_transform_1 k0_off1_inb numel1_S1 a.1 (grid0.coords t) 0 * 1 + 1 * (y 0).val = 0; rw [e]; show 0 * 1 + 1 * (y 0).val = 0; have h : (y 0).val < 1 := (y 0).isLt; omega
  | ⟨1, _⟩ => show cc0_transform_1 k0_off1_inb numel1_S1 a.1 (grid0.coords t) 1 * 1 + 1 * (y 1).val = (expert a (grid0.coords t 0)).toNat; rw [e]; show (expert a (grid0.coords t 0)).toNat * 1 + 1 * (y 1).val = _; have h : (y 1).val < 1 := (y 1).isLt; omega
  | ⟨2, _⟩ => show cc0_transform_1 k0_off1_inb numel1_S1 a.1 (grid0.coords t) 2 * 1024 + 1 * (y 2).val = (y 2).val; rw [e]; show 0 * 1024 + 1 * (y 2).val = _; omega
  | ⟨3, _⟩ => show cc0_transform_1 k0_off1_inb numel1_S1 a.1 (grid0.coords t) 3 * 2048 + 1 * (y 3).val = (y 3).val; rw [e]; show 0 * 2048 + 1 * (y 3).val = _; omega

/-- The first bias of point `t`. -/
theorem iblk2_apply (c : Dev nD) (t : Fin grid0.N) (y : S1x1x1x2048.Idx) :
    iblk m a c 2 t y = V m c main_v0 (ix4 0 (expertOf a (grid0.coords t 0)) 0 (y 3)) := by
  unfold iblk
  refine congrArg (V m c main_v0) (funext fun x => Fin.ext ?_)
  have e : cc0_transform_2 k0_off1_inb numel1_S1 a.1 (grid0.coords t) = _ := transform a (grid0.coords t)
  match x with
  | ⟨0, _⟩ => show cc0_transform_2 k0_off1_inb numel1_S1 a.1 (grid0.coords t) 0 * 1 + 1 * (y 0).val = 0; rw [e]; show 0 * 1 + 1 * (y 0).val = 0; have h : (y 0).val < 1 := (y 0).isLt; omega
  | ⟨1, _⟩ => show cc0_transform_2 k0_off1_inb numel1_S1 a.1 (grid0.coords t) 1 * 1 + 1 * (y 1).val = (expert a (grid0.coords t 0)).toNat; rw [e]; show (expert a (grid0.coords t 0)).toNat * 1 + 1 * (y 1).val = _; have h : (y 1).val < 1 := (y 1).isLt; omega
  | ⟨2, _⟩ => show cc0_transform_2 k0_off1_inb numel1_S1 a.1 (grid0.coords t) 2 * 1 + 1 * (y 2).val = 0; rw [e]; show 0 * 1 + 1 * (y 2).val = _; have h : (y 2).val < 1 := (y 2).isLt; omega
  | ⟨3, _⟩ => show cc0_transform_2 k0_off1_inb numel1_S1 a.1 (grid0.coords t) 3 * 2048 + 1 * (y 3).val = (y 3).val; rw [e]; show 0 * 2048 + 1 * (y 3).val = _; omega

/-- The second matrices of point `t`. -/
theorem iblk3_apply (c : Dev nD) (t : Fin grid0.N) (y : S1x1x1024x1024.Idx) :
    iblk m a c 3 t y = V m c main_arg5 (ix4 0 (expertOf a (grid0.coords t 0)) (y 2) (y 3)) := by
  unfold iblk
  refine congrArg (V m c main_arg5) (funext fun x => Fin.ext ?_)
  have e : cc0_transform_3 k0_off1_inb numel1_S1 a.1 (grid0.coords t) = _ := transform a (grid0.coords t)
  match x with
  | ⟨0, _⟩ => show cc0_transform_3 k0_off1_inb numel1_S1 a.1 (grid0.coords t) 0 * 1 + 1 * (y 0).val = 0; rw [e]; show 0 * 1 + 1 * (y 0).val = 0; have h : (y 0).val < 1 := (y 0).isLt; omega
  | ⟨1, _⟩ => show cc0_transform_3 k0_off1_inb numel1_S1 a.1 (grid0.coords t) 1 * 1 + 1 * (y 1).val = (expert a (grid0.coords t 0)).toNat; rw [e]; show (expert a (grid0.coords t 0)).toNat * 1 + 1 * (y 1).val = _; have h : (y 1).val < 1 := (y 1).isLt; omega
  | ⟨2, _⟩ => show cc0_transform_3 k0_off1_inb numel1_S1 a.1 (grid0.coords t) 2 * 1024 + 1 * (y 2).val = (y 2).val; rw [e]; show 0 * 1024 + 1 * (y 2).val = _; omega
  | ⟨3, _⟩ => show cc0_transform_3 k0_off1_inb numel1_S1 a.1 (grid0.coords t) 3 * 1024 + 1 * (y 3).val = (y 3).val; rw [e]; show 0 * 1024 + 1 * (y 3).val = _; omega

/-- The second bias of point `t`. -/
theorem iblk4_apply (c : Dev nD) (t : Fin grid0.N) (y : S1x1x1x1024.Idx) :
    iblk m a c 4 t y = V m c main_v1 (ix4 0 (expertOf a (grid0.coords t 0)) 0 (y 3)) := by
  unfold iblk
  refine congrArg (V m c main_v1) (funext fun x => Fin.ext ?_)
  have e : cc0_transform_4 k0_off1_inb numel1_S1 a.1 (grid0.coords t) = _ := transform a (grid0.coords t)
  match x with
  | ⟨0, _⟩ => show cc0_transform_4 k0_off1_inb numel1_S1 a.1 (grid0.coords t) 0 * 1 + 1 * (y 0).val = 0; rw [e]; show 0 * 1 + 1 * (y 0).val = 0; have h : (y 0).val < 1 := (y 0).isLt; omega
  | ⟨1, _⟩ => show cc0_transform_4 k0_off1_inb numel1_S1 a.1 (grid0.coords t) 1 * 1 + 1 * (y 1).val = (expert a (grid0.coords t 0)).toNat; rw [e]; show (expert a (grid0.coords t 0)).toNat * 1 + 1 * (y 1).val = _; have h : (y 1).val < 1 := (y 1).isLt; omega
  | ⟨2, _⟩ => show cc0_transform_4 k0_off1_inb numel1_S1 a.1 (grid0.coords t) 2 * 1 + 1 * (y 2).val = 0; rw [e]; show 0 * 1 + 1 * (y 2).val = _; have h : (y 2).val < 1 := (y 2).isLt; omega
  | ⟨3, _⟩ => show cc0_transform_4 k0_off1_inb numel1_S1 a.1 (grid0.coords t) 3 * 1024 + 1 * (y 3).val = (y 3).val; rw [e]; show 0 * 1024 + 1 * (y 3).val = _; omega

/-- The rows of point `t`: the `t`-th 512. -/
theorem rows_lt (t : Fin grid0.N) (p : Fin 512) : t.val * 512 + p.val < 147456 := by have h : t.val < 288 := t.isLt; omega

theorem rowsIndex : ∀ t : Fin grid0.N, cc0_transform_0 (grid0.coords t) = ![t.val, 0] := by decide +kernel

theorem iblk0_apply (c : Dev nD) (t : Fin grid0.N) (p : Fin 512) (k : Fin 1024) :
    iblk m a c 0 t (ix2 p k) = V m c main_arg0 (ix2 ⟨t.val * 512 + p.val, rows_lt t p⟩ k) := by
  unfold iblk
  refine congrArg (V m c main_arg0) (funext fun x => Fin.ext ?_)
  have e := rowsIndex t
  match x with
  | ⟨0, _⟩ => show cc0_transform_0 (grid0.coords t) 0 * 512 + 1 * p.val = t.val * 512 + p.val; rw [e]; show t.val * 512 + 1 * p.val = _; omega
  | ⟨1, _⟩ => show cc0_transform_0 (grid0.coords t) 1 * 1024 + 1 * k.val = k.val; rw [e]; show 0 * 1024 + 1 * k.val = _; omega

/-- A block in use that is not new has the matrices of the block before. -/
theorem same_blocks (c : Dev nD) {s t : Fin grid0.N} (hu : Used a t) (hn : ¬ New a t) (e : s.val + 1 = t.val) :
    iblk m a c 1 s = iblk m a c 1 t ∧ iblk m a c 3 s = iblk m a c 3 t := by
  have hw : expert a (grid0.coords t 0) = expert a (prev (grid0.coords t 0)) := by
    by_contra h; exact hn ⟨hu, .inr h⟩
  have hp : prev (grid0.coords t 0) = grid0.coords s 0 := Fin.ext (by
    show (grid0.coords t 0).val - 1 = (grid0.coords s 0).val
    rw [position, position]; omega)
  have he : expertOf a (grid0.coords s 0) = expertOf a (grid0.coords t 0) := Fin.ext (by
    show (expert a _).toNat = (expert a _).toNat; rw [hw, hp])
  constructor
  · funext y
    refine (iblk1_apply m a c s y).trans ?_
    rw [he]; exact (iblk1_apply m a c t y).symm
  · funext y
    refine (iblk3_apply m a c s y).trans ?_
    rw [he]; exact (iblk3_apply m a c t y).symm

end Cert.Kernel3Ideal.Experts

end
-- ==== Proof.Experts.Run.lean ====
/- The expert launch's run: the pipeline's proof data with the scratch buffers tracked from block to block, the body obligation
   at every grid point, and the run of @main. -/
module

public import proofs.«01_k».proof.Proof.Experts.Tables

@[expose] public section

set_option maxRecDepth 16384

noncomputable section

namespace Cert.Kernel3Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-- What the scratch buffers hold after point `t`'s block, if that is in use: its expert's matrices, narrowed. -/
def upAt (c : Dev nD) (t : Fin grid0.N) : Vec F S1024x2048 .bf16 := View.canon [⟨rUp, up (iblk m a c 1 t)⟩]
def downAt (c : Dev nD) (t : Fin grid0.N) : Vec F S1024x1024 .bf16 := View.canon [⟨rDown, down (iblk m a c 3 t)⟩]

theorem ld_upAt (c : Dev nD) (t : Fin grid0.N) : View.ld (upAt m a c t) rUp = up (iblk m a c 1 t) := by
  unfold upAt rUp
  rw [View.canon_unit_zero (S := S1024x2048) (funext fun x => by fin_cases x <;> rfl),
    View.ld_unit_zero (S := S1024x2048) (funext fun x => by fin_cases x <;> rfl)]
theorem ld_downAt (c : Dev nD) (t : Fin grid0.N) : View.ld (downAt m a c t) rDown = down (iblk m a c 3 t) := by
  unfold downAt rDown
  rw [View.canon_unit_zero (S := S1024x1024) (funext fun x => by fin_cases x <;> rfl),
    View.ld_unit_zero (S := S1024x1024) (funext fun x => by fin_cases x <;> rfl)]

/-- The output block of point `t`: of a block in use its rows through its expert's matrices, of another zeros. -/
def outAt (c : Dev nD) (t : Fin grid0.N) : Vec F S512x1024 .f32 :=
  if Used a t then View.canon [⟨rOut, out (iblk m a c 0 t) (up (iblk m a c 1 t)) (iblk m a c 2 t) (down (iblk m a c 3 t)) (iblk m a c 4 t)⟩]
  else View.canon [⟨rOut, k0_pay3 (F := F)⟩]

/-- Before position `t` the scratch buffers hold the matrices of the block before it, if that is in use. -/
def Held (c : Dev nD) (t : ℕ) (u : Vec F S1024x2048 .bf16) (d : Vec F S1024x1024 .bf16) : Prop :=
  ∀ s : Fin grid0.N, s.val + 1 = t → Used a s → u = upAt m a c s ∧ d = downAt m a c s

/-- The body's invariant: the two tables, the two scratch buffers with what they hold, the generator's register. -/
def inv (c : Dev nD) (t : ℕ) : sProp 𝕄 :=
  iprop((((Memref.whole main_arg1).view.loc (c : Thread nD τ) ↦{fullShare.right} T1 a c) ∗ ((Memref.whole main_arg2).view.loc (c : Thread nD τ) ↦{fullShare.right} T2 a c))
    ∗ (∃ u d, owns (c : Thread nD τ) (Memref.whole cc0_scratch0) fullShare u ∗ owns (c : Thread nD τ) (Memref.whole cc0_scratch1) fullShare d ∗ ⌜Held m a c t u d⌝)
    ∗ ∃ r, prngReg c r)

/-- The pipeline's proof data. -/
def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => outAt m a c t
  Φ t := inv m a c t.val
  q _ := fullShare
  owed _ := 0

theorem A_eq (c : Dev nD) (w : Fin (cfg0 a).W) : (dats m a 0 c).A w = V m c (Pipeline.arrRef spec0 w) := by dsimp only [dats]
theorem after0 (c : Dev nD) (t : Fin (cfg0 a).N) : (dats m a 0 c).after 0 t = iblk m a c 0 t := rfl
theorem after1 (c : Dev nD) (t : Fin (cfg0 a).N) : (dats m a 0 c).after 1 t = iblk m a c 1 t := rfl
theorem after2 (c : Dev nD) (t : Fin (cfg0 a).N) : (dats m a 0 c).after 2 t = iblk m a c 2 t := rfl
theorem after3 (c : Dev nD) (t : Fin (cfg0 a).N) : (dats m a 0 c).after 3 t = iblk m a c 3 t := rfl
theorem after4 (c : Dev nD) (t : Fin (cfg0 a).N) : (dats m a 0 c).after 4 t = iblk m a c 4 t := rfl
theorem after5 (c : Dev nD) (t : Fin (cfg0 a).N) : (dats m a 0 c).after 5 t = outAt m a c t := rfl

/-- An input's staging buffer holds its block at every point. -/
theorem before0 (c : Dev nD) (t : Fin (cfg0 a).N) (d) : (dats m a 0 c).before 0 t d = iblk m a c 0 t :=
  ((dats m a 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 a).N) (d) : (dats m a 0 c).before 1 t d = iblk m a c 1 t :=
  ((dats m a 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 a).N) (d) : (dats m a 0 c).before 2 t d = iblk m a c 2 t :=
  ((dats m a 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfg0 a).N) (d) : (dats m a 0 c).before 3 t d = iblk m a c 3 t :=
  ((dats m a 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfg0 a).N) (d) : (dats m a 0 c).before 4 t d = iblk m a c 4 t :=
  ((dats m a 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- Point `t`'s staging buffers and the body on them. -/
abbrev st0 (t : Fin (cfg0 a).N) := ((cfg0 a).win 0).stage ((cfg0 a).slots t 0)
abbrev st1 (t : Fin (cfg0 a).N) := ((cfg0 a).win 1).stage ((cfg0 a).slots t 1)
abbrev st2 (t : Fin (cfg0 a).N) := ((cfg0 a).win 2).stage ((cfg0 a).slots t 2)
abbrev st3 (t : Fin (cfg0 a).N) := ((cfg0 a).win 3).stage ((cfg0 a).slots t 3)
abbrev st4 (t : Fin (cfg0 a).N) := ((cfg0 a).win 4).stage ((cfg0 a).slots t 4)
abbrev st5 (t : Fin (cfg0 a).N) := ((cfg0 a).win 5).stage ((cfg0 a).slots t 5)
abbrev bodyAt (t : Fin (cfg0 a).N) : Prog (TpuEff nD τ sig (Elt F) Λ₀ .tc) PUnit :=
  cc0_experts (grid0.coords t) (Memref.whole main_arg1) (Memref.isWhole_whole _) (Memref.whole main_arg2) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    (spec0_4.stage ((cfg0 a).slots t 4)) (hstage0_4 (((cfg0 a).slots t 4).cast nbuf0_4)) (spec0_5.stage ((cfg0 a).slots t 5)) (hstage0_5 (((cfg0 a).slots t 5).cast nbuf0_5))
    (Memref.whole cc0_scratch0) (Memref.isWhole_whole _) (Memref.whole cc0_scratch1) (Memref.isWhole_whole _)

/-- What the body is called with at point `t`: every input's buffer at its block, the output's at anything, -/
def pre (c : Dev nD) (t : Fin (cfg0 a).N) : sProp 𝕄 :=
  iprop((dats m a 0 c).Φ t.castSucc ∗ (dats m a 0 c).owesAt () t.castSucc
    ∗ (∃ d, owns (c : Thread nD τ) (st0 a t) fullShare ((dats m a 0 c).before 0 t d))
    ∗ (∃ d, owns (c : Thread nD τ) (st1 a t) fullShare ((dats m a 0 c).before 1 t d))
    ∗ (∃ d, owns (c : Thread nD τ) (st2 a t) fullShare ((dats m a 0 c).before 2 t d))
    ∗ (∃ d, owns (c : Thread nD τ) (st3 a t) fullShare ((dats m a 0 c).before 3 t d))
    ∗ (∃ d, owns (c : Thread nD τ) (st4 a t) fullShare ((dats m a 0 c).before 4 t d))
    ∗ (∃ d, owns (c : Thread nD τ) (st5 a t) fullShare ((dats m a 0 c).before 5 t d)))

/-- and what it returns. -/
def post (c : Dev nD) (t : Fin (cfg0 a).N) : sProp 𝕄 :=
  iprop((dats m a 0 c).Φ t.succ ∗ (dats m a 0 c).owesAt () t.succ
    ∗ owns (c : Thread nD τ) (st0 a t) fullShare ((dats m a 0 c).after 0 t)
    ∗ owns (c : Thread nD τ) (st1 a t) fullShare ((dats m a 0 c).after 1 t)
    ∗ owns (c : Thread nD τ) (st2 a t) fullShare ((dats m a 0 c).after 2 t)
    ∗ owns (c : Thread nD τ) (st3 a t) fullShare ((dats m a 0 c).after 3 t)
    ∗ owns (c : Thread nD τ) (st4 a t) fullShare ((dats m a 0 c).after 4 t)
    ∗ owns (c : Thread nD τ) (st5 a t) fullShare ((dats m a 0 c).after 5 t))

/-- The next block finds the matrices of this one. -/
theorem held_next (c : Dev nD) (t : Fin grid0.N) : Held m a c (t.val + 1) (upAt m a c t) (downAt m a c t) := fun s e _ => by
  obtain rfl : s = t := Fin.ext (by omega)
  exact ⟨rfl, rfl⟩

/-- A block in use that is not new finds its matrices held. -/
theorem held_here (c : Dev nD) (t : Fin grid0.N) (hu : Used a t) (hn : ¬ New a t) {u d} (h : Held m a c t.val u d) :
    u = upAt m a c t ∧ d = downAt m a c t := by
  have h0 : t.val ≠ 0 := fun e => hn ⟨hu, .inl e⟩
  have hlt : t.val < grid0.N := t.isLt
  obtain ⟨s, e⟩ : ∃ s : Fin grid0.N, s.val + 1 = t.val := ⟨⟨t.val - 1, by omega⟩, by show t.val - 1 + 1 = t.val; omega⟩
  obtain ⟨h1, h3⟩ := same_blocks m a c hu hn e
  obtain ⟨hu', hd'⟩ := h s e (hu.pred a e)
  subst hu' hd'
  unfold upAt downAt
  exact ⟨congrArg (fun x => View.canon [⟨rUp, up x⟩]) h1, congrArg (fun x => View.canon [⟨rDown, down x⟩]) h3⟩

/-- The body at any point. -/
theorem body_at (c : Dev nD) (t : Fin (cfg0 a).N) :
    pre m a c t ⊢ wp frame (wpE (defs₀ (F := F)) Variants.none c none) Set.univ (bodyAt a t) (fun _ => post m a c t) := by
  unfold pre post bodyAt
  simp only [before0 m a c t, before1 m a c t, before2 m a c t, before3 m a c t, before4 m a c t]
  rw [show (dats m a 0 c).Φ t.succ = inv m a c (t.val + 1) from rfl, show (dats m a 0 c).Φ t.castSucc = inv m a c t.val from rfl,
    show (dats m a 0 c).owesAt () t.succ = (dats m a 0 c).owesAt () t.castSucc from rfl,
    after0, after1, after2, after3, after4, after5]
  unfold inv
  iintro ⟨⟨⟨HT1, HT2⟩, ⟨%u, %d, Hu, Hd, %hheld⟩, Hr⟩, Ho, ⟨%d0, H0⟩, ⟨%d1, H1⟩, ⟨%d2, H2⟩, ⟨%d3, H3⟩, ⟨%d4, H4⟩, ⟨%d5, H5⟩⟩
  by_cases hu : Used a t
  · have h2 := (used_cond2 a c t).mpr hu
    have h3 : ¬ _ := fun h => (used_cond3 a c t).mp h hu
    rw [show outAt m a c t = View.canon [⟨rOut, out (iblk m a c 0 t) (up (iblk m a c 1 t)) (iblk m a c 2 t) (down (iblk m a c 3 t)) (iblk m a c 4 t)⟩] from if_pos hu]
    by_cases hn : New a t
    · have hf := (new_fresh a c t).mpr hn
      iapply (freshAt (grid0.coords t) c Set.univ (T1 a c) (T2 a c) fullShare.right hf h2 h3 _ _ _ _ _ _ _ _ _ _ _ _
        (iblk m a c 0 t) (iblk m a c 1 t) (iblk m a c 2 t) (iblk m a c 3 t) (iblk m a c 4 t) _)
      isplitl [HT1]; · iexact HT1
      isplitl [HT2]; · iexact HT2
      isplitl [H0]; · iexact H0
      isplitl [H1]; · iexact H1
      isplitl [H2]; · iexact H2
      isplitl [H3]; · iexact H3
      isplitl [H4]; · iexact H4
      isplitl [Hu]; · iexists _; iexact Hu
      isplitl [Hd]; · iexists _; iexact Hd
      isplitl [H5]; · iexists _; iexact H5
      iintro ⟨HT1, HT2, H0, H1, H2, H3, H4, Hu, Hd, H5⟩
      isplitl [HT1 HT2 Hu Hd Hr]
      · isplitl [HT1 HT2]
        · isplitl [HT1]; · iexact HT1
          iexact HT2
        isplitl [Hu Hd]
        · iexists (upAt m a c t), (downAt m a c t)
          isplitl [Hu]; · iexact Hu
          isplitl [Hd]; · iexact Hd
          ipureintro; exact held_next m a c t
        iexact Hr
      isplitl [Ho]; · iexact Ho
      isplitl [H0]; · iexact H0
      isplitl [H1]; · iexact H1
      isplitl [H2]; · iexact H2
      isplitl [H3]; · iexact H3
      isplitl [H4]; · iexact H4
      iexact H5
    · have hf : ¬ _ := fun h => hn ((new_fresh a c t).mp h)
      obtain ⟨rfl, rfl⟩ := held_here m a c t hu hn hheld
      rw [← ld_upAt m a c t, ← ld_downAt m a c t]
      iapply (keptAt (grid0.coords t) c Set.univ (T1 a c) (T2 a c) fullShare.right hf h2 h3 _ _ _ (hstage0_1 (((cfg0 a).slots t 1).cast nbuf0_1)) _ _ _ (hstage0_3 (((cfg0 a).slots t 3).cast nbuf0_3)) _ _ _ _
        (iblk m a c 0 t) (iblk m a c 2 t) (iblk m a c 4 t) (upAt m a c t) (downAt m a c t) _)
      isplitl [HT1]; · iexact HT1
      isplitl [HT2]; · iexact HT2
      isplitl [H0]; · iexact H0
      isplitl [H2]; · iexact H2
      isplitl [H4]; · iexact H4
      isplitl [Hu]; · iexact Hu
      isplitl [Hd]; · iexact Hd
      isplitl [H5]; · iexists _; iexact H5
      iintro ⟨HT1, HT2, H0, H2, H4, Hu, Hd, H5⟩
      isplitl [HT1 HT2 Hu Hd Hr]
      · isplitl [HT1 HT2]
        · isplitl [HT1]; · iexact HT1
          iexact HT2
        isplitl [Hu Hd]
        · iexists (upAt m a c t), (downAt m a c t)
          isplitl [Hu]; · iexact Hu
          isplitl [Hd]; · iexact Hd
          ipureintro; exact held_next m a c t
        iexact Hr
      isplitl [Ho]; · iexact Ho
      isplitl [H0]; · iexact H0
      isplitl [H1]; · iexact H1
      isplitl [H2]; · iexact H2
      isplitl [H3]; · iexact H3
      isplitl [H4]; · iexact H4
      iexact H5
  · have h2 : ¬ _ := fun h => hu ((used_cond2 a c t).mp h)
    have h3 := (used_cond3 a c t).mpr hu
    have hf : ¬ _ := fun h => hu ((new_fresh a c t).mp h).1
    rw [show outAt m a c t = View.canon [⟨rOut, k0_pay3 (F := F)⟩] from if_neg hu]
    iapply (unusedAt (grid0.coords t) c Set.univ (T1 a c) (T2 a c) fullShare.right hf h2 h3 _ (hstage0_0 (((cfg0 a).slots t 0).cast nbuf0_0)) _ (hstage0_1 (((cfg0 a).slots t 1).cast nbuf0_1))
      _ (hstage0_2 (((cfg0 a).slots t 2).cast nbuf0_2)) _ (hstage0_3 (((cfg0 a).slots t 3).cast nbuf0_3)) _ (hstage0_4 (((cfg0 a).slots t 4).cast nbuf0_4)) _ _ _)
    isplitl [HT1]; · iexact HT1
    isplitl [HT2]; · iexact HT2
    isplitl [H5]; · iexists _; iexact H5
    iintro ⟨HT1, HT2, H5⟩
    isplitl [HT1 HT2 Hu Hd Hr]
    · isplitl [HT1 HT2]
      · isplitl [HT1]; · iexact HT1
        iexact HT2
      isplitl [Hu Hd]
      · iexists u, d
        isplitl [Hu]; · iexact Hu
        isplitl [Hd]; · iexact Hd
        ipureintro
        intro s e hs
        obtain rfl : s = t := Fin.ext (by omega)
        exact absurd hs hu
      iexact Hr
    isplitl [Ho]; · iexact Ho
    isplitl [H0]; · iexact H0
    isplitl [H1]; · iexact H1
    isplitl [H2]; · iexact H2
    isplitl [H3]; · iexact H3
    isplitl [H4]; · iexact H4
    iexact H5

/-- The body table's row at point `t` is the body on the point's staging buffers. -/
theorem row (t : Fin (cfg0 a).N) : defs₀ (F := F) .tc (cfg0 a).body ((cfg0 a).bodyArgs t ((cfg0 a).slots t)) = bodyAt a t := by
  unfold defs₀; rw [Defs.onTc_tc]

/-- The library's body obligation at every point. -/
theorem obligation (c : Dev nD) : BodyObligation (dats (F := F) m a 0 c) (defs₀ (F := F)) Variants.none () Set.univ := fun t => by
  rw [bigSep_W0, row]
  refine triple_restated (body_at m a c t) rfl .rfl fun _ => ?_
  rw [bigSep_W0, idle_out]
  exact .rfl

theorem bigSep_two {M : Type} [URA M] (Φ : Fin 2 → sProp M) : bigSep Finset.univ Φ = iprop(Φ (0 : Fin 2) ∗ Φ (1 : Fin 2)) :=
  bigSep_univ_eq_bigSepL [(0 : Fin 2), 1] (by decide) (by decide) Φ

/-- The region hands over the tables and scratch buffers at anything, -/
theorem enter (c : Dev nD) : iprop(Pipeline.ΦA spec0 c ∗ Pipeline.ΦT pre0 a.1 c) ⊢ (dats m a 0 c).Φ 0 := by
  rw [show (dats m a 0 c).Φ 0 = inv m a c 0 from rfl]
  unfold Pipeline.ΦA Pipeline.ΦT Pipeline.prefHeld inv
  rw [scopedRest0_eq, bigSep_two]
  iintro ⟨⟨⟨⟨%u, Hu⟩, ⟨%d, Hd⟩⟩, Hr⟩, HT1, HT2⟩
  isplitl [HT1 HT2]
  · isplitl [HT1]; · iexact HT1
    iexact HT2
  isplitl [Hu Hd]
  · iexists u, d
    isplitl [Hu]; · rw [owns_whole]; iexact Hu
    isplitl [Hd]; · rw [owns_whole]; iexact Hd
    ipureintro; intro s e _; exact absurd e (by omega)
  iexact Hr

/-- and takes the scratch buffers back at anything. -/
theorem leave (c : Dev nD) : (dats m a 0 c).Φ (Fin.last (cfg0 a).N) ⊢ Pipeline.ΦA spec0 c := by
  rw [show (dats m a 0 c).Φ (Fin.last (cfg0 a).N) = inv m a c (cfg0 a).N from rfl]
  unfold Pipeline.ΦA inv
  rw [scopedRest0_eq]
  simp only [owns_whole]
  iintro ⟨-, ⟨%u, %d, Hu, Hd, -⟩, Hr⟩
  isplitl [Hu Hd]
  · isplitl [Hu]; · iexists u; iexact Hu
    iexists d; iexact Hd
  iexact Hr

set_option backward.isDefEq.respectTransparency.types false in
set_option maxHeartbeats 800000 in
/-- @main runs to its end, where the tables are the admissible contents: every array of the pipeline at what the proof data
    give, every other buffer as the region found it, every semaphore counter at zero. -/
theorem run_main (ha : ∀ c k, V m c (pre0.ref k) = a.1 k) : θ_run defs (onTc (τ := τ) (main (F := F))) (s₀ m ρ)
    (fun r => (Pipeline.FramePost (Pipeline.pin pcfgs fun _ => a) (dats m a) 0 (V m)) r ∧ r.2.sem = fun _ => 0) :=
  Pipeline.θ_run_frameP_track (Q' := _) pcfgs (fun _ => a) (dats m a) (0 : Fin 1) launch0 defs₀ Variants.none m ρ main
    (hbody := fun c => (obligation m a c).loose) (hshare := fun c => (dats m a 0 c).share_full fun _ => rfl)
    (howed := fun _ _ => rfl) (V := V m) (hmain := hmain m Variants.none) (hA := A_eq m a) (hpf := ha)
    (hin := enter m a) (hout := leave m a)

/-- What the frame claims, at any `F`: the arguments end unchanged and the counters at zero. -/
def Unchanged (r : PUnit × MemSt nD τ sig (Elt F)) : Prop :=
  (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0

theorem unchanged_of (r) (h : Pipeline.FramePost (Pipeline.pin pcfgs fun _ => a) (dats m a) 0 (V m) r ∧ r.2.sem = fun _ => 0) : Unchanged m r := by
  have kept : ∀ (c : Dev nD) (b : Ref sig .tc) (hs : b.isScoped = false) (hw : ∀ w, (spec0 w).arr.view.ref ≠ b) (h0 : b ≠ main_v0) (h1 : b ≠ main_v1),
      r.2.mem ((c.tc : Thread nD τ).loc b) = m ((c.tc : Thread nD τ).loc b) := fun c b hs hw h0 h1 =>
    ((h.1 c).2 b (Pipeline.mem_restRefs_of b hs hw)).trans (V_of_ne m c b h0 h1)
  refine ⟨fun c => ⟨?_, kept c main_arg1 (by decide) (by decide) (by decide) (by decide), kept c main_arg2 (by decide) (by decide) (by decide) (by decide), ?_,
    kept c main_arg4 (by decide) (by decide) (by decide) (by decide), ?_, kept c main_arg6 (by decide) (by decide) (by decide) (by decide)⟩, h.2⟩
  · exact ((h.1 c).1 0).trans (((dats m a 0 c).arrAt_in 0 rfl _).trans ((A_eq m a c 0).trans (V_of_ne m c main_arg0 (by decide) (by decide))))
  · exact ((h.1 c).1 1).trans (((dats m a 0 c).arrAt_in 1 rfl _).trans ((A_eq m a c 1).trans (V_of_ne m c main_arg3 (by decide) (by decide))))
  · exact ((h.1 c).1 3).trans (((dats m a 0 c).arrAt_in 3 rfl _).trans ((A_eq m a c 3).trans (V_of_ne m c main_arg5 (by decide) (by decide))))

theorem unchanged (h : InRange m) : θ_run defs (onTc (τ := τ) (main (F := F))) ⟨m, fun _ => 0, ρ⟩ (Unchanged m) :=
  (θ_run defs _ _).mono (fun r hr => unchanged_of m (tables m h) r hr) (run_main m ρ (tables m h) (tables_eq m h))

end Cert.Kernel3Ideal.Experts

end
-- ==== Proof.Experts.Value.lean ====
/- The experts' launch: its result array, block by block. -/
module

public import proofs.«01_k».proof.Proof.Experts.Cells
public import proofs.«01_k».proof.Proof.Experts.Run

@[expose] public section

set_option maxRecDepth 16384

noncomputable section

namespace Cert.Kernel3Ideal.Experts

open Idealize.ShloMosaic Idealize.ShloMosaic.TcCoe Idealize.ShloMosaic.Tactic
open Idealize.ShloMosaic.Pipeline (Dat Cfg Window)
open Cert.Kernel3Ideal Cert.Kernel3Ideal.Gen Cert.Experts

variable (m : (ℓ : Loc nD τ sig) → Buf (Elt Ideal) ℓ) (a : (pcfg0 (F := Ideal)).Adm) (c : Dev nD)

/-- The biases the region finds: the arguments', one row per expert. -/
theorem up_biases (e : Fin 32) (j : Fin 2048) : V m c main_v0 (ix4 0 e 0 j) = m ((c : Thread nD τ).loc main_arg4) (ix3 0 e j) := by
  entry_read
  pointwise
theorem down_biases (e : Fin 32) (j : Fin 1024) : V m c main_v1 (ix4 0 e 0 j) = m ((c : Thread nD τ).loc main_arg6) (ix3 0 e j) := by
  entry_read
  pointwise

/-- What the launch gives at place `p` of block `t`, column `q`. -/
def cell (t : Fin grid0.N) (p : Fin 512) (q : Fin 1024) : EReal :=
  answer (m ((c : Thread nD τ).loc main_arg0)) (blocksInUse a) (m ((c : Thread nD τ).loc main_arg3)) (m ((c : Thread nD τ).loc main_arg4)) (m ((c : Thread nD τ).loc main_arg5))
    (m ((c : Thread nD τ).loc main_arg6)) (expertOf a t) t p q

/-- A point's stored block, cell by cell. -/
theorem outAt_cell (t : Fin grid0.N) (p : Fin 512) (q : Fin 1024) : outAt m a c t (ix2 p q) = cell m a c t p q := by
  have ht : grid0.coords t 0 = t := Fin.ext (position t)
  unfold outAt cell answer
  by_cases h : Used a t
  · rw [if_pos h]
    refine Eq.trans ?_ (if_pos h).symm
    unfold rOut
    rw [View.canon_unit_zero (S := S512x1024) (funext fun x => by fin_cases x <;> rfl)]
    refine (out_cell _ _ _ _ _ p q).trans ?_
    have e0 : ∀ k : Fin 1024, iblk m a c 0 t (ix2 p k) = m ((c : Thread nD τ).loc main_arg0) (ix2 ⟨t.val * 512 + p.val, rows_lt t p⟩ k) :=
      fun k => (iblk0_apply m a c t p k).trans (congrFun (V_of_ne m c main_arg0 (by decide) (by decide)) _)
    have e1 : ∀ (k : Fin 1024) (j : Fin 2048), iblk m a c 1 t (ix4 0 0 k j) = m ((c : Thread nD τ).loc main_arg3) (ix4 0 (expertOf a t) k j) :=
      fun k j => (iblk1_apply m a c t _).trans ((congrFun (V_of_ne m c main_arg3 (by decide) (by decide)) _).trans (by rw [ht]; rfl))
    have e2 : ∀ (j : Fin 2048), iblk m a c 2 t (ix4 0 0 0 j) = m ((c : Thread nD τ).loc main_arg4) (ix3 0 (expertOf a t) j) :=
      fun j => (iblk2_apply m a c t _).trans ((up_biases m c _ _).trans (by rw [ht]; rfl))
    have e3 : ∀ (f : Fin 1024) (q : Fin 1024), iblk m a c 3 t (ix4 0 0 f q) = m ((c : Thread nD τ).loc main_arg5) (ix4 0 (expertOf a t) f q) :=
      fun k j => (iblk3_apply m a c t _).trans ((congrFun (V_of_ne m c main_arg5 (by decide) (by decide)) _).trans (by rw [ht]; rfl))
    have e4 : ∀ (j : Fin 1024), iblk m a c 4 t (ix4 0 0 0 j) = m ((c : Thread nD τ).loc main_arg6) (ix3 0 (expertOf a t) j) :=
      fun j => (iblk4_apply m a c t _).trans ((down_biases m c _ _).trans (by rw [ht]; rfl))
    exact through_congr e0 e1 e2 e3 e4 q
  · rw [if_neg h]
    refine Eq.trans ?_ (if_neg h).symm
    unfold rOut
    rw [View.canon_unit_zero (S := S512x1024) (funext fun x => by fin_cases x <;> rfl)]
    exact zeros_cell p q

/-- The same at a row of the whole array. -/
def rowCell (r j : ℕ) : EReal := if h : r < 147456 ∧ j < 1024 then cell m a c ⟨r / 512, by have := h.1; show r / 512 < 288; omega⟩ ⟨r % 512, by omega⟩ ⟨j, h.2⟩ else 0

theorem rowCell_eq (t : Fin grid0.N) (p : Fin 512) (q : Fin 1024) : rowCell m a c (t.val * 512 + p.val) q.val = cell m a c t p q := by
  unfold rowCell
  rw [dif_pos ⟨rows_lt t p, q.isLt⟩]
  congr 1
  · exact Fin.ext (by show (t.val * 512 + p.val) / 512 = t.val; omega)
  · exact Fin.ext (by show (t.val * 512 + p.val) % 512 = p.val; omega)

/-- The result's blocks, one after the other. -/
theorem resultIndex : ∀ t : Fin grid0.N, cc0_transform_5 (grid0.coords t) = ![t.val, 0] := by decide +kernel

theorem index5 (t : Fin grid0.N) : ((cfg0 a).win 5).index t = (![t.val, 0] : Fin 2 → ℕ) := resultIndex t

theorem flush5 (t : Fin grid0.N) : ((cfg0 a).win 5).flush t = true := by
  unfold Pipeline.Window.flush
  refine Bool.and_eq_true_iff.mpr ⟨rfl, ?_⟩
  by_cases h : t.val + 1 < grid0.N
  · refine Bool.or_eq_true_iff.mpr (.inr (decide_eq_true ⟨h, fun e => ?_⟩))
    have h1 : t.val + 1 = t.val := congrFun ((index5 a ⟨t.val + 1, h⟩).symm.trans (e.trans (index5 a t))) (0 : Fin 2)
    omega
  · have : t.val < grid0.N := t.isLt
    exact Bool.or_eq_true_iff.mpr (.inl (decide_eq_true (Nat.le_antisymm this (Nat.not_lt.mp h))))

theorem covers : ((cfg0 a).win 5).Covers := by
  refine ⟨fun x => ?_, fun β => ?_⟩
  · match x with
    | ⟨0, _⟩ => exact (by decide : 0 < 512)
    | ⟨1, _⟩ => exact (by decide : 0 < 1024)
  · have h0 : (β (0 : Fin 2)).val < 288 := lt_of_lt_of_eq (β (0 : Fin 2)).isLt (by decide : (147456 + 512 - 1) / 512 = 288)
    have h1 : (β (1 : Fin 2)).val < 1 := lt_of_lt_of_eq (β (1 : Fin 2)).isLt (by decide : (1024 + 1024 - 1) / 1024 = 1)
    refine ⟨⟨(β (0 : Fin 2)).val, h0⟩, flush5 a _, fun x => ⟨?_, .inl ?_⟩⟩
    · rw [index5]
      match x with
      | ⟨0, _⟩ => rfl
      | ⟨1, _⟩ => show 0 = (β (1 : Fin 2)).val; omega
    · rfl

theorem emb5 (t : Fin grid0.N) (p : Fin 512) (q : Fin 1024) :
    (((cfg0 a).win 5).blk t).view.emb (ix2 p q) = (ix2 (⟨t.val * 512 + p.val, rows_lt t p⟩ : Fin 147456) q : S147456x1024.Idx) := by
  refine funext fun x => Fin.ext ?_
  have e := resultIndex t
  match x with
  | ⟨0, _⟩ =>
    show cc0_transform_5 (grid0.coords t) 0 * 512 + 1 * p.val = _
    rw [e, one_mul]; rfl
  | ⟨1, _⟩ =>
    show cc0_transform_5 (grid0.coords t) 1 * 1024 + 1 * q.val = _
    rw [e, one_mul]; exact Nat.zero_add _

theorem array_at : (dats m a 0 c).arrAt 5 (cfg0 a).N = fun y : S147456x1024.Idx => rowCell m a c (y 0).val (y 1).val := by
  refine (dats m a 0 c).arrAt_eq_of_covers 5 _ (covers a) fun t hf y => ?_
  obtain ⟨p, q, rfl⟩ : ∃ (p : Fin 512) (q : Fin 1024), y = ix2 p q := ⟨y (0 : Fin 2), y (1 : Fin 2), by
    funext x
    match x with
    | ⟨0, _⟩ => rfl
    | ⟨1, _⟩ => rfl⟩
  rw [emb5]
  refine Eq.trans (b := outAt m a c t (ix2 p q)) rfl ((outAt_cell m a c t p q).trans ?_)
  exact (rowCell_eq m a c t p q).symm

theorem array (t : Fin grid0.N) (p : Fin 512) (q : Fin 1024) :
    (dats m a 0 c).arrAt 5 (cfg0 a).N (ix2 (⟨t.val * 512 + p.val, rows_lt t p⟩ : Fin 147456) q) = cell m a c t p q :=
  (congrFun (array_at m a c) _).trans (rowCell_eq m a c t p q)

end Cert.Kernel3Ideal.Experts

end
-- ==== Proof.Experts.Reference.lean ====
/- The plain experts of the reference program: every block's matrices looked up, the blocks through them, the unused ones zero. -/
module

public import proofs.«01_k».proof.Proof.Experts.Cells
public import proofs.«01_k».proof.Proof.Gen.Reference3Ideal
public import proofs.«01_k».proof.Proof.Gen.Reference3Ideal.Run
public import Idealize.ShloMosaic.Lib.Routing.Ops

@[expose] public section

set_option maxRecDepth 16384

noncomputable section

namespace Cert.Experts

open Idealize.ShloMosaic Idealize.ShloMosaic.TcCoe Idealize.ShloMosaic.Tactic

/-- Looking up whole matrices: the numbers of `R` matrices out of `N`. -/
abbrev pages (N A B R : ℕ) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- A looked-up matrix read at a place is the table's matrix of that number read there. -/
theorem page {N A B R : ℕ} (wf : GatherDims.WF ⟨3, ![N, A, B]⟩ ⟨2, ![R, 1]⟩ ⟨3, ![R, A, B]⟩ [1, 2] [0] [] [0] [] 1 ![1, A, B])
    (x : (⟨3, ![N, A, B]⟩ : Shape).Idx → EReal) (i : IVec ⟨2, ![R, 1]⟩ 32) (r : Fin R) (k : Fin A) (j : Fin B) (e : Fin N)
    (he : (i (ix2 r 0)).toInt.toNat = e.val) : Host.gather (pages N A B R wf) x i (ix3 r k j) = x (ix3 e k j) := by
  unfold Host.gather
  refine congrArg x (funext fun a => Fin.ext ?_)
  match a with
  | ⟨0, _⟩ =>
    show (pages N A B R wf).start (ix3 r k j) i (0 : Fin 3) + (pages N A B R wf).batchCoord (ix3 r k j) (0 : Fin 3) + (pages N A B R wf).offCoord (ix3 r k j) (0 : Fin 3) = e.val
    rw [GatherDims.batchCoord_eq_zero _ _ _ List.not_mem_nil]
    rw [GatherDims.offCoord_eq_zero _ _ _ (fun h => ((GatherDims.mem_sKept _ _).mp h).1 (List.mem_singleton.mpr rfl))]
    unfold GatherDims.start
    rw [dif_pos (show (0 : Fin 3) ∈ (pages N A B R wf).startIndexMap from List.mem_singleton.mpr rfl)]
    have hs : (pages N A B R wf).siIdx (ix3 r k j) ⟨List.idxOf (0 : Fin 3) (pages N A B R wf).startIndexMap, List.idxOf_lt_length_iff.2 (List.mem_singleton.mpr rfl)⟩ = ix2 r 0 := by
      funext b
      match b with
      | ⟨0, _⟩ => rfl
      | ⟨1, _⟩ => rfl
    show min (i ((pages N A B R wf).siIdx (ix3 r k j) ⟨List.idxOf (0 : Fin 3) (pages N A B R wf).startIndexMap, _⟩)).toInt.toNat (N - 1) + 0 + 0 = e.val
    rw [hs, he]
    have := e.isLt
    omega
  | ⟨1, _⟩ =>
    show (pages N A B R wf).start (ix3 r k j) i (1 : Fin 3) + (pages N A B R wf).batchCoord (ix3 r k j) (1 : Fin 3) + (pages N A B R wf).offCoord (ix3 r k j) (1 : Fin 3) = k.val
    rw [GatherDims.batchCoord_eq_zero _ _ _ List.not_mem_nil]
    unfold GatherDims.start
    rw [dif_neg (show (1 : Fin 3) ∉ (pages N A B R wf).startIndexMap from (by decide : (1 : Fin 3) ∉ ([0] : List (Fin 3))))]
    unfold GatherDims.offCoord
    rw [dif_pos ((GatherDims.mem_sKept _ _).mpr ⟨(by decide : (1 : Fin 3) ∉ ([0] : List (Fin 3))), List.not_mem_nil⟩)]
    show 0 + 0 + _ = k.val
    rw [zero_add, zero_add]
    rfl
  | ⟨2, _⟩ =>
    show (pages N A B R wf).start (ix3 r k j) i (2 : Fin 3) + (pages N A B R wf).batchCoord (ix3 r k j) (2 : Fin 3) + (pages N A B R wf).offCoord (ix3 r k j) (2 : Fin 3) = j.val
    rw [GatherDims.batchCoord_eq_zero _ _ _ List.not_mem_nil]
    unfold GatherDims.start
    rw [dif_neg (show (2 : Fin 3) ∉ (pages N A B R wf).startIndexMap from (by decide : (2 : Fin 3) ∉ ([0] : List (Fin 3))))]
    unfold GatherDims.offCoord
    rw [dif_pos ((GatherDims.mem_sKept _ _).mpr ⟨(by decide : (2 : Fin 3) ∉ ([0] : List (Fin 3))), List.not_mem_nil⟩)]
    show 0 + 0 + _ = j.val
    rw [zero_add, zero_add]
    rfl

end Cert.Experts

namespace Cert.Reference3Ideal.Experts

open Idealize.ShloMosaic Idealize.ShloMosaic.TcCoe Idealize.ShloMosaic.Tactic
open Cert.Reference3Ideal Cert.Reference3Ideal.Gen Cert.Experts

/-- The blocks' experts, one per row. -/
def column (b : IVec S288 32) : IVec S288x1 32 := broadcastInDim S288x1 ![0] bcast_S288_S288x1_0 b

/-- The first layer of each of the four tables, looked up at the blocks' experts. -/
def ups (w : FVec Ideal S2x32x1024x2048 .f32) (i : IVec S288x1 32) : FVec Ideal S288x1024x2048 .f32 :=
  Host.gather gather_S32x1024x2048_S288x1_S288x1024x2048_12_0_n_n_0_1_110242048
    (shapeCast _ (extractStridedSlice S1x32x1024x2048 ![0, 0, 0, 0] w slices_S2x32x1024x2048_S1x32x1024x2048_0_0_0_0) shapeCasts_S1x32x1024x2048_S32x1024x2048) i
def upBiases (b : FVec Ideal S2x32x2048 .f32) (i : IVec S288x1 32) : FVec Ideal S288x2048 .f32 :=
  Host.gather gather_S32x2048_S288x1_S288x2048_1_0_n_n_0_1_12048
    (shapeCast _ (extractStridedSlice S1x32x2048 ![0, 0, 0] b slices_S2x32x2048_S1x32x2048_0_0_0) shapeCasts_S1x32x2048_S32x2048) i
def downs (w : FVec Ideal S2x32x1024x1024 .f32) (i : IVec S288x1 32) : FVec Ideal S288x1024x1024 .f32 :=
  Host.gather gather_S32x1024x1024_S288x1_S288x1024x1024_12_0_n_n_0_1_110241024
    (shapeCast _ (extractStridedSlice S1x32x1024x1024 ![0, 0, 0, 0] w slices_S2x32x1024x1024_S1x32x1024x1024_0_0_0_0) shapeCasts_S1x32x1024x1024_S32x1024x1024) i
def downBiases (b : FVec Ideal S2x32x1024 .f32) (i : IVec S288x1 32) : FVec Ideal S288x1024 .f32 :=
  Host.gather gather_S32x1024_S288x1_S288x1024_1_0_n_n_0_1_11024
    (shapeCast _ (extractStridedSlice S1x32x1024 ![0, 0, 0] b slices_S2x32x1024_S1x32x1024_0_0_0) shapeCasts_S1x32x1024_S32x1024) i

/-- A word that is the number of an expert. -/
theorem word {b : BitVec 32} (h : b.toNat < 32) : b.toInt.toNat = b.toNat := by
  rw [BitVec.toInt_eq_toNat_of_lt (by omega), Int.toNat_natCast]

theorem column_at (b : IVec S288 32) (t : Fin 288) : column b (ix2 t 0) = b (ix1 t) := by
  unfold column
  pointwise

theorem ups_cell (w : FVec Ideal S2x32x1024x2048 .f32) (b : IVec S288 32) (t : Fin 288) (k : Fin 1024) (j : Fin 2048) (h : (b (ix1 t)).toNat < 32) :
    ups w (column b) (ix3 t k j) = w (ix4 0 ⟨(b (ix1 t)).toNat, h⟩ k j) := by
  refine (page _ _ (column b) t k j ⟨(b (ix1 t)).toNat, h⟩ (by rw [column_at, word h])).trans ?_
  pointwise

theorem downs_cell (w : FVec Ideal S2x32x1024x1024 .f32) (b : IVec S288 32) (t : Fin 288) (k : Fin 1024) (j : Fin 1024) (h : (b (ix1 t)).toNat < 32) :
    downs w (column b) (ix3 t k j) = w (ix4 0 ⟨(b (ix1 t)).toNat, h⟩ k j) := by
  refine (page _ _ (column b) t k j ⟨(b (ix1 t)).toNat, h⟩ (by rw [column_at, word h])).trans ?_
  pointwise

theorem upBiases_cell (w : FVec Ideal S2x32x2048 .f32) (b : IVec S288 32) (t : Fin 288) (j : Fin 2048) (h : (b (ix1 t)).toNat < 32) :
    upBiases w (column b) (ix2 t j) = w (ix3 0 ⟨(b (ix1 t)).toNat, h⟩ j) := by
  refine (Routing.gather_row _ rfl rfl rfl rfl rfl _ (column b) t j ⟨(b (ix1 t)).toNat, h⟩
    ((column_at b t).trans (by rw [BitVec.ofNat_toNat, BitVec.setWidth_eq])) (by norm_num)).trans ?_
  pointwise

theorem downBiases_cell (w : FVec Ideal S2x32x1024 .f32) (b : IVec S288 32) (t : Fin 288) (j : Fin 1024) (h : (b (ix1 t)).toNat < 32) :
    downBiases w (column b) (ix2 t j) = w (ix3 0 ⟨(b (ix1 t)).toNat, h⟩ j) := by
  refine (Routing.gather_row _ rfl rfl rfl rfl rfl _ (column b) t j ⟨(b (ix1 t)).toNat, h⟩
    ((column_at b t).trans (by rw [BitVec.ofNat_toNat, BitVec.setWidth_eq])) (by norm_num)).trans ?_
  pointwise

/-- Every block's rows through the first of its matrices, with the bias. -/
def hid (x : FVec Ideal S147456x1024 .f32) (w : FVec Ideal S288x1024x2048 .f32) (b : FVec Ideal S288x2048 .f32) : FVec Ideal S288x512x2048 .f32 :=
  addf (Host.dotGeneral dot_S288x512x1024_S288x1024x2048_S288x512x2048_2_1_1_2_0_0 none (shapeCast _ x shapeCasts_S147456x1024_S288x512x1024) w)
    (broadcastInDim S288x512x2048 ![0, 1, 2] bcast_S288x1x2048_S288x512x2048_0_1_2 (broadcastInDim S288x1x2048 ![0, 2] bcast_S288x2048_S288x1x2048_0_2 b))

/-- The clipped gate. -/
def gate (h : FVec Ideal S288x512x2048 .f32) : FVec Ideal S288x512x1024 .f32 :=
  minimumf (extractStridedSlice S288x512x1024 ![0, 0, 0] h slices_S288x512x2048_S288x512x1024_0_0_0) (broadcastInDim S288x512x1024 ![] bcast_S_S288x512x1024 (constant S_ .f32 0x40E00000#32))

/-- The gated units. -/
def units (h : FVec Ideal S288x512x2048 .f32) : FVec Ideal S288x512x1024 .f32 :=
  mulf (mulf (gate h) (Host.divf (broadcastInDim S288x512x1024 ![] bcast_S_S288x512x1024 (constant S_ .f32 0x3F800000#32))
      (addf (broadcastInDim S288x512x1024 ![] bcast_S_S288x512x1024 (constant S_ .f32 0x3F800000#32))
        (Host.exp (Host.negf (mulf (broadcastInDim S288x512x1024 ![] bcast_S_S288x512x1024 (constant S_ .f32 0x3FD9DB23#32)) (gate h)))))))
    (addf (minimumf (broadcastInDim S288x512x1024 ![] bcast_S_S288x512x1024 (id (constant S_ .f32 0x40E00000#32)))
        (maximumf (broadcastInDim S288x512x1024 ![] bcast_S_S288x512x1024 (id (constant S_ .f32 0xC0E00000#32))) (extractStridedSlice S288x512x1024 ![0, 0, 1024] h slices_S288x512x2048_S288x512x1024_0_0_1024)))
      (broadcastInDim S288x512x1024 ![] bcast_S_S288x512x1024 (constant S_ .f32 0x3F800000#32)))

/-- The units through the second matrices, with the bias. -/
def lows (u : FVec Ideal S288x512x1024 .f32) (w : FVec Ideal S288x1024x1024 .f32) (b : FVec Ideal S288x1024 .f32) : FVec Ideal S288x512x1024 .f32 :=
  addf (Host.dotGeneral dot_S288x512x1024_S288x1024x1024_S288x512x1024_2_1_1_2_0_0 none u w)
    (broadcastInDim S288x512x1024 ![0, 1, 2] bcast_S288x1x1024_S288x512x1024_0_1_2 (broadcastInDim S288x1x1024 ![0, 2] bcast_S288x1024_S288x1x1024_0_2 b))

/-- The blocks in use kept, the others zero. -/
def kept (n : IVec S1 32) (y : FVec Ideal S288x512x1024 .f32) : FVec Ideal S288x512x1024 .f32 :=
  select (broadcastInDim S288x512x1024 ![0, 1, 2] bcast_S288x1x1_S288x512x1024_0_1_2 (broadcastInDim S288x1x1 ![0] bcast_S288_S288x1x1_0
      (cmpi .slt (iotaInDim S288 32 0) (broadcastInDim S288 ![] bcast_S_S288 (shapeCast _ n shapeCasts_S1_S_))))) y
    (broadcastInDim S288x512x1024 ![] bcast_S_S288x512x1024 (id (constant S_ .f32 0x00000000#32)))

/-- The rows of all blocks in one array. -/
def flat (y : FVec Ideal S288x512x1024 .f32) : FVec Ideal S147456x1024 .f32 := shapeCast _ y shapeCasts_S288x512x1024_S147456x1024

/-- The program's result. -/
def result (x : FVec Ideal S147456x1024 .f32) (b : IVec S288 32) (n : IVec S1 32) (w : FVec Ideal S2x32x1024x2048 .f32) (β : FVec Ideal S2x32x2048 .f32)
    (v : FVec Ideal S2x32x1024x1024 .f32) (γ : FVec Ideal S2x32x1024 .f32) : FVec Ideal S147456x1024 .f32 :=
  flat (kept n (lows (units (hid x (ups w (column b)) (upBiases β (column b)))) (downs v (column b)) (downBiases γ (column b))))

/-- The run, with the result named. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v44) = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Value.run m ρ

theorem rows_cell (x : FVec Ideal S147456x1024 .f32) (t : Fin 288) (p : Fin 512) (k : Fin 1024) :
    shapeCast S288x512x1024 x shapeCasts_S147456x1024_S288x512x1024 (ix3 t p k) = x (ix2 ⟨t.val * 512 + p.val, by omega⟩ k) := by
  pointwise

theorem flat_cell (y : FVec Ideal S288x512x1024 .f32) (t : Fin 288) (p : Fin 512) (q : Fin 1024) :
    flat y (ix2 ⟨t.val * 512 + p.val, by omega⟩ q) = y (ix3 t p q) := by
  unfold flat
  pointwise

theorem hid_cell (x : FVec Ideal S147456x1024 .f32) (w : FVec Ideal S288x1024x2048 .f32) (b : FVec Ideal S288x2048 .f32) (t : Fin 288) (p : Fin 512) (j : Fin 2048) :
    hid x w b (ix3 t p j) = middle (fun k => x (ix2 ⟨t.val * 512 + p.val, by omega⟩ k)) (fun k j => w (ix3 t k j)) (fun j => b (ix2 t j)) j := by
  unfold middle
  simp only [← rows_cell]
  unfold hid
  generalize shapeCast S288x512x1024 x shapeCasts_S147456x1024_S288x512x1024 = z
  pointwise

theorem units_cell (h : FVec Ideal S288x512x2048 .f32) (t : Fin 288) (p : Fin 512) (f : Fin 1024) :
    units h (ix3 t p f) = unit (h (ix3 t p (gateCol f))) (h (ix3 t p (linCol f))) := by
  unfold unit units gate gateCol linCol
  pointwise
  rfl

theorem lows_cell (u : FVec Ideal S288x512x1024 .f32) (w : FVec Ideal S288x1024x1024 .f32) (b : FVec Ideal S288x1024 .f32) (t : Fin 288) (p : Fin 512) (q : Fin 1024) :
    lows u w b (ix3 t p q) = (∑ f : Fin 1024, u (ix3 t p f) * w (ix3 t f q)) + b (ix2 t q) := by
  unfold lows
  pointwise

/-- Choosing by a signed comparison. -/
theorem select_slt (a b : BitVec 32) (y z : EReal) : Scalar.select (IntOp.cmpi .slt a b) y z = if a.slt b = true then y else z := by
  unfold Scalar.select IntOp.cmpi
  cases h : a.slt b <;> simp [h]

theorem kept_cell (n : IVec S1 32) (y : FVec Ideal S288x512x1024 .f32) (t : Fin 288) (p : Fin 512) (q : Fin 1024) :
    kept n y (ix3 t p q) = if (BitVec.ofNat 32 t.val).slt (n (ix1 0)) = true then y (ix3 t p q) else 0 := by
  unfold kept
  pointwise
  refine (select_slt _ _ _ _).trans ?_
  rw [show id (constant (F := Ideal) S_ .f32 0x00000000#32) ix0 = (0 : EReal) from zero]

theorem result_cell (x : FVec Ideal S147456x1024 .f32) (b : IVec S288 32) (n : IVec S1 32) (w : FVec Ideal S2x32x1024x2048 .f32) (β : FVec Ideal S2x32x2048 .f32)
    (v : FVec Ideal S2x32x1024x1024 .f32) (γ : FVec Ideal S2x32x1024 .f32) (t : Fin 288) (p : Fin 512) (q : Fin 1024) (h : (b (ix1 t)).toNat < 32) :
    result x b n w β v γ (ix2 ⟨t.val * 512 + p.val, by omega⟩ q) = answer x (n (ix1 0)) w β v γ ⟨(b (ix1 t)).toNat, h⟩ t p q := by
  unfold result answer through
  rw [flat_cell, kept_cell, lows_cell]
  simp only [units_cell, hid_cell, ups_cell w b _ _ _ h, upBiases_cell β b _ _ h, downs_cell v b _ _ _ h, downBiases_cell γ b _ _ h]

end Cert.Reference3Ideal.Experts

end
-- ==== Proof.Experts.Claims.lean ====
/- The experts' claims. -/
module

public import proofs.«01_k».proof.Defs
public import proofs.«01_k».proof.Proof.Gen.Kernel3
public import proofs.«01_k».proof.Proof.Gen.Kernel3.Launch
public import proofs.«01_k».proof.Proof.Gen.Pre_experts_in_range
public import proofs.«01_k».proof.Proof.Gen.Reference3Ideal
public import proofs.«01_k».proof.Proof.Gen.Reference3Ideal.Run
public import proofs.«01_k».proof.Proof.Experts.Value
public import proofs.«01_k».proof.Proof.Experts.Reference

@[expose] public section

set_option maxRecDepth 16384

noncomputable section

namespace Cert.Proof

open Idealize.ShloMosaic Idealize.ShloMosaic.TcCoe

theorem and_bits (p q : Bool) : IntOp.andi (BitVec.ofBool p) (BitVec.ofBool q) = BitVec.ofBool (p && q) := by
  cases p <;> cases q <;> decide

theorem bit_one (p : Bool) : BitVec.ofBool p = 1#1 ↔ p = true := by
  cases p <;> decide

/-- The precondition, read at a block: its expert is one of the 32. -/
theorem in_range {F : FTy → Type} [FloatOps F] (x0 : FVec F Cert.Pre_experts_in_range.S147456x1024 .f32) (x1 : IVec Cert.Pre_experts_in_range.S288 32)
    (x2 : IVec Cert.Pre_experts_in_range.S1 32) (x3 : FVec F Cert.Pre_experts_in_range.S2x32x1024x2048 .f32) (x4 : FVec F Cert.Pre_experts_in_range.S2x32x2048 .f32)
    (x5 : FVec F Cert.Pre_experts_in_range.S2x32x1024x1024 .f32) (x6 : FVec F Cert.Pre_experts_in_range.S2x32x1024 .f32)
    (h : Cert.Pre_experts_in_range.fn (F := F) x0 x1 x2 x3 x4 x5 x6 = fun _ => 1#1) (k : Fin 288) : (x1 (ix1 k)).toNat < 32 := by
  have e : IntOp.andi (BitVec.ofBool ((0#32).sle (x1 (ix1 k)))) (BitVec.ofBool ((x1 (ix1 k)).slt 32#32)) = 1#1 := congrFun h (ix1 k)
  rw [and_bits, bit_one, Bool.and_eq_true] at e
  simp only [BitVec.sle, BitVec.slt, decide_eq_true_eq, BitVec.toInt, BitVec.toNat_ofNat] at e
  omega

/-- The printed program and the idealized one have the same bodies. -/
theorem bodies3 : Cert.Kernel3.defs₀ (F := Bits) = Cert.Kernel3Ideal.defs₀ (F := Bits) := by
  refine congrArg Defs.onTc (funext fun l => funext fun a => ?_)
  match l, a with
  | 0, (t, s) => rfl

theorem defs3 : Cert.Kernel3.defs (F := Bits) = Cert.Kernel3Ideal.defs (F := Bits) := congrArg (Pipeline.defs Cert.Kernel3Ideal.pcfgs) bodies3

theorem blocks_in_range (m : (ℓ : Loc Cert.Kernel3.nD Cert.Kernel3.τ Cert.Kernel3.sig) → Buf (Elt Bits) ℓ) (h : Cert.Pre_Kernel3 m) :
    Cert.Kernel3Ideal.Experts.InRange (F := Bits) m :=
  fun c k => in_range _ _ _ _ _ _ _ (h c) k

/-- The experts' frame as printed: its run at words. -/
theorem frame_kernel3 : Cert.quiescent_Kernel3 := by
  intro m ρ h
  have e := Cert.Kernel3Ideal.Experts.unchanged (F := Bits) m ρ (blocks_in_range m h)
  rw [← defs3] at e
  exact e

theorem frame_ideal3 : Cert.quiescent_Kernel3Ideal := fun m ρ h =>
  Cert.Kernel3Ideal.Experts.unchanged (F := Ideal) m ρ fun c k => in_range _ _ _ _ _ _ _ (h c) k

theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_reference3_in_range : Cert.quiescent_Reference3Ideal_pre_experts_in_range := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- A place of the result array is a column of a place of a block. -/
theorem place (y : Cert.Kernel3Ideal.S147456x1024.Idx) :
    ∃ (t : Fin 288) (p : Fin 512) (q : Fin 1024), y = ix2 (⟨t.val * 512 + p.val, by omega⟩ : Fin 147456) q := by
  have h0 : (y (0 : Fin 2)).val < 147456 := (y (0 : Fin 2)).isLt
  refine ⟨⟨(y (0 : Fin 2)).val / 512, by omega⟩, ⟨(y (0 : Fin 2)).val % 512, by omega⟩, y (1 : Fin 2), ?_⟩
  funext x
  match x with
  | ⟨0, _⟩ => exact Fin.ext (by show (y (0 : Fin 2)).val = (y (0 : Fin 2)).val / 512 * 512 + (y (0 : Fin 2)).val % 512; omega)
  | ⟨1, _⟩ => rfl

open Cert.Kernel3Ideal in
/-- The experts' kernel and the plain experts give the same array, on every input whose blocks name one of the 32. -/
theorem experts : Cert.algebraic_Kernel3Ideal_Reference3Ideal := by
  intro m g m' g' hpre hargs
  have h : Experts.InRange m := fun c k => in_range _ _ _ _ _ _ _ (hpre c) k
  refine ⟨fun c => (Experts.dats m (Experts.tables m h) 0 c).arrAt 5 (cfg0 (Experts.tables m h)).N, ?_, ?_⟩
  · exact (θ_run Cert.Kernel3Ideal.defs _ _).mono (fun r hr c => ⟨(hr.1 c).1 5, (Experts.unchanged_of m (Experts.tables m h) r hr).1 c⟩)
      (Experts.run_main m g (Experts.tables m h) (Experts.tables_eq m h))
  · refine (θ_run Cert.Reference3Ideal.defs _ _).mono (fun r hr c => ⟨(hr c).1.trans ?_, (hr c).2⟩) (Cert.Reference3Ideal.Experts.run m' g')
    obtain ⟨e0, e1, e2, e3, e4, e5, e6⟩ := hargs c
    rw [e0, e1, e2, e3, e4, e5, e6]
    funext y
    obtain ⟨t, p, q, rfl⟩ := place y
    refine (Cert.Reference3Ideal.Experts.result_cell _ _ _ _ _ _ _ t p q (h c t)).trans ?_
    refine Eq.trans ?_ (Experts.array m (Experts.tables m h) c t p q).symm
    unfold Experts.cell
    obtain rfl : c = 0 := Subsingleton.elim _ _
    have en : Experts.blocksInUse (Experts.tables m h) = m (((0 : Dev nD).tc : Thread nD τ).loc main_arg2) (ix1 0) :=
      congrFun (Experts.V_of_ne m 0 main_arg2 (by decide) (by decide)) _
    have ex : Experts.expert (Experts.tables m h) t = m (((0 : Dev nD).tc : Thread nD τ).loc main_arg1) (ix1 t) :=
      congrFun (Experts.V_of_ne m 0 main_arg1 (by decide) (by decide)) (ix1 t)
    have ee : Experts.expertOf (Experts.tables m h) t = ⟨(m (((0 : Dev nD).tc : Thread nD τ).loc main_arg1) (ix1 t) : BitVec 32).toNat, h 0 t⟩ :=
      Fin.ext (show (Experts.expert (Experts.tables m h) t).toNat = _ from congrArg BitVec.toNat ex)
    rw [en, ee]

end Cert.Proof

end
-- ==== Proof.Gates.Cells.lean ====
/- The forget gates' cells: the logarithm of a gate, its three-part sum, and running sums. -/
module

public import proofs.«01_k».proof.Proof.Gen.Kernel4Ideal.Value
public import proofs.«01_k».proof.Proof.Gen.Reference4Ideal.Run
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Pointwise
public import Idealize.ShloMosaic.Lib.MatmulPlain

@[expose] public section

set_option maxRecDepth 16384

noncomputable section

namespace Cert.Gates

open Idealize.ShloMosaic Idealize.ShloMosaic.TcCoe Idealize.ShloMosaic.Tactic

theorem one_word : Ideal.ofBits .f32 0x3F800000#32 = (1 : EReal) := by
  simp [Ideal.ofBits, Ideal.ieee]; rw [← EReal.coe_mul]; norm_num

theorem zero_word : Ideal.ofBits .f32 0x00000000#32 = (0 : EReal) := by simp [Ideal.ofBits, Ideal.ieee]

/-- The logarithm of a forget gate, from its logit. -/
def logGate (x : EReal) : EReal := min x 0 - Ideal.log (1 + Ideal.exp (0 - max x (-x)))

theorem exp_nonneg (x : EReal) : 0 ≤ Ideal.exp x := by
  induction x using EReal.rec with
  | bot => exact le_refl _
  | top => exact le_top
  | coe r => exact EReal.coe_nonneg.mpr (Real.exp_pos r).le

theorem log_nonneg {x : EReal} (h : 0 ≤ x) : 0 ≤ Ideal.log (1 + x) := by
  induction x using EReal.rec with
  | bot => exact absurd h (by simp)
  | top => rw [EReal.add_top_of_ne_bot (by exact EReal.coe_ne_bot 1)]; exact le_top
  | coe r =>
    have hr : 0 ≤ r := EReal.coe_nonneg.mp h
    have e : (1 : EReal) + (r : EReal) = ((1 + r : ℝ) : EReal) := by norm_cast
    rw [e, Ideal.log_coe, if_neg (by linarith)]
    exact EReal.coe_nonneg.mpr (Real.log_nonneg (by linarith))

/-- It is never plus infinity. -/
theorem logGate_ne_top (x : EReal) : logGate x ≠ ⊤ := by
  have h := log_nonneg (exp_nonneg (0 - max x (-x)))
  have h1 : logGate x ≤ 0 := by
    unfold logGate
    refine (EReal.sub_le_sub (min_le_right x 0) h).trans ?_
    simp
  exact ne_top_of_le_ne_top (by simp) h1

/-- The plain spelling of the same logarithm. -/
theorem logGate_plain (x : EReal) : -(max (-x) 0 + Ideal.log (1 + Ideal.exp (-max (-x) (- -x)))) = logGate x := by
  have h := log_nonneg (exp_nonneg (-max (-x) (- -x)))
  rw [EReal.neg_add (.inl (ne_bot_of_le_ne_bot (by simp) (le_max_right (-x) 0))) (.inr (ne_bot_of_le_ne_bot (by simp) h))]
  unfold logGate
  rw [neg_neg, zero_sub, max_comm (-x) x]
  congr 1
  rw [show min x 0 = min (- -x) (-0) from by rw [neg_neg, neg_zero]]
  exact EReal.neg_strictAnti.antitone.map_max

/-- A number, its remainder and the remainder's remainder add up to it. -/
theorem parts (x : EReal) (h : x ≠ ⊤) : x + (x - x) + ((x - x) - (x - x)) = x := by
  induction x using EReal.rec with
  | bot => simp
  | top => exact absurd rfl h
  | coe r => norm_cast; ring

/-- A row of ones up to the diagonal against the three parts is the sum up to the diagonal. -/
theorem three {n : ℕ} (t f : Fin n → EReal) (r : Fin n) (ht : ∀ k, t k = if k ≤ r then 1 else 0) (hf : ∀ k, f k ≠ ⊤) :
    (∑ k, t k * f k) + (∑ k, t k * (f k - f k)) + (∑ k, t k * ((f k - f k) - (f k - f k))) = ∑ k : Fin n, if k ≤ r then f k else 0 := by
  rw [← Finset.sum_add_distrib, ← Finset.sum_add_distrib]
  refine Finset.sum_congr rfl fun k _ => ?_
  rw [ht]
  by_cases h : k ≤ r
  · simp only [if_pos h, one_mul]
    exact parts _ (hf k)
  · simp only [if_neg h, zero_mul, add_zero]

/-- The sum of the first `n` terms. -/
def upTo (f : ℕ → EReal) (n : ℕ) : EReal := ∑ i ∈ Finset.range n, f i

/-- One more block's running sum, over the sum before it. -/
theorem upTo_block (f : ℕ → EReal) (n : ℕ) {B : ℕ} (r : Fin B) :
    (∑ k : Fin B, if k ≤ r then f (n + k.val) else 0) + upTo f n = upTo f (n + r.val + 1) := by
  unfold upTo
  rw [add_comm, add_assoc n, Finset.sum_range_add]
  congr 1
  have e : ∀ k : Fin B, (if k ≤ r then f (n + k.val) else 0) = (fun i : ℕ => if i ≤ r.val then f (n + i) else 0) k.val := fun k => rfl
  rw [Finset.sum_congr rfl fun k _ => e k, Fin.sum_univ_eq_sum_range (fun i : ℕ => if i ≤ r.val then f (n + i) else 0) B, ← Finset.sum_filter]
  refine Finset.sum_congr (Finset.ext fun i => ?_) fun _ _ => rfl
  have := r.isLt
  rw [Finset.mem_range, Finset.mem_filter, Finset.mem_range]
  omega

end Cert.Gates

namespace Cert.Kernel4Ideal.Gates

open Idealize.ShloMosaic Idealize.ShloMosaic.TcCoe Idealize.ShloMosaic.Tactic
open Cert.Kernel4Ideal Cert.Kernel4Ideal.Gen Cert.Gates

/-- One cell of a block's running sums. -/
theorem sum_cell (x : Vec Ideal S1x256x128 .f32) (b : Vec Ideal S1x128 .f32) (t : Vec Ideal S256x256 .bf16) (a : Vec Ideal S1x128 .f32)
    (ht : ∀ r k : Fin 256, t (ix2 r k) = if k ≤ r then (1 : EReal) else 0) (r : Fin 256) (l : Fin 128) :
    k0_pay4 x b t a (ix2 r l) = (∑ k : Fin 256, if k ≤ r then logGate (x (ix3 0 k l) + b (ix2 0 l)) else 0) + a (ix2 0 l) := by
  rw [← three (fun k => t (ix2 r k)) (fun k => logGate (x (ix3 0 k l) + b (ix2 0 l))) r (ht r) fun k => logGate_ne_top _]
  unfold logGate
  pointwise [k0_pay4]
  rfl

end Cert.Kernel4Ideal.Gates

end
-- ==== Proof.Gates.Value.lean ====
/- The forget gates' call: what its array holds, the running sums of the gates' logarithms. -/
module

public import proofs.«01_k».proof.Proof.Gates.Cells

@[expose] public section

set_option maxRecDepth 16384

noncomputable section

namespace Cert.Kernel4Ideal.Gates

open Idealize.ShloMosaic Idealize.ShloMosaic.TcCoe Idealize.ShloMosaic.Tactic
open Idealize.ShloMosaic.Pipeline (Dat Cfg Window)
open Cert.Kernel4Ideal Cert.Kernel4Ideal.Gen Cert.Gates

theorem zero2 : (![0, 0] : Fin 2 → Nat) = fun _ => 0 := funext fun a => by fin_cases a <;> rfl
theorem zero3 : (![0, 0, 0] : Fin 3 → Nat) = fun _ => 0 := funext fun a => by fin_cases a <;> rfl

section Body

variable (c : Dev nD) (i : grid0.Coords) (a2 : Memref sig .tc .vmem S1x256x128 .f32) (h2 : a2.IsWhole) (a3 : Memref sig .tc .vmem S1x128 .f32) (h3 : a3.IsWhole)
  (a4 : Memref sig .tc .vmem S256x256 .bf16) (h4 : a4.IsWhole) (a5 : Memref sig .tc .vmem S1x256x128 .f32) (h5 : a5.IsWhole) (a6 : Memref sig .tc .vmem S1x128 .f32) (h6 : a6.IsWhole)
  (x : Vec Ideal S1x256x128 .f32) (b : Vec Ideal S1x128 .f32) (t : Vec Ideal S256x256 .bf16) (s : Vec Ideal S1x128 .f32)

/-- A sequence's first block stores its running sums from zero. -/
theorem out_first (hc : cond0_0 i) : out0_A_3 c i a2 h2 a3 h3 a4 h4 a5 h5 a6 h6 hc x b t = k0_pay1 (k0_pay4 x b t (k0_pay3 (F := Ideal))) := by
  unfold out0_A_3
  rw [View.read_writes_eq_canon _ _ _ (cover0_A_3 c i a2 h2 a3 h3 a4 h4 a5 h5 a6 h6 hc x b t)]
  unfold kernelRun0_A
  dsimp only
  sl_unfold_words
  rw [View.canon_unit_zero (S := S1x256x128) zero3]
  simp only [View.readAt_eq_ld, h2.read_unread, h3.read_unread, h4.read_unread, View.ld_unit_zero (S := S1x256x128) zero3, View.ld_unit_zero (S := S1x128) zero2,
    View.ld_unit_zero (S := S256x256) zero2, View.readCov_unit_zero (S := S1x128) _ zero2]

/-- It leaves the last of them for the next block. -/
theorem carry_first (hc : cond0_0 i) : sout0_A_0 c i a2 h2 a3 h3 a4 h4 a5 h5 a6 h6 hc x b t = k0_pay2 (k0_pay4 x b t (k0_pay3 (F := Ideal))) := by
  unfold sout0_A_0
  rw [View.read_writes_eq_canon _ _ _ (scover0_A_0 c i a2 h2 a3 h3 a4 h4 a5 h5 a6 h6 hc x b t)]
  unfold kernelRun0_A
  dsimp only
  sl_unfold_words
  rw [View.canon_cons_unit_zero (S := S1x128) zero2]
  simp only [View.readAt_eq_ld, h2.read_unread, h3.read_unread, h4.read_unread, View.ld_unit_zero (S := S1x256x128) zero3, View.ld_unit_zero (S := S1x128) zero2,
    View.ld_unit_zero (S := S256x256) zero2, View.readCov_unit_zero (S := S1x128) _ zero2]

/-- A later block goes on from what the block before left. -/
theorem out_later (hc : ¬cond0_0 i) : out0_B_3 c i a2 h2 a3 h3 a4 h4 a5 h5 a6 h6 hc x b t s = k0_pay1 (k0_pay4 x b t s) := by
  unfold out0_B_3
  rw [View.read_writes_eq_canon _ _ _ (cover0_B_3 c i a2 h2 a3 h3 a4 h4 a5 h5 a6 h6 hc x b t s)]
  unfold kernelRun0_B
  dsimp only
  sl_unfold_words
  rw [View.canon_unit_zero (S := S1x256x128) zero3]
  simp only [View.readAt_eq_ld, h2.read_unread, h3.read_unread, h4.read_unread, h6.read_unread, View.ld_unit_zero (S := S1x256x128) zero3, View.ld_unit_zero (S := S1x128) zero2,
    View.ld_unit_zero (S := S256x256) zero2]

theorem carry_later (hc : ¬cond0_0 i) : sout0_B_0 c i a2 h2 a3 h3 a4 h4 a5 h5 a6 h6 hc x b t s = k0_pay2 (k0_pay4 x b t s) := by
  unfold sout0_B_0
  rw [View.read_writes_eq_canon _ _ _ (scover0_B_0 c i a2 h2 a3 h3 a4 h4 a5 h5 a6 h6 hc x b t s)]
  unfold kernelRun0_B
  dsimp only
  sl_unfold_words
  rw [View.canon_unit_zero (S := S1x128) zero2]
  simp only [View.readAt_eq_ld, h2.read_unread, h3.read_unread, h4.read_unread, h6.read_unread, View.ld_unit_zero (S := S1x256x128) zero3, View.ld_unit_zero (S := S1x128) zero2,
    View.ld_unit_zero (S := S256x256) zero2]

/-- What the stores keep of a block's running sums. -/
theorem whole_cell (z : FVec Ideal S256x128 .f32) (r : Fin 256) (l : Fin 128) : k0_pay1 z (ix3 0 r l) = z (ix2 r l) := by
  pointwise [k0_pay1]

theorem last_cell (z : FVec Ideal S256x128 .f32) (l : Fin 128) : k0_pay2 z (ix2 0 l) = z (ix2 255 l) := by
  pointwise [k0_pay2]

theorem start_cell (l : Fin 128) : k0_pay3 (F := Ideal) (ix2 0 l) = (0 : EReal) := by
  pointwise [k0_pay3]

end Body

variable (m : (ℓ : Loc nD τ sig) → Buf (Elt Ideal) ℓ) (c : Dev nD)

/-- The launch's arguments: the logits and the heads' biases. -/
abbrev logits : S32768x128.Idx → EReal := m ((c : Thread nD τ).loc main_arg0)
abbrev biases : S1x16.Idx → EReal := m ((c : Thread nD τ).loc main_arg1)

/-- A lane's bias: a head's on the first sixteen, none after. -/
def bias (b : S1x16.Idx → EReal) (l : Fin 128) : EReal := if h : l.val < 16 then b (ix2 0 ⟨l.val, h⟩) else 0

/-- The blocks' places. -/
theorem index : ∀ t : Fin cfg0.N, win0_0.index t = ![t.val / 8, t.val % 8, 0] ∧ win0_1.index t = ![0, 0]
    ∧ win0_2.index t = ![0, 0] ∧ win0_3.index t = ![t.val / 8, t.val % 8, 0] :=
  (by decide +kernel : ∀ t : Fin grid0.N, _)

/-- The logits the region finds, one sequence after another. -/
theorem found_logits (b : Fin 16) (n : Fin 2048) (l : Fin 128) :
    V m c main_v11 (ix3 b n l) = logits m c (ix2 ⟨b.val * 2048 + n.val, by omega⟩ l) := by
  show StableHlo.after (hostOps0 ++ (hostOps0_1 ++ hostOps0_2)) (fun b => m (c, b)) (Proc.devRef .tc main_v11) (ix3 b n l) = _
  simp only [hostOps0, hostOps0_1, hostOps0_2, List.cons_append, List.nil_append, StableHlo.TRef.binary, StableHlo.TRef.unary, StableHlo.TRef.toBuf, StableHlo.TRef.ofBuf, cast_eq]
  after_results
  pointwise

theorem found_bias (l : Fin 128) : V m c main_v2 (ix2 0 l) = bias (biases m c) l := by
  show StableHlo.after (hostOps0 ++ (hostOps0_1 ++ hostOps0_2)) (fun b => m (c, b)) (Proc.devRef .tc main_v2) (ix2 0 l) = _
  simp only [hostOps0, hostOps0_1, hostOps0_2, List.cons_append, List.nil_append, StableHlo.TRef.binary, StableHlo.TRef.unary, StableHlo.TRef.toBuf, StableHlo.TRef.ofBuf, cast_eq]
  after_results
  unfold bias
  pointwise
  rw [show (FloatOps.sitofp (F := Ideal) .f32 0#32 : EReal) = 0 from by
    show (((0#32 : BitVec 32).toInt : ℝ) : EReal) = 0
    simp]

/-- Small numbers' words compare as they do. -/
theorem word_le (k r : Fin 256) : IntOp.cmpi CmpIPredicate.sle (BitVec.ofNat 32 k.val) (BitVec.ofNat 32 r.val) = if k ≤ r then 1#1 else 0#1 := by
  have hk := k.isLt
  have hr := r.isLt
  have e : ∀ n : ℕ, n < 256 → (BitVec.ofNat 32 n).toInt = (n : ℤ) := fun n hn => by
    rw [BitVec.toInt_eq_toNat_of_lt (by rw [BitVec.toNat_ofNat]; omega), BitVec.toNat_ofNat]
    omega
  have h : (BitVec.ofNat 32 k.val).sle (BitVec.ofNat 32 r.val) = decide (k ≤ r) := by
    rw [BitVec.sle, e _ hk, e _ hr]
    exact decide_eq_decide.mpr (by rw [Fin.le_def]; omega)
  show (BitVec.ofBool ((BitVec.ofNat 32 k.val).sle (BitVec.ofNat 32 r.val)) : BitVec 1) = _
  rw [h]
  by_cases hc : k ≤ r
  · simp [hc]
  · simp [hc]

/-- The triangle of ones. -/
theorem found_ones (r k : Fin 256) : V m c main_v10 (ix2 r k) = if k ≤ r then (1 : EReal) else 0 := by
  show StableHlo.after (hostOps0 ++ (hostOps0_1 ++ hostOps0_2)) (fun b => m (c, b)) (Proc.devRef .tc main_v10) (ix2 r k) = _
  simp only [hostOps0, hostOps0_1, hostOps0_2, List.cons_append, List.nil_append, StableHlo.TRef.binary, StableHlo.TRef.unary, StableHlo.TRef.toBuf, StableHlo.TRef.ofBuf, cast_eq]
  after_results
  pointwise
  rw [word_le]
  by_cases hc : k ≤ r
  · rw [if_pos hc, if_pos hc]
    show (((1#1 : BitVec 1).toNat : ℝ) : EReal) = 1
    simp
  · rw [if_neg hc, if_neg hc]
    show (((0#1 : BitVec 1).toNat : ℝ) : EReal) = 0
    simp

/-- The logarithm of the gate at a sequence's place `n`, on a lane. -/
def gate (x : S32768x128.Idx → EReal) (b : S1x16.Idx → EReal) (q : ℕ) (l : Fin 128) (n : ℕ) : EReal :=
  if h : q * 2048 + n < 32768 then logGate (x (ix2 ⟨q * 2048 + n, h⟩ l) + bias b l) else 0

theorem points (t : Fin cfg0.N) : t.val < 128 := lt_of_lt_of_eq t.isLt (show cfg0.N = 128 from N_0)

/-- The staged blocks. -/
theorem block_logits (t : Fin cfg0.N) (k : Fin 256) (l : Fin 128) :
    iblk m c 0 t (ix3 0 k l) = logits m c (ix2 ⟨t.val / 8 * 2048 + (256 * (t.val % 8) + k.val), by have := points t; omega⟩ l) := by
  obtain ⟨e0, e1, e2, e3⟩ := index t
  have ht := points t
  have h := found_logits m c ⟨t.val / 8, by omega⟩ ⟨256 * (t.val % 8) + k.val, by omega⟩ l
  rw [← h]
  blk_ext [iblk, e0]

theorem block_bias (t : Fin cfg0.N) (l : Fin 128) : iblk m c 1 t (ix2 0 l) = bias (biases m c) l := by
  obtain ⟨e0, e1, e2, e3⟩ := index t
  rw [← found_bias m c]
  blk_ext [iblk, e1]

theorem block_ones (t : Fin cfg0.N) (r k : Fin 256) : iblk m c 2 t (ix2 r k) = if k ≤ r then (1 : EReal) else 0 := by
  obtain ⟨e0, e1, e2, e3⟩ := index t
  rw [← found_ones m c]
  blk_ext [iblk, e2]

/-- A block's running sums, over what it is given. -/
theorem block_sum (t : Fin cfg0.N) (a : Vec Ideal S1x128 .f32) (r : Fin 256) (l : Fin 128)
    (ha : a (ix2 0 l) = upTo (gate (logits m c) (biases m c) (t.val / 8) l) (256 * (t.val % 8))) :
    k0_pay4 (iblk m c 0 t) (iblk m c 1 t) (iblk m c 2 t) a (ix2 r l) = upTo (gate (logits m c) (biases m c) (t.val / 8) l) (256 * (t.val % 8) + r.val + 1) := by
  have ht := points t
  rw [sum_cell _ _ _ _ (block_ones m c t), ha, ← upTo_block]
  congr 1
  refine Finset.sum_congr rfl fun k _ => ?_
  have hk := k.isLt
  rw [block_logits, block_bias]
  unfold gate
  rw [dif_pos (by omega)]

/-- What a point leaves: its block's running sums, and the last of them. -/
theorem left (n : ℕ) : ∀ h : n < cfg0.N,
    (∀ (r : Fin 256) (l : Fin 128), (outsAt0 m c n h).1 (ix3 0 r l) = upTo (gate (logits m c) (biases m c) (n / 8) l) (256 * (n % 8) + r.val + 1))
    ∧ ∀ l : Fin 128, (outsAt0 m c n h).2 (ix2 0 l) = upTo (gate (logits m c) (biases m c) (n / 8) l) (256 * (n % 8) + 256) := by
  induction n with
  | zero =>
    intro h
    have z : ∀ l, k0_pay3 (F := Ideal) (ix2 0 l) = upTo (gate (logits m c) (biases m c) (0 / 8) l) (256 * (0 % 8)) := fun l => by
      rw [start_cell]; rfl
    rw [outsAt0_A m c ⟨0, h⟩ rfl]
    refine ⟨fun r l => ?_, fun l => ?_⟩
    · rw [out_first]
      dsimp only
      refine (whole_cell _ r l).trans ?_
      exact block_sum m c ⟨0, h⟩ _ r l (z l)
    · rw [carry_first]
      dsimp only
      refine (last_cell _ l).trans ?_
      exact block_sum m c ⟨0, h⟩ _ 255 l (z l)
  | succ n ih =>
    intro h
    by_cases h0 : (n + 1) % 8 = 0
    · have z : ∀ l, k0_pay3 (F := Ideal) (ix2 0 l) = upTo (gate (logits m c) (biases m c) ((n + 1) / 8) l) (256 * ((n + 1) % 8)) := fun l => by
        rw [start_cell, h0]; rfl
      rw [outsAt0_A m c ⟨n + 1, h⟩ h0]
      refine ⟨fun r l => ?_, fun l => ?_⟩
      · rw [out_first]
        dsimp only
        refine (whole_cell _ r l).trans ?_
        exact block_sum m c ⟨n + 1, h⟩ _ r l (z l)
      · rw [carry_first]
        dsimp only
        refine (last_cell _ l).trans ?_
        exact block_sum m c ⟨n + 1, h⟩ _ 255 l (z l)
    · have z : ∀ l, (outsAt0 m c n (Nat.lt_of_succ_lt h)).2 (ix2 0 l) = upTo (gate (logits m c) (biases m c) ((n + 1) / 8) l) (256 * ((n + 1) % 8)) := fun l => by
        rw [(ih (Nat.lt_of_succ_lt h)).2 l]
        rw [show (n + 1) / 8 = n / 8 from by omega, show 256 * ((n + 1) % 8) = 256 * (n % 8) + 256 from by omega]
      rw [outsAt0_B m c ⟨n + 1, h⟩ h0]
      refine ⟨fun r l => ?_, fun l => ?_⟩
      · rw [out_later]
        dsimp only
        refine (whole_cell _ r l).trans ?_
        exact block_sum m c ⟨n + 1, h⟩ _ r l (z l)
      · rw [carry_later]
        dsimp only
        refine (last_cell _ l).trans ?_
        exact block_sum m c ⟨n + 1, h⟩ _ 255 l (z l)

/-- A cell of the array: the running sum of its lane's gates. -/
def cell (x : S32768x128.Idx → EReal) (b : S1x16.Idx → EReal) (q : Fin 16) (n : Fin 2048) (l : Fin 128) : EReal :=
  upTo (gate x b q.val l) (n.val + 1)

def at' (x : S32768x128.Idx → EReal) (b : S1x16.Idx → EReal) (q n : ℕ) (l : ℕ) : EReal :=
  if h : l < 128 then upTo (gate x b q ⟨l, h⟩) (n + 1) else 0

theorem array_at : (dats m 0 c).arrAt 3 cfg0.N = fun y : S16x2048x128.Idx => at' (logits m c) (biases m c) (y 0).val (y 1).val (y 2).val := by
  refine (dats m 0 c).arrAt_eq_of_covers 3 _ (by decide +kernel) fun t hf y => ?_
  obtain ⟨e0, e1, e2, e3⟩ := index t
  blk_simp [e3]
  rw [after0_3]
  obtain ⟨r, l, rfl⟩ : ∃ (r : Fin 256) (l : Fin 128), y = ix3 0 r l := ⟨y 1, y 2, by
    funext a
    match a with
    | ⟨0, _⟩ => exact Subsingleton.elim (α := Fin 1) _ _
    | ⟨1, _⟩ => rfl
    | ⟨2, _⟩ => rfl⟩
  refine ((left m c t.val t.isLt).1 r l).trans ?_
  unfold at'
  rw [dif_pos (by simpa using l.isLt)]
  show _ = upTo (gate (logits m c) (biases m c) (t.val / 8) l) (t.val % 8 * 256 + r.val + 1)
  rw [Nat.mul_comm 256]

theorem array : (dats m 0 c).arrAt 3 cfg0.N = fun y : S16x2048x128.Idx => cell (logits m c) (biases m c) (y 0) (y 1) (y 2) := by
  rw [array_at]
  funext y
  unfold at' cell
  exact dif_pos (y 2).isLt

end Cert.Kernel4Ideal.Gates

end
-- ==== Proof.Gates.Reference.lean ====
/- The plain gates of the reference program: the logarithm of each gate, and its running sum along the sequence. -/
module

public import proofs.«01_k».proof.Proof.Gates.Cells

@[expose] public section

set_option maxRecDepth 16384

noncomputable section

namespace Cert.Gates

open Idealize.ShloMosaic Idealize.ShloMosaic.TcCoe Idealize.ShloMosaic.Tactic

/-- Adding along a list is the list's sum on top. -/
theorem fold_add {α : Type} (g : α → EReal) (L : List α) : ∀ v : EReal, L.foldl (fun r n => r + g n) v = v + (L.map g).sum := by
  induction L with
  | nil => intro v; simp
  | cons a L ih => intro v; rw [List.foldl_cons, ih, List.map_cons, List.sum_cons, add_assoc]

theorem row_numel (N : ℕ) : (⟨3, ![1, 1, N]⟩ : Shape).numel = N := by
  show ∏ a : Fin 3, (![1, 1, N] : Fin 3 → ℕ) a = N
  rw [Fin.prod_univ_three]
  show 1 * 1 * N = N
  omega

/-- The places of a window one lane wide, in order. -/
theorem row_place {N : ℕ} (n : Fin (⟨3, ![1, 1, N]⟩ : Shape).numel) :
    (⟨3, ![1, 1, N]⟩ : Shape).rowMajor.symm n = ix3 (0 : Fin 1) (0 : Fin 1) (n.cast (row_numel N)) := by
  rw [Equiv.symm_apply_eq]
  refine Fin.ext ?_
  rw [Shape.rowMajor_val_three]
  show n.val = (0 * 1 + 0) * N + n.val
  simp

/-- A window reaching back over the whole axis sums everything so far. -/
theorem window_sum {A B N M : ℕ} (hM : M + 1 = N) (x : (⟨3, ![A, B, N]⟩ : Shape).Idx → EReal) (f : ℕ → EReal)
    (h : (⟨3, ![A, B, N]⟩ : Shape).ReduceWindows (![1, 1, N] : Fin 3 → Nat) ![1, 1, 1] ![0, 0, M] ![0, 0, 0] ⟨3, ![A, B, N]⟩)
    (q : Fin A) (l : Fin B) (n : Fin N) (hx : ∀ i : Fin N, x (ix3 q l i) = f i.val) :
    Ideal.hostReduceWindowAdd (![1, 1, N] : Fin 3 → Nat) ![1, 1, 1] ![0, 0, M] ![0, 0, 0] h x 0 (ix3 q l n) = upTo f (n.val + 1) := by
  subst hM
  have hn := n.isLt
  have hq := q.isLt
  have hl := l.isLt
  unfold Ideal.hostReduceWindowAdd Host.reduceWindow
  refine (fold_add _ _ _).trans ?_
  rw [zero_add, ← Fin.sum_univ_def]
  refine (Finset.sum_congr rfl fun w _ => ?_ : _ = ∑ w : Fin (⟨3, ![1, 1, M + 1]⟩ : Shape).numel,
    (fun w : ℕ => if M ≤ n.val + w then f (n.val + w - M) else 0) w.val).trans ?_
  · have hw : w.val < M + 1 := (w.cast (row_numel _)).isLt
    dsimp only
    split
    · next hin =>
      have h2 := hin 2
      rw [row_place] at h2
      change M ≤ n.val * 1 + w.val ∧ n.val * 1 + w.val - M < M + 1 at h2
      rw [if_pos (by omega), ← hx ⟨n.val + w.val - M, by omega⟩]
      refine congrArg x (funext fun a => Fin.ext ?_)
      match a with
      | ⟨0, _⟩ =>
        show q.val * 1 + ((⟨3, ![1, 1, M + 1]⟩ : Shape).rowMajor.symm w 0).val - 0 = q.val
        rw [row_place]
        show q.val * 1 + 0 - 0 = q.val
        omega
      | ⟨1, _⟩ =>
        show l.val * 1 + ((⟨3, ![1, 1, M + 1]⟩ : Shape).rowMajor.symm w 1).val - 0 = l.val
        rw [row_place]
        show l.val * 1 + 0 - 0 = l.val
        omega
      | ⟨2, _⟩ =>
        show n.val * 1 + ((⟨3, ![1, 1, M + 1]⟩ : Shape).rowMajor.symm w 2).val - M = n.val + w.val - M
        rw [row_place]
        show n.val * 1 + w.val - M = n.val + w.val - M
        omega
    · next hin =>
      rw [if_neg fun hle => hin fun a => ?_]
      rw [row_place]
      match a with
      | ⟨0, _⟩ =>
        show 0 ≤ q.val * 1 + 0 ∧ q.val * 1 + 0 - 0 < A
        omega
      | ⟨1, _⟩ =>
        show 0 ≤ l.val * 1 + 0 ∧ l.val * 1 + 0 - 0 < B
        omega
      | ⟨2, _⟩ =>
        show M ≤ n.val * 1 + w.val ∧ n.val * 1 + w.val - M < M + 1
        omega
  · rw [Fin.sum_univ_eq_sum_range (fun w : ℕ => if M ≤ n.val + w then f (n.val + w - M) else 0), row_numel]
    generalize n.val = p at hn ⊢
    rw [show M + 1 = (M - p) + (p + 1) from by omega, Finset.sum_range_add, Finset.sum_eq_zero (fun w hw => if_neg (by
        have := Finset.mem_range.mp hw
        omega)), zero_add]
    unfold upTo
    refine Finset.sum_congr rfl fun i _ => ?_
    rw [if_pos (by omega)]
    exact congrArg f (by omega)

end Cert.Gates

namespace Cert.Reference4Ideal.Gates

open Idealize.ShloMosaic Idealize.ShloMosaic.TcCoe Idealize.ShloMosaic.Tactic
open Cert.Reference4Ideal Cert.Reference4Ideal.Gen Cert.Gates

/-- The logits with their biases, the lanes past the heads' without, negated. -/
def biased (x : FVec Ideal S32768x128 .f32) (b : FVec Ideal S1x16 .f32) : FVec Ideal S16x2048x128 .f32 :=
  Host.negf (addf (shapeCast _ x shapeCasts_S32768x128_S16x2048x128) (broadcastInDim S16x2048x128 ![0, 1, 2] bcast_S1x1x128_S16x2048x128_0_1_2
    (broadcastInDim S1x1x128 ![2] bcast_S128_S1x1x128_2 (pad S128 ![0] ![112] ![0] (shapeCast _ b shapeCasts_S1x16_S16) (sitofp .f32 (constantI S_ 32 0#32)) pads_S16_S128_01120 h_S_))))

/-- The smooth positive part, as printed. -/
def soft (y : FVec Ideal S16x2048x128 .f32) : FVec Ideal S16x2048x128 .f32 :=
  select (cmpf .une (subf y (broadcastInDim S16x2048x128 ![] bcast_S_S16x2048x128 (constant S_ .f32 0x00000000#32)))
      (subf y (broadcastInDim S16x2048x128 ![] bcast_S_S16x2048x128 (constant S_ .f32 0x00000000#32))))
    (addf y (broadcastInDim S16x2048x128 ![] bcast_S_S16x2048x128 (constant S_ .f32 0x00000000#32)))
    (addf (maximumf y (broadcastInDim S16x2048x128 ![] bcast_S_S16x2048x128 (constant S_ .f32 0x00000000#32)))
      (Host.log1p (Host.exp (Host.negf (Host.absf (subf y (broadcastInDim S16x2048x128 ![] bcast_S_S16x2048x128 (constant S_ .f32 0x00000000#32))))))))

/-- The gates' logarithms, the sequence last. -/
def logs (z : FVec Ideal S16x2048x128 .f32) : FVec Ideal S16x128x2048 .f32 :=
  transpose S16x128x2048 [0, 2, 1] (Host.negf z) transposes_S16x2048x128_S16x128x2048_0_2_1

/-- Their running sums. -/
def sums (z : FVec Ideal S16x128x2048 .f32) : FVec Ideal S16x2048x128 .f32 :=
  transpose S16x2048x128 [0, 2, 1] (Host.reduceWindowAdd ![1, 1, 2048] ![1, 1, 1] ![0, 0, 2047] ![0, 0, 0] z
    (broadcastInDim S_ ![] bcast_S_S_ (constant S_ .f32 0x00000000#32)) reduceWindows_S16x128x2048_S16x128x2048_w1s1p0_0_w1s1p0_0_w2048s1p2047_0 h_S_)
    transposes_S16x128x2048_S16x2048x128_0_2_1

/-- The run, with the result named. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v9) = sums (logs (soft (biased (m ((c.tc : Thread nD τ).loc main_arg0)) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Value.run m ρ

theorem biased_cell (x : FVec Ideal S32768x128 .f32) (b : FVec Ideal S1x16 .f32) (q : Fin 16) (n : Fin 2048) (l : Fin 128) :
    biased x b (ix3 q n l) = -(x (ix2 ⟨q.val * 2048 + n.val, by omega⟩ l) + (if h : l.val < 16 then b (ix2 0 ⟨l.val, h⟩) else 0 : EReal)) := by
  unfold biased
  pointwise
  rw [show (FloatOps.sitofp (F := Ideal) .f32 0#32 : EReal) = 0 from by
    show (((0#32 : BitVec 32).toInt : ℝ) : EReal) = 0
    simp]

theorem soft_cell (y : FVec Ideal S16x2048x128 .f32) (q : Fin 16) (n : Fin 2048) (l : Fin 128) :
    soft y (ix3 q n l) = max (y (ix3 q n l)) 0 + Ideal.log (1 + Ideal.exp (-max (y (ix3 q n l)) (-y (ix3 q n l)))) := by
  unfold soft
  pointwise
  generalize y (ix3 q n l) = z
  simp
  rfl

theorem logs_cell (z : FVec Ideal S16x2048x128 .f32) (q : Fin 16) (n : Fin 2048) (l : Fin 128) : logs z (ix3 q l n) = (-z (ix3 q n l) : EReal) := by
  unfold logs
  pointwise

theorem sums_cell (z : FVec Ideal S16x128x2048 .f32) (f : ℕ → EReal) (q : Fin 16) (n : Fin 2048) (l : Fin 128) (hx : ∀ i : Fin 2048, z (ix3 q l i) = f i.val) :
    sums z (ix3 q n l) = upTo f (n.val + 1) := by
  rw [← window_sum (M := 2047) rfl z f reduceWindows_S16x128x2048_S16x128x2048_w1s1p0_0_w1s1p0_0_w2048s1p2047_0 q l n hx]
  unfold sums
  rw [show broadcastInDim S_ ![] bcast_S_S_ (constant (F := Ideal) S_ .f32 0x00000000#32) = fun _ => (0 : EReal) from funext fun i => zero_word]
  unfold Host.reduceWindowAdd
  rw [Ideal.hostReduceWindowAdd_def]
  generalize Ideal.hostReduceWindowAdd _ _ _ _ _ _ _ = w
  pointwise

end Cert.Reference4Ideal.Gates

end
-- ==== Proof.Gates.Claims.lean ====
/- The forget gates' call's claims. -/
module

public import proofs.«01_k».proof.Defs
public import proofs.«01_k».proof.Proof.Gen.Kernel4
public import proofs.«01_k».proof.Proof.Gates.Value
public import proofs.«01_k».proof.Proof.Gates.Reference

@[expose] public section

set_option maxRecDepth 16384

noncomputable section

namespace Cert.Proof

open Idealize.ShloMosaic Idealize.ShloMosaic.TcCoe

/-- The printed program and the idealized one have the same bodies. -/
theorem bodies4 : Cert.Kernel4.defs₀ (F := Bits) = Cert.Kernel4Ideal.defs₀ (F := Bits) := by
  refine congrArg Defs.onTc (funext fun l => funext fun a => ?_)
  match l, a with
  | 0, (t, s) => rfl

/-- The gates' call's frame as printed: its run at words. -/
theorem frame_kernel4 : Cert.quiescent_Kernel4 := by
  intro m ρ _
  rw [show Cert.Kernel4.defs (F := Bits) = Cert.Kernel4Ideal.defs (F := Bits) from congrArg (Pipeline.defs Cert.Kernel4Ideal.pcfgs) bodies4]
  exact Cert.Kernel4Ideal.Gen.frame (F := Bits) m ρ

theorem frame_ideal4 : Cert.quiescent_Kernel4Ideal := fun m ρ _ => Cert.Kernel4Ideal.Gen.frame (F := Ideal) m ρ

theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- One cell of the plain running sums. -/
theorem plain_gates (x : Cert.Kernel4Ideal.S32768x128.Idx → EReal) (b : Cert.Kernel4Ideal.S1x16.Idx → EReal) (q : Fin 16) (n : Fin 2048) (l : Fin 128) :
    Cert.Reference4Ideal.Gates.sums (Cert.Reference4Ideal.Gates.logs (Cert.Reference4Ideal.Gates.soft (Cert.Reference4Ideal.Gates.biased x b))) (ix3 q n l)
      = Cert.Kernel4Ideal.Gates.cell x b q n l := by
  refine Cert.Reference4Ideal.Gates.sums_cell _ _ q n l fun i => ?_
  have hq := q.isLt
  have hi := i.isLt
  rw [Cert.Reference4Ideal.Gates.logs_cell, Cert.Reference4Ideal.Gates.soft_cell, Cert.Reference4Ideal.Gates.biased_cell]
  unfold Cert.Kernel4Ideal.Gates.gate
  rw [dif_pos (show q.val * 2048 + i.val < 32768 by omega)]
  exact Cert.Gates.logGate_plain _

/-- The gates' kernel and the plain gates give the same array, on every input. -/
theorem gates : Cert.algebraic_Kernel4Ideal_Reference4Ideal := by
  intro m g m' g' _ hargs
  refine ⟨fun c => fun y : Cert.Kernel4Ideal.S16x2048x128.Idx =>
    Cert.Kernel4Ideal.Gates.cell (Cert.Kernel4Ideal.Gates.logits m c) (Cert.Kernel4Ideal.Gates.biases m c) (y 0) (y 1) (y 2), ?_, ?_⟩
  · exact (θ_run Cert.Kernel4Ideal.defs _ _).mono (fun r h c => ⟨(h c).1.trans (Cert.Kernel4Ideal.Gates.array m c), (h c).2⟩)
      (Cert.Kernel4Ideal.Value.run_blocks (F := Ideal) m g)
  · refine (θ_run Cert.Reference4Ideal.defs _ _).mono (fun r h c => ⟨(h c).1.trans ?_, (h c).2⟩) (Cert.Reference4Ideal.Gates.run m' g')
    obtain ⟨e0, e1⟩ := hargs c
    rw [e0, e1]
    funext y
    have hy : y = ix3 (y 0) (y 1) (y 2) := by
      funext a
      match a with
      | ⟨0, _⟩ => rfl
      | ⟨1, _⟩ => rfl
      | ⟨2, _⟩ => rfl
    rw [hy]
    exact plain_gates _ _ (y 0) (y 1) (y 2)

end Cert.Proof

end
-- ==== Proof.Router.Cells.lean ====
/- The output projection's cells: a row kept and added to, then normalised. -/
module

public import proofs.«01_k».proof.Proof.Proj.Cells
public import proofs.«01_k».proof.Proof.Gen.Kernel5Ideal.Value
public import proofs.«01_k».proof.Proof.Gen.Reference5Ideal.Run

@[expose] public section

set_option maxRecDepth 16384

noncomputable section

namespace Cert.Router

open Idealize.ShloMosaic Idealize.ShloMosaic.TcCoe Idealize.ShloMosaic.Tactic

/-- A cell kept, with a row against a column added. -/
def added (h : EReal) (o w : Fin 1024 → EReal) : EReal := h + ∑ k, o k * w k

end Cert.Router

namespace Cert.Kernel5Ideal.Router

open Idealize.ShloMosaic Idealize.ShloMosaic.TcCoe Idealize.ShloMosaic.Tactic
open Cert.Kernel5Ideal Cert.Kernel5Ideal.Gen Cert.Router Cert.Proj

/-- One cell of the first block the kernel stores. -/
theorem kept_cell (h : Vec Ideal S512x1024 .f32) (o : Vec Ideal S512x1024 .bf16) (w : Vec Ideal S1024x1024 .bf16) (i : Fin 512) (j : Fin 1024) :
    k0_pay3 h o w (ix2 i j) = added (h (ix2 i j)) (fun k => o (ix2 i k)) (fun k => w (ix2 k j)) := by
  unfold added
  pointwise [k0_pay3]

/-- One cell of the second: the first's row normalised. -/
theorem scaled_cell (h : Vec Ideal S512x1024 .f32) (o : Vec Ideal S512x1024 .bf16) (w : Vec Ideal S1024x1024 .bf16) (g : Vec Ideal S1x1024 .f32) (i : Fin 512) (j : Fin 1024) :
    k0_pay4 h o w g (ix2 i j) = normed (fun k => added (h (ix2 i k)) (fun l => o (ix2 i l)) (fun l => w (ix2 l k))) (fun k => g (ix2 0 k)) j := by
  simp only [← kept_cell]
  unfold k0_pay4 normed
  generalize k0_pay3 h o w = z
  pointwise

end Cert.Kernel5Ideal.Router

end
-- ==== Proof.Router.Pick.lean ====
/- A row's greatest entries in order: a stable sort's first places, and rounds of a maximum at its first lane. -/
module

public import proofs.«01_k».proof.Proof.Gates.Cells
public import Idealize.ShloMosaic.Lib.PlanTiles.StableSort

@[expose] public section

set_option maxRecDepth 16384

noncomputable section

namespace Cert.Router

open Idealize.ShloMosaic Idealize.ShloMosaic.TcCoe Idealize.ShloMosaic.Tactic

/-- A maximum over finitely many, at one that is above all. -/
theorem fold_max_eq {n : ℕ} {f : Fin n → EReal} {x : EReal} (p : Fin n) (hp : f p = x) (hle : ∀ l, f l ≤ x) :
    Finset.univ.fold max ⊥ f = x :=
  le_antisymm ((Finset.fold_max_le x).mpr ⟨bot_le, fun l _ => hle l⟩) ((Finset.le_fold_max x).mpr (.inr ⟨p, Finset.mem_univ p, hp.ge⟩))

/-- A minimum over finitely many, at one that is below all. -/
theorem fold_min_eq {n : ℕ} {f : Fin n → EReal} {x : EReal} (p : Fin n) (hp : f p = x) (hle : ∀ l, x ≤ f l) :
    Finset.univ.fold min ⊤ f = x :=
  le_antisymm ((Finset.fold_min_le x).mpr (.inr ⟨p, Finset.mem_univ p, hp.le⟩)) ((Finset.le_fold_min x).mpr ⟨le_top, fun l _ => hle l⟩)

section Ordering

variable {n : ℕ} (L : Fin n → EReal)

/-- The entries in order: greater first, of equal ones the earlier. -/
@[irreducible] def order : Fin n → Fin n := sortedFrom fun k k' => (FloatOps.cmpfTotal (F := Ideal) (φ := .f32) .gt (L k) (L k') == 1#1)

/-- How many entries lie below. -/
def below (a : Fin n) : ℕ := (Finset.univ.filter fun j => L j < L a).card

theorem below_lt (a b : Fin n) : below L b < below L a ↔ L b < L a := by
  constructor
  · intro h
    by_contra hc
    have hle : L a ≤ L b := not_lt.mp hc
    exact absurd h (not_lt.mpr (Finset.card_le_card fun j hj => by
      rw [Finset.mem_filter] at hj ⊢
      exact ⟨hj.1, hj.2.trans_le hle⟩))
  · intro h
    refine Finset.card_lt_card ⟨fun j hj => ?_, fun hsub => ?_⟩
    · rw [Finset.mem_filter] at hj ⊢
      exact ⟨hj.1, hj.2.trans h⟩
    · have := hsub (Finset.mem_filter.mpr ⟨Finset.mem_univ b, h⟩)
      exact absurd (Finset.mem_filter.mp this).2 (lt_irrefl _)

theorem before_eq : (fun k k' => (FloatOps.cmpfTotal (F := Ideal) (φ := .f32) .gt (L k) (L k') == 1#1)) = fun x y => decide (below L y < below L x) := by
  funext x y
  rw [decide_eq_decide.mpr (below_lt L x y)]
  show ((BitVec.ofBool (decide (L y < L x)) : BitVec 1) == 1#1) = decide (L y < L x)
  by_cases h : L y < L x
  · simp [h]
  · simp [h]

theorem order_before (i j : Fin n) (hij : i < j) : L (order L j) < L (order L i) ∨ (L (order L i) = L (order L j) ∧ order L i < order L j) := by
  have hp := PlanTiles.pairwise_stableSort_lex (below L) (fun a b : Fin n => a < b) (List.finRange n) (List.pairwise_lt_finRange n)
  have h := (List.pairwise_iff_get.mp hp) (i.cast (length_sortPositions n _).symm) (j.cast (length_sortPositions n _).symm) hij
  have e : ∀ k : Fin n, order L k = (stableSort (fun x y => decide (below L y < below L x)) (List.finRange n)).get (k.cast (length_sortPositions n _).symm) := fun k => by
    unfold order
    rw [before_eq]
    rfl
  rw [e i, e j]
  rcases h with h | ⟨h, h'⟩
  · exact .inl ((below_lt L _ _).mp h)
  · refine .inr ⟨le_antisymm (not_lt.mp fun hc => ?_) (not_lt.mp fun hc => ?_), h'⟩
    · exact absurd ((below_lt L _ _).mpr hc) (by omega)
    · exact absurd ((below_lt L _ _).mpr hc) (by omega)

theorem order_injective : Function.Injective (order L) := by
  intro i j h
  by_contra hne
  rcases lt_or_gt_of_ne hne with hij | hij
  · rcases order_before L i j hij with h1 | ⟨-, h1⟩ <;> rw [h] at h1 <;> exact lt_irrefl _ h1
  · rcases order_before L j i hij with h1 | ⟨-, h1⟩ <;> rw [h] at h1 <;> exact lt_irrefl _ h1

theorem order_surjective : Function.Surjective (order L) := Finite.surjective_of_injective (order_injective L)

end Ordering

variable (L : Fin 32 → EReal)

/-- What is left on a lane after the first `k` have been taken; nothing past the entries' lanes. -/
def left (k : ℕ) (l : Fin 128) : EReal :=
  if h : l.val < 32 then (if ∃ i : Fin 32, i.val < k ∧ order L i = ⟨l.val, h⟩ then ⊥ else L ⟨l.val, h⟩) else ⊥

/-- The lane taken next. -/
def lane (k : Fin 32) : Fin 128 := ⟨(order L k).val, by omega⟩

theorem left_lane (k : Fin 32) : left L k.val (lane L k) = L (order L k) := by
  unfold left lane
  rw [dif_pos (order L k).isLt, if_neg]
  rintro ⟨i, hi, he⟩
  have : i = k := order_injective L he
  omega

theorem left_le (k : Fin 32) (l : Fin 128) : left L k.val l ≤ L (order L k) := by
  unfold left
  split
  · split
    · exact bot_le
    · next h hn =>
      obtain ⟨j, hj⟩ := order_surjective L ⟨l.val, h⟩
      rw [← hj]
      rcases lt_trichotomy k j with hkj | rfl | hkj
      · rcases order_before L k j hkj with h1 | ⟨h1, -⟩
        · exact h1.le
        · exact h1.ge
      · exact le_refl _
      · exact absurd ⟨j, hkj, hj⟩ hn
  · exact bot_le

theorem left_first (hL : ∀ i, L i ≠ ⊥) (k : Fin 32) (l : Fin 128) (h : left L k.val l = L (order L k)) : lane L k ≤ l := by
  unfold left at h
  split at h
  · next hl =>
    split at h
    · exact absurd h.symm (hL _)
    · next hn =>
      obtain ⟨j, hj⟩ := order_surjective L ⟨l.val, hl⟩
      rw [← hj] at h
      have hlj : l.val = (order L j).val := by rw [hj]
      rcases lt_trichotomy k j with hkj | rfl | hkj
      · rcases order_before L k j hkj with h1 | ⟨-, h1⟩
        · exact absurd h h1.ne
        · show (order L k).val ≤ l.val
          rw [hlj]
          exact h1.le
      · exact hlj.ge
      · exact absurd ⟨j, hkj, hj⟩ hn
  · exact absurd h.symm (hL _)

theorem left_next (k : Fin 32) (l : Fin 128) : (if l = lane L k then ⊥ else left L k.val l) = left L (k.val + 1) l := by
  unfold left lane
  by_cases hl : l.val < 32
  · rw [dif_pos hl, dif_pos hl]
    by_cases h : l = ⟨(order L k).val, by omega⟩
    · rw [if_pos h, if_pos ⟨k, by omega, by
        apply Fin.ext
        exact (congrArg Fin.val h).symm⟩]
    · rw [if_neg h]
      refine if_congr ⟨fun ⟨i, hi, he⟩ => ⟨i, by omega, he⟩, fun ⟨i, hi, he⟩ => ⟨i, ?_, he⟩⟩ rfl rfl
      have hik : i ≠ k := fun e => h (by
        subst e
        apply Fin.ext
        exact (congrArg Fin.val he).symm)
      have := Fin.val_ne_of_ne hik
      omega
  · rw [dif_neg hl, dif_neg hl]
    split <;> rfl

theorem left_zero (l : Fin 128) : left L 0 l = if h : l.val < 32 then L ⟨l.val, h⟩ else ⊥ := by
  unfold left
  split
  · rw [if_neg]
    rintro ⟨i, hi, -⟩
    omega
  · rfl

/-- A lane's number among the extended reals. -/
def number (l : Fin 128) : EReal := ((l.val : ℝ) : EReal)

theorem number_le {a b : Fin 128} (h : a ≤ b) : number a ≤ number b := EReal.coe_le_coe_iff.mpr (by exact_mod_cast h)

theorem number_eq (a b : Fin 128) : number a = number b ↔ a = b := by
  unfold number
  rw [EReal.coe_eq_coe_iff]
  constructor
  · intro h
    exact Fin.ext (by exact_mod_cast h)
  · rintro rfl
    rfl

/-- A round's maximum. -/
theorem round_max (k : Fin 32) : Finset.univ.fold max ⊥ (left L k.val) = L (order L k) :=
  fold_max_eq (lane L k) (left_lane L k) (left_le L k)

/-- The first lane that holds it. -/
theorem round_first (hL : ∀ i, L i ≠ ⊥) (k : Fin 32) (far : EReal) (hfar : ((128 : ℝ) : EReal) ≤ far) :
    (Finset.univ.fold min ⊤ fun l : Fin 128 => if left L k.val l = L (order L k) then number l else far) = number (lane L k) := by
  refine fold_min_eq (lane L k) (if_pos (left_lane L k)) fun l => ?_
  split
  · next h => exact number_le (left_first L hL k l h)
  · refine le_trans (EReal.coe_le_coe_iff.mpr ?_) hfar
    have := (lane L k).isLt
    exact_mod_cast this.le

/-- How often a lane is among the first four: once or not at all. -/
def chosen (l : ℕ) : EReal := ∑ k : Fin 4, if (order L ⟨k.val, by omega⟩).val = l then (1 : EReal) else 0

theorem chosen_real (l : ℕ) : ∃ x : ℝ, chosen L l = x := by
  unfold chosen
  refine ⟨∑ k : Fin 4, if (order L ⟨k.val, by omega⟩).val = l then (1 : ℝ) else 0, ?_⟩
  rw [Fin.sum_univ_four, Fin.sum_univ_four]
  push_cast
  congr 1
  · congr 1
    · congr 1 <;> split <;> simp
    · split <;> simp
  · split <;> simp

/-- A chosen entry's weight among the four. -/
def weight (k : Fin 4) : EReal :=
  Ideal.div (Ideal.exp (L (order L ⟨k.val, by omega⟩) - L (order L 0))) (∑ j : Fin 4, Ideal.exp (L (order L ⟨j.val, by omega⟩) - L (order L 0)))

end Cert.Router

end
-- ==== Proof.Router.Rounds.lean ====
/- The router's rounds: the masked logits, and each round's maximum, its lane and what is left. -/
module

public import proofs.«01_k».proof.Proof.Router.Cells
public import proofs.«01_k».proof.Proof.Router.Pick

@[expose] public section

set_option maxRecDepth 16384

noncomputable section

namespace Cert.Kernel5Ideal.Router

open Idealize.ShloMosaic Idealize.ShloMosaic.TcCoe Idealize.ShloMosaic.Tactic
open Cert.Kernel5Ideal Cert.Kernel5Ideal.Gen Cert.Router Cert.Proj

theorem bottom_word : Ideal.ofBits .f32 4286578688#32 = (⊥ : EReal) := by simp [Ideal.ofBits, Ideal.ieee]

theorem top_word : Ideal.ofBits .f32 2139095040#32 = (⊤ : EReal) := by simp [Ideal.ofBits, Ideal.ieee]

theorem far_word : Ideal.ofBits .f32 1124073472#32 = ((128 : ℝ) : EReal) := by
  simp [Ideal.ofBits, Ideal.ieee]
  rw [← EReal.coe_mul]
  norm_num

/-- A choice by a word that says whether. -/
theorem select_if {α : Type} {p : Prop} [Decidable p] {c : BitVec 1} (h : c = if p then 1#1 else 0#1) (x y : α) : Scalar.select c x y = if p then x else y := by
  subst h
  by_cases hp : p
  · rw [if_pos hp, if_pos hp]
    rfl
  · rw [if_neg hp, if_neg hp]
    rfl

theorem expert_lane : ∀ l : Fin 128, IntOp.cmpi .slt (BitVec.ofNat 32 l.val) 32#32 = if l.val < 32 then 1#1 else 0#1 := by decide

theorem lane_is : ∀ (l : Fin 128) (j : Fin 12), IntOp.cmpi .eq (BitVec.ofNat 32 l.val) (BitVec.ofNat 32 j.val) = if l.val = j.val then 1#1 else 0#1 := by decide +kernel

theorem lane_word : ∀ l : Fin 128, (BitVec.ofNat 32 l.val).toInt = l.val := by decide

/-- A lane's number as the kernel has it. -/
theorem lanes_cell (i : Fin 512) (l : Fin 128) : k0_pay8 (F := Ideal) (ix2 i l) = number l := by
  unfold number
  pointwise [k0_pay8]
  show (((BitVec.ofNat 32 l.val).toInt : ℝ) : EReal) = _
  rw [lane_word]
  norm_cast

theorem max_cell (w : FVec Ideal S512x128 .f32) (i : Fin 512) :
    (shapeCast S512x1 (multiReduction (F := Ideal) (φ := .f32) .maximumf [1] S512 w 0xFF800000#32 reduces_S512x128_S512 (.inl rfl) rfl) shapeCasts_S512_S512x1) (ix2 i 0)
      = Finset.univ.fold max ⊥ fun l : Fin 128 => w (ix2 i l) := by
  pointwise
  rw [bottom_word]

theorem first_cell (v w : FVec Ideal S512x128 .f32) (x : FVec Ideal S512x1 .f32) (i : Fin 512) :
    k0_pay19 v w x (ix2 i 0) = Finset.univ.fold min ⊤ fun l : Fin 128 => if w (ix2 i l) = x (ix2 i 0) then v (ix2 i l) else ((128 : ℝ) : EReal) := by
  pointwise [k0_pay19]
  rw [top_word, far_word]

theorem hot_cell (v w : FVec Ideal S512x128 .f32) (x : FVec Ideal S512x1 .f32) (i : Fin 512) (l : Fin 128) :
    k0_pay20 v w x (ix2 i l) = if v (ix2 i l) = k0_pay19 v w x (ix2 i 0) then 1#1 else 0#1 := by
  unfold k0_pay20
  generalize k0_pay19 v w x = z
  pointwise
  by_cases h : v (ix2 i l) = z (ix2 i 0)
  · simp [h]
  · simp [h]

theorem next_cell (v w : FVec Ideal S512x128 .f32) (x : FVec Ideal S512x1 .f32) (i : Fin 512) (l : Fin 128) :
    k0_pay21 v w x (ix2 i l) = if k0_pay20 v w x (ix2 i l) = 1#1 then ⊥ else w (ix2 i l) := by
  unfold k0_pay21
  generalize k0_pay20 v w x = z
  pointwise
  rw [bottom_word]
  rfl

/-- One masked logit. -/
theorem masked_cell (a b : FVec Ideal S512x1024 .bf16) (z : FVec Ideal S512x128 .f32) (u v : FVec Ideal S1024x128 .bf16) (d : FVec Ideal S1x128 .f32) (i : Fin 512) (l : Fin 128) :
    k0_pay9 a b z u v d (ix2 i l) = if l.val < 32 then z (ix2 i l) + (∑ k, a (ix2 i k) * u (ix2 k l)) + (∑ k, b (ix2 i k) * v (ix2 k l)) + d (ix2 0 l) else ⊥ := by
  pointwise [k0_pay9]
  rw [select_if (expert_lane l), bottom_word]

theorem high_cell (h : Vec Ideal S512x1024 .f32) (o : Vec Ideal S512x1024 .bf16) (w : Vec Ideal S1024x1024 .bf16) (g : Vec Ideal S1x1024 .f32) :
    k0_pay5 h o w g = k0_pay4 h o w g := rfl

theorem low_cell (h : Vec Ideal S512x1024 .f32) (o : Vec Ideal S512x1024 .bf16) (w : Vec Ideal S1024x1024 .bf16) (g : Vec Ideal S1x1024 .f32) (i : Fin 512) (k : Fin 1024) :
    k0_pay6 h o w g (ix2 i k) = (k0_pay4 h o w g (ix2 i k) - k0_pay4 h o w g (ix2 i k) : EReal) := rfl

theorem main_cell (h : Vec Ideal S512x1024 .f32) (o : Vec Ideal S512x1024 .bf16) (w : Vec Ideal S1024x1024 .bf16) (g : Vec Ideal S1x1024 .f32) (u : Vec Ideal S1024x128 .bf16) (i : Fin 512) (l : Fin 128) :
    k0_pay7 h o w g u (ix2 i l) = ∑ k, k0_pay4 h o w g (ix2 i k) * u (ix2 k l) := by
  unfold k0_pay7
  rw [high_cell]
  generalize k0_pay4 h o w g = z
  pointwise

/-- One round on a row: the first lane of the maximum, whether a lane is it, and what is left. -/
theorem step (w : FVec Ideal S512x128 .f32) (x : FVec Ideal S512x1 .f32) (i : Fin 512) (L : Fin 32 → EReal) (hL : ∀ e, L e ≠ ⊥) (k : Fin 32)
    (hw : ∀ l, w (ix2 i l) = left L k.val l) (hx : x (ix2 i 0) = L (order L k)) :
    k0_pay19 (k0_pay8 (F := Ideal)) w x (ix2 i 0) = number (lane L k)
    ∧ (∀ l, k0_pay20 (k0_pay8 (F := Ideal)) w x (ix2 i l) = if l = lane L k then 1#1 else 0#1)
    ∧ ∀ l, k0_pay21 (k0_pay8 (F := Ideal)) w x (ix2 i l) = left L (k.val + 1) l := by
  have h1 : k0_pay19 (k0_pay8 (F := Ideal)) w x (ix2 i 0) = number (lane L k) := by
    rw [first_cell, ← round_first L hL k _ (le_refl _)]
    simp only [hw, hx, lanes_cell]
  have h2 : ∀ l, k0_pay20 (k0_pay8 (F := Ideal)) w x (ix2 i l) = if l = lane L k then 1#1 else 0#1 := fun l => by
    rw [hot_cell, h1, lanes_cell]
    exact if_congr (number_eq _ _) rfl rfl
  refine ⟨h1, h2, fun l => ?_⟩
  rw [next_cell, h2, ← left_next, hw]
  by_cases h : l = lane L k
  · simp [h]
  · simp [h]

theorem top_cell (w : FVec Ideal S512x128 .f32) (i : Fin 512) (L : Fin 32 → EReal) (k : Fin 32) (hw : ∀ l, w (ix2 i l) = left L k.val l) :
    (shapeCast S512x1 (multiReduction (F := Ideal) (φ := .f32) .maximumf [1] S512 w 0xFF800000#32 reduces_S512x128_S512 (.inl rfl) rfl) shapeCasts_S512_S512x1) (ix2 i 0) = L (order L k) := by
  rw [max_cell, ← round_max L k]
  simp only [hw]

section Rounds

variable (a b : FVec Ideal S512x1024 .bf16) (z : FVec Ideal S512x128 .f32) (u v : FVec Ideal S1024x128 .bf16) (d : FVec Ideal S1x128 .f32) (i : Fin 512)
  (L : Fin 32 → EReal) (hL : ∀ e, L e ≠ ⊥) (h0 : ∀ l, k0_pay9 a b z u v d (ix2 i l) = left L 0 l)

include hL h0

theorem top_one : k0_pay10 a b z u v d (ix2 i 0) = L (order L 0) := top_cell (k0_pay9 a b z u v d) i L 0 h0

theorem step_one : k0_pay11 a b z u v d (ix2 i 0) = number (lane L 0) ∧ (∀ l, k0_pay12 a b z u v d (ix2 i l) = if l = lane L 0 then 1#1 else 0#1)
    ∧ ∀ l, k0_pay13 a b z u v d (ix2 i l) = left L 1 l :=
  step (k0_pay9 a b z u v d) (k0_pay10 a b z u v d) i L hL 0 h0 (top_one a b z u v d i L hL h0)

theorem top_two : k0_pay14 a b z u v d (ix2 i 0) = L (order L 1) := top_cell (k0_pay13 a b z u v d) i L 1 (step_one a b z u v d i L hL h0).2.2

theorem step_two : k0_pay15 a b z u v d (ix2 i 0) = number (lane L 1) ∧ (∀ l, k0_pay16 a b z u v d (ix2 i l) = if l = lane L 1 then 1#1 else 0#1)
    ∧ ∀ l, k0_pay17 a b z u v d (ix2 i l) = left L 2 l :=
  step (k0_pay13 a b z u v d) (k0_pay14 a b z u v d) i L hL 1 (step_one a b z u v d i L hL h0).2.2 (top_two a b z u v d i L hL h0)

theorem top_three : k0_pay18 a b z u v d (ix2 i 0) = L (order L 2) := top_cell (k0_pay17 a b z u v d) i L 2 (step_two a b z u v d i L hL h0).2.2

end Rounds

section Later

variable (w : FVec Ideal S512x128 .f32) (x : FVec Ideal S512x1 .f32) (i : Fin 512)
  (L : Fin 32 → EReal) (hL : ∀ e, L e ≠ ⊥) (hw : ∀ l, w (ix2 i l) = left L 2 l) (hx : x (ix2 i 0) = L (order L 2))

include hL hw hx

theorem step_three : k0_pay19 (k0_pay8 (F := Ideal)) w x (ix2 i 0) = number (lane L 2) ∧ (∀ l, k0_pay20 (k0_pay8 (F := Ideal)) w x (ix2 i l) = if l = lane L 2 then 1#1 else 0#1)
    ∧ ∀ l, k0_pay21 (k0_pay8 (F := Ideal)) w x (ix2 i l) = left L 3 l :=
  step w x i L hL 2 hw hx

theorem top_four : k0_pay22 (k0_pay8 (F := Ideal)) w x (ix2 i 0) = L (order L 3) :=
  top_cell (k0_pay21 (k0_pay8 (F := Ideal)) w x) i L 3 (step_three w x i L hL hw hx).2.2

theorem step_four : k0_pay23 (k0_pay8 (F := Ideal)) w x (ix2 i 0) = number (lane L 3) ∧ (∀ l, k0_pay24 (k0_pay8 (F := Ideal)) w x (ix2 i l) = if l = lane L 3 then 1#1 else 0#1) := by
  have h := step (k0_pay21 (k0_pay8 (F := Ideal)) w x) (k0_pay22 (k0_pay8 (F := Ideal)) w x) i L hL 3 (step_three w x i L hL hw hx).2.2 (top_four w x i L hL hw hx)
  exact ⟨h.1, h.2.1⟩

/-- The four weights. -/
theorem weight_one (y1 y2 : FVec Ideal S512x1 .f32) (e1 : y1 (ix2 i 0) = L (order L 0)) (e2 : y2 (ix2 i 0) = L (order L 1)) :
    k0_pay30 (k0_pay8 (F := Ideal)) y1 y2 w x (ix2 i 0) = weight L 0 ∧ k0_pay31 (k0_pay8 (F := Ideal)) y1 y2 w x (ix2 i 0) = weight L 1
    ∧ k0_pay32 (k0_pay8 (F := Ideal)) y1 y2 w x (ix2 i 0) = weight L 2 ∧ k0_pay33 (k0_pay8 (F := Ideal)) y1 y2 w x (ix2 i 0) = weight L 3 := by
  have e4 := top_four w x i L hL hw hx
  unfold k0_pay30 k0_pay31 k0_pay32 k0_pay33 k0_pay29 k0_pay28 k0_pay27 k0_pay26 k0_pay25
  generalize k0_pay22 (k0_pay8 (F := Ideal)) w x = y4 at e4 ⊢
  unfold weight
  rw [Fin.sum_univ_four]
  refine ⟨?_, ?_, ?_, ?_⟩
  all_goals
    pointwise
    rw [e1, e2, hx, e4]

end Later

/-- A word that says whether, counted. -/
theorem counted {p : Prop} [Decidable p] {c : BitVec 1} (h : c = if p then 1#1 else 0#1) : FloatOps.sitofp (F := Ideal) .f32 (BitVec.setWidth 32 c) = if p then (1 : EReal) else 0 := by
  subst h
  by_cases hp : p
  · rw [if_pos hp, if_pos hp]
    show (((BitVec.setWidth 32 1#1).toInt : ℝ) : EReal) = 1
    simp
  · rw [if_neg hp, if_neg hp]
    show (((BitVec.setWidth 32 0#1).toInt : ℝ) : EReal) = 0
    simp

theorem sum_cell (v w : FVec Ideal S512x128 .f32) (p q : IVec S512x128 1) (x : FVec Ideal S512x1 .f32) (i : Fin 512) (l : Fin 128) (L : Fin 32 → EReal)
    (h1 : p (ix2 i l) = if l = lane L 0 then 1#1 else 0#1) (h2 : q (ix2 i l) = if l = lane L 1 then 1#1 else 0#1)
    (h3 : k0_pay20 v w x (ix2 i l) = if l = lane L 2 then 1#1 else 0#1) (h4 : k0_pay24 v w x (ix2 i l) = if l = lane L 3 then 1#1 else 0#1) :
    k0_pay34 v p q w x (ix2 i l) = chosen L l.val := by
  unfold k0_pay34
  generalize k0_pay20 v w x = r at h3 ⊢
  generalize k0_pay24 v w x = t at h4 ⊢
  pointwise
  rw [counted h1, counted h2, counted h3, counted h4]
  unfold chosen
  rw [Fin.sum_univ_four]
  have e : ∀ k : Fin 32, (l = lane L k) = ((order L k).val = l.val) := fun k => propext ⟨fun h => by rw [h]; rfl, fun h => Fin.ext h.symm⟩
  simp only [e]
  rfl

/-- What was chosen before a row, on a lane. -/
theorem before_cell (t : FVec Ideal S512x512 .bf16) (s : FVec Ideal S512x128 .bf16) (c : Vec Ideal S1x128 .f32) (i : Fin 512) (l : Fin 128) :
    k0_pay37 t s c (ix2 i l) = (∑ k, t (ix2 i k) * s (ix2 k l)) + c (ix2 0 l) := by
  pointwise [k0_pay37]

/-- A chosen lane's. -/
theorem rank_cell (p : IVec S512x128 1) (t : FVec Ideal S512x512 .bf16) (s : FVec Ideal S512x128 .bf16) (c : Vec Ideal S1x128 .f32) (i : Fin 512) (e : Fin 128)
    (hp : ∀ l, p (ix2 i l) = if l = e then 1#1 else 0#1) : k0_pay38 p t s c (ix2 i 0) = k0_pay37 t s c (ix2 i e) := by
  unfold k0_pay38
  generalize k0_pay37 t s c = y
  pointwise
  simp only [select_if (hp _), Finset.sum_ite_eq', Finset.mem_univ, if_true]

theorem carry_cell (s : FVec Ideal S512x128 .f32) (c : Vec Ideal S1x128 .f32) (l : Fin 128) :
    k0_pay42 s c (ix2 0 l) = c (ix2 0 l) + ∑ i : Fin 512, s (ix2 i l) := by
  pointwise [k0_pay42]

theorem kept_carry_cell (s : FVec Ideal S512x128 .f32) (c : Vec Ideal S1x128 .f32) (l : Fin 128) :
    k0_pay43 s c (ix2 0 l) = c (ix2 0 l) + ∑ i : Fin 512, s (ix2 i l) := by
  rw [← carry_cell]
  unfold k0_pay43
  generalize k0_pay42 s c = y
  pointwise

theorem count_cell (s : FVec Ideal S512x128 .f32) (c : Vec Ideal S1x128 .f32) (r : Fin 8) (l : Fin 128) :
    k0_pay44 s c (ix2 r l) = c (ix2 0 l) + ∑ i : Fin 512, s (ix2 i l) := by
  rw [← carry_cell]
  unfold k0_pay44
  generalize k0_pay42 s c = y
  pointwise

theorem start_cell (l : Fin 128) : k0_pay2 (F := Ideal) (ix2 0 l) = (0 : EReal) := by
  pointwise [k0_pay2]

/-- A row of the third array: the twelve columns on their lanes. -/
theorem route_cell (f1 f2 f3 f4 g1 g2 g3 g4 r1 r2 r3 r4 : FVec Ideal S512x1 .f32) (i : Fin 512) (l : Fin 128) :
    k0_pay1 (iota .tc S512x128 32 [1] iota_S512x128_d1_w32) r4
      (k0_pay47 (iota .tc S512x128 32 [1] iota_S512x128_d1_w32) f2 f3 f4 g1 g2 g3 g4 r1 r2 r3 (k0_pay45 (iota .tc S512x128 32 [1] iota_S512x128_d1_w32) f1) k0_pay46) k0_pay48 (ix2 i l)
    = if h : l.val < 12 then (![f1 (ix2 i 0), f2 (ix2 i 0), f3 (ix2 i 0), f4 (ix2 i 0), g1 (ix2 i 0), g2 (ix2 i 0), g3 (ix2 i 0), g4 (ix2 i 0), r1 (ix2 i 0), r2 (ix2 i 0), r3 (ix2 i 0), r4 (ix2 i 0)] : Fin 12 → EReal) ⟨l.val, h⟩ else 0 := by
  pointwise [k0_pay1, k0_pay47, k0_pay45, k0_pay46, k0_pay48]
  rw [select_if (show IntOp.cmpi .eq (BitVec.ofNat 32 l.val) 11#32 = if l.val = 11 then 1#1 else 0#1 from lane_is l 11),
    select_if (show IntOp.cmpi .eq (BitVec.ofNat 32 l.val) 10#32 = if l.val = 10 then 1#1 else 0#1 from lane_is l 10),
    select_if (show IntOp.cmpi .eq (BitVec.ofNat 32 l.val) 9#32 = if l.val = 9 then 1#1 else 0#1 from lane_is l 9),
    select_if (show IntOp.cmpi .eq (BitVec.ofNat 32 l.val) 8#32 = if l.val = 8 then 1#1 else 0#1 from lane_is l 8),
    select_if (show IntOp.cmpi .eq (BitVec.ofNat 32 l.val) 7#32 = if l.val = 7 then 1#1 else 0#1 from lane_is l 7),
    select_if (show IntOp.cmpi .eq (BitVec.ofNat 32 l.val) 6#32 = if l.val = 6 then 1#1 else 0#1 from lane_is l 6),
    select_if (show IntOp.cmpi .eq (BitVec.ofNat 32 l.val) 5#32 = if l.val = 5 then 1#1 else 0#1 from lane_is l 5),
    select_if (show IntOp.cmpi .eq (BitVec.ofNat 32 l.val) 4#32 = if l.val = 4 then 1#1 else 0#1 from lane_is l 4),
    select_if (show IntOp.cmpi .eq (BitVec.ofNat 32 l.val) 3#32 = if l.val = 3 then 1#1 else 0#1 from lane_is l 3),
    select_if (show IntOp.cmpi .eq (BitVec.ofNat 32 l.val) 2#32 = if l.val = 2 then 1#1 else 0#1 from lane_is l 2),
    select_if (show IntOp.cmpi .eq (BitVec.ofNat 32 l.val) 1#32 = if l.val = 1 then 1#1 else 0#1 from lane_is l 1),
    select_if (show IntOp.cmpi .eq (BitVec.ofNat 32 l.val) 0#32 = if l.val = 0 then 1#1 else 0#1 from lane_is l 0)]
  obtain ⟨n, hn⟩ := l
  dsimp only
  by_cases h : n < 12
  · rw [dif_pos h]
    interval_cases n <;> rfl
  · rw [dif_neg h]
    repeat rw [if_neg (by
      intro e
      apply h
      rw [e]
      decide)]

end Cert.Kernel5Ideal.Router

end
-- ==== Proof.Router.Value.lean ====
/- The output projection's call: what its first two arrays hold. -/
module

public import proofs.«01_k».proof.Proof.Router.Rounds

@[expose] public section

set_option maxRecDepth 16384

noncomputable section

namespace Cert.Kernel5Ideal.Router

open Idealize.ShloMosaic Idealize.ShloMosaic.TcCoe Idealize.ShloMosaic.Tactic
open Idealize.ShloMosaic.Pipeline (Dat Cfg Window)
open Cert.Kernel5Ideal Cert.Kernel5Ideal.Gen Cert.Router Cert.Proj

theorem zero2 : (![0, 0] : Fin 2 → Nat) = fun _ => 0 := funext fun a => by fin_cases a <;> rfl

section Block

variable (x0 : Vec Ideal S512x1024 .bf16) (x1 : Vec Ideal S512x1024 .f32) (x2 : Vec Ideal S1024x1024 .bf16) (x3 : Vec Ideal S1x1024 .f32) (x4 : Vec Ideal S1024x128 .bf16) (x5 : Vec Ideal S1024x128 .bf16) (x6 : Vec Ideal S1x128 .f32) (x7 : Vec Ideal S512x512 .bf16) (s : Vec Ideal S1x128 .f32)

/-- The masked logits of a block, and the two first rounds on them. -/
abbrev masked : FVec Ideal S512x128 .f32 := k0_pay9 (k0_pay5 x1 x0 x2 x3) (k0_pay6 x1 x0 x2 x3) (k0_pay7 x1 x0 x2 x3 x4) x5 x4 x6
abbrev top1 : FVec Ideal S512x1 .f32 := k0_pay10 (k0_pay5 x1 x0 x2 x3) (k0_pay6 x1 x0 x2 x3) (k0_pay7 x1 x0 x2 x3 x4) x5 x4 x6
abbrev at1 : FVec Ideal S512x1 .f32 := k0_pay11 (k0_pay5 x1 x0 x2 x3) (k0_pay6 x1 x0 x2 x3) (k0_pay7 x1 x0 x2 x3 x4) x5 x4 x6
abbrev hot1 : IVec S512x128 1 := k0_pay12 (k0_pay5 x1 x0 x2 x3) (k0_pay6 x1 x0 x2 x3) (k0_pay7 x1 x0 x2 x3 x4) x5 x4 x6
abbrev top2 : FVec Ideal S512x1 .f32 := k0_pay14 (k0_pay5 x1 x0 x2 x3) (k0_pay6 x1 x0 x2 x3) (k0_pay7 x1 x0 x2 x3 x4) x5 x4 x6
abbrev at2 : FVec Ideal S512x1 .f32 := k0_pay15 (k0_pay5 x1 x0 x2 x3) (k0_pay6 x1 x0 x2 x3) (k0_pay7 x1 x0 x2 x3 x4) x5 x4 x6
abbrev hot2 : IVec S512x128 1 := k0_pay16 (k0_pay5 x1 x0 x2 x3) (k0_pay6 x1 x0 x2 x3) (k0_pay7 x1 x0 x2 x3 x4) x5 x4 x6
abbrev rest2 : FVec Ideal S512x128 .f32 := k0_pay17 (k0_pay5 x1 x0 x2 x3) (k0_pay6 x1 x0 x2 x3) (k0_pay7 x1 x0 x2 x3 x4) x5 x4 x6
abbrev top3 : FVec Ideal S512x1 .f32 := k0_pay18 (k0_pay5 x1 x0 x2 x3) (k0_pay6 x1 x0 x2 x3) (k0_pay7 x1 x0 x2 x3 x4) x5 x4 x6

/-- The last two. -/
abbrev at3 : FVec Ideal S512x1 .f32 := k0_pay19 (k0_pay8 (F := Ideal)) (rest2 x0 x1 x2 x3 x4 x5 x6) (top3 x0 x1 x2 x3 x4 x5 x6)
abbrev hot3 : IVec S512x128 1 := k0_pay20 (k0_pay8 (F := Ideal)) (rest2 x0 x1 x2 x3 x4 x5 x6) (top3 x0 x1 x2 x3 x4 x5 x6)
abbrev at4 : FVec Ideal S512x1 .f32 := k0_pay23 (k0_pay8 (F := Ideal)) (rest2 x0 x1 x2 x3 x4 x5 x6) (top3 x0 x1 x2 x3 x4 x5 x6)
abbrev hot4 : IVec S512x128 1 := k0_pay24 (k0_pay8 (F := Ideal)) (rest2 x0 x1 x2 x3 x4 x5 x6) (top3 x0 x1 x2 x3 x4 x5 x6)

/-- The chosen lanes, counted; the same, narrowed. -/
abbrev picks : FVec Ideal S512x128 .f32 := k0_pay34 (k0_pay8 (F := Ideal)) (hot1 x0 x1 x2 x3 x4 x5 x6) (hot2 x0 x1 x2 x3 x4 x5 x6) (rest2 x0 x1 x2 x3 x4 x5 x6) (top3 x0 x1 x2 x3 x4 x5 x6)
abbrev narrow : FVec Ideal S512x128 .bf16 := k0_pay36 (k0_pay8 (F := Ideal)) (hot1 x0 x1 x2 x3 x4 x5 x6) (hot2 x0 x1 x2 x3 x4 x5 x6) (rest2 x0 x1 x2 x3 x4 x5 x6) (top3 x0 x1 x2 x3 x4 x5 x6)

/-- The third array's block. -/
def routes : FVec Ideal S512x128 .f32 :=
  k0_pay1 (iota .tc S512x128 32 [1] iota_S512x128_d1_w32) (k0_pay41 (hot4 x0 x1 x2 x3 x4 x5 x6) (k0_pay35 x7) (narrow x0 x1 x2 x3 x4 x5 x6) s)
    (k0_pay47 (iota .tc S512x128 32 [1] iota_S512x128_d1_w32) (at2 x0 x1 x2 x3 x4 x5 x6) (at3 x0 x1 x2 x3 x4 x5 x6) (at4 x0 x1 x2 x3 x4 x5 x6)
      (k0_pay30 (k0_pay8 (F := Ideal)) (top1 x0 x1 x2 x3 x4 x5 x6) (top2 x0 x1 x2 x3 x4 x5 x6) (rest2 x0 x1 x2 x3 x4 x5 x6) (top3 x0 x1 x2 x3 x4 x5 x6)) (k0_pay31 (k0_pay8 (F := Ideal)) (top1 x0 x1 x2 x3 x4 x5 x6) (top2 x0 x1 x2 x3 x4 x5 x6) (rest2 x0 x1 x2 x3 x4 x5 x6) (top3 x0 x1 x2 x3 x4 x5 x6)) (k0_pay32 (k0_pay8 (F := Ideal)) (top1 x0 x1 x2 x3 x4 x5 x6) (top2 x0 x1 x2 x3 x4 x5 x6) (rest2 x0 x1 x2 x3 x4 x5 x6) (top3 x0 x1 x2 x3 x4 x5 x6)) (k0_pay33 (k0_pay8 (F := Ideal)) (top1 x0 x1 x2 x3 x4 x5 x6) (top2 x0 x1 x2 x3 x4 x5 x6) (rest2 x0 x1 x2 x3 x4 x5 x6) (top3 x0 x1 x2 x3 x4 x5 x6))
      (k0_pay38 (hot1 x0 x1 x2 x3 x4 x5 x6) (k0_pay35 x7) (narrow x0 x1 x2 x3 x4 x5 x6) s) (k0_pay39 (hot2 x0 x1 x2 x3 x4 x5 x6) (k0_pay35 x7) (narrow x0 x1 x2 x3 x4 x5 x6) s) (k0_pay40 (hot3 x0 x1 x2 x3 x4 x5 x6) (k0_pay35 x7) (narrow x0 x1 x2 x3 x4 x5 x6) s) (k0_pay45 (iota .tc S512x128 32 [1] iota_S512x128_d1_w32) (at1 x0 x1 x2 x3 x4 x5 x6)) k0_pay46) k0_pay48

end Block

section Body

variable (c : Dev nD) (i : grid0.Coords) (a1 : Memref sig .tc .vmem S512x1024 .bf16) (h1 : a1.IsWhole) (a2 : Memref sig .tc .vmem S512x1024 .f32) (h2 : a2.IsWhole) (a3 : Memref sig .tc .vmem S1024x1024 .bf16) (h3 : a3.IsWhole)
  (a4 : Memref sig .tc .vmem S1x1024 .f32) (h4 : a4.IsWhole) (a5 : Memref sig .tc .vmem S1024x128 .bf16) (h5 : a5.IsWhole) (a6 : Memref sig .tc .vmem S1024x128 .bf16) (h6 : a6.IsWhole)
  (a7 : Memref sig .tc .vmem S1x128 .f32) (h7 : a7.IsWhole) (a8 : Memref sig .tc .vmem S512x512 .bf16) (h8 : a8.IsWhole) (a9 : Memref sig .tc .vmem S512x1024 .f32) (h9 : a9.IsWhole)
  (a10 : Memref sig .tc .vmem S512x1024 .f32) (h10 : a10.IsWhole) (a11 : Memref sig .tc .vmem S512x128 .f32) (h11 : a11.IsWhole) (a12 : Memref sig .tc .vmem S8x128 .f32) (h12 : a12.IsWhole)
  (a13 : Memref sig .tc .vmem S1x128 .f32) (h13 : a13.IsWhole)
  (x0 : Vec Ideal S512x1024 .bf16) (x1 : Vec Ideal S512x1024 .f32) (x2 : Vec Ideal S1024x1024 .bf16) (x3 : Vec Ideal S1x1024 .f32) (x4 : Vec Ideal S1024x128 .bf16) (x5 : Vec Ideal S1024x128 .bf16) (x6 : Vec Ideal S1x128 .f32) (x7 : Vec Ideal S512x512 .bf16) (s : Vec Ideal S1x128 .f32)

/-- The first point's blocks. -/
theorem kept_first (hc : cond0_0 i) : out0_A_8 c i a1 h1 a2 h2 a3 h3 a4 h4 a5 h5 a6 h6 a7 h7 a8 h8 a9 h9 a10 h10 a11 h11 a12 h12 a13 h13 hc x0 x1 x2 x3 x4 x5 x6 x7 = k0_pay3 x1 x0 x2 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 hc x0 x1 x2 x3 x4 x5 x6 x7)]
  unfold kernelRun0_A
  dsimp only
  sl_unfold_words
  rw [View.canon_unit_zero (S := S512x1024) zero2]
  simp only [View.readAt_eq_ld, h1.read_unread, h2.read_unread, h3.read_unread, h4.read_unread, View.ld_unit_zero (S := S512x1024) zero2, View.ld_unit_zero (S := S1024x1024) zero2, View.ld_unit_zero (S := S1x1024) zero2]

theorem scaled_first (hc : cond0_0 i) : out0_A_9 c i a1 h1 a2 h2 a3 h3 a4 h4 a5 h5 a6 h6 a7 h7 a8 h8 a9 h9 a10 h10 a11 h11 a12 h12 a13 h13 hc x0 x1 x2 x3 x4 x5 x6 x7 = k0_pay4 x1 x0 x2 x3 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc x0 x1 x2 x3 x4 x5 x6 x7)]
  unfold kernelRun0_A
  dsimp only
  sl_unfold_words
  rw [View.canon_unit_zero (S := S512x1024) zero2]
  simp only [View.readAt_eq_ld, h1.read_unread, h2.read_unread, h3.read_unread, h4.read_unread, View.ld_unit_zero (S := S512x1024) zero2, View.ld_unit_zero (S := S1024x1024) zero2, View.ld_unit_zero (S := S1x1024) zero2]

/-- A later point's. -/
theorem kept_later (hc : ¬cond0_0 i) : out0_B_8 c i a1 h1 a2 h2 a3 h3 a4 h4 a5 h5 a6 h6 a7 h7 a8 h8 a9 h9 a10 h10 a11 h11 a12 h12 a13 h13 hc x0 x1 x2 x3 x4 x5 x6 x7 s = k0_pay3 x1 x0 x2 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 hc x0 x1 x2 x3 x4 x5 x6 x7 s)]
  unfold kernelRun0_B
  dsimp only
  sl_unfold_words
  rw [View.canon_unit_zero (S := S512x1024) zero2]
  simp only [View.readAt_eq_ld, h1.read_unread, h2.read_unread, h3.read_unread, h4.read_unread, View.ld_unit_zero (S := S512x1024) zero2, View.ld_unit_zero (S := S1024x1024) zero2, View.ld_unit_zero (S := S1x1024) zero2]

theorem scaled_later (hc : ¬cond0_0 i) : out0_B_9 c i a1 h1 a2 h2 a3 h3 a4 h4 a5 h5 a6 h6 a7 h7 a8 h8 a9 h9 a10 h10 a11 h11 a12 h12 a13 h13 hc x0 x1 x2 x3 x4 x5 x6 x7 s = k0_pay4 x1 x0 x2 x3 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc x0 x1 x2 x3 x4 x5 x6 x7 s)]
  unfold kernelRun0_B
  dsimp only
  sl_unfold_words
  rw [View.canon_unit_zero (S := S512x1024) zero2]
  simp only [View.readAt_eq_ld, h1.read_unread, h2.read_unread, h3.read_unread, h4.read_unread, View.ld_unit_zero (S := S512x1024) zero2, View.ld_unit_zero (S := S1024x1024) zero2, View.ld_unit_zero (S := S1x1024) zero2]

/-- The third array's block, the fourth's, and what is carried on. -/
theorem routes_first (hc : cond0_0 i) : out0_A_10 c i a1 h1 a2 h2 a3 h3 a4 h4 a5 h5 a6 h6 a7 h7 a8 h8 a9 h9 a10 h10 a11 h11 a12 h12 a13 h13 hc x0 x1 x2 x3 x4 x5 x6 x7 = routes x0 x1 x2 x3 x4 x5 x6 x7 (k0_pay2 (F := Ideal)) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc x0 x1 x2 x3 x4 x5 x6 x7)]
  unfold kernelRun0_A
  dsimp only
  sl_unfold_words
  rw [View.canon_unit_zero (S := S512x128) zero2]
  simp only [View.readAt_eq_ld, h1.read_unread, h2.read_unread, h3.read_unread, h4.read_unread, h5.read_unread, h6.read_unread, h7.read_unread, h8.read_unread, h13.read_unread, View.ld_unit_zero (S := S512x1024) zero2, View.ld_unit_zero (S := S1024x1024) zero2, View.ld_unit_zero (S := S1x1024) zero2, View.ld_unit_zero (S := S1024x128) zero2, View.ld_unit_zero (S := S1x128) zero2, View.ld_unit_zero (S := S512x512) zero2, View.readCov_unit_zero (S := S1x128) _ zero2]
  rfl

theorem counts_first (hc : cond0_0 i) : out0_A_11 c i a1 h1 a2 h2 a3 h3 a4 h4 a5 h5 a6 h6 a7 h7 a8 h8 a9 h9 a10 h10 a11 h11 a12 h12 a13 h13 hc x0 x1 x2 x3 x4 x5 x6 x7 = k0_pay44 (picks x0 x1 x2 x3 x4 x5 x6) (k0_pay2 (F := Ideal)) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc x0 x1 x2 x3 x4 x5 x6 x7)]
  unfold kernelRun0_A
  dsimp only
  sl_unfold_words
  rw [View.canon_unit_zero (S := S8x128) zero2]
  simp only [View.readAt_eq_ld, h1.read_unread, h2.read_unread, h3.read_unread, h4.read_unread, h5.read_unread, h6.read_unread, h7.read_unread, h8.read_unread, h13.read_unread, View.ld_unit_zero (S := S512x1024) zero2, View.ld_unit_zero (S := S1024x1024) zero2, View.ld_unit_zero (S := S1x1024) zero2, View.ld_unit_zero (S := S1024x128) zero2, View.ld_unit_zero (S := S1x128) zero2, View.ld_unit_zero (S := S512x512) zero2, View.readCov_unit_zero (S := S1x128) _ zero2]

theorem carry_first (hc : cond0_0 i) : sout0_A_0 c i a1 h1 a2 h2 a3 h3 a4 h4 a5 h5 a6 h6 a7 h7 a8 h8 a9 h9 a10 h10 a11 h11 a12 h12 a13 h13 hc x0 x1 x2 x3 x4 x5 x6 x7 = k0_pay43 (picks x0 x1 x2 x3 x4 x5 x6) (k0_pay2 (F := Ideal)) := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 hc x0 x1 x2 x3 x4 x5 x6 x7)]
  unfold kernelRun0_A
  dsimp only
  sl_unfold_words
  rw [View.canon_cons_unit_zero (S := S1x128) zero2]
  simp only [View.readAt_eq_ld, h1.read_unread, h2.read_unread, h3.read_unread, h4.read_unread, h5.read_unread, h6.read_unread, h7.read_unread, h8.read_unread, h13.read_unread, View.ld_unit_zero (S := S512x1024) zero2, View.ld_unit_zero (S := S1024x1024) zero2, View.ld_unit_zero (S := S1x1024) zero2, View.ld_unit_zero (S := S1024x128) zero2, View.ld_unit_zero (S := S1x128) zero2, View.ld_unit_zero (S := S512x512) zero2, View.readCov_unit_zero (S := S1x128) _ zero2]

/-- A later point's. -/
theorem routes_later (hc : ¬cond0_0 i) : out0_B_10 c i a1 h1 a2 h2 a3 h3 a4 h4 a5 h5 a6 h6 a7 h7 a8 h8 a9 h9 a10 h10 a11 h11 a12 h12 a13 h13 hc x0 x1 x2 x3 x4 x5 x6 x7 s = routes x0 x1 x2 x3 x4 x5 x6 x7 s := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc x0 x1 x2 x3 x4 x5 x6 x7 s)]
  unfold kernelRun0_B
  dsimp only
  sl_unfold_words
  rw [View.canon_unit_zero (S := S512x128) zero2]
  simp only [View.readAt_eq_ld, h1.read_unread, h2.read_unread, h3.read_unread, h4.read_unread, h5.read_unread, h6.read_unread, h7.read_unread, h8.read_unread, h13.read_unread, View.ld_unit_zero (S := S512x1024) zero2, View.ld_unit_zero (S := S1024x1024) zero2, View.ld_unit_zero (S := S1x1024) zero2, View.ld_unit_zero (S := S1024x128) zero2, View.ld_unit_zero (S := S1x128) zero2, View.ld_unit_zero (S := S512x512) zero2]
  rfl

theorem counts_later (hc : ¬cond0_0 i) : out0_B_11 c i a1 h1 a2 h2 a3 h3 a4 h4 a5 h5 a6 h6 a7 h7 a8 h8 a9 h9 a10 h10 a11 h11 a12 h12 a13 h13 hc x0 x1 x2 x3 x4 x5 x6 x7 s = k0_pay44 (picks x0 x1 x2 x3 x4 x5 x6) s := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc x0 x1 x2 x3 x4 x5 x6 x7 s)]
  unfold kernelRun0_B
  dsimp only
  sl_unfold_words
  rw [View.canon_unit_zero (S := S8x128) zero2]
  simp only [View.readAt_eq_ld, h1.read_unread, h2.read_unread, h3.read_unread, h4.read_unread, h5.read_unread, h6.read_unread, h7.read_unread, h8.read_unread, h13.read_unread, View.ld_unit_zero (S := S512x1024) zero2, View.ld_unit_zero (S := S1024x1024) zero2, View.ld_unit_zero (S := S1x1024) zero2, View.ld_unit_zero (S := S1024x128) zero2, View.ld_unit_zero (S := S1x128) zero2, View.ld_unit_zero (S := S512x512) zero2]

theorem carry_later (hc : ¬cond0_0 i) : sout0_B_0 c i a1 h1 a2 h2 a3 h3 a4 h4 a5 h5 a6 h6 a7 h7 a8 h8 a9 h9 a10 h10 a11 h11 a12 h12 a13 h13 hc x0 x1 x2 x3 x4 x5 x6 x7 s = k0_pay43 (picks x0 x1 x2 x3 x4 x5 x6) s := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 hc x0 x1 x2 x3 x4 x5 x6 x7 s)]
  unfold kernelRun0_B
  dsimp only
  sl_unfold_words
  rw [View.canon_unit_zero (S := S1x128) zero2]
  simp only [View.readAt_eq_ld, h1.read_unread, h2.read_unread, h3.read_unread, h4.read_unread, h5.read_unread, h6.read_unread, h7.read_unread, h8.read_unread, h13.read_unread, View.ld_unit_zero (S := S512x1024) zero2, View.ld_unit_zero (S := S1024x1024) zero2, View.ld_unit_zero (S := S1x1024) zero2, View.ld_unit_zero (S := S1024x128) zero2, View.ld_unit_zero (S := S1x128) zero2, View.ld_unit_zero (S := S512x512) zero2]

end Body

variable (m : (ℓ : Loc nD τ sig) → Buf (Elt Ideal) ℓ) (c : Dev nD)

/-- The launch's arguments these arrays are of: the heads' rows, the layer's rows, the weights and the gains. -/
abbrev heads : S32768x1024.Idx → EReal := m ((c : Thread nD τ).loc main_arg0)
abbrev rows : S32768x1024.Idx → EReal := m ((c : Thread nD τ).loc main_arg1)
abbrev weights : S2x1024x1024.Idx → EReal := m ((c : Thread nD τ).loc main_arg2)
abbrev gains : S2x1024.Idx → EReal := m ((c : Thread nD τ).loc main_arg3)

/-- The blocks' places. -/
theorem index : ∀ t : Fin cfg0.N, win0_0.index t = ![t.val, 0] ∧ win0_1.index t = ![t.val, 0] ∧ win0_2.index t = ![0, 0] ∧ win0_3.index t = ![0, 0]
    ∧ win0_8.index t = ![t.val, 0] ∧ win0_9.index t = ![t.val, 0] :=
  (by decide +kernel : ∀ t : Fin grid0.N, _)

theorem points (t : Fin cfg0.N) : t.val < 64 := lt_of_lt_of_eq t.isLt (show cfg0.N = 64 from N_0)

/-- The weights the region finds: the first layer's. -/
theorem found_weights (k j : Fin 1024) : V m c main_v13 (ix2 k j) = weights m c (ix3 0 k j) := by
  show StableHlo.after (hostOps0 ++ (hostOps0_1 ++ (hostOps0_2 ++ (hostOps0_3 ++ hostOps0_4)))) (fun b => m (c, b)) (Proc.devRef .tc main_v13) (ix2 k j) = _
  simp only [hostOps0, hostOps0_1, hostOps0_2, hostOps0_3, hostOps0_4, List.cons_append, List.nil_append, StableHlo.TRef.binary, StableHlo.TRef.unary, StableHlo.TRef.toBuf, StableHlo.TRef.ofBuf, cast_eq]
  after_results
  pointwise

/-- The gains: the first layer's. -/
theorem found_gains (k : Fin 1024) : V m c main_v24 (ix2 0 k) = gains m c (ix2 0 k) := by
  show StableHlo.after (hostOps0 ++ (hostOps0_1 ++ (hostOps0_2 ++ (hostOps0_3 ++ hostOps0_4)))) (fun b => m (c, b)) (Proc.devRef .tc main_v24) (ix2 0 k) = _
  simp only [hostOps0, hostOps0_1, hostOps0_2, hostOps0_3, hostOps0_4, List.cons_append, List.nil_append, StableHlo.TRef.binary, StableHlo.TRef.unary, StableHlo.TRef.toBuf, StableHlo.TRef.ofBuf, cast_eq]
  after_results
  pointwise

/-- The staged blocks. -/
theorem block_heads (t : Fin cfg0.N) (i : Fin 512) (k : Fin 1024) :
    iblk m c 0 t (ix2 i k) = heads m c (ix2 ⟨t.val * 512 + i.val, by have := points t; omega⟩ k) := by
  obtain ⟨e0, e1, e2, e3, e8, e9⟩ := index t
  show _ = m ((c : Thread nD τ).loc main_arg0) _
  rw [← V_main_arg0 m c]
  blk_ext [iblk, e0]

theorem block_rows (t : Fin cfg0.N) (i : Fin 512) (k : Fin 1024) :
    iblk m c 1 t (ix2 i k) = rows m c (ix2 ⟨t.val * 512 + i.val, by have := points t; omega⟩ k) := by
  obtain ⟨e0, e1, e2, e3, e8, e9⟩ := index t
  show _ = m ((c : Thread nD τ).loc main_arg1) _
  rw [← V_main_arg1 m c]
  blk_ext [iblk, e1]

theorem block_weights (t : Fin cfg0.N) (k j : Fin 1024) : iblk m c 2 t (ix2 k j) = weights m c (ix3 0 k j) := by
  obtain ⟨e0, e1, e2, e3, e8, e9⟩ := index t
  rw [← found_weights]
  blk_ext [iblk, e2]

theorem block_gains (t : Fin cfg0.N) (k : Fin 1024) : iblk m c 3 t (ix2 0 k) = gains m c (ix2 0 k) := by
  obtain ⟨e0, e1, e2, e3, e8, e9⟩ := index t
  rw [← found_gains]
  blk_ext [iblk, e3]

/-- What a point leaves in the first two arrays' blocks. -/
theorem left (t : Fin cfg0.N) : (outsAt0 m c t.val t.isLt).1 = k0_pay3 (iblk m c 1 t) (iblk m c 0 t) (iblk m c 2 t)
    ∧ (outsAt0 m c t.val t.isLt).2.1 = k0_pay4 (iblk m c 1 t) (iblk m c 0 t) (iblk m c 2 t) (iblk m c 3 t) := by
  by_cases h0 : t.val % 64 = 0
  · rw [outsAt0_A m c t h0]
    dsimp only
    rw [kept_first, scaled_first]
    exact ⟨rfl, rfl⟩
  · rw [outsAt0_B m c t h0]
    dsimp only
    rw [kept_later, scaled_later]
    exact ⟨rfl, rfl⟩

/-- A cell of the first array, and of the second. -/
def kept (o h : S32768x1024.Idx → EReal) (w : S2x1024x1024.Idx → EReal) (r : Fin 32768) (j : Fin 1024) : EReal :=
  added (h (ix2 r j)) (fun k => o (ix2 r k)) (fun k => w (ix3 0 k j))

def scaled (o h : S32768x1024.Idx → EReal) (w : S2x1024x1024.Idx → EReal) (g : S2x1024.Idx → EReal) (r : Fin 32768) (j : Fin 1024) : EReal :=
  normed (fun k => kept o h w r k) (fun k => g (ix2 0 k)) j

/-- A cell read at natural numbers. -/
def spread (f : Fin 32768 → Fin 1024 → EReal) (r j : ℕ) : EReal := if h : r < 32768 ∧ j < 1024 then f ⟨r, h.1⟩ ⟨j, h.2⟩ else 0

theorem spread_eq (f : Fin 32768 → Fin 1024 → EReal) {r j : ℕ} (hr : r < 32768) (hj : j < 1024) : spread f r j = f ⟨r, hr⟩ ⟨j, hj⟩ := dif_pos ⟨hr, hj⟩

theorem array_kept : (dats m 0 c).arrAt 8 cfg0.N = fun y : S32768x1024.Idx => kept (heads m c) (rows m c) (weights m c) (y 0) (y 1) := by
  refine ((dats m 0 c).arrAt_eq_of_covers 8 (fun y : S32768x1024.Idx => spread (kept (heads m c) (rows m c) (weights m c)) (y 0).val (y 1).val) (by decide +kernel) fun t hf y => ?_).trans
    (funext fun y => spread_eq _ (y 0).isLt (y 1).isLt)
  obtain ⟨e0, e1, e2, e3, e8, e9⟩ := index t
  have ht := points t
  blk_simp [e8]
  rw [after0_8, (left m c t).1]
  obtain ⟨i, j, rfl⟩ : ∃ (i : Fin 512) (j : Fin 1024), y = ix2 i j := ⟨y 0, y 1, by
    funext a
    match a with
    | ⟨0, _⟩ => rfl
    | ⟨1, _⟩ => rfl⟩
  refine (kept_cell _ _ _ i j).trans ?_
  simp only [block_heads, block_rows, block_weights]
  exact (spread_eq (kept (heads m c) (rows m c) (weights m c)) (r := t.val * 512 + i.val) (j := j.val) (by omega) j.isLt).symm

theorem array_scaled : (dats m 0 c).arrAt 9 cfg0.N = fun y : S32768x1024.Idx => scaled (heads m c) (rows m c) (weights m c) (gains m c) (y 0) (y 1) := by
  refine ((dats m 0 c).arrAt_eq_of_covers 9 (fun y : S32768x1024.Idx => spread (scaled (heads m c) (rows m c) (weights m c) (gains m c)) (y 0).val (y 1).val) (by decide +kernel) fun t hf y => ?_).trans
    (funext fun y => spread_eq _ (y 0).isLt (y 1).isLt)
  obtain ⟨e0, e1, e2, e3, e8, e9⟩ := index t
  have ht := points t
  blk_simp [e9]
  rw [after0_9, (left m c t).2]
  obtain ⟨i, j, rfl⟩ : ∃ (i : Fin 512) (j : Fin 1024), y = ix2 i j := ⟨y 0, y 1, by
    funext a
    match a with
    | ⟨0, _⟩ => rfl
    | ⟨1, _⟩ => rfl⟩
  refine (scaled_cell _ _ _ _ i j).trans ?_
  simp only [block_heads, block_rows, block_weights, block_gains]
  exact (spread_eq (scaled (heads m c) (rows m c) (weights m c) (gains m c)) (r := t.val * 512 + i.val) (j := j.val) (by omega) j.isLt).symm

end Cert.Kernel5Ideal.Router

end
-- ==== Proof.Router.Finite.lean ====
/- Finite rows give finite logits; sums over blocks of rows. -/
module

public import proofs.«01_k».proof.Proof.Router.Cells
public import proofs.«01_k».proof.Proof.Router.Pick
public import proofs.«01_k».proof.Proof.Gates.Cells
public import proofs.«01_k».proof.Proof.Fox.Soft

@[expose] public section

set_option maxRecDepth 16384

noncomputable section

namespace Cert.Router

open Idealize.ShloMosaic Idealize.ShloMosaic.TcCoe Idealize.ShloMosaic.Tactic
open Cert.Proj Cert.Gates

/-- A value neither infinity. -/
def Finite (x : EReal) : Prop := ∃ r : ℝ, x = r

theorem Finite.add {x y : EReal} : Finite x → Finite y → Finite (x + y) := by
  rintro ⟨a, rfl⟩ ⟨b, rfl⟩
  exact ⟨a + b, (EReal.coe_add a b).symm⟩

theorem Finite.mul {x y : EReal} : Finite x → Finite y → Finite (x * y) := by
  rintro ⟨a, rfl⟩ ⟨b, rfl⟩
  exact ⟨a * b, (EReal.coe_mul a b).symm⟩

theorem Finite.sub_self {x : EReal} : Finite x → x - x = 0 := by
  rintro ⟨a, rfl⟩
  rw [← EReal.coe_sub, _root_.sub_self, EReal.coe_zero]

theorem Finite.ne_bot {x : EReal} : Finite x → x ≠ ⊥ := by
  rintro ⟨a, rfl⟩
  exact EReal.coe_ne_bot a

theorem Finite.sum {ι : Type} (s : Finset ι) {f : ι → EReal} (h : ∀ i, Finite (f i)) : Finite (∑ i ∈ s, f i) := by
  induction s using Finset.cons_induction with
  | empty => exact ⟨0, by simp⟩
  | cons i s hi ih => rw [Finset.sum_cons]; exact (h i).add ih

/-- A finite part is taken off a sum. -/
theorem Finite.add_sub {x y : EReal} : Finite y → x + y - y = x := by
  rintro ⟨b, rfl⟩
  exact EReal.add_sub_cancel_right

theorem mean_word : Ideal.ofBits .f32 0x44800000#32 = ((1024 : ℝ) : EReal) := by
  simp [Ideal.ofBits, Ideal.ieee]; rw [← EReal.coe_mul]; norm_num

theorem small_word : ∃ e : ℝ, 0 < e ∧ Ideal.ofBits .f32 0x358637BD#32 = (e : EReal) := by
  refine ⟨(8796093 : ℝ) * 2⁻¹ ^ 43, by positivity, ?_⟩
  simp [Ideal.ofBits, Ideal.ieee]

/-- A row with a product added, and a normalised row, are finite. -/
theorem added_finite {h : EReal} {o w : Fin 1024 → EReal} (hh : Finite h) (ho : ∀ k, Finite (o k)) (hw : ∀ k, Finite (w k)) : Finite (added h o w) :=
  hh.add (Finite.sum _ fun k => (ho k).mul (hw k))

theorem normed_finite {h g : Fin 1024 → EReal} (hh : ∀ k, Finite (h k)) (hg : ∀ k, Finite (g k)) (k : Fin 1024) : Finite (normed h g k) := by
  obtain ⟨f, hf⟩ := Classical.axiomOfChoice hh
  obtain ⟨e, he, hw⟩ := small_word
  have hs : ∑ k, h k * h k = ((∑ k, f k * f k : ℝ) : EReal) := by
    rw [← Cert.Fox.coe_sum]
    exact Finset.sum_congr rfl fun k _ => by rw [hf k, EReal.coe_mul]
  have hp : 0 < (∑ k, f k * f k) * (1 / 1024) + e := by
    have : 0 ≤ ∑ k, f k * f k := Finset.sum_nonneg fun k _ => mul_self_nonneg _
    positivity
  refine ((hh k).mul ?_).mul (hg k)
  rw [hs, mean_word, hw, Ideal.div_coe (by norm_num), ← EReal.coe_mul, ← EReal.coe_add, Ideal.rsqrt_coe, if_neg hp.le.not_gt, if_neg hp.ne']
  exact ⟨_, rfl⟩

/-- A row's logit: the row against a column, and a bias. -/
def logit (x w : Fin 1024 → EReal) (b : EReal) : EReal := (∑ k, x k * w k) + b

theorem logit_finite {x w : Fin 1024 → EReal} {b : EReal} (hx : ∀ k, Finite (x k)) (hw : ∀ k, Finite (w k)) (hb : Finite b) : Finite (logit x w b) :=
  (Finite.sum _ fun k => (hx k).mul (hw k)).add hb

/-- In three parts, of finite rows: two are nothing. -/
theorem logit_parts {x w : Fin 1024 → EReal} (b : EReal) (hx : ∀ k, Finite (x k)) (hw : ∀ k, Finite (w k)) :
    (∑ k, x k * w k) + (∑ k, x k * (w k - w k)) + (∑ k, (x k - x k) * w k) + b = logit x w b := by
  have e1 : ∑ k, x k * (w k - w k) = 0 := Finset.sum_eq_zero fun k _ => by rw [(hw k).sub_self, mul_zero]
  have e2 : ∑ k, (x k - x k) * w k = 0 := Finset.sum_eq_zero fun k _ => by rw [(hx k).sub_self, zero_mul]
  rw [e1, e2, add_zero, add_zero]
  rfl

/-- The terms before a place, from those before its block. -/
theorem upTo_before (f : ℕ → EReal) (n : ℕ) {B : ℕ} (r : Fin B) :
    (∑ k : Fin B, (if k < r then (1 : EReal) else 0) * f (n + k.val)) + upTo f n = upTo f (n + r.val) := by
  unfold upTo
  rw [add_comm, Finset.sum_range_add]
  congr 1
  have e : ∀ k : Fin B, (if k < r then (1 : EReal) else 0) * f (n + k.val) = (fun i : ℕ => if i < r.val then f (n + i) else 0) k.val := fun k => by
    by_cases h : k < r
    · rw [if_pos h, one_mul]; exact (if_pos h).symm
    · rw [if_neg h, zero_mul]; exact (if_neg h).symm
  rw [Finset.sum_congr rfl fun k _ => e k, Fin.sum_univ_eq_sum_range (fun i : ℕ => if i < r.val then f (n + i) else 0) B, ← Finset.sum_filter]
  refine Finset.sum_congr (Finset.ext fun i => ?_) fun _ _ => rfl
  have := r.isLt
  rw [Finset.mem_range, Finset.mem_filter, Finset.mem_range]
  omega

/-- The terms up to a block's end. -/
theorem upTo_whole (f : ℕ → EReal) (n B : ℕ) : upTo f n + ∑ k : Fin B, f (n + k.val) = upTo f (n + B) := by
  unfold upTo
  rw [Finset.sum_range_add, Fin.sum_univ_eq_sum_range (fun i : ℕ => f (n + i)) B]

theorem upTo_succ (f : ℕ → EReal) (n : ℕ) : upTo f (n + 1) = upTo f n + f n := Finset.sum_range_succ _ _

/-- How often a lane is chosen in the row at a place. -/
def chosenAt (L : Fin 32768 → Fin 32 → EReal) (l r : ℕ) : EReal := if h : r < 32768 then chosen (L ⟨r, h⟩) l else 0

theorem chosenAt_eq (L : Fin 32768 → Fin 32 → EReal) (l : ℕ) {r : ℕ} (h : r < 32768) : chosenAt L l r = chosen (L ⟨r, h⟩) l := dif_pos h

theorem chosen_before (L : Fin 32768 → Fin 32 → EReal) (l : ℕ) (r : Fin 32768) :
    upTo (chosenAt L l) (r.val + 1) - chosen (L r) l = upTo (chosenAt L l) r.val := by
  rw [upTo_succ, chosenAt_eq L l r.isLt]
  exact Finite.add_sub (chosen_real (L r) l)

/-- A row of the routing table: the lanes picked, their weights, and how often each was picked in the rows before. -/
def row (L : Fin 32768 → Fin 32 → EReal) (r : Fin 32768) : Fin 12 → EReal :=
  ![number (lane (L r) 0), number (lane (L r) 1), number (lane (L r) 2), number (lane (L r) 3), weight (L r) 0, weight (L r) 1, weight (L r) 2, weight (L r) 3,
    upTo (chosenAt L (order (L r) 0).val) r.val, upTo (chosenAt L (order (L r) 1).val) r.val, upTo (chosenAt L (order (L r) 2).val) r.val, upTo (chosenAt L (order (L r) 3).val) r.val]

def routed (L : Fin 32768 → Fin 32 → EReal) (r : Fin 32768) (l : Fin 128) : EReal := if h : l.val < 12 then row L r ⟨l.val, h⟩ else 0

end Cert.Router

end
-- ==== Proof.Router.Route.lean ====
/- The output projection's call: what its routing table and its counts hold. -/
module

public import proofs.«01_k».proof.Proof.Router.Value
public import proofs.«01_k».proof.Proof.Router.Finite

@[expose] public section

set_option maxRecDepth 16384

noncomputable section

namespace Cert.Kernel5Ideal.Router

open Idealize.ShloMosaic Idealize.ShloMosaic.TcCoe Idealize.ShloMosaic.Tactic
open Idealize.ShloMosaic.Pipeline (Dat Cfg Window)
open Cert.Kernel5Ideal Cert.Kernel5Ideal.Gen Cert.Router Cert.Proj Cert.Gates

variable (m : (ℓ : Loc nD τ sig) → Buf (Elt Ideal) ℓ) (c : Dev nD)

/-- The router's weights and its biases. -/
abbrev routers : S2x1024x32.Idx → EReal := m ((c : Thread nD τ).loc main_arg4)
abbrev biases : S2x32.Idx → EReal := m ((c : Thread nD τ).loc main_arg5)

/-- The blocks' places. -/
theorem index_later : ∀ t : Fin cfg0.N, win0_4.index t = ![0, 0] ∧ win0_5.index t = ![0, 0] ∧ win0_6.index t = ![0, 0] ∧ win0_7.index t = ![0, 0]
    ∧ win0_10.index t = ![t.val, 0] ∧ win0_11.index t = ![0, 0] :=
  (by decide +kernel : ∀ t : Fin grid0.N, _)

theorem zero_int : (FloatOps.sitofp (F := Ideal) .f32 0#32 : EReal) = 0 := by
  show (((0#32 : BitVec 32).toInt : ℝ) : EReal) = 0
  simp

/-- The router's weights, on the lanes of the experts. -/
def wide (k : Fin 1024) (l : Fin 128) : EReal := if h : l.val < 32 then routers m c (ix3 0 k ⟨l.val, h⟩) else 0

theorem found_high (k : Fin 1024) (l : Fin 128) : V m c main_v3 (ix2 k l) = wide m c k l := by
  show StableHlo.after (hostOps0 ++ (hostOps0_1 ++ (hostOps0_2 ++ (hostOps0_3 ++ hostOps0_4)))) (fun b => m (c, b)) (Proc.devRef .tc main_v3) (ix2 k l) = _
  simp only [hostOps0, hostOps0_1, hostOps0_2, hostOps0_3, hostOps0_4, List.cons_append, List.nil_append, StableHlo.TRef.binary, StableHlo.TRef.unary, StableHlo.TRef.toBuf, StableHlo.TRef.ofBuf, cast_eq]
  after_results
  unfold wide
  pointwise
  rw [zero_int]

theorem found_low (k : Fin 1024) (l : Fin 128) : V m c main_v6 (ix2 k l) = (wide m c k l - wide m c k l : EReal) := by
  show StableHlo.after (hostOps0 ++ (hostOps0_1 ++ (hostOps0_2 ++ (hostOps0_3 ++ hostOps0_4)))) (fun b => m (c, b)) (Proc.devRef .tc main_v6) (ix2 k l) = _
  simp only [hostOps0, hostOps0_1, hostOps0_2, hostOps0_3, hostOps0_4, List.cons_append, List.nil_append, StableHlo.TRef.binary, StableHlo.TRef.unary, StableHlo.TRef.toBuf, StableHlo.TRef.ofBuf, cast_eq]
  after_results
  unfold wide
  pointwise
  rw [zero_int]

theorem found_bias (l : Fin 128) : V m c main_v10 (ix2 0 l) = if h : l.val < 32 then biases m c (ix2 0 ⟨l.val, h⟩) else 0 := by
  show StableHlo.after (hostOps0 ++ (hostOps0_1 ++ (hostOps0_2 ++ (hostOps0_3 ++ hostOps0_4)))) (fun b => m (c, b)) (Proc.devRef .tc main_v10) (ix2 0 l) = _
  simp only [hostOps0, hostOps0_1, hostOps0_2, hostOps0_3, hostOps0_4, List.cons_append, List.nil_append, StableHlo.TRef.binary, StableHlo.TRef.unary, StableHlo.TRef.toBuf, StableHlo.TRef.ofBuf, cast_eq]
  after_results
  pointwise
  rw [zero_int]

/-- One place before another, among a block's. -/
theorem word_lt (k r : Fin 512) : IntOp.cmpi CmpIPredicate.slt (BitVec.ofNat 32 k.val) (BitVec.ofNat 32 r.val) = if k < r then 1#1 else 0#1 := by
  have hk := k.isLt
  have hr := r.isLt
  have e : ∀ n : ℕ, n < 512 → (BitVec.ofNat 32 n).toInt = (n : ℤ) := fun n hn => by
    rw [BitVec.toInt_eq_toNat_of_lt (by rw [BitVec.toNat_ofNat]; omega), BitVec.toNat_ofNat]
    omega
  have h : (BitVec.ofNat 32 k.val).slt (BitVec.ofNat 32 r.val) = decide (k < r) := by
    rw [BitVec.slt, e _ hk, e _ hr]
    exact decide_eq_decide.mpr (by rw [Fin.lt_def]; omega)
  show (BitVec.ofBool ((BitVec.ofNat 32 k.val).slt (BitVec.ofNat 32 r.val)) : BitVec 1) = _
  rw [h]
  by_cases hc : k < r
  · simp [hc]
  · simp [hc]

theorem found_ones (r k : Fin 512) : V m c main_v23 (ix2 r k) = if k < r then (1 : EReal) else 0 := by
  show StableHlo.after (hostOps0 ++ (hostOps0_1 ++ (hostOps0_2 ++ (hostOps0_3 ++ hostOps0_4)))) (fun b => m (c, b)) (Proc.devRef .tc main_v23) (ix2 r k) = _
  simp only [hostOps0, hostOps0_1, hostOps0_2, hostOps0_3, hostOps0_4, List.cons_append, List.nil_append, StableHlo.TRef.binary, StableHlo.TRef.unary, StableHlo.TRef.toBuf, StableHlo.TRef.ofBuf, cast_eq]
  after_results
  pointwise
  rw [word_lt]
  by_cases hc : k < r
  · rw [if_pos hc, if_pos hc]
    show (((1#1 : BitVec 1).toNat : ℝ) : EReal) = 1
    simp
  · rw [if_neg hc, if_neg hc]
    show (((0#1 : BitVec 1).toNat : ℝ) : EReal) = 0
    simp

/-- The staged blocks. -/
theorem block_high (t : Fin cfg0.N) (k : Fin 1024) (l : Fin 128) : iblk m c 4 t (ix2 k l) = wide m c k l := by
  obtain ⟨e4, e5, e6, e7, e10, e11⟩ := index_later t
  rw [← found_high]
  blk_ext [iblk, e4]

theorem block_low (t : Fin cfg0.N) (k : Fin 1024) (l : Fin 128) : iblk m c 5 t (ix2 k l) = (wide m c k l - wide m c k l : EReal) := by
  obtain ⟨e4, e5, e6, e7, e10, e11⟩ := index_later t
  rw [← found_low]
  blk_ext [iblk, e5]

theorem block_bias (t : Fin cfg0.N) (l : Fin 128) : iblk m c 6 t (ix2 0 l) = if h : l.val < 32 then biases m c (ix2 0 ⟨l.val, h⟩) else 0 := by
  obtain ⟨e4, e5, e6, e7, e10, e11⟩ := index_later t
  rw [← found_bias]
  blk_ext [iblk, e6]

theorem block_ones (t : Fin cfg0.N) (r k : Fin 512) : iblk m c 7 t (ix2 r k) = if k < r then (1 : EReal) else 0 := by
  obtain ⟨e4, e5, e6, e7, e10, e11⟩ := index_later t
  rw [← found_ones m c]
  blk_ext [iblk, e7]

/-- The logits of a row. -/
def logits (r : Fin 32768) (e : Fin 32) : EReal :=
  logit (scaled (heads m c) (rows m c) (weights m c) (gains m c) r) (fun k => routers m c (ix3 0 k e)) (biases m c (ix2 0 e))

/-- A point's row among all. -/
abbrev at' (t : Fin cfg0.N) (i : Fin 512) : Fin 32768 := ⟨t.val * 512 + i.val, by have := points t; omega⟩

theorem block_scaled (t : Fin cfg0.N) (i : Fin 512) (k : Fin 1024) :
    k0_pay4 (iblk m c 1 t) (iblk m c 0 t) (iblk m c 2 t) (iblk m c 3 t) (ix2 i k) = scaled (heads m c) (rows m c) (weights m c) (gains m c) (at' t i) k := by
  refine (scaled_cell _ _ _ _ i k).trans ?_
  simp only [block_heads, block_rows, block_weights, block_gains]
  rfl

/-- All that is finite: the scaled rows, the router's weights and its biases. -/
structure Tame : Prop where
  row : ∀ r k, Finite (scaled (heads m c) (rows m c) (weights m c) (gains m c) r k)
  router : ∀ k e, Finite (routers m c (ix3 0 k e))
  bias : ∀ e, Finite (biases m c (ix2 0 e))

section Picked

variable (x0 : Vec Ideal S512x1024 .bf16) (x1 : Vec Ideal S512x1024 .f32) (x2 : Vec Ideal S1024x1024 .bf16) (x3 : Vec Ideal S1x1024 .f32) (x4 : Vec Ideal S1024x128 .bf16) (x5 : Vec Ideal S1024x128 .bf16) (x6 : Vec Ideal S1x128 .f32) (x7 : Vec Ideal S512x512 .bf16) (s : Vec Ideal S1x128 .f32)
  (L : Fin 512 → Fin 32 → EReal) (hL : ∀ i e, L i e ≠ ⊥) (h0 : ∀ i l, masked x0 x1 x2 x3 x4 x5 x6 (ix2 i l) = Cert.Router.left (L i) 0 l) (i : Fin 512)

include hL h0

/-- The rounds on a block's masked logits. -/
theorem first : at1 x0 x1 x2 x3 x4 x5 x6 (ix2 i 0) = number (lane (L i) 0) ∧ (∀ l, hot1 x0 x1 x2 x3 x4 x5 x6 (ix2 i l) = if l = lane (L i) 0 then 1#1 else 0#1) := by
  have h := step_one (k0_pay5 x1 x0 x2 x3) (k0_pay6 x1 x0 x2 x3) (k0_pay7 x1 x0 x2 x3 x4) x5 x4 x6 i (L i) (hL i) (h0 i)
  exact ⟨h.1, h.2.1⟩

theorem second : at2 x0 x1 x2 x3 x4 x5 x6 (ix2 i 0) = number (lane (L i) 1) ∧ (∀ l, hot2 x0 x1 x2 x3 x4 x5 x6 (ix2 i l) = if l = lane (L i) 1 then 1#1 else 0#1)
    ∧ ∀ l, rest2 x0 x1 x2 x3 x4 x5 x6 (ix2 i l) = Cert.Router.left (L i) 2 l :=
  step_two (k0_pay5 x1 x0 x2 x3) (k0_pay6 x1 x0 x2 x3) (k0_pay7 x1 x0 x2 x3 x4) x5 x4 x6 i (L i) (hL i) (h0 i)

theorem third : top3 x0 x1 x2 x3 x4 x5 x6 (ix2 i 0) = L i (order (L i) 2) :=
  top_three (k0_pay5 x1 x0 x2 x3) (k0_pay6 x1 x0 x2 x3) (k0_pay7 x1 x0 x2 x3 x4) x5 x4 x6 i (L i) (hL i) (h0 i)

theorem picks_cell (l : Fin 128) : picks x0 x1 x2 x3 x4 x5 x6 (ix2 i l) = chosen (L i) l.val :=
  sum_cell _ _ _ _ _ i l (L i) ((first x0 x1 x2 x3 x4 x5 x6 L hL h0 i).2 l) ((second x0 x1 x2 x3 x4 x5 x6 L hL h0 i).2.1 l)
    ((step_three (rest2 x0 x1 x2 x3 x4 x5 x6) (top3 x0 x1 x2 x3 x4 x5 x6) i (L i) (hL i) (second x0 x1 x2 x3 x4 x5 x6 L hL h0 i).2.2 (third x0 x1 x2 x3 x4 x5 x6 L hL h0 i)).2.1 l)
    ((step_four (rest2 x0 x1 x2 x3 x4 x5 x6) (top3 x0 x1 x2 x3 x4 x5 x6) i (L i) (hL i) (second x0 x1 x2 x3 x4 x5 x6 L hL h0 i).2.2 (third x0 x1 x2 x3 x4 x5 x6 L hL h0 i)).2 l)

/-- How often a lane was picked before a row, from the block's triangle and what is carried. -/
theorem before_row (f : ℕ → ℕ → EReal) (n : ℕ) (hf : ∀ l (k : Fin 512), chosen (L k) l = f l (n + k.val)) (h7 : ∀ r k : Fin 512, x7 (ix2 r k) = if k < r then (1 : EReal) else 0)
    (hs : ∀ l : Fin 128, s (ix2 0 l) = upTo (f l.val) n) (l : Fin 128) : k0_pay37 (k0_pay35 x7) (narrow x0 x1 x2 x3 x4 x5 x6) s (ix2 i l) = upTo (f l.val) (n + i.val) := by
  rw [before_cell, hs, ← upTo_before]
  congr 1
  refine Finset.sum_congr rfl fun k _ => ?_
  rw [← hf, ← picks_cell x0 x1 x2 x3 x4 x5 x6 L hL h0 k l, ← h7]
  have e1 : k0_pay35 x7 (ix2 i k) = (x7 (ix2 i k) : EReal) := by pointwise [k0_pay35]
  rw [e1]
  rfl

theorem routes_cell (l : Fin 128) : routes x0 x1 x2 x3 x4 x5 x6 x7 s (ix2 i l)
    = if h : l.val < 12 then (![number (lane (L i) 0), number (lane (L i) 1), number (lane (L i) 2), number (lane (L i) 3), weight (L i) 0, weight (L i) 1, weight (L i) 2, weight (L i) 3,
        k0_pay37 (k0_pay35 x7) (narrow x0 x1 x2 x3 x4 x5 x6) s (ix2 i (lane (L i) 0)), k0_pay37 (k0_pay35 x7) (narrow x0 x1 x2 x3 x4 x5 x6) s (ix2 i (lane (L i) 1)), k0_pay37 (k0_pay35 x7) (narrow x0 x1 x2 x3 x4 x5 x6) s (ix2 i (lane (L i) 2)), k0_pay37 (k0_pay35 x7) (narrow x0 x1 x2 x3 x4 x5 x6) s (ix2 i (lane (L i) 3))] : Fin 12 → EReal) ⟨l.val, h⟩ else 0 := by
  have f1 := first x0 x1 x2 x3 x4 x5 x6 L hL h0 i
  have f2 := second x0 x1 x2 x3 x4 x5 x6 L hL h0 i
  have f3 := step_three (rest2 x0 x1 x2 x3 x4 x5 x6) (top3 x0 x1 x2 x3 x4 x5 x6) i (L i) (hL i) (second x0 x1 x2 x3 x4 x5 x6 L hL h0 i).2.2 (third x0 x1 x2 x3 x4 x5 x6 L hL h0 i)
  have f4 := step_four (rest2 x0 x1 x2 x3 x4 x5 x6) (top3 x0 x1 x2 x3 x4 x5 x6) i (L i) (hL i) (second x0 x1 x2 x3 x4 x5 x6 L hL h0 i).2.2 (third x0 x1 x2 x3 x4 x5 x6 L hL h0 i)
  have w := weight_one (rest2 x0 x1 x2 x3 x4 x5 x6) (top3 x0 x1 x2 x3 x4 x5 x6) i (L i) (hL i) (second x0 x1 x2 x3 x4 x5 x6 L hL h0 i).2.2 (third x0 x1 x2 x3 x4 x5 x6 L hL h0 i) (top1 x0 x1 x2 x3 x4 x5 x6) (top2 x0 x1 x2 x3 x4 x5 x6)
    (top_one (k0_pay5 x1 x0 x2 x3) (k0_pay6 x1 x0 x2 x3) (k0_pay7 x1 x0 x2 x3 x4) x5 x4 x6 i (L i) (hL i) (h0 i)) (top_two (k0_pay5 x1 x0 x2 x3) (k0_pay6 x1 x0 x2 x3) (k0_pay7 x1 x0 x2 x3 x4) x5 x4 x6 i (L i) (hL i) (h0 i))
  unfold routes
  refine (route_cell _ _ _ _ _ _ _ _ _ _ _ _ i l).trans ?_
  rw [f1.1, f2.1, show at3 x0 x1 x2 x3 x4 x5 x6 (ix2 i 0) = _ from f3.1, show at4 x0 x1 x2 x3 x4 x5 x6 (ix2 i 0) = _ from f4.1, w.1, w.2.1, w.2.2.1, w.2.2.2]
  rw [rank_cell (hot1 x0 x1 x2 x3 x4 x5 x6) _ _ _ i _ f1.2]
  rw [show k0_pay39 (hot2 x0 x1 x2 x3 x4 x5 x6) (k0_pay35 x7) (narrow x0 x1 x2 x3 x4 x5 x6) s (ix2 i 0) = _ from rank_cell _ _ _ _ i _ f2.2.1]
  rw [show k0_pay40 (hot3 x0 x1 x2 x3 x4 x5 x6) (k0_pay35 x7) (narrow x0 x1 x2 x3 x4 x5 x6) s (ix2 i 0) = _ from rank_cell _ _ _ _ i _ f3.2.1]
  rw [show k0_pay41 (hot4 x0 x1 x2 x3 x4 x5 x6) (k0_pay35 x7) (narrow x0 x1 x2 x3 x4 x5 x6) s (ix2 i 0) = _ from rank_cell _ _ _ _ i _ f4.2]

end Picked

variable {m c} (H : Tame m c)

include H in
theorem logits_ne (r : Fin 32768) (e : Fin 32) : logits m c r e ≠ ⊥ :=
  (logit_finite (H.row r) (fun k => H.router k e) (H.bias e)).ne_bot

include H in
theorem masked_left (t : Fin cfg0.N) (i : Fin 512) (l : Fin 128) :
    masked (iblk m c 0 t) (iblk m c 1 t) (iblk m c 2 t) (iblk m c 3 t) (iblk m c 4 t) (iblk m c 5 t) (iblk m c 6 t) (ix2 i l) = Cert.Router.left (logits m c (at' t i)) 0 l := by
  rw [left_zero]
  refine (masked_cell _ _ _ _ _ _ i l).trans ?_
  by_cases h : l.val < 32
  · rw [if_pos h, dif_pos h, main_cell, block_bias, dif_pos h]
    simp only [low_cell, high_cell, block_scaled, block_high, block_low]
    unfold wide logits
    simp only [dif_pos h]
    exact logit_parts _ (H.row _) fun k => H.router k _
  · rw [if_neg h, dif_neg h]

/-- What a point works out, from the rows before its block counted. -/
def Counted (n : ℕ) (s : Vec Ideal S1x128 .f32) : Prop := ∀ l : Fin 128, s (ix2 0 l) = upTo (chosenAt (logits m c) l.val) n

include H in
theorem routes_block (t : Fin cfg0.N) (s : Vec Ideal S1x128 .f32) (hs : Counted (m := m) (c := c) (512 * t.val) s) (i : Fin 512) (l : Fin 128) :
    routes (iblk m c 0 t) (iblk m c 1 t) (iblk m c 2 t) (iblk m c 3 t) (iblk m c 4 t) (iblk m c 5 t) (iblk m c 6 t) (iblk m c 7 t) s (ix2 i l) = routed (logits m c) (at' t i) l := by
  refine (routes_cell _ _ _ _ _ _ _ _ _ (fun i => logits m c (at' t i)) (fun i e => logits_ne H _ e) (masked_left H t) i l).trans ?_
  simp only [before_row _ _ _ _ _ _ _ _ _ (fun i => logits m c (at' t i)) (fun i e => logits_ne H _ e) (masked_left H t) i (chosenAt (logits m c)) (512 * t.val)
    (fun l k => by rw [Nat.mul_comm, chosenAt_eq]) (block_ones m c t) hs]
  unfold routed row
  rw [Nat.mul_comm 512]
  rfl

include H in
theorem picks_sum (t : Fin cfg0.N) (s : Vec Ideal S1x128 .f32) (hs : Counted (m := m) (c := c) (512 * t.val) s) (l : Fin 128) :
    s (ix2 0 l) + ∑ i : Fin 512, picks (iblk m c 0 t) (iblk m c 1 t) (iblk m c 2 t) (iblk m c 3 t) (iblk m c 4 t) (iblk m c 5 t) (iblk m c 6 t) (ix2 i l) = upTo (chosenAt (logits m c) l.val) (512 * t.val + 512) := by
  rw [hs l, ← upTo_whole]
  congr 1
  refine Finset.sum_congr rfl fun k _ => ?_
  refine (picks_cell _ _ _ _ _ _ _ (fun i => logits m c (at' t i)) (fun i e => logits_ne H _ e) (masked_left H t) k l).trans ?_
  rw [Nat.mul_comm, chosenAt_eq]

include H in
/-- What a point leaves: its block's rows, and what has been counted. -/
theorem later (n : ℕ) : ∀ h : n < cfg0.N,
    (∀ (i : Fin 512) (l : Fin 128), (outsAt0 m c n h).2.2.1 (ix2 i l) = routed (logits m c) (at' ⟨n, h⟩ i) l)
    ∧ (∀ (r : Fin 8) (l : Fin 128), (outsAt0 m c n h).2.2.2.1 (ix2 r l) = upTo (chosenAt (logits m c) l.val) (512 * n + 512))
    ∧ Counted (m := m) (c := c) (512 * n + 512) (outsAt0 m c n h).2.2.2.2 := by
  have done : ∀ (n : ℕ) (h : n < cfg0.N) (s : Vec Ideal S1x128 .f32), Counted (m := m) (c := c) (512 * n) s →
      (∀ (i : Fin 512) (l : Fin 128), routes (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) s (ix2 i l) = routed (logits m c) (at' ⟨n, h⟩ i) l)
      ∧ (∀ (r : Fin 8) (l : Fin 128), k0_pay44 (picks (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩)) s (ix2 r l) = upTo (chosenAt (logits m c) l.val) (512 * n + 512))
      ∧ Counted (m := m) (c := c) (512 * n + 512) (k0_pay43 (picks (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩)) s) := fun n h s hs =>
    ⟨routes_block H ⟨n, h⟩ s hs, fun r l => (count_cell _ _ r l).trans (picks_sum H ⟨n, h⟩ s hs l), fun l => (kept_carry_cell _ _ l).trans (picks_sum H ⟨n, h⟩ s hs l)⟩
  induction n with
  | zero =>
    intro h
    rw [outsAt0_A m c ⟨0, h⟩ rfl]
    dsimp only
    rw [routes_first, counts_first, carry_first]
    exact done 0 h _ fun l => start_cell l
  | succ n ih =>
    intro h
    have hn : n + 1 < 64 := points ⟨n + 1, h⟩
    rw [outsAt0_B m c ⟨n + 1, h⟩ (show ¬(n + 1) % 64 = 0 by omega)]
    dsimp only
    rw [routes_later, counts_later, carry_later]
    exact done (n + 1) h _ (ih (Nat.lt_of_succ_lt h)).2.2

/-- A cell of the table read at natural numbers. -/
def cells (f : Fin 32768 → Fin 128 → EReal) (r l : ℕ) : EReal := if h : r < 32768 ∧ l < 128 then f ⟨r, h.1⟩ ⟨l, h.2⟩ else 0

theorem cells_eq (f : Fin 32768 → Fin 128 → EReal) {r l : ℕ} (hr : r < 32768) (hl : l < 128) : cells f r l = f ⟨r, hr⟩ ⟨l, hl⟩ := dif_pos ⟨hr, hl⟩

include H in
theorem array_routes : (dats m 0 c).arrAt 10 cfg0.N = fun y : S32768x128.Idx => routed (logits m c) (y 0) (y 1) := by
  refine ((dats m 0 c).arrAt_eq_of_covers 10 (fun y : S32768x128.Idx => cells (routed (logits m c)) (y 0).val (y 1).val) (by decide +kernel) fun t hf y => ?_).trans
    (funext fun y => cells_eq _ (y 0).isLt (y 1).isLt)
  obtain ⟨e4, e5, e6, e7, e10, e11⟩ := index_later t
  have ht := points t
  blk_simp [e10]
  rw [after0_10]
  obtain ⟨i, l, rfl⟩ : ∃ (i : Fin 512) (l : Fin 128), y = ix2 i l := ⟨y 0, y 1, by
    funext a
    match a with
    | ⟨0, _⟩ => rfl
    | ⟨1, _⟩ => rfl⟩
  refine ((later H t.val t.isLt).1 i l).trans ?_
  exact (cells_eq (routed (logits m c)) (r := t.val * 512 + i.val) (l := l.val) (by omega) l.isLt).symm

include H in
theorem array_counts : (dats m 0 c).arrAt 11 cfg0.N = fun y : S8x128.Idx => upTo (chosenAt (logits m c) (y 1).val) 32768 := by
  refine (dats m 0 c).arrAt_eq_of_covers 11 (fun y : S8x128.Idx => upTo (chosenAt (logits m c) (y 1).val) 32768) (by decide +kernel) fun t hf y => ?_
  obtain ⟨e4, e5, e6, e7, e10, e11⟩ := index_later t
  have ht := points t
  have hm : t.val % 64 = 63 := (flush0_11 t).mp hf
  blk_simp [e11]
  rw [after0_11]
  obtain ⟨r, l, rfl⟩ : ∃ (r : Fin 8) (l : Fin 128), y = ix2 r l := ⟨y 0, y 1, by
    funext a
    match a with
    | ⟨0, _⟩ => rfl
    | ⟨1, _⟩ => rfl⟩
  refine ((later H t.val t.isLt).2.1 r l).trans ?_
  rw [show 512 * t.val + 512 = 32768 by omega]
  rfl

end Cert.Kernel5Ideal.Router

end
-- ==== Proof.Router.Reference.lean ====
/- The plain output projection of the reference program, and its rows normalised. -/
module

public import proofs.«01_k».proof.Proof.Router.Cells
public import proofs.«01_k».proof.Proof.Proj.Reference

@[expose] public section

set_option maxRecDepth 16384

noncomputable section

namespace Cert.Reference5Ideal.Router

open Idealize.ShloMosaic Idealize.ShloMosaic.TcCoe Idealize.ShloMosaic.Tactic
open Cert.Reference5Ideal Cert.Reference5Ideal.Gen Cert.Router Cert.Proj

/-- The rows, with the heads' against the first layer's weights added. -/
def kept (o : FVec Ideal S32768x1024 .bf16) (h : FVec Ideal S32768x1024 .f32) (w : FVec Ideal S2x1024x1024 .f32) : FVec Ideal S32768x1024 .f32 :=
  addf h (Host.dotGeneral dot_S32768x1024_S1024x1024_S32768x1024_1_0_0_1_n_n none (extf .f32 o bitsLt_bf16_f32)
    (shapeCast _ (extractStridedSlice S1x1024x1024 ![0, 0, 0] w slices_S2x1024x1024_S1x1024x1024_0_0_0) shapeCasts_S1x1024x1024_S1024x1024))

/-- The rows' sums of squares. -/
def squares (x : FVec Ideal S32768x1024 .f32) : FVec Ideal S32768 .f32 :=
  Host.reduceAdd (mulf x x) (constant S_ .f32 0x00000000#32) reducesTo_S32768x1024_S32768_d1 h_S_

/-- The normalised rows. -/
def scaled (x : FVec Ideal S32768x1024 .f32) (z : FVec Ideal S32768 .f32) (g : FVec Ideal S2x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 z)
      (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1
      (shapeCast _ (extractStridedSlice S1x1024 ![0, 0] g slices_S2x1024_S1x1024_0_0) shapeCasts_S1x1024_S1024)))

theorem kept_cell (o : FVec Ideal S32768x1024 .bf16) (h : FVec Ideal S32768x1024 .f32) (w : FVec Ideal S2x1024x1024 .f32) (r : Fin 32768) (j : Fin 1024) :
    kept o h w (ix2 r j) = added (h (ix2 r j)) (fun k => o (ix2 r k)) (fun k => w (ix3 0 k j)) := by
  unfold kept added
  pointwise

theorem squares_cell (x : FVec Ideal S32768x1024 .f32) (r : Fin 32768) : squares x (ix1 r) = ∑ k : Fin 1024, x (ix2 r k) * x (ix2 r k) := by
  unfold squares
  rw [Cert.Reference2Ideal.Proj.rowSum]
  have e : constant (F := Ideal) S_ .f32 0x00000000#32 (Shape.Idx.first h_S_) = (0 : EReal) := zero
  rw [e, zero_add]
  rfl

theorem scaled_cell (x : FVec Ideal S32768x1024 .f32) (g : FVec Ideal S2x1024 .f32) (r : Fin 32768) (j : Fin 1024) :
    scaled x (squares x) g (ix2 r j) = normed (fun k => x (ix2 r k)) (fun k => g (ix2 0 k)) j := by
  unfold normed
  rw [← squares_cell]
  unfold scaled
  generalize squares x = z
  pointwise

end Cert.Reference5Ideal.Router

end
-- ==== Proof.Router.Table.lean ====
/- The reference program's routing: the four best experts of each row, their weights, and their ranks. -/
module

public import proofs.«01_k».proof.Proof.Router.Reference
public import proofs.«01_k».proof.Proof.Router.Finite
public import proofs.«01_k».proof.Proof.Gates.Reference

@[expose] public section

set_option maxRecDepth 16384

noncomputable section

namespace Cert.Router

open Idealize.ShloMosaic Idealize.ShloMosaic.TcCoe Idealize.ShloMosaic.Tactic

section Best

variable {p n k : ℕ} (x : (⟨2, ![p, n]⟩ : Shape).Idx → EReal)

theorem along_row (r : Fin p) (q c : Fin n) (hd : 1 < (⟨2, ![p, n]⟩ : Shape).rank) :
    Shape.Idx.along (s := ⟨2, ![p, n]⟩) (ix2 r q) ⟨1, hd⟩ c = ix2 r c := by
  funext a
  match a with
  | ⟨0, _⟩ => rfl
  | ⟨1, _⟩ => rfl

/-- Rows sorted, greatest first, with a second array. -/
theorem sorted_cell {β : Type} (y : (⟨2, ![p, n]⟩ : Shape).Idx → β) (r : Fin p) (q : Fin n) :
    (Host.sort2 ⟨2, ![p, n]⟩ 1 (fun l r => FloatOps.cmpfTotal (F := Ideal) (φ := .f32) .gt l.1 r.1) x y).1 (ix2 r q) = x (ix2 r (order (fun e => x (ix2 r e)) q))
    ∧ (Host.sort2 ⟨2, ![p, n]⟩ 1 (fun l r => FloatOps.cmpfTotal (F := Ideal) (φ := .f32) .gt l.1 r.1) x y).2 (ix2 r q) = y (ix2 r (order (fun e => x (ix2 r e)) q)) := by
  have hd : 1 < (⟨2, ![p, n]⟩ : Shape).rank := Nat.one_lt_two
  have e : (sortedFrom (n := n) fun a b => FloatOps.cmpfTotal (F := Ideal) (φ := .f32) .gt (x (Shape.Idx.along (s := ⟨2, ![p, n]⟩) (ix2 r q) ⟨1, hd⟩ a)) (x (Shape.Idx.along (s := ⟨2, ![p, n]⟩) (ix2 r q) ⟨1, hd⟩ b)) == 1#1) q
      = order (fun e => x (ix2 r e)) q := by
    unfold order
    exact congrArg (fun f => sortedFrom (n := n) f q) (funext fun a => funext fun b => by rw [along_row, along_row])
  unfold Host.sort2
  rw [dif_pos hd]
  exact ⟨(congrArg (fun c : Fin n => x (Shape.Idx.along (s := ⟨2, ![p, n]⟩) (ix2 r q) ⟨1, hd⟩ c)) e).trans (congrArg x (along_row _ _ _ _)),
    (congrArg (fun c : Fin n => y (Shape.Idx.along (s := ⟨2, ![p, n]⟩) (ix2 r q) ⟨1, hd⟩ c)) e).trans (congrArg y (along_row _ _ _ _))⟩

/-- The first of them, and where they stood. -/
theorem best_cell (h : (⟨2, ![p, n]⟩ : Shape).Slices (fun _ => 0) ⟨2, ![p, k]⟩) (hk : k ≤ n) (r : Fin p) (j : Fin k) :
    (Host.topK ⟨2, ![p, k]⟩ 1 (FloatOps.cmpfTotal (F := Ideal) (φ := .f32) .gt) x h).1 (ix2 r j) = x (ix2 r (order (fun e => x (ix2 r e)) (j.castLE hk)))
    ∧ (Host.topK ⟨2, ![p, k]⟩ 1 (FloatOps.cmpfTotal (F := Ideal) (φ := .f32) .gt) x h).2 (ix2 r j) = BitVec.ofNat 32 (order (fun e => x (ix2 r e)) (j.castLE hk)).val := by
  have hd : 1 < (⟨2, ![p, n]⟩ : Shape).rank := Nat.one_lt_two
  have e : ∀ {α : Type} (z : (⟨2, ![p, n]⟩ : Shape).Idx → α), extractStridedSlice ⟨2, ![p, k]⟩ (fun _ => 0) z h (ix2 r j) = z (ix2 r (j.castLE hk)) := fun z => by
    unfold extractStridedSlice
    refine congrArg z (funext fun a => Fin.ext ?_)
    match a with
    | ⟨0, _⟩ => exact Nat.zero_add _
    | ⟨1, _⟩ => exact Nat.zero_add _
  unfold Host.topK
  dsimp only
  refine ⟨(e _).trans (sorted_cell x _ r _).1, ((e _).trans (sorted_cell x _ r _).2).trans ?_⟩
  rw [dif_pos hd]
  rfl

end Best

end Cert.Router

namespace Cert.Reference5Ideal.Router

open Idealize.ShloMosaic Idealize.ShloMosaic.TcCoe Idealize.ShloMosaic.Tactic
open Cert.Reference5Ideal Cert.Reference5Ideal.Gen Cert.Router Cert.Proj Cert.Gates

/-- The logits: the normalised rows against the first layer's router, with its biases. -/
def logits (x : FVec Ideal S32768x1024 .f32) (w : FVec Ideal S2x1024x32 .f32) (b : FVec Ideal S2x32 .f32) : FVec Ideal S32768x32 .f32 :=
  addf (Host.dotGeneral dot_S32768x1024_S1024x32_S32768x32_1_0_0_1_n_n none x
      (shapeCast _ (extractStridedSlice S1x1024x32 ![0, 0, 0] w slices_S2x1024x32_S1x1024x32_0_0_0) shapeCasts_S1x1024x32_S1024x32))
    (broadcastInDim S32768x32 ![0, 1] bcast_S1x32_S32768x32_0_1 (broadcastInDim S1x32 ![1] bcast_S32_S1x32_1
      (shapeCast _ (extractStridedSlice S1x32 ![0, 0] b slices_S2x32_S1x32_0_0) shapeCasts_S1x32_S32)))

/-- The four best of each row, and where they stood. -/
def best (z : FVec Ideal S32768x32 .f32) : FVec Ideal S32768x4 .f32 := (Host.topK S32768x4 1 (FloatOps.cmpfTotal .gt) z sliceFits_S32768x32_S32768x4).1

def places (z : FVec Ideal S32768x32 .f32) : IVec S32768x4 32 := (Host.topK S32768x4 1 (FloatOps.cmpfTotal .gt) z sliceFits_S32768x32_S32768x4).2

/-- Their rows of the identity, and those summed. -/
def hot (p : IVec S32768x4 32) : FVec Ideal S32768x4x32 .f32 :=
  uitofp .f32 (cmpi .eq (broadcastInDim S32768x4x32 ![0, 1, 2] bcast_S32768x4x1_S32768x4x32_0_1_2 (broadcastInDim S32768x4x1 ![0, 1] bcast_S32768x4_S32768x4x1_0_1 p))
    (broadcastInDim S32768x4x32 ![0, 1, 2] bcast_S1x1x32_S32768x4x32_0_1_2 (iotaInDim S1x1x32 32 2)))

def picks (h : FVec Ideal S32768x4x32 .f32) : FVec Ideal S32768x32 .f32 :=
  Host.reduceAdd h (constant S_ .f32 0x00000000#32) reducesTo_S32768x4x32_S32768x32_d1 h_S_

/-- Running sums down the rows. -/
def sums (d : FVec Ideal S1x32x32768 .f32) : FVec Ideal S1x32x32768 .f32 :=
  Host.reduceWindowAdd ![1, 1, 32768] ![1, 1, 1] ![0, 0, 32767] ![0, 0, 0] d
    (broadcastInDim S_ ![] bcast_S_S_ (constant S_ .f32 0x00000000#32)) reduceWindows_S1x32x32768_S1x32x32768_w1s1p0_0_w1s1p0_0_w32768s1p32767_0 h_S_

def turned (d : FVec Ideal S32768x32 .f32) : FVec Ideal S1x32x32768 .f32 :=
  shapeCast _ (transpose S32x32768 [1, 0] d transposes_S32768x32_S32x32768_1_0) shapeCasts_S32x32768_S1x32x32768

def back (d : FVec Ideal S1x32x32768 .f32) : FVec Ideal S32768x32 .f32 :=
  transpose S32768x32 [1, 0] (shapeCast _ d shapeCasts_S1x32x32768_S32x32768) transposes_S32x32768_S32768x32_1_0

def ranks (h : FVec Ideal S32768x4x32 .f32) (d : FVec Ideal S32768x32 .f32) : FVec Ideal S32768x4 .f32 :=
  Host.reduceAdd (mulf h (broadcastInDim S32768x4x32 ![0, 1, 2] bcast_S32768x1x32_S32768x4x32_0_1_2 (broadcastInDim S32768x1x32 ![0, 2] bcast_S32768x32_S32768x1x32_0_2 d)))
    (constant S_ .f32 0x00000000#32) reducesTo_S32768x4x32_S32768x4_d2 h_S_

/-- The weights of the four. -/
def tops (v : FVec Ideal S32768x4 .f32) : FVec Ideal S32768 .f32 :=
  maximumf (broadcastInDim S32768 ![] bcast_S_S32768 (constant S_ .f32 0xFF800000#32))
    (Host.reduce FloatOps.maximumf v (constant S_ .f32 0xFF800000#32) reducesTo_S32768x4_S32768_d1 h_S_)

def parts (v : FVec Ideal S32768x4 .f32) (u : FVec Ideal S32768 .f32) : FVec Ideal S32768x4 .f32 :=
  Host.exp (subf v (broadcastInDim S32768x4 ![0, 1] bcast_S32768x1_S32768x4_0_1 (broadcastInDim S32768x1 ![0] bcast_S32768_S32768x1_0 u)))

def totals (v : FVec Ideal S32768x4 .f32) : FVec Ideal S32768 .f32 :=
  Host.reduceAdd v (constant S_ .f32 0x00000000#32) reducesTo_S32768x4_S32768_d1 h_S_

def shares (v : FVec Ideal S32768x4 .f32) (u : FVec Ideal S32768 .f32) : FVec Ideal S32768x4 .f32 :=
  Host.divf v (broadcastInDim S32768x4 ![0, 1] bcast_S32768x1_S32768x4_0_1 (broadcastInDim S32768x1 ![0] bcast_S32768_S32768x1_0 u))

/-- The routing table, and the counts. -/
def table (p : IVec S32768x4 32) (v w : FVec Ideal S32768x4 .f32) : FVec Ideal S32768x128 .f32 :=
  concatenate S32768x128 1 [⟨S32768x4, (sitofp .f32 p : FVec Ideal S32768x4 .f32)⟩, ⟨S32768x4, v⟩, ⟨S32768x4, w⟩,
    ⟨S32768x116, broadcastInDim S32768x116 ![] bcast_S_S32768x116 (constant S_ .f32 0x00000000#32)⟩] concatenates_S32768x4_S32768x4_S32768x4_S32768x116_S32768x128_d1

def counts (d : FVec Ideal S32768x32 .f32) : FVec Ideal S8x128 .f32 :=
  broadcastInDim S8x128 ![1] bcast_S128_S8x128_1 (pad S128 ![0] ![96] ![0] (Host.reduceAdd d (constant S_ .f32 0x00000000#32) reducesTo_S32768x32_S32_d0 h_S_)
    (sitofp .f32 (constantI S_ 32 0#32)) pads_S32_S128_0960 h_S_)

/-- The table of given logits. -/
def routing (z : FVec Ideal S32768x32 .f32) : FVec Ideal S32768x128 .f32 :=
  table (places z) (shares (parts (best z) (tops (best z))) (totals (parts (best z) (tops (best z)))))
    (ranks (hot (places z)) (subf (back (sums (turned (picks (hot (places z)))))) (picks (hot (places z)))))

variable (m : (ℓ : Loc nD τ sig) → Buf (Elt Ideal) ℓ) (ρ : Dev nD → PrngReg)

/-- The first result, and the second. -/
abbrev first (c : Dev nD) : FVec Ideal S32768x1024 .f32 :=
  kept (m ((c.tc : Thread nD τ).loc main_arg0)) (m ((c.tc : Thread nD τ).loc main_arg1)) (m ((c.tc : Thread nD τ).loc main_arg2))

abbrev second (c : Dev nD) : FVec Ideal S32768x1024 .f32 :=
  scaled (first m c) (squares (first m c)) (m ((c.tc : Thread nD τ).loc main_arg3))

abbrev scores (c : Dev nD) : FVec Ideal S32768x32 .f32 :=
  logits (second m c) (m ((c.tc : Thread nD τ).loc main_arg4)) (m ((c.tc : Thread nD τ).loc main_arg5))

/-- The run, with the results named. -/
theorem run : θ_run defs (onTc (τ := τ) (main (F := Ideal))) ⟨m, fun _ => 0, ρ⟩ (fun r => ∀ c : Dev nD,
      r.2.mem ((c.tc : Thread nD τ).loc main_v4) = first m c
      ∧ r.2.mem ((c.tc : Thread nD τ).loc main_v19) = second m c
      ∧ r.2.mem ((c.tc : Thread nD τ).loc main_v53) = routing (scores m c)
      ∧ r.2.mem ((c.tc : Thread nD τ).loc main_v56) = counts (picks (hot (places (scores m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Value.run m ρ

theorem logits_cell (x : FVec Ideal S32768x1024 .f32) (w : FVec Ideal S2x1024x32 .f32) (b : FVec Ideal S2x32 .f32) (r : Fin 32768) (e : Fin 32) :
    logits x w b (ix2 r e) = logit (fun k => x (ix2 r k)) (fun k => w (ix3 0 k e)) (b (ix2 0 e)) := by
  unfold logits logit
  pointwise

/-- The logits a row has. -/
abbrev rowOf (z : FVec Ideal S32768x32 .f32) (r : Fin 32768) (e : Fin 32) : EReal := z (ix2 r e)

theorem best_at (z : FVec Ideal S32768x32 .f32) (r : Fin 32768) (k : Fin 4) : best z (ix2 r k) = rowOf z r (order (rowOf z r) ⟨k.val, by omega⟩) :=
  (best_cell z sliceFits_S32768x32_S32768x4 (by decide) r k).1

theorem places_at (z : FVec Ideal S32768x32 .f32) (r : Fin 32768) (k : Fin 4) : places z (ix2 r k) = BitVec.ofNat 32 (order (rowOf z r) ⟨k.val, by omega⟩).val :=
  (best_cell z sliceFits_S32768x32_S32768x4 (by decide) r k).2

theorem same_expert : ∀ a b : Fin 32, IntOp.cmpi .eq (BitVec.ofNat 32 a.val) (BitVec.ofNat 32 b.val) = if a.val = b.val then 1#1 else 0#1 := by decide +kernel

theorem expert_word : ∀ a : Fin 32, (BitVec.ofNat 32 a.val).toInt = a.val := by decide

theorem bit_one {q : Prop} [Decidable q] {c : BitVec 1} (h : c = if q then 1#1 else 0#1) : FloatOps.uitofp (F := Ideal) .f32 c = if q then (1 : EReal) else 0 := by
  subst h
  by_cases hq : q
  · rw [if_pos hq, if_pos hq]
    show (((1#1 : BitVec 1).toNat : ℝ) : EReal) = 1
    simp
  · rw [if_neg hq, if_neg hq]
    show (((0#1 : BitVec 1).toNat : ℝ) : EReal) = 0
    simp

theorem hot_at (p : IVec S32768x4 32) (r : Fin 32768) (k : Fin 4) (l e : Fin 32) (he : p (ix2 r k) = BitVec.ofNat 32 e.val) :
    hot p (ix3 r k l) = if e.val = l.val then (1 : EReal) else 0 := by
  rw [← bit_one (same_expert e l), ← he]
  unfold hot
  pointwise

theorem hot_places (z : FVec Ideal S32768x32 .f32) (r : Fin 32768) (k : Fin 4) (l : Fin 32) :
    hot (places z) (ix3 r k l) = if (order (rowOf z r) ⟨k.val, by omega⟩).val = l.val then (1 : EReal) else 0 :=
  hot_at _ r k l _ (places_at z r k)

/-- Sums along an axis, at any extents. -/
theorem middleSum {p q n : ℕ} {u : Shape} (w : FVec Ideal ⟨3, ![p, n, q]⟩ .f32) (init : FVec Ideal u .f32)
    (h : (⟨3, ![p, n, q]⟩ : Shape).ReducesTo [1] ⟨2, ![p, q]⟩) (hu : 0 < u.numel) (a : Fin p) (b : Fin q) :
    Host.reduceAdd (F := Ideal) (φ := .f32) w init h hu (ix2 a b) = init (Shape.Idx.first hu) + ∑ s : Fin n, w (ix3 a s b) := by
  pointwise

theorem lastSum {p q n : ℕ} {u : Shape} (w : FVec Ideal ⟨3, ![p, q, n]⟩ .f32) (init : FVec Ideal u .f32)
    (h : (⟨3, ![p, q, n]⟩ : Shape).ReducesTo [2] ⟨2, ![p, q]⟩) (hu : 0 < u.numel) (a : Fin p) (b : Fin q) :
    Host.reduceAdd (F := Ideal) (φ := .f32) w init h hu (ix2 a b) = init (Shape.Idx.first hu) + ∑ s : Fin n, w (ix3 a b s) := by
  pointwise

theorem downSum {p n : ℕ} {u : Shape} (w : FVec Ideal ⟨2, ![n, p]⟩ .f32) (init : FVec Ideal u .f32)
    (h : (⟨2, ![n, p]⟩ : Shape).ReducesTo [0] ⟨1, ![p]⟩) (hu : 0 < u.numel) (a : Fin p) :
    Host.reduceAdd (F := Ideal) (φ := .f32) w init h hu (ix1 a) = init (Shape.Idx.first hu) + ∑ s : Fin n, w (ix2 s a) := by
  pointwise

theorem nothing : constant (F := Ideal) S_ .f32 0x00000000#32 (Shape.Idx.first h_S_) = (0 : EReal) := zero

theorem picks_at (z : FVec Ideal S32768x32 .f32) (r : Fin 32768) (l : Fin 32) : picks (hot (places z)) (ix2 r l) = chosen (rowOf z r) l.val := by
  unfold picks chosen
  rw [middleSum, nothing, zero_add]
  exact Finset.sum_congr rfl fun k _ => hot_places z r k l

theorem sums_at (d : FVec Ideal S1x32x32768 .f32) (f : ℕ → EReal) (l : Fin 32) (r : Fin 32768) (hd : ∀ r : Fin 32768, d (ix3 0 l r) = f r.val) :
    sums d (ix3 0 l r) = upTo f (r.val + 1) := by
  rw [← window_sum (M := 32767) rfl d f reduceWindows_S1x32x32768_S1x32x32768_w1s1p0_0_w1s1p0_0_w32768s1p32767_0 0 l r hd]
  unfold sums
  rw [show broadcastInDim S_ ![] bcast_S_S_ (constant (F := Ideal) S_ .f32 0x00000000#32) = fun _ => (0 : EReal) from funext fun i => zero_word]
  unfold Host.reduceWindowAdd
  rw [Ideal.hostReduceWindowAdd_def]

theorem turned_at (d : FVec Ideal S32768x32 .f32) (r : Fin 32768) (l : Fin 32) : turned d (ix3 0 l r) = d (ix2 r l) := by
  unfold turned
  pointwise

theorem back_at (d : FVec Ideal S1x32x32768 .f32) (r : Fin 32768) (l : Fin 32) : back d (ix2 r l) = d (ix3 0 l r) := by
  unfold back
  pointwise

theorem before_at (z : FVec Ideal S32768x32 .f32) (r : Fin 32768) (l : Fin 32) :
    subf (back (sums (turned (picks (hot (places z)))))) (picks (hot (places z))) (ix2 r l) = upTo (chosenAt (rowOf z) l.val) r.val := by
  show (back (sums (turned (picks (hot (places z))))) (ix2 r l) - picks (hot (places z)) (ix2 r l) : EReal) = _
  rw [back_at, sums_at _ (chosenAt (rowOf z) l.val) l r fun r => by rw [turned_at, picks_at, chosenAt_eq _ _ r.isLt], picks_at, chosen_before]

theorem ranks_at (h : FVec Ideal S32768x4x32 .f32) (d : FVec Ideal S32768x32 .f32) (r : Fin 32768) (k : Fin 4) (e : Fin 32)
    (he : ∀ l : Fin 32, h (ix3 r k l) = if e.val = l.val then (1 : EReal) else 0) : ranks h d (ix2 r k) = d (ix2 r e) := by
  unfold ranks
  rw [lastSum, nothing, zero_add]
  refine (Finset.sum_congr rfl fun l _ => ?_ : _ = ∑ l : Fin 32, if e = l then d (ix2 r l) else 0).trans (by simp)
  rw [show ∀ w : FVec Ideal S32768x4x32 .f32, mulf h w (ix3 r k l) = (h (ix3 r k l) * w (ix3 r k l) : EReal) from fun _ => rfl, he]
  by_cases hl : e = l
  · subst hl
    rw [if_pos rfl, if_pos rfl, one_mul]
    pointwise
  · rw [if_neg fun h => hl (Fin.ext h), if_neg hl, zero_mul]

theorem tops_at (z : FVec Ideal S32768x32 .f32) (r : Fin 32768) : tops (best z) (ix1 r) = rowOf z r (order (rowOf z r) 0) := by
  refine Eq.trans ?_ (fold_max_eq (f := fun k => best z (ix2 r k)) (0 : Fin 4) (best_at z r 0) fun k => ?_)
  · unfold tops
    generalize best z = v
    pointwise
    rw [show Ideal.ofBits .f32 0xFF800000#32 = (⊥ : EReal) by simp [Ideal.ofBits, Ideal.ieee]]
    exact max_bot_left _
  · rw [best_at]
    rcases Nat.eq_zero_or_pos k.val with hk | hk
    · rw [show (⟨k.val, by omega⟩ : Fin 32) = 0 from Fin.ext hk]
    · rcases order_before (rowOf z r) 0 ⟨k.val, by omega⟩ hk with h | h
      · exact h.le
      · exact h.1.ge

theorem parts_at (v : FVec Ideal S32768x4 .f32) (u : FVec Ideal S32768 .f32) (r : Fin 32768) (k : Fin 4) :
    parts v u (ix2 r k) = Ideal.exp (v (ix2 r k) - u (ix1 r)) := by
  unfold parts
  pointwise

theorem totals_at (v : FVec Ideal S32768x4 .f32) (r : Fin 32768) : totals v (ix1 r) = ∑ k : Fin 4, v (ix2 r k) := by
  unfold totals
  rw [Cert.Reference2Ideal.Proj.rowSum, nothing, zero_add]

theorem shares_at (v : FVec Ideal S32768x4 .f32) (u : FVec Ideal S32768 .f32) (r : Fin 32768) (k : Fin 4) :
    shares v u (ix2 r k) = Ideal.div (v (ix2 r k)) (u (ix1 r)) := by
  unfold shares
  pointwise

theorem weights_at (z : FVec Ideal S32768x32 .f32) (r : Fin 32768) (k : Fin 4) :
    shares (parts (best z) (tops (best z))) (totals (parts (best z) (tops (best z)))) (ix2 r k) = weight (rowOf z r) k := by
  unfold weight
  rw [shares_at, totals_at]
  simp only [parts_at, best_at, tops_at]

theorem table_at (p : IVec S32768x4 32) (v w : FVec Ideal S32768x4 .f32) (r : Fin 32768) (l : Fin 128) :
    table p v w (ix2 r l) = if h : l.val < 4 then FloatOps.sitofp (F := Ideal) .f32 (p (ix2 r ⟨l.val, h⟩)) else
      if h : l.val - 4 < 4 then v (ix2 r ⟨l.val - 4, h⟩) else if h : l.val - 4 - 4 < 4 then w (ix2 r ⟨l.val - 4 - 4, h⟩) else 0 := by
  unfold table
  pointwise

theorem routing_at (z : FVec Ideal S32768x32 .f32) (r : Fin 32768) (l : Fin 128) : routing z (ix2 r l) = routed (rowOf z) r l := by
  have h1 : ∀ k : Fin 4, FloatOps.sitofp (F := Ideal) .f32 (places z (ix2 r k)) = number (lane (rowOf z r) ⟨k.val, by omega⟩) := fun k => by
    rw [places_at]
    show (((BitVec.ofNat 32 (order (rowOf z r) ⟨k.val, by omega⟩).val).toInt : ℝ) : EReal) = _
    rw [expert_word]
    rfl
  have h3 : ∀ k : Fin 4, ranks (hot (places z)) (subf (back (sums (turned (picks (hot (places z)))))) (picks (hot (places z)))) (ix2 r k)
      = upTo (chosenAt (rowOf z) (order (rowOf z r) ⟨k.val, by omega⟩).val) r.val := fun k => by
    rw [ranks_at _ _ r k (order (rowOf z r) ⟨k.val, by omega⟩) fun l => hot_places z r k l, before_at]
  unfold routing routed
  rw [table_at]
  simp only [h1, weights_at, h3]
  by_cases h : l.val < 12
  · rw [dif_pos h]
    obtain ⟨n, hn⟩ : ∃ n : Fin 12, l.val = n.val := ⟨⟨l.val, h⟩, rfl⟩
    have e : row (rowOf z) r ⟨l.val, h⟩ = row (rowOf z) r n := congrArg _ (Fin.ext hn)
    rw [e]
    simp only [hn]
    fin_cases n <;> rfl
  · rw [dif_neg h, dif_neg (by omega), dif_neg (by omega), dif_neg (by omega)]

theorem chosen_far (L : Fin 32 → EReal) {l : ℕ} (h : ¬l < 32) : chosen L l = 0 :=
  Finset.sum_eq_zero fun k _ => if_neg (by have := (order L ⟨k.val, by omega⟩).isLt; omega)

theorem counts_at (z : FVec Ideal S32768x32 .f32) (a : Fin 8) (l : Fin 128) : counts (picks (hot (places z))) (ix2 a l) = upTo (chosenAt (rowOf z) l.val) 32768 := by
  have e := upTo_whole (chosenAt (rowOf z) l.val) 0 32768
  rw [Nat.zero_add, show upTo (chosenAt (rowOf z) l.val) 0 = 0 from rfl, zero_add] at e
  rw [← e]
  by_cases h : l.val < 32
  · have s : ∀ r : Fin 32768, chosenAt (rowOf z) l.val (0 + r.val) = picks (hot (places z)) (ix2 r ⟨l.val, h⟩) := fun r => by
      rw [Nat.zero_add, picks_at, chosenAt_eq _ _ r.isLt]
    have d := downSum (picks (hot (places z))) (constant S_ .f32 0x00000000#32) reducesTo_S32768x32_S32_d0 h_S_ ⟨l.val, h⟩
    rw [nothing, zero_add] at d
    rw [Finset.sum_congr rfl fun r _ => s r, ← d]
    unfold counts
    generalize Host.reduceAdd (picks (hot (places z))) (constant S_ .f32 0x00000000#32) reducesTo_S32768x32_S32_d0 h_S_ = v
    pointwise
    rw [dif_pos h]
  · rw [Finset.sum_eq_zero fun r _ => by rw [Nat.zero_add, chosenAt_eq _ _ r.isLt, chosen_far _ h]]
    unfold counts
    generalize Host.reduceAdd (picks (hot (places z))) (constant S_ .f32 0x00000000#32) reducesTo_S32768x32_S32_d0 h_S_ = v
    pointwise
    rw [dif_neg h]
    show (((0#32 : BitVec 32).toInt : ℝ) : EReal) = 0
    simp

end Cert.Reference5Ideal.Router

end
-- ==== Proof.Router.Claims.lean ====
/- The output projection's claims. -/
module

public import proofs.«01_k».proof.Defs
public import proofs.«01_k».proof.Proof.Gen.Kernel5
public import proofs.«01_k».proof.Proof.Gen.Pre_router_finite
public import proofs.«01_k».proof.Proof.Router.Route
public import proofs.«01_k».proof.Proof.Router.Table
public import proofs.«01_k».proof.Proof.Fox.Claims

@[expose] public section

set_option maxRecDepth 16384

noncomputable section

namespace Cert.Router

open Idealize.ShloMosaic Idealize.ShloMosaic.TcCoe Idealize.ShloMosaic.Tactic

theorem finite_of_lt {x : EReal} (h : Ideal.cmp .olt (max x (-x)) (Ideal.ofBits .f32 0x7F800000#32) = 1#1) : Finite x := ⟨_, (Cert.Fox.real_of_lt h).symm⟩

/-- The precondition's reading: every entry of every argument is finite. -/
theorem entries_finite (o : FVec Ideal ⟨2, ![32768, 1024]⟩ .bf16) (h : FVec Ideal ⟨2, ![32768, 1024]⟩ .f32) (w : FVec Ideal ⟨3, ![2, 1024, 1024]⟩ .f32) (g : FVec Ideal ⟨2, ![2, 1024]⟩ .f32)
    (r : FVec Ideal ⟨3, ![2, 1024, 32]⟩ .f32) (b : FVec Ideal ⟨2, ![2, 32]⟩ .f32) (hp : Cert.Pre_router_finite.fn (F := Ideal) o h w g r b = fun _ => 1#1) :
    (∀ i, Finite (o i)) ∧ (∀ i, Finite (h i)) ∧ (∀ i, Finite (w i)) ∧ (∀ i, Finite (g i)) ∧ (∀ i, Finite (r i)) ∧ ∀ i, Finite (b i) := by
  have h0 := congrFun hp ix0
  dsimp only [Cert.Pre_router_finite.fn, Cert.Pre_router_finite.fn_part1] at h0
  obtain ⟨h1, hb⟩ := IntOp.andi_eq_one.mp h0
  obtain ⟨h2, hr⟩ := IntOp.andi_eq_one.mp h1
  obtain ⟨h3, hg⟩ := IntOp.andi_eq_one.mp h2
  obtain ⟨h4, hw⟩ := IntOp.andi_eq_one.mp h3
  obtain ⟨ho, hh⟩ := IntOp.andi_eq_one.mp h4
  exact ⟨fun i => finite_of_lt (Host.reduce_andi_all _ _ _ _ _ ho i), fun i => finite_of_lt (Host.reduce_andi_all _ _ _ _ _ hh i), fun i => finite_of_lt (Host.reduce_andi_all _ _ _ _ _ hw i),
    fun i => finite_of_lt (Host.reduce_andi_all _ _ _ _ _ hg i), fun i => finite_of_lt (Host.reduce_andi_all _ _ _ _ _ hr i), fun i => finite_of_lt (Host.reduce_andi_all _ _ _ _ _ hb i)⟩

end Cert.Router

namespace Cert.Proof

open Idealize.ShloMosaic Idealize.ShloMosaic.TcCoe

/-- The printed program and the idealized one have the same bodies. -/
theorem bodies5 : Cert.Kernel5.defs₀ (F := Bits) = Cert.Kernel5Ideal.defs₀ (F := Bits) := by
  refine congrArg Defs.onTc (funext fun l => funext fun a => ?_)
  match l, a with
  | 0, (t, s) => rfl

set_option maxHeartbeats 2000000 in
/-- And the same host code. -/
theorem mains5 : Cert.Kernel5.main (F := Bits) = Cert.Kernel5Ideal.main (F := Bits) := rfl

set_option maxHeartbeats 2000000 in
/-- The call's frame as printed: its run at words. -/
theorem frame_kernel5 : Cert.quiescent_Kernel5 := by
  intro m ρ _
  rw [show Cert.Kernel5.defs (F := Bits) = Cert.Kernel5Ideal.defs (F := Bits) from congrArg (Pipeline.defs Cert.Kernel5Ideal.pcfgs) bodies5]
  rw [show onTc (τ := Cert.Kernel5.τ) (Cert.Kernel5.main (F := Bits)) = onTc (τ := Cert.Kernel5Ideal.τ) (Cert.Kernel5Ideal.main (F := Bits)) from congrArg onTc mains5]
  exact Cert.Kernel5Ideal.Gen.frame (F := Bits) m ρ

theorem frame_ideal5 : Cert.quiescent_Kernel5Ideal := fun m ρ _ => Cert.Kernel5Ideal.Gen.frame (F := Ideal) m ρ

theorem frame_ideal5_finite : Cert.quiescent_Kernel5Ideal_pre_router_finite := fun m ρ _ => Cert.Kernel5Ideal.Gen.frame (F := Ideal) m ρ

theorem frame_reference5 : Cert.quiescent_Reference5Ideal := fun m ρ _ =>
  (θ_run Cert.Reference5Ideal.defs _ _).mono (fun r h => ⟨fun c => (h c).2.2.2.2, Idealize.ShloMosaic.sem_eq_zero_of_no_sems (by decide) r.2⟩)
    (Cert.Reference5Ideal.Value.run (F := Ideal) m ρ)

theorem frame_reference5_finite : Cert.quiescent_Reference5Ideal_pre_router_finite := fun m ρ _ => frame_reference5 m ρ trivial

/-- One cell of each plain array. -/
theorem plain_kept (o h : Cert.Kernel5Ideal.S32768x1024.Idx → EReal) (w : Cert.Kernel5Ideal.S2x1024x1024.Idx → EReal) (r : Fin 32768) (j : Fin 1024) :
    Cert.Reference5Ideal.Router.kept o h w (ix2 r j) = Cert.Kernel5Ideal.Router.kept o h w r j :=
  Cert.Reference5Ideal.Router.kept_cell o h w r j

theorem plain_scaled (o h : Cert.Kernel5Ideal.S32768x1024.Idx → EReal) (w : Cert.Kernel5Ideal.S2x1024x1024.Idx → EReal) (g : Cert.Kernel5Ideal.S2x1024.Idx → EReal) (r : Fin 32768) (j : Fin 1024) :
    Cert.Reference5Ideal.Router.scaled (Cert.Reference5Ideal.Router.kept o h w) (Cert.Reference5Ideal.Router.squares (Cert.Reference5Ideal.Router.kept o h w)) g (ix2 r j)
      = Cert.Kernel5Ideal.Router.scaled o h w g r j := by
  rw [Cert.Reference5Ideal.Router.scaled_cell]
  simp only [Cert.Reference5Ideal.Router.kept_cell]
  rfl

theorem plain_logits (m : (ℓ : Loc Cert.Kernel5Ideal.nD Cert.Kernel5Ideal.τ Cert.Kernel5Ideal.sig) → Buf (Elt Ideal) ℓ) (c : Dev Cert.Kernel5Ideal.nD) :
    Cert.Reference5Ideal.Router.rowOf (Cert.Reference5Ideal.Router.logits (Cert.Reference5Ideal.Router.scaled (Cert.Reference5Ideal.Router.kept (Cert.Kernel5Ideal.Router.heads m c) (Cert.Kernel5Ideal.Router.rows m c) (Cert.Kernel5Ideal.Router.weights m c))
      (Cert.Reference5Ideal.Router.squares (Cert.Reference5Ideal.Router.kept (Cert.Kernel5Ideal.Router.heads m c) (Cert.Kernel5Ideal.Router.rows m c) (Cert.Kernel5Ideal.Router.weights m c))) (Cert.Kernel5Ideal.Router.gains m c)) (Cert.Kernel5Ideal.Router.routers m c) (Cert.Kernel5Ideal.Router.biases m c))
      = Cert.Kernel5Ideal.Router.logits m c := by
  funext r e
  refine (Cert.Reference5Ideal.Router.logits_cell _ _ _ r e).trans ?_
  unfold Cert.Kernel5Ideal.Router.logits
  simp only [plain_scaled]

/-- Finite arguments leave finite scaled rows. -/
theorem tame (m : (ℓ : Loc Cert.Kernel5Ideal.nD Cert.Kernel5Ideal.τ Cert.Kernel5Ideal.sig) → Buf (Elt Ideal) ℓ) (h : Cert.Pre_Kernel5Ideal_router_finite m) (c : Dev Cert.Kernel5Ideal.nD) :
    Cert.Kernel5Ideal.Router.Tame m c := by
  obtain ⟨ho, hh, hw, hg, hr, hb⟩ := Cert.Router.entries_finite _ _ _ _ _ _ (h c)
  exact ⟨fun r k => Cert.Router.normed_finite (fun k => Cert.Router.added_finite (hh _) (fun l => ho _) fun l => hw _) (fun k => hg _) k, fun k e => hr _, fun e => hb _⟩

/-- The kernel's four arrays and the plain ones are the same, on finite inputs. -/
theorem oproj : Cert.algebraic_Kernel5Ideal_Reference5Ideal_pre_router_finite := by
  intro m g m' g' hfin hargs
  refine ⟨fun c => fun y : Cert.Kernel5Ideal.S32768x1024.Idx => Cert.Kernel5Ideal.Router.kept (Cert.Kernel5Ideal.Router.heads m c) (Cert.Kernel5Ideal.Router.rows m c) (Cert.Kernel5Ideal.Router.weights m c) (y 0) (y 1),
    fun c => fun y : Cert.Kernel5Ideal.S32768x1024.Idx => Cert.Kernel5Ideal.Router.scaled (Cert.Kernel5Ideal.Router.heads m c) (Cert.Kernel5Ideal.Router.rows m c) (Cert.Kernel5Ideal.Router.weights m c) (Cert.Kernel5Ideal.Router.gains m c) (y 0) (y 1),
    fun c => fun y : Cert.Kernel5Ideal.S32768x128.Idx => Cert.Router.routed (Cert.Kernel5Ideal.Router.logits m c) (y 0) (y 1),
    fun c => fun y : Cert.Kernel5Ideal.S8x128.Idx => Cert.Gates.upTo (Cert.Router.chosenAt (Cert.Kernel5Ideal.Router.logits m c) (y 1).val) 32768, ?_, ?_⟩
  · exact (θ_run Cert.Kernel5Ideal.defs _ _).mono (fun r h c => ⟨(h c).1.trans (Cert.Kernel5Ideal.Router.array_kept m c), (h c).2.1.trans (Cert.Kernel5Ideal.Router.array_scaled m c),
      (h c).2.2.1.trans (Cert.Kernel5Ideal.Router.array_routes (tame m hfin c)), (h c).2.2.2.1.trans (Cert.Kernel5Ideal.Router.array_counts (tame m hfin c)), (h c).2.2.2.2⟩)
      (Cert.Kernel5Ideal.Value.run_blocks (F := Ideal) m g)
  · refine (θ_run Cert.Reference5Ideal.defs _ _).mono (fun r h c => ⟨(h c).1.trans ?_, (h c).2.1.trans ?_, (h c).2.2.1.trans ?_, (h c).2.2.2.1.trans ?_, (h c).2.2.2.2⟩) (Cert.Reference5Ideal.Router.run m' g')
    all_goals
      obtain ⟨e0, e1, e2, e3, e4, e5⟩ := hargs c
      dsimp only [Cert.Reference5Ideal.Router.scores, Cert.Reference5Ideal.Router.second, Cert.Reference5Ideal.Router.first]
      rw [e0, e1, e2]
      try rw [e3]
      try rw [e4, e5]
      funext y
      have hy : y = ix2 (y 0) (y 1) := by
        funext a
        match a with
        | ⟨0, _⟩ => rfl
        | ⟨1, _⟩ => rfl
      rw [hy]
    · exact plain_kept _ _ _ (y 0) (y 1)
    · exact plain_scaled _ _ _ _ (y 0) (y 1)
    · refine (Cert.Reference5Ideal.Router.routing_at _ (y 0) (y 1)).trans ?_
      exact congrArg (fun L => Cert.Router.routed L (y 0) (y 1)) (plain_logits m c)
    · refine (Cert.Reference5Ideal.Router.counts_at _ (y 0) (y 1)).trans ?_
      exact congrArg (fun L => Cert.Gates.upTo (Cert.Router.chosenAt L (y 1).val) 32768) (plain_logits m c)

end Cert.Proof

end
-- ==== Proof.Proj.Gated.lean ====
/- The second layer's projection: the rows normalised, against its weights with their scale folded in and against the gates'. -/
module

public import proofs.«01_k».proof.Proof.Proj.Cells
public import proofs.«01_k».proof.Proof.Gen.Kernel6Ideal.Value

@[expose] public section

set_option maxRecDepth 16384

noncomputable section

namespace Cert.Proj

open Idealize.ShloMosaic Idealize.ShloMosaic.TcCoe Idealize.ShloMosaic.Tactic

/-- The factor of a column: an eighth on the queries'. -/
def factor (j : ℕ) : EReal := if j < 1024 then Ideal.ofBits .f32 0x3E000000#32 else Ideal.ofBits .f32 0x3F800000#32

theorem factor_ok (j : ℕ) : 0 ≤ factor j ∧ factor j ≠ ⊤ := by
  unfold factor
  rw [eighth, unit]
  split
  · exact ⟨by norm_cast; norm_num, EReal.coe_ne_top _⟩
  · exact ⟨zero_le_one, EReal.coe_ne_top 1⟩

/-- A row normalised against the gates' column `l` of sixteen, and zero past them. -/
def gateDots (h g : Fin 1024 → EReal) (w : Fin 1024 → Fin 16 → EReal) (l : ℕ) : EReal :=
  if hl : l < 16 then dots h g (fun k => w k ⟨l, hl⟩) else 0

/-- A column of zeros gives zero, whatever the row. -/
theorem dots_padded (h g : Fin 1024 → EReal) (w : Fin 1024 → Fin 16 → EReal) (l : ℕ) :
    dots h g (fun k => if hl : l < 16 then w k ⟨l, hl⟩ else 0) = gateDots h g w l := by
  unfold gateDots
  by_cases hl : l < 16
  · simp only [dif_pos hl]
  · simp only [dif_neg hl, dots, mul_zero, Finset.sum_const_zero]

theorem zero_int : (FloatOps.sitofp (F := Ideal) .f32 0#32 : EReal) = 0 := by
  show (((0#32 : BitVec 32).toInt : ℝ) : EReal) = 0
  simp

end Cert.Proj

namespace Cert.Kernel6Ideal.Proj

open Idealize.ShloMosaic Idealize.ShloMosaic.TcCoe Idealize.ShloMosaic.Tactic
open Idealize.ShloMosaic.Pipeline (Dat Cfg Window)
open Cert.Kernel6Ideal Cert.Kernel6Ideal.Gen Cert.Proj

theorem zero2 : (![0, 0] : Fin 2 → Nat) = fun _ => 0 := funext fun a => by fin_cases a <;> rfl

/-- The normalised block. -/
theorem row_cell (x0 : Vec Ideal S512x1024 .f32) (x1 : Vec Ideal S1x1024 .f32) (i : Fin 512) (k : Fin 1024) :
    k0_pay1 x0 x1 (ix2 i k) = normed (fun k => x0 (ix2 i k)) (fun k => x1 (ix2 0 k)) k := by
  unfold normed
  pointwise [k0_pay1]

/-- One cell of each block the kernel stores. -/
theorem gate_cell (x0 : Vec Ideal S512x1024 .f32) (x1 : Vec Ideal S1x1024 .f32) (x3 : Vec Ideal S1024x128 .bf16) (i : Fin 512) (l : Fin 128) :
    k0_pay2 x0 x1 x3 (ix2 i l) = dots (fun k => x0 (ix2 i k)) (fun k => x1 (ix2 0 k)) (fun k => x3 (ix2 k l)) := by
  unfold dots
  simp only [← row_cell]
  unfold k0_pay2
  generalize k0_pay1 x0 x1 = z
  pointwise

theorem pay_cell (x0 : Vec Ideal S512x1024 .f32) (x1 : Vec Ideal S1x1024 .f32) (x2 : Vec Ideal S1024x3072 .bf16) (i : Fin 512) (j : Fin 3072) :
    k0_pay3 x0 x1 x2 (ix2 i j) = dots (fun k => x0 (ix2 i k)) (fun k => x1 (ix2 0 k)) (fun k => x2 (ix2 k j)) := by
  unfold dots
  simp only [← row_cell]
  unfold k0_pay3
  generalize k0_pay1 x0 x1 = z
  pointwise

variable (m : (ℓ : Loc nD τ sig) → Buf (Elt Ideal) ℓ) (c : Dev nD)

/-- The launch's four arguments. -/
abbrev rows : S32768x1024.Idx → EReal := m ((c : Thread nD τ).loc main_arg0)
abbrev gains : S2x1024.Idx → EReal := m ((c : Thread nD τ).loc main_arg1)
abbrev weights : S2x1024x3072.Idx → EReal := m ((c : Thread nD τ).loc main_arg2)
abbrev gates : S1x1024x16.Idx → EReal := m ((c : Thread nD τ).loc main_arg3)

/-- The blocks' places. -/
theorem index : ∀ t : Fin cfg0.N, win0_0.index t = ![(grid0.coords t 0).val, 0] ∧ win0_1.index t = ![0, 0]
    ∧ win0_2.index t = ![0, 0] ∧ win0_3.index t = ![0, 0] ∧ win0_4.index t = ![(grid0.coords t 0).val, 0] ∧ win0_5.index t = ![(grid0.coords t 0).val, 0] :=
  (by decide +kernel : ∀ t : Fin grid0.N, _)

/-- The gain row the region finds: the second layer's. -/
theorem found_gains (k : Fin 1024) : V m c main_v14 (ix2 0 k) = gains m c (ix2 1 k) := by
  show StableHlo.after (hostOps0 ++ (hostOps0_1 ++ hostOps0_2)) (fun b => m (c, b)) (Proc.devRef .tc main_v14) (ix2 0 k) = _
  simp only [hostOps0, hostOps0_1, hostOps0_2, List.cons_append, List.nil_append, StableHlo.TRef.binary, StableHlo.TRef.unary, StableHlo.TRef.toBuf, StableHlo.TRef.ofBuf, cast_eq]
  after_results
  pointwise

/-- The weights: the second layer's, column by column scaled. -/
theorem found_weights (k : Fin 1024) (j : Fin 3072) : V m c main_v8 (ix2 k j) = weights m c (ix3 1 k j) * factor j.val := by
  show StableHlo.after (hostOps0 ++ (hostOps0_1 ++ hostOps0_2)) (fun b => m (c, b)) (Proc.devRef .tc main_v8) (ix2 k j) = _
  simp only [hostOps0, hostOps0_1, hostOps0_2, List.cons_append, List.nil_append, StableHlo.TRef.binary, StableHlo.TRef.unary, StableHlo.TRef.toBuf, StableHlo.TRef.ofBuf, cast_eq]
  after_results
  unfold factor
  pointwise
  split <;> rfl

/-- The gates' weights, with zeros on the lanes past them. -/
theorem found_gates (k : Fin 1024) (l : Fin 128) : V m c main_v11 (ix2 k l) = if hl : l.val < 16 then gates m c (ix3 0 k ⟨l.val, hl⟩) else 0 := by
  show StableHlo.after (hostOps0 ++ (hostOps0_1 ++ hostOps0_2)) (fun b => m (c, b)) (Proc.devRef .tc main_v11) (ix2 k l) = _
  simp only [hostOps0, hostOps0_1, hostOps0_2, List.cons_append, List.nil_append, StableHlo.TRef.binary, StableHlo.TRef.unary, StableHlo.TRef.toBuf, StableHlo.TRef.ofBuf, cast_eq]
  after_results
  pointwise
  rw [zero_int]

/-- What the kernel computes at row `r`: column `j` of the projections, lane `l` of the gates. -/
def cell (r : Fin 32768) (j : Fin 3072) : EReal :=
  dots (fun k => rows m c (ix2 r k)) (fun k => gains m c (ix2 1 k)) (fun k => weights m c (ix3 1 k j)) * factor j.val

def gate (r : Fin 32768) (l : Fin 128) : EReal :=
  gateDots (fun k => rows m c (ix2 r k)) (fun k => gains m c (ix2 1 k)) (fun k l => gates m c (ix3 0 k l)) l.val

/-- The same at natural numbers. -/
def at' (r j : ℕ) : EReal := if h : r < 32768 ∧ j < 3072 then cell m c ⟨r, h.1⟩ ⟨j, h.2⟩ else 0
def gateAt (r l : ℕ) : EReal := if h : r < 32768 ∧ l < 128 then gate m c ⟨r, h.1⟩ ⟨l, h.2⟩ else 0

theorem at_eq {r j : ℕ} (hr : r < 32768) (hj : j < 3072) : at' m c r j = cell m c ⟨r, hr⟩ ⟨j, hj⟩ := dif_pos ⟨hr, hj⟩
theorem gateAt_eq {r l : ℕ} (hr : r < 32768) (hl : l < 128) : gateAt m c r l = gate m c ⟨r, hr⟩ ⟨l, hl⟩ := dif_pos ⟨hr, hl⟩

/-- The staged blocks. -/
theorem block_rows (t : Fin cfg0.N) (i : Fin 512) (k : Fin 1024) :
    iblk m c 0 t (ix2 i k) = rows m c (ix2 ⟨(grid0.coords t 0).val * 512 + i.val, by have : (grid0.coords t 0).val < 64 := (grid0.coords t 0).isLt; omega⟩ k) := by
  obtain ⟨e0, e1, e2, e3, e4, e5⟩ := index t
  show _ = m ((c : Thread nD τ).loc main_arg0) _
  rw [← V_main_arg0 m c]
  blk_ext [iblk, e0]

theorem block_gains (t : Fin cfg0.N) (k : Fin 1024) : iblk m c 1 t (ix2 0 k) = gains m c (ix2 1 k) := by
  obtain ⟨e0, e1, e2, e3, e4, e5⟩ := index t
  rw [← found_gains]
  blk_ext [iblk, e1]

theorem block_weights (t : Fin cfg0.N) (k : Fin 1024) (j : Fin 3072) : iblk m c 2 t (ix2 k j) = weights m c (ix3 1 k j) * factor j.val := by
  obtain ⟨e0, e1, e2, e3, e4, e5⟩ := index t
  rw [← found_weights]
  blk_ext [iblk, e2]

theorem block_gates (t : Fin cfg0.N) (k : Fin 1024) (l : Fin 128) :
    iblk m c 3 t (ix2 k l) = if hl : l.val < 16 then gates m c (ix3 0 k ⟨l.val, hl⟩) else 0 := by
  obtain ⟨e0, e1, e2, e3, e4, e5⟩ := index t
  rw [← found_gates]
  blk_ext [iblk, e3]

theorem array_at : (dats m 0 c).arrAt 4 cfg0.N = fun y : S32768x3072.Idx => at' m c (y 0).val (y 1).val := by
  refine (dats m 0 c).arrAt_eq_of_covers 4 _ (by decide +kernel) fun t hf y => ?_
  obtain ⟨e0, e1, e2, e3, e4, e5⟩ := index t
  have ht : (grid0.coords t 0).val < 64 := (grid0.coords t 0).isLt
  blk_simp [e4]
  rw [after0_4]
  unfold out0_4
  rw [View.canon_unit_zero (S := S512x3072) zero2]
  obtain ⟨i, j, rfl⟩ : ∃ (i : Fin 512) (j : Fin 3072), y = ix2 i j := ⟨y 0, y 1, by
    funext a
    match a with
    | ⟨0, _⟩ => rfl
    | ⟨1, _⟩ => rfl⟩
  refine (pay_cell _ _ _ i j).trans ?_
  unfold r0_0 r0_1 r0_4
  rw [View.ld_unit_zero (S := S512x1024) zero2, View.ld_unit_zero (S := S1x1024) zero2, View.ld_unit_zero (S := S1024x3072) zero2]
  simp only [block_rows, block_gains, block_weights]
  refine Eq.trans ?_ (at_eq m c (r := (grid0.coords t 0).val * 512 + i.val) (j := j.val) (by omega) j.isLt).symm
  unfold cell
  exact sum_scaled _ _ _ (factor_ok _).1 (factor_ok _).2

theorem array : (dats m 0 c).arrAt 4 cfg0.N = fun y : S32768x3072.Idx => cell m c (y 0) (y 1) := by
  rw [array_at]
  exact funext fun y => at_eq m c (y 0).isLt (y 1).isLt

theorem array_gates_at : (dats m 0 c).arrAt 5 cfg0.N = fun y : S32768x128.Idx => gateAt m c (y 0).val (y 1).val := by
  refine (dats m 0 c).arrAt_eq_of_covers 5 _ (by decide +kernel) fun t hf y => ?_
  obtain ⟨e0, e1, e2, e3, e4, e5⟩ := index t
  have ht : (grid0.coords t 0).val < 64 := (grid0.coords t 0).isLt
  blk_simp [e5]
  rw [after0_5]
  unfold out0_5
  rw [View.canon_unit_zero (S := S512x128) zero2]
  obtain ⟨i, l, rfl⟩ : ∃ (i : Fin 512) (l : Fin 128), y = ix2 i l := ⟨y 0, y 1, by
    funext a
    match a with
    | ⟨0, _⟩ => rfl
    | ⟨1, _⟩ => rfl⟩
  refine (gate_cell _ _ _ i l).trans ?_
  unfold r0_0 r0_1 r0_2
  rw [View.ld_unit_zero (S := S512x1024) zero2, View.ld_unit_zero (S := S1x1024) zero2, View.ld_unit_zero (S := S1024x128) zero2]
  simp only [block_rows, block_gains, block_gates]
  refine Eq.trans ?_ (gateAt_eq m c (r := (grid0.coords t 0).val * 512 + i.val) (l := l.val) (by omega) l.isLt).symm
  exact dots_padded _ _ (fun k l => gates m c (ix3 0 k l)) l.val

theorem array_gates : (dats m 0 c).arrAt 5 cfg0.N = fun y : S32768x128.Idx => gate m c (y 0) (y 1) := by
  rw [array_gates_at]
  exact funext fun y => gateAt_eq m c (y 0).isLt (y 1).isLt

end Cert.Kernel6Ideal.Proj

end
-- ==== Proof.Proj.GatedReference.lean ====
/- The plain projection of the second layer and its gates' logits. -/
module

public import proofs.«01_k».proof.Proof.Proj.Reference
public import proofs.«01_k».proof.Proof.Proj.Gated
public import proofs.«01_k».proof.Proof.Gen.Reference6Ideal.Run

@[expose] public section

set_option maxRecDepth 16384

noncomputable section

namespace Cert.Reference6Ideal.Proj

open Idealize.ShloMosaic Idealize.ShloMosaic.TcCoe Idealize.ShloMosaic.Tactic
open Cert.Reference6Ideal Cert.Reference6Ideal.Gen Cert.Proj
open Cert.Reference2Ideal.Proj (inverse squares squares_cell out out_cell)

/-- The rows normalised, with the second layer's gain. -/
def normal (x : FVec Ideal S32768x1024 .f32) (g : FVec Ideal S2x1024 .f32) : FVec Ideal S32768x1024 .f32 :=
  mulf (mulf x (broadcastInDim S32768x1024 ![0, 1] bcast_S32768x1_S32768x1024_0_1 (inverse (squares x))))
    (broadcastInDim S32768x1024 ![0, 1] bcast_S1x1024_S32768x1024_0_1 (broadcastInDim S1x1024 ![1] bcast_S1024_S1x1024_1
      (shapeCast _ (extractStridedSlice S1x1024 ![1, 0] g slices_S2x1024_S1x1024_1_0) shapeCasts_S1x1024_S1024)))

/-- All three projections. -/
def product (z : FVec Ideal S32768x1024 .f32) (w : FVec Ideal S2x1024x3072 .f32) : FVec Ideal S32768x3072 .f32 :=
  Host.dotGeneral dot_S32768x1024_S1024x3072_S32768x3072_1_0_0_1_n_n none z
    (shapeCast _ (extractStridedSlice S1x1024x3072 ![1, 0, 0] w slices_S2x1024x3072_S1x1024x3072_1_0_0) shapeCasts_S1x1024x3072_S1024x3072)

/-- The gates' logits on sixteen lanes. -/
def few (z : FVec Ideal S32768x1024 .f32) (w : FVec Ideal S1x1024x16 .f32) : FVec Ideal S32768x16 .f32 :=
  Host.dotGeneral dot_S32768x1024_S1024x16_S32768x16_1_0_0_1_n_n none z (shapeCast _ w shapeCasts_S1x1024x16_S1024x16)

/-- The same on all lanes, zero past the sixteen. -/
def wide (z : FVec Ideal S32768x16 .f32) : FVec Ideal S32768x128 .f32 :=
  pad S32768x128 ![0, 0] ![0, 112] ![0, 0] z (sitofp .f32 (constantI S_ 32 0#32)) pads_S32768x16_S32768x128_000_01120 h_S_

/-- The run, with the results named. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v23) = out (product (normal (m ((c.tc : Thread nD τ).loc main_arg0)) (m ((c.tc : Thread nD τ).loc main_arg1))) (m ((c.tc : Thread nD τ).loc main_arg2)))
      ∧ r.2.mem ((c.tc : Thread nD τ).loc main_v26) = wide (few (normal (m ((c.tc : Thread nD τ).loc main_arg0)) (m ((c.tc : Thread nD τ).loc main_arg1))) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Value.run m ρ

theorem normal_cell (x : FVec Ideal S32768x1024 .f32) (g : FVec Ideal S2x1024 .f32) (r : Fin 32768) (k : Fin 1024) :
    normal x g (ix2 r k) = normed (fun k => x (ix2 r k)) (fun k => g (ix2 1 k)) k := by
  unfold normed
  rw [← squares_cell]
  unfold normal inverse
  generalize squares x = z
  pointwise

theorem product_cell (x : FVec Ideal S32768x1024 .f32) (g : FVec Ideal S2x1024 .f32) (w : FVec Ideal S2x1024x3072 .f32) (r : Fin 32768) (j : Fin 3072) :
    product (normal x g) w (ix2 r j) = dots (fun k => x (ix2 r k)) (fun k => g (ix2 1 k)) (fun k => w (ix3 1 k j)) := by
  unfold dots
  simp only [← normal_cell]
  unfold product
  generalize normal x g = z
  pointwise

theorem few_cell (x : FVec Ideal S32768x1024 .f32) (g : FVec Ideal S2x1024 .f32) (w : FVec Ideal S1x1024x16 .f32) (r : Fin 32768) (l : Fin 16) :
    few (normal x g) w (ix2 r l) = dots (fun k => x (ix2 r k)) (fun k => g (ix2 1 k)) (fun k => w (ix3 0 k l)) := by
  unfold dots
  simp only [← normal_cell]
  unfold few
  generalize normal x g = z
  pointwise

theorem wide_cell (z : FVec Ideal S32768x16 .f32) (r : Fin 32768) (l : Fin 128) :
    wide z (ix2 r l) = (if hl : l.val < 16 then z (ix2 r ⟨l.val, hl⟩) else 0 : EReal) := by
  unfold wide
  pointwise
  rw [zero_int]

theorem gate_cell (x : FVec Ideal S32768x1024 .f32) (g : FVec Ideal S2x1024 .f32) (w : FVec Ideal S1x1024x16 .f32) (r : Fin 32768) (l : Fin 128) :
    wide (few (normal x g) w) (ix2 r l) = gateDots (fun k => x (ix2 r k)) (fun k => g (ix2 1 k)) (fun k l => w (ix3 0 k l)) l.val := by
  rw [wide_cell]
  unfold gateDots
  by_cases hl : l.val < 16
  · rw [dif_pos hl, dif_pos hl, few_cell]
  · rw [dif_neg hl, dif_neg hl]

end Cert.Reference6Ideal.Proj

end
-- ==== Proof.Proj.GatedClaims.lean ====
/- The claims of the second layer's projection call. -/
module

public import proofs.«01_k».proof.Defs
public import proofs.«01_k».proof.Proof.Gen.Kernel6
public import proofs.«01_k».proof.Proof.Proj.Gated
public import proofs.«01_k».proof.Proof.Proj.GatedReference

@[expose] public section

set_option maxRecDepth 16384

noncomputable section

namespace Cert.Proof

open Idealize.ShloMosaic Idealize.ShloMosaic.TcCoe

/-- The printed program and the idealized one have the same bodies. -/
theorem bodies6 : Cert.Kernel6.defs₀ (F := Bits) = Cert.Kernel6Ideal.defs₀ (F := Bits) := by
  refine congrArg Defs.onTc (funext fun l => funext fun a => ?_)
  match l, a with
  | 0, (t, s) => rfl

set_option maxHeartbeats 2000000 in
/-- And the same host code. -/
theorem mains6 : Cert.Kernel6.main (F := Bits) = Cert.Kernel6Ideal.main (F := Bits) := rfl

/-- The call's frame as printed: its run at words. -/
theorem frame_kernel6 : Cert.quiescent_Kernel6 := by
  intro m ρ _
  rw [show Cert.Kernel6.defs (F := Bits) = Cert.Kernel6Ideal.defs (F := Bits) from congrArg (Pipeline.defs Cert.Kernel6Ideal.pcfgs) bodies6]
  rw [show onTc (τ := Cert.Kernel6.τ) (Cert.Kernel6.main (F := Bits)) = onTc (τ := Cert.Kernel6Ideal.τ) (Cert.Kernel6Ideal.main (F := Bits)) from congrArg onTc mains6]
  exact Cert.Kernel6Ideal.Gen.frame (F := Bits) m ρ

theorem frame_ideal6 : Cert.quiescent_Kernel6Ideal := fun m ρ _ => Cert.Kernel6Ideal.Gen.frame (F := Ideal) m ρ

theorem frame_reference6 : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

/-- The kernel's two arrays and the plain ones are the same, on every input. -/
theorem projection_gates : Cert.algebraic_Kernel6Ideal_Reference6Ideal := by
  intro m g m' g' _ hargs
  refine ⟨fun c => fun y : Cert.Kernel6Ideal.S32768x3072.Idx => Cert.Kernel6Ideal.Proj.cell m c (y 0) (y 1),
    fun c => fun y : Cert.Kernel6Ideal.S32768x128.Idx => Cert.Kernel6Ideal.Proj.gate m c (y 0) (y 1), ?_, ?_⟩
  · exact (θ_run Cert.Kernel6Ideal.defs _ _).mono (fun r h c => ⟨(h c).1.trans (Cert.Kernel6Ideal.Proj.array m c), (h c).2.1.trans (Cert.Kernel6Ideal.Proj.array_gates m c), (h c).2.2⟩)
      (Cert.Kernel6Ideal.Value.run_blocks (F := Ideal) m g)
  · refine (θ_run Cert.Reference6Ideal.defs _ _).mono (fun r h c => ⟨(h c).1.trans ?_, (h c).2.1.trans ?_, (h c).2.2⟩) (Cert.Reference6Ideal.Proj.run m' g')
    all_goals
      obtain ⟨e0, e1, e2, e3⟩ := hargs c
      rw [e0, e1]
      first | rw [e2] | rw [e3]
      funext y
      have hy : y = ix2 (y 0) (y 1) := by
        funext a
        match a with
        | ⟨0, _⟩ => rfl
        | ⟨1, _⟩ => rfl
      rw [hy]
    · refine (Cert.Reference2Ideal.Proj.out_cell _ (y 0) (y 1)).trans ?_
      exact congrArg (· * _) (Cert.Reference6Ideal.Proj.product_cell _ _ _ (y 0) (y 1))
    · exact Cert.Reference6Ideal.Proj.gate_cell _ _ _ (y 0) (y 1)

end Cert.Proof

end
-- ==== Proof.Sticks.Kit.lean ====
/- The stick-breaking launch up to its one region: the buffers there, each input window's block at a point, and the
   frame's post from a run. -/
module

public import proofs.«01_k».proof.Proof.Gen.Kernel7Ideal.Launch
public import proofs.«01_k».proof.Proof.Gen.Kernel7Ideal.Points
public import Idealize.ShloMosaic.Lib.Pipeline.FrameBody
public import Idealize.ShloMosaic.Lib.Ring
public import Idealize.ShloMosaic.Lib.Tactic

@[expose] public section

set_option maxRecDepth 16384

noncomputable section

namespace Cert.Kernel7Ideal.Sticks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- No host operation writes the argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the region finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's buffer holds its block at every point. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The frame's post from a run to the pipeline's. -/
theorem frame_of (dats : (p : Fin 1) → (c : Dev nD) → Dat τ (Elt F) Unit ℕ (UR sig nD τ) ℕ (cfgs (F := F) p) c)
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide : ∀ w : Fin 5, (spec0 w).arr.view.ref ≠ main_arg0))).trans (V_main_arg0 m c)) h

end Cert.Kernel7Ideal.Sticks

end
-- ==== Proof.Sticks.Body.lean ====
/- The kernel body's run: the query block's own keys and the block before them, then a loop that takes two blocks of keys
   a trip, going back, until none is left or every run has fallen below the threshold. -/
module

public import proofs.«01_k».proof.Proof.Sticks.Kit
public import proofs.«01_k».proof.Proof.Gen.Kernel7Ideal.Skeleton

@[expose] public section

set_option maxRecDepth 16384

noncomputable section

namespace Cert.Kernel7Ideal.Sticks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F] [Named F]

local notation "𝕄" => MT nD τ sig Unit (Elt F) ℕ (UR sig nD τ) ℕ

/-- What the loop carries: the next block's index, whether to go on, the four heads' runs, the two accumulators. -/
abbrev Carry (F : FTy → Type) : Type := BitVec 32 × BitVec 32 × FVec F S256x1 .f32 × FVec F S256x1 .f32 × FVec F S256x1 .f32 × FVec F S256x1 .f32
  × FVec F S256x128 .f32 × FVec F S256x128 .f32

/-- The two lane groups of 256 rows of the keys or the values, from row `o 1` and lane `o 2` on. -/
abbrev rows (x : Vec F S1x2048x256 .bf16) (o : Fin 3 → ℕ) (h : ∀ a, o a + S1x256x128.size a ≤ S1x2048x256.size a) : Vec F S1x256x128 .bf16 :=
  View.ld x (Rect.unit (s := S1x2048x256) o S1x256x128.size h)

/-- What the loop goes on from. -/
abbrev skip : F .f32 := Named.named κ "skip" 0xC2D00000#32

/-- One trip: the block at the carried index, and the block before it. -/
def step (v21 v27 v35 v41 : FVec F S256x128 .bf16) (v1 : FVec F S512x256 .bf16) (v7 v13 : IVec S1x128 1) (x1 x2 : Vec F S1x2048x256 .bf16)
    (s : Carry F) (h : k0_chk1 s.1) : Carry F :=
  let v374 : BitVec 1 := Scalar.cmpi .sge s.1 1#32
  let ka := rows x1 (k0_off5 s.1) (k0_off5_inb s.1 h)
  let kb := rows x1 (k0_off6 s.1) (k0_off6_inb s.1 h)
  let la := rows x1 (k0_off7 s.1) (k0_off7_inb s.1 h)
  let lb := rows x1 (k0_off8 s.1) (k0_off8_inb s.1 h)
  let z : FVec F S256x256 .f32 := constant S256x256 .f32 0x00000000#32
  let o : F .f32 := Scalar.ofBits .f32 0x00000000#32
  let v381 := k0_pay60 v21 ka
  let v386 := k0_pay61 v27 ka
  let v391 := k0_pay62 v35 kb
  let v396 := k0_pay63 v41 kb
  let v401 := k0_pay64 v21 la
  let v406 := k0_pay66 v27 (k0_pay65 la) z
  let v411 := k0_pay67 v35 lb
  let v416 := k0_pay68 v41 lb
  let v432 := k0_pay69 v1 v381
  let v448 := k0_pay70 v1 v386
  let v464 := k0_pay71 v1 v391 o
  let v480 := k0_pay72 v1 v396
  let v496 := k0_pay73 v1 v401
  let v512 := k0_pay74 v1 v406 o
  let v528 := k0_pay75 v1 v411
  let v544 := k0_pay76 v1 v416
  let v545 := k0_pay77 v432
  let r0 := k0_pay79 s.2.2.1 v374 v496 v545
  let r1 := k0_pay83 s.2.2.2.1 v374 v448 v512
  let r2 := k0_pay87 s.2.2.2.2.1 v374 v464 v528
  let r3 := k0_pay91 s.2.2.2.2.2.1 v374 v480 v544
  (Scalar.subi s.1 2#32, Scalar.extui (Scalar.cmpf .ogt (k0_pay5 r0 r1 r2 r3) skip), r0, r1, r2, r3,
    k0_pay95 v7 v13 s.2.2.2.2.2.2.1 (k0_pay80 s.2.2.1 v381 v432) (k0_pay81 s.2.2.1 v374 v401 v496 v545)
      (k0_pay84 s.2.2.2.1 v386 v448) (k0_pay85 s.2.2.2.1 v374 v406 v448 v512)
      (rows x2 (k0_off5 s.1) (k0_off5_inb s.1 h)) (rows x2 (k0_off7 s.1) (k0_off7_inb s.1 h)),
    k0_pay4 v7 v13 s.2.2.2.2.2.2.2 (k0_pay88 s.2.2.2.2.1 v391 v464) (k0_pay89 s.2.2.2.2.1 v374 v411 v464 v528)
      (k0_pay93 s.2.2.2.2.2.1 v396 v480) (k0_pay94 v374 v416 v544 (k0_pay90 s.2.2.2.2.2.1 v480) (k0_pay92 (F := F)))
      (k0_pay96 (rows x2 (k0_off6 s.1) (k0_off6_inb s.1 h))) (rows x2 (k0_off8 s.1) (k0_off8_inb s.1 h)))

/-- Whether the loop goes on. -/
abbrev goes (s : Carry F) : Prop := Scalar.andi (Scalar.cmpi .sge s.1 0#32) (Scalar.cmpi .sgt s.2.1 0#32) = 1#1

/-- At most `n` trips. -/
def loop (v21 v27 v35 v41 : FVec F S256x128 .bf16) (v1 : FVec F S512x256 .bf16) (v7 v13 : IVec S1x128 1) (x1 x2 : Vec F S1x2048x256 .bf16) :
    ℕ → Carry F → Carry F
  | 0, s => s
  | n + 1, s => if goes s then if h : k0_chk1 s.1 then loop v21 v27 v35 v41 v1 v7 v13 x1 x2 n (step v21 v27 v35 v41 v1 v7 v13 x1 x2 s h) else s else s

/-- The index carried two blocks behind block `j`, with at most `n` trips left. -/
def Left (n : ℕ) (a : BitVec 32) : Prop := ∃ j : ℕ, j < 8 ∧ j ≤ 2 * n + 1 ∧ a = Scalar.subi (BitVec.ofNat 32 j) 2#32

theorem inside : ∀ j : Fin 8, Scalar.cmpi .sge (Scalar.subi (BitVec.ofNat 32 j.val) 2#32) 0#32 = 1#1 →
    2 ≤ j.val ∧ k0_chk1 (Scalar.subi (BitVec.ofNat 32 j.val) 2#32)
      ∧ Scalar.subi (Scalar.subi (BitVec.ofNat 32 j.val) 2#32) 2#32 = Scalar.subi (BitVec.ofNat 32 (j.val - 2)) 2#32 := by decide +kernel

theorem goes_left {n : ℕ} {s : Carry F} (h : Left n s.1) (g : goes s) :
    ∃ k, n = k + 1 ∧ k0_chk1 s.1 ∧ Left k (Scalar.subi s.1 2#32) := by
  obtain ⟨j, hj, hn, e⟩ := h
  have g1 := (IntOp.andi_eq_one.mp g).1
  rw [e] at g1
  obtain ⟨h2, hc, hs⟩ := inside ⟨j, hj⟩ g1
  dsimp only at h2 hc hs
  refine ⟨n - 1, by omega, e ▸ hc, j - 2, by omega, by omega, ?_⟩
  rw [e]; exact hs

section Label

variable (c : Dev nD) (i : grid0.Coords) (arg4 : Memref sig .tc .vmem S1x2048x256 .bf16) (harg4 : arg4.IsWhole)
  (arg5 : Memref sig .tc .vmem S1x2048x256 .bf16) (harg5 : arg5.IsWhole) (x1 x2 : Vec F S1x2048x256 .bf16)
  (v21 v27 v35 v41 : FVec F S256x128 .bf16) (v1 : FVec F S512x256 .bf16) (v7 v13 : IVec S1x128 1)

/-- The keys' and the values' buffers. -/
def held : sProp 𝕄 := iprop(owns (c : Thread nD τ) arg4 fullShare x1 ∗ owns (c : Thread nD τ) arg5 fullShare x2)

/-- The loop leaves the keys and the values alone and gives `out`. -/
def spec (out : Carry F) : sWPT 𝕄 (Carry F) := do
  sWPT.consume (held c arg4 arg5 x1 x2)
  sWPT.produce (held c arg4 arg5 x1 x2)
  pure out

theorem spec_apply (out : Carry F) (K : Carry F → sProp 𝕄) :
    spec c arg4 arg5 x1 x2 out K = iprop(held c arg4 arg5 x1 x2 ∗ (held c arg4 arg5 x1 x2 -∗ K out)) := rfl

set_option maxHeartbeats 40000000 in
/-- The loop's label meets it, by induction on the trips left. -/
theorem spec_le (E : Set ℕ) : ∀ (k : ℕ) (s : Carry F), Left k s.1 → ∀ K,
    spec c arg4 arg5 x1 x2 (loop v21 v27 v35 v41 v1 v7 v13 x1 x2 k s) K
      ⊢ wp frame (wpE (defs₀ (F := F)) Variants.nat (c : Thread nD τ) (some k)) E
          (defs₀ (F := F) .tc 1 ⟨i, arg4, harg4, v21, v27, v35, v41, v1, arg5, harg5, v7, v13, s.1, s.2.1, s.2.2.1, s.2.2.2.1, s.2.2.2.2.1,
            s.2.2.2.2.2.1, s.2.2.2.2.2.2.1, s.2.2.2.2.2.2.2⟩) K := by
  intro k
  induction k with
  | zero =>
    intro s hs K
    rw [spec_apply]
    show _ ⊢ wp frame (wpE (defs₀ (F := F)) Variants.nat (c : Thread nD τ) (some 0)) E
      (cc0_while1 i arg4 harg4 v21 v27 v35 v41 v1 arg5 harg5 v7 v13 s.1 s.2.1 s.2.2.1 s.2.2.2.1 s.2.2.2.2.1 s.2.2.2.2.2.1 s.2.2.2.2.2.2.1 s.2.2.2.2.2.2.2) K
    have hg : ¬ goes s := fun g => by obtain ⟨k, e, -⟩ := goes_left hs g; omega
    simp only [cc0_while1_eq_skeleton]; unfold cc0_while1_skel
    rw [if_neg hg, show ((s.1, s.2.1, s.2.2.1, s.2.2.2.1, s.2.2.2.2.1, s.2.2.2.2.2.1, s.2.2.2.2.2.2.1, s.2.2.2.2.2.2.2) : Carry F) = s from rfl, loop]
    iintro ⟨H, Hk⟩
    simp only [Prog.pure_eq_ret]
    rw [wp_ret]; imodintro
    iapply Hk
    iexact H
  | succ k ih =>
    intro s hs K
    rw [spec_apply]
    show _ ⊢ wp frame (wpE (defs₀ (F := F)) Variants.nat (c : Thread nD τ) (some (k + 1))) E
      (cc0_while1 i arg4 harg4 v21 v27 v35 v41 v1 arg5 harg5 v7 v13 s.1 s.2.1 s.2.2.1 s.2.2.2.1 s.2.2.2.2.1 s.2.2.2.2.2.1 s.2.2.2.2.2.2.1 s.2.2.2.2.2.2.2) K
    simp only [cc0_while1_eq_skeleton]; unfold cc0_while1_skel
    by_cases g : goes s
    · obtain ⟨k', e, hc, hl⟩ := goes_left hs g
      obtain rfl : k' = k := by omega
      rw [if_pos g]
      have el : loop v21 v27 v35 v41 v1 v7 v13 x1 x2 (k' + 1) s = loop v21 v27 v35 v41 v1 v7 v13 x1 x2 k' (step v21 v27 v35 v41 v1 v7 v13 x1 x2 s hc) := by
        rw [loop, if_pos g, dif_pos hc]
      rw [el]
      unfold held owns
      iintro ⟨⟨⟨%f1, %hf1, H1⟩, ⟨%f2, %hf2, H2⟩⟩, Hk⟩
      sl_open_parts
      sl_exec
      iapply (wp_call_spec Variants.nat (c : Thread nD τ) (some (k' + 1)) E
        (spec c arg4 arg5 x1 x2 (loop v21 v27 v35 v41 v1 v7 v13 x1 x2 k' (step v21 v27 v35 v41 v1 v7 v13 x1 x2 s hc))) k'
        (fun u hu => by cases hu; exact Nat.lt_succ_self k')
        (by subst hf1 hf2; exact ih (step v21 v27 v35 v41 v1 v7 v13 _ _ s hc) hl))
      rw [spec_apply]; unfold held owns
      isplitl [H1 H2]
      · isplitl [H1]
        · iexists f1; isplitr; · ipureintro; exact hf1
          iexact H1
        · iexists f2; isplitr; · ipureintro; exact hf2
          iexact H2
      iintro H
      rw [wp_ret]; imodintro
      iapply Hk
      iexact H
    · rw [if_neg g, show ((s.1, s.2.1, s.2.2.1, s.2.2.2.1, s.2.2.2.2.1, s.2.2.2.2.2.1, s.2.2.2.2.2.2.1, s.2.2.2.2.2.2.2) : Carry F) = s from rfl, loop, if_neg g]
      iintro ⟨H, Hk⟩
      simp only [Prog.pure_eq_ret]
      rw [wp_ret]; imodintro
      iapply Hk
      iexact H

end Label

/-- The stored rectangle: the whole output block. -/
abbrev rOut : Rect S1x256x256 := Rect.unit (s := S1x256x256) ![0, 0, 0] S1x256x256.size inb_S1x256x256_S1x256x256_0_0_0

theorem cover_out (p : Vec F S1x256x256 .bf16) (y : S1x256x256.Idx) :
    ∃ pc ∈ ([⟨rOut, p⟩] : List (View.Piece (Elt F) S1x256x256 .bf16)), y ∈ pc.1.set :=
  View.cover_of_tiled [⟨rOut, p⟩] S1x256x256.size (by rfl) y

/-- The two lane groups of the query block. -/
abbrev qlo (x0 : Vec F S1x256x256 .bf16) : Vec F S1x256x128 .bf16 :=
  View.ld x0 (Rect.unit (s := S1x256x256) ![0, 0, 0] S1x256x128.size inb_S1x256x256_S1x256x128_0_0_0)
abbrev qhi (x0 : Vec F S1x256x256 .bf16) : Vec F S1x256x128 .bf16 :=
  View.ld x0 (Rect.unit (s := S1x256x256) ![0, 0, 128] S1x256x128.size inb_S1x256x256_S1x256x128_0_0_128)
/-- The summing matrix, twice over. -/
abbrev sums (x3 : Vec F S512x256 .bf16) : FVec F S512x256 .bf16 :=
  k0_pay6 (View.ld x3 (Rect.unit (s := S512x256) ![0, 0] S512x256.size inb_S512x256_S512x256_0_0))

/-- The carry the loop starts from: the query block's own keys, and the block before them. -/
def first (i : grid0.Coords) (x0 : Vec F S1x256x256 .bf16) (x1 x2 : Vec F S1x2048x256 .bf16) (x3 : Vec F S512x256 .bf16) : Carry F :=
  let v1 := sums x3
  let v7 := k0_pay7
  let v13 := k0_pay8
  let v21 := k0_pay10 (qlo x0)
  let v27 := k0_pay11 (qlo x0)
  let v35 := k0_pay13 (qhi x0)
  let v37 := k0_pay14 (qhi x0)
  let v41 := k0_pay15 v13 v37
  let v42 : FVec F S256x1 .f32 := k0_pay16
  let v43 : FVec F S256x128 .f32 := k0_pay17
  let v44 : BitVec 1 := Scalar.cmpi .sge (BitVec.ofNat 32 (i 2).val) 1#32
  let v49 := k0_pay18
  let ka := rows x1 (k0_off1 i) (k0_off1_inb i)
  let kb := rows x1 (k0_off2 i) (k0_off2_inb i)
  let la := rows x1 (k0_off3 i) (k0_off3_inb i)
  let lb := rows x1 (k0_off4 i) (k0_off4_inb i)
  let v54 := k0_pay19 v21 ka
  let v59 := k0_pay20 v27 ka
  let v64 := k0_pay21 v35 kb
  let v69 := k0_pay22 v13 v37 kb
  let v74 := k0_pay23 v21 la
  let v79 := k0_pay24 v27 la
  let v84 := k0_pay25 v35 lb
  let v89 := k0_pay26 v41 lb
  let v107 := k0_pay27 v1 v49 v54
  let v125 := k0_pay30 v1 v49 (k0_pay28 v59) (k0_pay29 v59)
  let v143 := k0_pay31 v1 v49 v64
  let v161 := k0_pay33 v1 (k0_pay32 v49 v69)
  let v177 := k0_pay34 v1 v74
  let v193 := k0_pay35 v1 v79
  let v209 := k0_pay37 v1 (k0_pay36 v84)
  let v225 := k0_pay38 v1 v89
  let r0 := k0_pay40 v42 v44 v107 v177
  let r1 := k0_pay44 v42 v44 v125 v193
  let r2 := k0_pay49 v42 v44 v143 v209
  let r3 := k0_pay53 v42 v44 v161 v225
  (Scalar.subi (BitVec.ofNat 32 (i 2).val) 2#32, Scalar.extui (Scalar.cmpf .ogt (k0_pay2 r0 r1 r2 r3) skip), r0, r1, r2, r3,
    k0_pay58 v7 v13 v43 (k0_pay41 v42 v49 v54 v107) (k0_pay42 v42 v44 v74 v107 v177) (k0_pay45 v42 v49 v59 v125)
      (k0_pay47 v79 v193 (k0_pay46 v42 v44 v125)) (k0_pay56 (rows x2 (k0_off1 i) (k0_off1_inb i))) (k0_pay57 (rows x2 (k0_off3 i) (k0_off3_inb i))),
    k0_pay1 v43 (k0_pay50 v42 v49 v64 v143) (k0_pay51 v42 v44 v84 v143 v209) (k0_pay54 v42 v49 v69 v161) (k0_pay55 v42 v44 v89 v161 v225)
      (k0_pay59 v7 v13 (rows x2 (k0_off2 i) (k0_off2_inb i)) (rows x2 (k0_off4 i) (k0_off4_inb i))))

/-- The carry at the end. -/
def last (i : grid0.Coords) (x0 : Vec F S1x256x256 .bf16) (x1 x2 : Vec F S1x2048x256 .bf16) (x3 : Vec F S512x256 .bf16) : Carry F :=
  loop (k0_pay10 (qlo x0)) (k0_pay11 (qlo x0)) (k0_pay13 (qhi x0)) (k0_pay15 k0_pay8 (k0_pay14 (qhi x0))) (sums x3) k0_pay7 k0_pay8 x1 x2 3
    (first i x0 x1 x2 x3)

/-- The block the body stores. -/
def out (i : grid0.Coords) (x0 : Vec F S1x256x256 .bf16) (x1 x2 : Vec F S1x2048x256 .bf16) (x3 : Vec F S512x256 .bf16) : Vec F S1x256x256 .bf16 :=
  k0_pay3 (last i x0 x1 x2 x3).2.2.2.2.2.2.1 (last i x0 x1 x2 x3).2.2.2.2.2.2.2

theorem first_left (i : grid0.Coords) (x0 : Vec F S1x256x256 .bf16) (x1 x2 : Vec F S1x2048x256 .bf16) (x3 : Vec F S512x256 .bf16) :
    Left 3 (first i x0 x1 x2 x3).1 :=
  ⟨(i 2).val, (i 2).isLt, by have : (i 2).val < 8 := (i 2).isLt; omega, rfl⟩

set_option maxHeartbeats 40000000 in
/-- The body's run. -/
theorem leaves (i : grid0.Coords) (c : Dev nD) (E : Set ℕ) (arg3 : Memref sig .tc .vmem S1x256x256 .bf16) (harg3 : arg3.IsWhole)
    (arg4 : Memref sig .tc .vmem S1x2048x256 .bf16) (harg4 : arg4.IsWhole) (arg5 : Memref sig .tc .vmem S1x2048x256 .bf16) (harg5 : arg5.IsWhole)
    (arg6 : Memref sig .tc .vmem S512x256 .bf16) (harg6 : arg6.IsWhole) (arg7 : Memref sig .tc .vmem S1x256x256 .bf16) (harg7 : arg7.IsWhole)
    (x0 : Vec F S1x256x256 .bf16) (x1 x2 : Vec F S1x2048x256 .bf16) (x3 : Vec F S512x256 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
          ∗ owns (c : Thread nD τ) arg6 fullShare x3
          ∗ owns (c : Thread nD τ) arg7 fullShare (View.canon [⟨rOut, out i x0 x1 x2 x3⟩])) -∗ K ⟨⟩))
      ⊢ wp frame (wpE (defs₀ (F := F)) Variants.nat c none) E
          (cc0_attention i arg3 harg3 arg4 harg4 arg5 harg5 arg6 harg6 arg7 harg7) K := by
  simp only [cc0_attention_eq_skeleton]; unfold cc0_attention_skel
  unfold owns
  iintro ⟨⟨%f0, %hf0, H0⟩, ⟨%f1, %hf1, H1⟩, ⟨%f2, %hf2, H2⟩, ⟨%f3, %hf3, H3⟩, ⟨%d4, %f4, -, H4⟩, Hk⟩
  sl_open_parts
  sl_exec
  iapply (wp_call_spec Variants.nat (c : Thread nD τ) none E (spec c arg4 arg5 x1 x2 (last i x0 x1 x2 x3)) 3 (fun u hu => nomatch hu)
    (by subst hf0 hf1 hf2 hf3; exact spec_le c i arg4 harg4 arg5 harg5 _ _ _ _ _ _ _ _ _ E 3 (first i _ _ _ _) (first_left i _ _ _ _)))
  rw [spec_apply]; unfold held owns
  isplitl [H1 H2]
  · isplitl [H1]
    · iexists f1; isplitr; · ipureintro; exact hf1
      iexact H1
    · iexists f2; isplitr; · ipureintro; exact hf2
      iexact H2
  iintro ⟨⟨%g1, %hg1, H1⟩, ⟨%g2, %hg2, H2⟩⟩
  sl_exec
  sl_step
  iapply Hk
  isplitl [H0]
  · iexists f0; isplitr; · ipureintro; exact hf0
    iexact H0
  isplitl [H1]
  · iexists g1; isplitr; · ipureintro; exact hg1
    iexact H1
  isplitl [H2]
  · iexists g2; isplitr; · ipureintro; exact hg2
    iexact H2
  isplitl [H3]
  · iexists f3; isplitr; · ipureintro; exact hf3
    iexact H3
  iexists _; isplitr
  swap; · iexact H4
  ipureintro
  exact (View.read_writes_eq_canon _ _ _ (cover_out _)).trans rfl

end Cert.Kernel7Ideal.Sticks

end
-- ==== Proof.Sticks.Run.lean ====
/- The stick-breaking launch's run: the pipeline's proof data, the body obligation at every grid point, and the run of @main. -/
module

public import proofs.«01_k».proof.Proof.Sticks.Body
public import Idealize.ShloMosaic.Lib.Claim

@[expose] public section

set_option maxRecDepth 16384

noncomputable section

namespace Cert.Kernel7Ideal.Sticks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output block at grid point `t`. -/
def outAt (c : Dev nD) (t : Fin (cfg0 (F := F)).N) : Vec F S1x256x256 .bf16 :=
  View.canon [⟨rOut, out (grid0.coords t) (iblk m c 0 t) (iblk m c 1 t) (iblk m c 2 t) (iblk m c 3 t)⟩]

/-- The pipeline's proof data: arrays as the region finds them, each input's buffer left at its block, the output's at
    `outAt`; the three windows of the projected array share it, nothing owed. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by dsimp only [dats]
theorem after_q (c : Dev nD) (t : Fin (cfg0 (F := F)).N) : (dats m 0 c).after 0 t = iblk m c 0 t := by dsimp only [dats]; rfl
theorem after_k (c : Dev nD) (t : Fin (cfg0 (F := F)).N) : (dats m 0 c).after 1 t = iblk m c 1 t := by dsimp only [dats]; rfl
theorem after_v (c : Dev nD) (t : Fin (cfg0 (F := F)).N) : (dats m 0 c).after 2 t = iblk m c 2 t := by dsimp only [dats]; rfl
theorem after_u (c : Dev nD) (t : Fin (cfg0 (F := F)).N) : (dats m 0 c).after 3 t = iblk m c 3 t := by dsimp only [dats]; rfl
theorem after_o (c : Dev nD) (t : Fin (cfg0 (F := F)).N) : (dats m 0 c).after 4 t = outAt m c t := by dsimp only [dats]; rfl

/-- What the body is called with at point `t`: every input's buffer at its block, the output's at anything, -/
def pre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def post (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point, from `leaves`: the invariant and what is owed pass through. -/
theorem body_at (c : Dev nD) (t : Fin (cfg0 (F := F)).N) :
    pre m c t ⊢ wp frame (wpE (defs₀ (F := F)) Variants.nat c none) Set.univ (bodyAt0 t) (fun _ => post m c t) := by
  have b0 := fun d => before0_0_of m (dats m 0 c) (A_eq m c 0) (after_q m c) t d
  have b1 := fun d => before0_1_of m (dats m 0 c) (A_eq m c 1) (after_k m c) t d
  have b2 := fun d => before0_2_of m (dats m 0 c) (A_eq m c 2) (after_v m c) t d
  have b3 := fun d => before0_3_of m (dats m 0 c) (A_eq m c 3) (after_u m c) t d
  unfold pre post bodyAt0
  simp only [b0, b1, b2, b3]
  rw [show (dats m 0 c).Φ t.succ = (dats m 0 c).Φ t.castSucc from rfl,
    show (dats m 0 c).owesAt () t.succ = (dats m 0 c).owesAt () t.castSucc from rfl,
    after_q, after_k, after_v, after_u, after_o]
  iintro ⟨HΦ, Ho, ⟨%d0, H0⟩, ⟨%d1, H1⟩, ⟨%d2, H2⟩, ⟨%d3, H3⟩, ⟨%d4, H4⟩⟩
  iapply (leaves (grid0.coords t) c Set.univ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t` is the body on the point's staging buffers. -/
theorem row (t : Fin (cfg0 (F := F)).N) : defs₀ (F := F) .tc (cfg0 (F := F)).body (cfg0.bodyArgs t (cfg0.slots t)) = bodyAt0 t := by
  unfold defs₀; rw [Defs.onTc_tc]

/-- The library's body obligation at every point. -/
theorem obligation (c : Dev nD) : BodyObligation (dats (F := F) m 0 c) (defs₀ (F := F)) Variants.nat () Set.univ := fun t => by
  rw [bigSep_W0, bigSep_W0, row]
  exact triple_restated (body_at m c t) rfl .rfl fun _ => .rfl

set_option backward.isDefEq.respectTransparency.types false in
set_option maxHeartbeats 800000 in
/-- @main runs to its end: every array of the pipeline at what the proof data give, every other buffer as the region
    found it, every semaphore counter at zero. -/
theorem run_main : θ_run defs (onTc (τ := τ) (main (F := F))) (s₀ m ρ)
    (fun r => (Pipeline.FramePost (cfgs (F := F)) (dats m) 0 (V m)) r ∧ r.2.sem = fun _ => 0) :=
  Pipeline.θ_run_frame_shared (Q' := _) (cfgs (F := F)) (dats m) (0 : Fin 1) launch₀0 defs₀ Variants.nat m ρ main
    (hbody := fun c => (obligation m c).loose) (hq := fun _ _ _ => rfl)
    (howed := fun _ _ => rfl) (V := V m) (hmain := hmain m Variants.nat) (hA := A_eq m) (hΦ := fun _ _ => rfl)

/-- The argument ends unchanged and the counters at zero, at any `F`. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) ((θ_run defs _ _).mono (fun _ h => h.1) (run_main m ρ)))
    ((θ_run defs _ _).mono (fun _ h => h.2) (run_main m ρ))

end Cert.Kernel7Ideal.Sticks

end
-- ==== Proof.Sticks.Soft.lean ====
/- The stick-breaking attention in real numbers: a key's stick is what the later keys up to the query left of it. -/
module

public import proofs.«01_k».proof.Proof.Gates.Cells
public import proofs.«01_k».proof.Proof.Fox.Soft

@[expose] public section

set_option maxRecDepth 16384

noncomputable section

namespace Cert.Sticks

open Idealize.ShloMosaic Cert.Fox

/-- The logarithm of the share that a score leaves to the others. -/
def lognot (z : ℝ) : ℝ := min (-z) 0 - Real.log (1 + Real.exp (-|z|))

/-- The sum from position `lo` on. -/
def upper (f : ℕ → ℝ) (lo : ℕ) : ℝ := ∑ s ∈ Finset.Ico lo 2048, f s

/-- What key `s` leaves, logarithmic, against the query at `t`: nothing is taken by a key that is not before the query. -/
def entry (z : ℕ → ℝ) (t s : ℕ) : ℝ := if s < t then lognot (z s) else 0

/-- Key `s`'s weight: its score and what it and the later keys leave. -/
def weight (z : ℕ → ℝ) (t s : ℕ) : ℝ := if s < t then Real.exp (z s + upper (entry z t) s) else 0

/-- A row's result over all keys. -/
def mix (z v : ℕ → ℝ) (t s : ℕ) : ℝ := weight z t s * v s

/-- Batch `b`, row `t` and column `j` of the result, from the projected array `A`. -/
def spec (A : ℕ → ℕ → ℝ) (b t j : ℕ) : ℝ :=
  upper (mix (fun s => ∑ d : Fin 64, A (b * 2048 + t) (64 * (j / 64) + d.val) * A (b * 2048 + s) (1024 + (64 * (j / 64) + d.val)))
    (fun s => A (b * 2048 + s) (2048 + j)) t) 0

theorem upper_zero {f : ℕ → ℝ} {lo : ℕ} (h : ∀ s, lo ≤ s → f s = 0) : upper f lo = 0 :=
  Finset.sum_eq_zero fun s hs => h s (Finset.mem_Ico.mp hs).1

theorem block_sum (f : ℕ → ℝ) (n : ℕ) : (∑ s ∈ Finset.Ico n (n + 256), f s) = ∑ s : Fin 256, f (n + s.val) := by
  rw [Finset.sum_Ico_eq_sum_range, Fin.sum_univ_eq_sum_range (fun s => f (n + s)) 256, Nat.add_sub_cancel_left]

/-- One more block of 256 keys. -/
theorem upper_block (f : ℕ → ℝ) {n : ℕ} (h : n + 256 ≤ 2048) : upper f n = upper f (n + 256) + ∑ s : Fin 256, f (n + s.val) := by
  unfold upper
  rw [← block_sum, add_comm, Finset.sum_Ico_consecutive f (by omega) h]

/-- A part of one more block. -/
theorem upper_part (f : ℕ → ℝ) {n : ℕ} (h : n + 256 ≤ 2048) (s : Fin 256) :
    upper f (n + s.val) = upper f (n + 256) + ∑ j : Fin 256, if s ≤ j then f (n + j.val) else 0 := by
  have hs := s.isLt
  have e : (∑ j : Fin 256, if s ≤ j then f (n + j.val) else 0) = ∑ j ∈ Finset.Ico (n + s.val) (n + 256), f j := by
    have := block_sum (fun j => if n + s.val ≤ j then f j else 0) n
    rw [show (∑ j : Fin 256, if s ≤ j then f (n + j.val) else 0) = ∑ j : Fin 256, if n + s.val ≤ n + j.val then f (n + j.val) else 0 from
      Finset.sum_congr rfl fun j _ => if_congr (by rw [Fin.le_def]; omega) rfl rfl, ← this, ← Finset.sum_filter]
    refine Finset.sum_congr ?_ fun _ _ => rfl
    ext j; simp only [Finset.mem_filter, Finset.mem_Ico]; omega
  rw [e]
  unfold upper
  rw [add_comm (∑ j ∈ Finset.Ico (n + 256) 2048, f j), Finset.sum_Ico_consecutive f (by omega) h]

theorem exp_pos_log (x : ℝ) : Ideal.log (1 + Ideal.exp (x : EReal)) = ((Real.log (1 + Real.exp x) : ℝ) : EReal) := by
  have h : (1 : EReal) + Ideal.exp (x : EReal) = ((1 + Real.exp x : ℝ) : EReal) := by
    rw [EReal.coe_add]; rfl
  rw [h, Ideal.log_coe, if_neg (by have := Real.exp_pos x; linarith)]

/-- The logarithm of a gate at a real number. -/
theorem logGate_real (x : ℝ) : Cert.Gates.logGate (x : EReal) = ((lognot (-x) : ℝ) : EReal) := by
  unfold Cert.Gates.logGate lognot
  have hm : max (x : EReal) (-(x : EReal)) = ((|x| : ℝ) : EReal) := by
    rw [← EReal.coe_neg, abs_eq_max_neg]; exact (EReal.coe_strictMono.monotone.map_max).symm
  rw [hm, zero_sub, ← EReal.coe_neg, exp_pos_log, EReal.coe_sub, neg_neg, abs_neg]
  refine congrArg (· - _) ?_
  exact (EReal.coe_strictMono.monotone.map_min (a := x) (b := 0)).symm

/-- The score's own share and what it leaves. -/
theorem lognot_neg (z : ℝ) : lognot (-z) = z + lognot z := by
  unfold lognot
  rw [abs_neg, neg_neg]
  rcases le_total z 0 with h | h
  · rw [min_eq_left h, min_eq_right (by linarith)]; ring
  · rw [min_eq_right h, min_eq_left (by linarith)]; ring

end Cert.Sticks

end
-- ==== Proof.Sticks.Elements.lean ====
/- One block of keys in the kernel's vectors, read at an index over the extended reals. -/
module

public import proofs.«01_k».proof.Proof.Sticks.Body
public import proofs.«01_k».proof.Proof.Sticks.Soft
public import proofs.«01_k».proof.Proof.Fox.Elements
public import Idealize.ShloMosaic.Lib.Pointwise
public import Idealize.ShloMosaic.Lib.MatmulPlain

@[expose] public section

set_option maxRecDepth 16384

noncomputable section

namespace Cert.Kernel7Ideal.Sticks

open Idealize.ShloMosaic Idealize.ShloMosaic.TcCoe Idealize.ShloMosaic.Tactic
open Cert.Kernel7Ideal Cert.Kernel7Ideal.Gen Cert.Sticks
open Cert.KernelIdeal.Fox (select_iff ofNat_toInt mask0_bit mask1_bit reshape_rows negInf_word onHead)

/-- A head's lanes of a group. -/
def bits (hh : Fin 2) : IVec S1x128 1 := if hh = 0 then k0_pay7 else k0_pay8

/-- 256 rows as a matrix. -/
def flat (x : Vec Ideal S1x256x128 .bf16) : FVec Ideal S256x128 .bf16 := shapeCast S256x128 x shapeCasts_S1x256x128_S256x128

/-- One head's lanes, the other's zero. -/
def lane (b : IVec S1x128 1) (x : FVec Ideal S256x128 .bf16) : FVec Ideal S256x128 .bf16 :=
  select (broadcastTo S256x128 (shapeCast S1x128 b shapeCasts_S1x128_S1x128) broadcasts_S1x128_S256x128) x
    (broadcast S256x128 (Scalar.ofBits .bf16 0x0000#16))

/-- The negated query of one head. -/
def negq (hh : Fin 2) (x : Vec Ideal S1x256x128 .bf16) : FVec Ideal S256x128 .bf16 :=
  lane (bits hh) (subf (broadcast S256x128 (Scalar.ofBits .bf16 0x0000#16)) (flat x))

/-- The negated scores. -/
def nz (q : FVec Ideal S256x128 .bf16) (k : Vec Ideal S1x256x128 .bf16) : FVec Ideal S256x256 .f32 :=
  matmul dot_S256x128_S256x128_S256x256_1_1_0_0_n_n none q (flat k) (constant S256x256 .f32 0x00000000#32)

/-- What each key leaves, logarithmic. -/
def logn (z : FVec Ideal S256x256 .f32) : FVec Ideal S256x256 .f32 :=
  subf (minimumf z (broadcast S256x256 (Scalar.ofBits .f32 0x00000000#32)))
    (log (addf (broadcast S256x256 (Scalar.ofBits .f32 0x3F800000#32)) (exp (subf (broadcast S256x256 (Scalar.ofBits .f32 0x00000000#32)) (absf z)))))

/-- In the query block's own keys, those before the query; in an earlier block, all. -/
def hide (o : Bool) (x : FVec Ideal S256x256 .f32) : FVec Ideal S256x256 .f32 :=
  if o then select k0_pay18 x (broadcast S256x256 (Scalar.ofBits .f32 0x00000000#32)) else x

/-- The sums over a block's later keys. -/
def suf (u : FVec Ideal S512x256 .bf16) (x : FVec Ideal S256x256 .f32) : FVec Ideal S256x256 .f32 :=
  matmul dot_S256x512_S512x256_S256x256_1_0_0_1_n_n none
    (concatenate S256x512 1 [⟨S256x256, truncf .bf16 x bitsLt_bf16_f32⟩,
      ⟨S256x256, truncf .bf16 (subf x (extf .f32 (truncf .bf16 x bitsLt_bf16_f32) bitsLt_bf16_f32)) bitsLt_bf16_f32⟩]
      concatenates_S256x256_S256x256_S256x512_d1) u (constant S256x256 .f32 0x00000000#32)

/-- The sums of one block. -/
def sufs (o : Bool) (u : FVec Ideal S512x256 .bf16) (q : FVec Ideal S256x128 .bf16) (k : Vec Ideal S1x256x128 .bf16) : FVec Ideal S256x256 .f32 :=
  suf u (hide o (logn (nz q k)))

/-- The run over one more block. -/
def run1 (r : FVec Ideal S256x1 .f32) (s : FVec Ideal S256x256 .f32) : FVec Ideal S256x1 .f32 :=
  addf r (extractStridedSlice S256x1 ![0, 0] s slices_S256x256_o0_0_S256x1)

/-- The run over one more block, and over the one before it if there is one. -/
def run2 (b : BitVec 1) (r : FVec Ideal S256x1 .f32) (s s' : FVec Ideal S256x256 .f32) : FVec Ideal S256x1 .f32 :=
  Scalar.select b (addf (run1 r s) (extractStridedSlice S256x1 ![0, 0] s' slices_S256x256_o0_0_S256x1)) (run1 r s)

/-- The weights. -/
def wts (r : FVec Ideal S256x1 .f32) (z s : FVec Ideal S256x256 .f32) : FVec Ideal S256x256 .f32 :=
  exp (addf (subf (broadcastTo S256x256 r broadcasts_S256x1_S256x256) z) s)

/-- The run before the earlier block: none if there is no such block. -/
def before (b : BitVec 1) (r : FVec Ideal S256x1 .f32) (s : FVec Ideal S256x256 .f32) : FVec Ideal S256x1 .f32 :=
  Scalar.select b (run1 r s) (broadcast S256x1 (Scalar.ofBits .f32 0xFF800000#32))

def wtNow (o : Bool) (u : FVec Ideal S512x256 .bf16) (q : FVec Ideal S256x128 .bf16) (k : Vec Ideal S1x256x128 .bf16) (r : FVec Ideal S256x1 .f32) :
    FVec Ideal S256x256 .bf16 :=
  truncf .bf16 (hide o (wts r (nz q k) (sufs o u q k))) bitsLt_bf16_f32

def wtPrev (o : Bool) (u : FVec Ideal S512x256 .bf16) (b : BitVec 1) (q : FVec Ideal S256x128 .bf16) (k k' : Vec Ideal S1x256x128 .bf16)
    (r : FVec Ideal S256x1 .f32) : FVec Ideal S256x256 .bf16 :=
  truncf .bf16 (wts (before b r (sufs o u q k)) (nz q k') (sufs false u q k')) bitsLt_bf16_f32

/-- A group's run after two blocks. -/
def runs (o : Bool) (u : FVec Ideal S512x256 .bf16) (b : BitVec 1) (q : FVec Ideal S256x128 .bf16) (k k' : Vec Ideal S1x256x128 .bf16)
    (r : FVec Ideal S256x1 .f32) : FVec Ideal S256x1 .f32 := run2 b r (sufs o u q k) (sufs false u q k')

/-- The weighted values of two blocks and two heads, added. -/
def acc (a : FVec Ideal S256x128 .f32) (p0 p1 p2 p3 : FVec Ideal S256x256 .bf16) (v v' : Vec Ideal S1x256x128 .bf16) : FVec Ideal S256x128 .f32 :=
  addf a (matmul dot_S256x1024_S1024x128_S256x128_1_0_0_1_n_n none
    (concatenate S256x1024 1 [⟨S256x256, p0⟩, ⟨S256x256, p1⟩, ⟨S256x256, p2⟩, ⟨S256x256, p3⟩] concatenates_S256x256_S256x256_S256x256_S256x256_S256x1024_d1)
    (concatenate S1024x128 0 [⟨S256x128, lane k0_pay7 (flat v)⟩, ⟨S256x128, lane k0_pay8 (flat v)⟩, ⟨S256x128, lane k0_pay7 (flat v')⟩,
      ⟨S256x128, lane k0_pay8 (flat v')⟩] concatenates_S256x128_S256x128_S256x128_S256x128_S1024x128_d0)
    (constant S256x128 .f32 0x00000000#32))

/-- A group's accumulator after two blocks. -/
def accs (o : Bool) (u : FVec Ideal S512x256 .bf16) (b : BitVec 1) (q0 q1 : FVec Ideal S256x128 .bf16) (k k' v v' : Vec Ideal S1x256x128 .bf16)
    (r0 r1 : FVec Ideal S256x1 .f32) (a : FVec Ideal S256x128 .f32) : FVec Ideal S256x128 .f32 :=
  acc a (wtNow o u q0 k r0) (wtNow o u q1 k r1) (wtPrev o u b q0 k k' r0) (wtPrev o u b q1 k k' r1) v v'

theorem slt_small {a b : ℕ} (ha : a < 2147483648) (hb : b < 2147483648) :
    IntOp.cmpi .slt (BitVec.ofNat 32 a) (BitVec.ofNat 32 b) = 1#1 ↔ a < b := by
  rw [IntOp.cmpi_slt, ofNat_toInt ha, ofNat_toInt hb]; omega

theorem zero16 : Ideal.ofBits .bf16 0x0000#16 = (0 : EReal) := by simp [Ideal.ofBits, Ideal.ieee]

theorem lane_apply (hh : Fin 2) (x : FVec Ideal S256x128 .bf16) (i : Fin 256) (l : Fin 128) :
    lane (bits hh) x (ix2 i l) = if onHead hh l then x (ix2 i l) else 0 := by
  fin_cases hh
  all_goals
    unfold lane bits k0_pay7 k0_pay8
    pointwise
  · exact select_iff (mask0_bit l) _ _
  · exact select_iff (mask1_bit l) _ _

theorem flat_apply (x : Vec Ideal S1x256x128 .bf16) (i : Fin 256) (l : Fin 128) : flat x (ix2 i l) = x (ix3 0 i l) := by
  unfold flat
  pointwise

theorem negq_apply (hh : Fin 2) (x : Vec Ideal S1x256x128 .bf16) (i : Fin 256) (l : Fin 128) :
    negq hh x (ix2 i l) = if onHead hh l then (-x (ix3 0 i l) : EReal) else 0 := by
  unfold negq
  rw [lane_apply, subf_apply, flat_apply]
  refine if_congr Iff.rfl ?_ rfl
  show Ideal.ofBits .bf16 0x0000#16 - x (ix3 0 i l) = _
  rw [zero16, zero_sub]

theorem nz_apply (q : FVec Ideal S256x128 .bf16) (k : Vec Ideal S1x256x128 .bf16) (i s : Fin 256) :
    nz q k (ix2 i s) = ∑ l : Fin 128, q (ix2 i l) * k (ix3 0 s l) := by
  have hd := Ideal.matmul_transposedRhs_apply (φ₂ := .bf16) none q (flat k) (constant S256x256 .f32 0x00000000#32) i s
  have z : (constant (F := Ideal) S256x256 .f32 0x00000000#32) (ix2 i s) = 0 := by pointwise
  unfold nz
  refine hd.trans ((congrArg (· + _) z).trans ((zero_add _).trans (Finset.sum_congr rfl fun l _ => congrArg (q (ix2 i l) * ·) ?_)))
  exact flat_apply k s l

theorem logn_apply (z : FVec Ideal S256x256 .f32) (i s : Fin 256) : logn z (ix2 i s) = Cert.Gates.logGate (z (ix2 i s)) := by
  unfold logn Cert.Gates.logGate
  pointwise
  first | rfl | rw [Cert.Gates.zero_word, Cert.Gates.one_word] | skip

theorem hide_apply (o : Bool) (x : FVec Ideal S256x256 .f32) (i s : Fin 256) {t n : ℕ} (h : if o then t = n + i.val else n + 256 ≤ t) :
    hide o x (ix2 i s) = if n + s.val < t then x (ix2 i s) else 0 := by
  cases o
  · have h : n + 256 ≤ t := h
    rw [if_pos (by omega)]; rfl
  · have h : t = n + i.val := h
    subst h
    show select k0_pay18 x _ (ix2 i s) = _
    unfold k0_pay18
    pointwise
    exact select_iff ((slt_small (by omega) (by omega)).trans (by omega)) _ _

theorem split2 (f : Fin 512 → EReal) : ∑ j, f j = (∑ s : Fin 256, f ⟨s.val, by omega⟩) + ∑ s : Fin 256, f ⟨256 + s.val, by omega⟩ :=
  Fin.sum_univ_add (a := 256) (b := 256) f

theorem split4 (f : Fin 1024 → EReal) : ∑ j, f j = (∑ s : Fin 256, f ⟨s.val, by omega⟩) + (∑ s : Fin 256, f ⟨256 + s.val, by omega⟩)
    + (∑ s : Fin 256, f ⟨512 + s.val, by omega⟩) + ∑ s : Fin 256, f ⟨768 + s.val, by omega⟩ := by
  rw [show ∑ j, f j = _ from Fin.sum_univ_add (a := 768) (b := 256) f, show (∑ j : Fin 768, f (Fin.castAdd 256 j)) = _ from
    Fin.sum_univ_add (a := 512) (b := 256) _, show (∑ j : Fin 512, f (Fin.castAdd 256 (Fin.castAdd 256 j))) = _ from
    Fin.sum_univ_add (a := 256) (b := 256) _]
  rfl

/-- The sums over a block's later keys, at real entries. -/
theorem suf_apply (u : FVec Ideal S512x256 .bf16) (hu : ∀ (j : Fin 512) (s : Fin 256), u (ix2 j s) = if s.val ≤ j.val % 256 then (1 : EReal) else 0)
    (x : FVec Ideal S256x256 .f32) (i : Fin 256) (f : Fin 256 → ℝ) (hx : ∀ s, x (ix2 i s) = (f s : EReal)) (s : Fin 256) :
    suf u x (ix2 i s) = ((∑ j : Fin 256, if s ≤ j then f j else 0 : ℝ) : EReal) := by
  have hd := Ideal.matmul_plain_apply none (concatenate S256x512 1 [⟨S256x256, truncf .bf16 x bitsLt_bf16_f32⟩,
      ⟨S256x256, truncf .bf16 (subf x (extf .f32 (truncf .bf16 x bitsLt_bf16_f32) bitsLt_bf16_f32)) bitsLt_bf16_f32⟩]
      concatenates_S256x256_S256x256_S256x512_d1) u (constant S256x256 .f32 0x00000000#32) i s
  have z : (constant (F := Ideal) S256x256 .f32 0x00000000#32) (ix2 i s) = 0 := by pointwise
  unfold suf
  refine hd.trans ((congrArg (· + _) z).trans ((zero_add _).trans ?_))
  rw [split2, ← Cert.Fox.coe_sum]
  refine (congrArg₂ (· + ·) (Finset.sum_congr rfl fun j _ => ?_) (Finset.sum_eq_zero fun j _ => ?_)).trans (add_zero _)
  · have hj := j.isLt
    have e : concatenate S256x512 1 [⟨S256x256, truncf .bf16 x bitsLt_bf16_f32⟩,
      ⟨S256x256, truncf .bf16 (subf x (extf .f32 (truncf .bf16 x bitsLt_bf16_f32) bitsLt_bf16_f32)) bitsLt_bf16_f32⟩]
      concatenates_S256x256_S256x256_S256x512_d1 (ix2 i ⟨j.val, by omega⟩) = (f j : EReal) := by
      rw [← hx]
      pointwise
    refine (congrArg₂ (· * ·) e (hu ⟨j.val, by omega⟩ s)).trans ?_
    simp only [Nat.mod_eq_of_lt hj, Fin.le_def]
    split <;> simp
  · have e : concatenate S256x512 1 [⟨S256x256, truncf .bf16 x bitsLt_bf16_f32⟩,
      ⟨S256x256, truncf .bf16 (subf x (extf .f32 (truncf .bf16 x bitsLt_bf16_f32) bitsLt_bf16_f32)) bitsLt_bf16_f32⟩]
      concatenates_S256x256_S256x256_S256x512_d1 (ix2 i ⟨256 + j.val, by omega⟩) = 0 := by
      pointwise
      rw [hx, ← EReal.coe_sub, sub_self]; rfl
    exact (congrArg (· * _) e).trans (zero_mul _)

theorem col_apply (s : FVec Ideal S256x256 .f32) (i : Fin 256) :
    extractStridedSlice S256x1 ![0, 0] s slices_S256x256_o0_0_S256x1 (ix2 i 0) = s (ix2 i 0) := by
  pointwise

theorem run1_apply (r : FVec Ideal S256x1 .f32) (s : FVec Ideal S256x256 .f32) (i : Fin 256) : run1 r s (ix2 i 0) = r (ix2 i 0) + s (ix2 i 0) := by
  unfold run1
  rw [addf_apply, col_apply]; rfl

theorem run2_apply (b : BitVec 1) (r : FVec Ideal S256x1 .f32) (s s' : FVec Ideal S256x256 .f32) (i : Fin 256) :
    run2 b r s s' (ix2 i 0) = if b = 1#1 then r (ix2 i 0) + s (ix2 i 0) + s' (ix2 i 0) else r (ix2 i 0) + s (ix2 i 0) := by
  unfold run2
  rw [select_iff Iff.rfl]
  split
  · rw [addf_apply, run1_apply, col_apply]; rfl
  · exact run1_apply ..

theorem before_apply (b : BitVec 1) (r : FVec Ideal S256x1 .f32) (s : FVec Ideal S256x256 .f32) (i : Fin 256) :
    before b r s (ix2 i 0) = if b = 1#1 then r (ix2 i 0) + s (ix2 i 0) else ⊥ := by
  unfold before
  rw [select_iff Iff.rfl]
  split
  · exact run1_apply ..
  · exact negInf_word

theorem wts_apply (r : FVec Ideal S256x1 .f32) (z s : FVec Ideal S256x256 .f32) (i j : Fin 256) :
    wts r z s (ix2 i j) = Ideal.exp (r (ix2 i 0) - z (ix2 i j) + s (ix2 i j)) := by
  unfold wts
  pointwise

theorem cat4_w (p0 p1 p2 p3 : FVec Ideal S256x256 .bf16) (i j : Fin 256) (n : Fin 4) :
    concatenate S256x1024 1 [⟨S256x256, p0⟩, ⟨S256x256, p1⟩, ⟨S256x256, p2⟩, ⟨S256x256, p3⟩] concatenates_S256x256_S256x256_S256x256_S256x256_S256x1024_d1
      (ix2 i ⟨256 * n.val + j.val, by omega⟩) = ![p0, p1, p2, p3] n (ix2 i j) := by
  have hj := j.isLt
  pointwise
  fin_cases n
  · refine (dif_pos (by show 256 * 0 + j.val < 256; omega)).trans (congrArg p0 ?_)
    funext a
    match a with
    | ⟨0, _⟩ => rfl
    | ⟨1, _⟩ => exact Fin.ext (by show 256 * 0 + j.val = j.val; omega)
  · refine (dif_neg (by show ¬ 256 * 1 + j.val < 256; omega)).trans ((dif_pos (by show 256 * 1 + j.val - 256 < 256; omega)).trans (congrArg p1 ?_))
    funext a
    match a with
    | ⟨0, _⟩ => rfl
    | ⟨1, _⟩ => exact Fin.ext (by show 256 * 1 + j.val - 256 = j.val; omega)
  · refine (dif_neg (by show ¬ 256 * 2 + j.val < 256; omega)).trans ((dif_neg (by show ¬ 256 * 2 + j.val - 256 < 256; omega)).trans
      ((dif_pos (by show 256 * 2 + j.val - 256 - 256 < 256; omega)).trans (congrArg p2 ?_)))
    funext a
    match a with
    | ⟨0, _⟩ => rfl
    | ⟨1, _⟩ => exact Fin.ext (by show 256 * 2 + j.val - 256 - 256 = j.val; omega)
  · refine (dif_neg (by show ¬ 256 * 3 + j.val < 256; omega)).trans ((dif_neg (by show ¬ 256 * 3 + j.val - 256 < 256; omega)).trans
      ((dif_neg (by show ¬ 256 * 3 + j.val - 256 - 256 < 256; omega)).trans (congrArg p3 ?_)))
    funext a
    match a with
    | ⟨0, _⟩ => rfl
    | ⟨1, _⟩ => exact Fin.ext (by show 256 * 3 + j.val - 256 - 256 - 256 = j.val; omega)

theorem cat4_v (p0 p1 p2 p3 : FVec Ideal S256x128 .bf16) (j : Fin 256) (l : Fin 128) (n : Fin 4) :
    concatenate S1024x128 0 [⟨S256x128, p0⟩, ⟨S256x128, p1⟩, ⟨S256x128, p2⟩, ⟨S256x128, p3⟩] concatenates_S256x128_S256x128_S256x128_S256x128_S1024x128_d0
      (ix2 ⟨256 * n.val + j.val, by omega⟩ l) = ![p0, p1, p2, p3] n (ix2 j l) := by
  have hj := j.isLt
  pointwise
  fin_cases n
  · refine (dif_pos (by show 256 * 0 + j.val < 256; omega)).trans (congrArg p0 ?_)
    funext a
    match a with
    | ⟨0, _⟩ => exact Fin.ext (by show 256 * 0 + j.val = j.val; omega)
    | ⟨1, _⟩ => rfl
  · refine (dif_neg (by show ¬ 256 * 1 + j.val < 256; omega)).trans ((dif_pos (by show 256 * 1 + j.val - 256 < 256; omega)).trans (congrArg p1 ?_))
    funext a
    match a with
    | ⟨0, _⟩ => exact Fin.ext (by show 256 * 1 + j.val - 256 = j.val; omega)
    | ⟨1, _⟩ => rfl
  · refine (dif_neg (by show ¬ 256 * 2 + j.val < 256; omega)).trans ((dif_neg (by show ¬ 256 * 2 + j.val - 256 < 256; omega)).trans
      ((dif_pos (by show 256 * 2 + j.val - 256 - 256 < 256; omega)).trans (congrArg p2 ?_)))
    funext a
    match a with
    | ⟨0, _⟩ => exact Fin.ext (by show 256 * 2 + j.val - 256 - 256 = j.val; omega)
    | ⟨1, _⟩ => rfl
  · refine (dif_neg (by show ¬ 256 * 3 + j.val < 256; omega)).trans ((dif_neg (by show ¬ 256 * 3 + j.val - 256 < 256; omega)).trans
      ((dif_neg (by show ¬ 256 * 3 + j.val - 256 - 256 < 256; omega)).trans (congrArg p3 ?_)))
    funext a
    match a with
    | ⟨0, _⟩ => exact Fin.ext (by show 256 * 3 + j.val - 256 - 256 - 256 = j.val; omega)
    | ⟨1, _⟩ => rfl

theorem acc_apply (a : FVec Ideal S256x128 .f32) (p0 p1 p2 p3 : FVec Ideal S256x256 .bf16) (v v' : Vec Ideal S1x256x128 .bf16) (i : Fin 256) (l : Fin 128) :
    acc a p0 p1 p2 p3 v v' (ix2 i l) = a (ix2 i l) + ((∑ s : Fin 256, p0 (ix2 i s) * (if onHead 0 l then v (ix3 0 s l) else 0 : EReal))
      + (∑ s : Fin 256, p1 (ix2 i s) * (if onHead 1 l then v (ix3 0 s l) else 0 : EReal))
      + (∑ s : Fin 256, p2 (ix2 i s) * (if onHead 0 l then v' (ix3 0 s l) else 0 : EReal))
      + ∑ s : Fin 256, p3 (ix2 i s) * (if onHead 1 l then v' (ix3 0 s l) else 0 : EReal)) := by
  have hd := Ideal.matmul_plain_apply none
    (concatenate S256x1024 1 [⟨S256x256, p0⟩, ⟨S256x256, p1⟩, ⟨S256x256, p2⟩, ⟨S256x256, p3⟩] concatenates_S256x256_S256x256_S256x256_S256x256_S256x1024_d1)
    (concatenate S1024x128 0 [⟨S256x128, lane k0_pay7 (flat v)⟩, ⟨S256x128, lane k0_pay8 (flat v)⟩, ⟨S256x128, lane k0_pay7 (flat v')⟩,
      ⟨S256x128, lane k0_pay8 (flat v')⟩] concatenates_S256x128_S256x128_S256x128_S256x128_S1024x128_d0)
    (constant S256x128 .f32 0x00000000#32) i l
  have z : (constant (F := Ideal) S256x128 .f32 0x00000000#32) (ix2 i l) = 0 := by pointwise
  have fl (hh : Fin 2) (v : Vec Ideal S1x256x128 .bf16) (s : Fin 256) : lane (bits hh) (flat v) (ix2 s l) = if onHead hh l then v (ix3 0 s l) else 0 := by
    rw [lane_apply, flat_apply]
  unfold acc
  rw [addf_apply]
  refine congrArg (a (ix2 i l) + ·) (hd.trans ((congrArg (· + _) z).trans ((zero_add _).trans ?_)))
  rw [split4]
  refine congrArg₂ (· + ·) (congrArg₂ (· + ·) (congrArg₂ (· + ·) ?_ ?_) ?_) ?_ <;> refine Finset.sum_congr rfl fun s _ => congrArg₂ (· * ·) ?_ ?_
  · refine Eq.trans ?_ (cat4_w p0 p1 p2 p3 i s 0); exact congrArg (fun y => concatenate _ _ _ _ (ix2 i y)) (Fin.ext (by simp))
  · refine Eq.trans ?_ ((cat4_v (lane k0_pay7 (flat v)) (lane k0_pay8 (flat v)) (lane k0_pay7 (flat v')) (lane k0_pay8 (flat v')) s l 0).trans (fl 0 v s)); exact congrArg (fun y => concatenate _ _ _ _ (ix2 y l)) (Fin.ext (by simp))
  · exact cat4_w p0 p1 p2 p3 i s 1
  · exact (cat4_v (lane k0_pay7 (flat v)) (lane k0_pay8 (flat v)) (lane k0_pay7 (flat v')) (lane k0_pay8 (flat v')) s l 1).trans (fl 1 v s)
  · exact cat4_w p0 p1 p2 p3 i s 2
  · exact (cat4_v (lane k0_pay7 (flat v)) (lane k0_pay8 (flat v)) (lane k0_pay7 (flat v')) (lane k0_pay8 (flat v')) s l 2).trans (fl 0 v' s)
  · exact cat4_w p0 p1 p2 p3 i s 3
  · exact (cat4_v (lane k0_pay7 (flat v)) (lane k0_pay8 (flat v)) (lane k0_pay7 (flat v')) (lane k0_pay8 (flat v')) s l 3).trans (fl 1 v' s)

end Cert.Kernel7Ideal.Sticks

end
-- ==== Proof.Sticks.Row.lean ====
/- One row of the kernel's vectors over a block of keys and the block before it, where everything read is a real number. -/
module

public import proofs.«01_k».proof.Proof.Sticks.Elements

@[expose] public section

set_option maxRecDepth 16384

noncomputable section

namespace Cert.Kernel7Ideal.Sticks

open Idealize.ShloMosaic Idealize.ShloMosaic.TcCoe Idealize.ShloMosaic.Tactic
open Cert.Kernel7Ideal Cert.Kernel7Ideal.Gen Cert.Sticks
open Cert.KernelIdeal.Fox (onHead)

/-- The summing matrix, twice over. -/
def Summing (u : FVec Ideal S512x256 .bf16) : Prop := ∀ (j : Fin 512) (s : Fin 256), u (ix2 j s) = if s.val ≤ j.val % 256 then (1 : EReal) else 0

/-- The row's place against the block from `n` on: in it if it is the query block's own, after it otherwise. -/
def At (o : Bool) (t n : ℕ) (i : Fin 256) : Prop := if o then t = n + i.val else n + 256 ≤ t

/-- The negated scores of row `i` against the block from `n` on. -/
def Scores (q : FVec Ideal S256x128 .bf16) (k : Vec Ideal S1x256x128 .bf16) (i : Fin 256) (z : ℕ → ℝ) (n : ℕ) : Prop :=
  ∀ s : Fin 256, nz q k (ix2 i s) = ((-z (n + s.val) : ℝ) : EReal)

variable {o : Bool} {u : FVec Ideal S512x256 .bf16} {q q0 q1 : FVec Ideal S256x128 .bf16} {k k' v v' : Vec Ideal S1x256x128 .bf16} {i : Fin 256}
  {t n kb : ℕ} {b : BitVec 1} {z z0 z1 : ℕ → ℝ} {r r0 r1 : FVec Ideal S256x1 .f32}

theorem sufs_real (hu : Summing u) (ho : At o t n i) (hz : Scores q k i z n) (s : Fin 256) :
    sufs o u q k (ix2 i s) = ((∑ j : Fin 256, if s ≤ j then entry z t (n + j.val) else 0 : ℝ) : EReal) := by
  unfold sufs
  refine suf_apply u hu _ i (fun j => entry z t (n + j.val)) (fun j => ?_) s
  rw [hide_apply o _ i j ho, logn_apply, hz, logGate_real, neg_neg]
  unfold entry
  split <;> rfl

theorem step_run (hu : Summing u) (ho : At o t n i) (hn : n + 256 ≤ 2048) (hz : Scores q k i z n)
    (hr : r (ix2 i 0) = (upper (entry z t) (n + 256) : EReal)) : r (ix2 i 0) + sufs o u q k (ix2 i 0) = (upper (entry z t) n : EReal) := by
  rw [hr, sufs_real hu ho hz, ← EReal.coe_add]
  exact congrArg _ (upper_part (entry z t) hn 0).symm

theorem wtNow_real (hu : Summing u) (ho : At o t n i) (hn : n + 256 ≤ 2048) (hz : Scores q k i z n)
    (hr : r (ix2 i 0) = (upper (entry z t) (n + 256) : EReal)) (s : Fin 256) : wtNow o u q k r (ix2 i s) = (weight z t (n + s.val) : EReal) := by
  unfold wtNow
  refine (hide_apply o _ i s ho).trans ?_
  rw [wts_apply, hr, hz, sufs_real hu ho hz, ← EReal.coe_sub, ← EReal.coe_add]
  unfold weight
  split
  · refine congrArg (fun x : ℝ => ((Real.exp x : ℝ) : EReal)) ?_
    rw [upper_part (entry z t) hn s]; ring
  · rfl

theorem at_prev (ho : At o t (256 * kb) i) (hk : 1 ≤ kb) : At false t (256 * (kb - 1)) i := by
  show 256 * (kb - 1) + 256 ≤ t
  cases o
  · have : 256 * kb + 256 ≤ t := ho
    omega
  · have : t = 256 * kb + i.val := ho
    omega

theorem runs_real (hu : Summing u) (ho : At o t (256 * kb) i) (hn : 256 * kb + 256 ≤ 2048) (hb : b = 1#1 ↔ 1 ≤ kb) (hz : Scores q k i z (256 * kb))
    (hz' : Scores q k' i z (256 * (kb - 1))) (hr : r (ix2 i 0) = (upper (entry z t) (256 * kb + 256) : EReal)) :
    runs o u b q k k' r (ix2 i 0) = (upper (entry z t) (256 * (kb - 1)) : EReal) := by
  unfold runs
  rw [run2_apply, step_run hu ho hn hz hr]
  by_cases hk : 1 ≤ kb
  · have e : 256 * kb = 256 * (kb - 1) + 256 := by omega
    rw [if_pos (hb.mpr hk), sufs_real hu (at_prev ho hk) hz', ← EReal.coe_add, e]
    exact congrArg _ (upper_part (entry z t) (by omega) 0).symm
  · rw [if_neg (fun h => hk (hb.mp h))]
    obtain rfl : kb = 0 := by omega
    rfl

theorem wtPrev_real (hu : Summing u) (ho : At o t (256 * kb) i) (hn : 256 * kb + 256 ≤ 2048) (hb : b = 1#1 ↔ 1 ≤ kb) (hz : Scores q k i z (256 * kb))
    (hz' : Scores q k' i z (256 * (kb - 1))) (hr : r (ix2 i 0) = (upper (entry z t) (256 * kb + 256) : EReal)) (s : Fin 256) :
    wtPrev o u b q k k' r (ix2 i s) = ((if 1 ≤ kb then weight z t (256 * (kb - 1) + s.val) else 0 : ℝ) : EReal) := by
  have hs := s.isLt
  unfold wtPrev
  show wts _ _ _ (ix2 i s) = _
  rw [wts_apply, before_apply, step_run hu ho hn hz hr]
  by_cases hk : 1 ≤ kb
  · have ha := at_prev ho hk
    have ht : 256 * (kb - 1) + 256 ≤ t := ha
    have e : 256 * kb = 256 * (kb - 1) + 256 := by omega
    rw [if_pos (hb.mpr hk), if_pos hk, hz', sufs_real hu ha hz', ← EReal.coe_sub, ← EReal.coe_add, e]
    unfold weight
    rw [if_pos (by omega)]
    refine congrArg (fun x : ℝ => ((Real.exp x : ℝ) : EReal)) ?_
    rw [upper_part (entry z t) (by omega) s]; ring
  · rw [if_neg (fun h => hk (hb.mp h)), if_neg hk, EReal.bot_sub, EReal.bot_add]; rfl

theorem dot_real (p : Fin 256 → EReal) (w : Fin 256 → EReal) (f g : Fin 256 → ℝ) (hp : ∀ s, p s = (f s : EReal)) (hw : ∀ s, w s = (g s : EReal)) (c : Prop) [Decidable c] :
    (∑ s : Fin 256, p s * (if c then w s else 0 : EReal)) = ((if c then ∑ s : Fin 256, f s * g s else 0 : ℝ) : EReal) := by
  split
  · rw [← Cert.Fox.coe_sum]
    exact Finset.sum_congr rfl fun s _ => by rw [hp, hw, EReal.coe_mul]
  · simp

theorem accs_real (hu : Summing u) (ho : At o t (256 * kb) i) (hn : 256 * kb + 256 ≤ 2048) (hb : b = 1#1 ↔ 1 ≤ kb)
    (hz0 : Scores q0 k i z0 (256 * kb)) (hz0' : Scores q0 k' i z0 (256 * (kb - 1))) (hz1 : Scores q1 k i z1 (256 * kb)) (hz1' : Scores q1 k' i z1 (256 * (kb - 1)))
    (hr0 : r0 (ix2 i 0) = (upper (entry z0 t) (256 * kb + 256) : EReal)) (hr1 : r1 (ix2 i 0) = (upper (entry z1 t) (256 * kb + 256) : EReal))
    (l : Fin 128) (V : ℕ → ℝ) (hv : ∀ s : Fin 256, v (ix3 0 s l) = (V (256 * kb + s.val) : EReal))
    (hv' : ∀ s : Fin 256, v' (ix3 0 s l) = (V (256 * (kb - 1) + s.val) : EReal)) (a : FVec Ideal S256x128 .f32)
    (ha : a (ix2 i l) = (upper (mix (if l.val < 64 then z0 else z1) V t) (256 * kb + 256) : EReal)) :
    accs o u b q0 q1 k k' v v' r0 r1 a (ix2 i l) = (upper (mix (if l.val < 64 then z0 else z1) V t) (256 * (kb - 1)) : EReal) := by
  unfold accs
  rw [acc_apply, ha, dot_real _ _ _ _ (wtNow_real hu ho hn hz0 hr0) hv, dot_real _ _ _ _ (wtNow_real hu ho hn hz1 hr1) hv,
    dot_real _ _ _ _ (wtPrev_real hu ho hn hb hz0 hz0' hr0) hv', dot_real _ _ _ _ (wtPrev_real hu ho hn hb hz1 hz1' hr1) hv']
  simp only [← EReal.coe_add]
  refine congrArg _ ?_
  have key (z : ℕ → ℝ) : upper (mix z V t) (256 * (kb - 1)) = upper (mix z V t) (256 * kb + 256) + ((∑ s : Fin 256, weight z t (256 * kb + s.val) * V (256 * kb + s.val))
      + ∑ s : Fin 256, (if 1 ≤ kb then weight z t (256 * (kb - 1) + s.val) else 0) * V (256 * (kb - 1) + s.val)) := by
    have e1 := upper_block (mix z V t) hn
    by_cases hk : 1 ≤ kb
    · have e : 256 * kb = 256 * (kb - 1) + 256 := by omega
      have e2 := upper_block (mix z V t) (n := 256 * (kb - 1)) (by omega)
      rw [e2, ← e, e1, add_assoc]
      simp only [if_pos hk]; rfl
    · obtain rfl : kb = 0 := by omega
      simp only [if_neg hk, zero_mul, Finset.sum_const_zero, add_zero]
      exact e1
  by_cases hl : l.val < 64
  · have h0 : onHead 0 l := hl
    have h1 : ¬ onHead 1 l := fun h => (show ¬ l.val < 64 from h) hl
    simp only [if_pos hl, if_pos h0, if_neg h1, add_zero]
    rw [key]
  · have h0 : ¬ onHead 0 l := hl
    have h1 : onHead 1 l := hl
    simp only [if_neg hl, if_neg h0, if_pos h1, zero_add, add_zero]
    rw [key]

end Cert.Kernel7Ideal.Sticks

end
-- ==== Proof.Sticks.Loop.lean ====
/- The kernel's walk back over the keys, in real numbers: what the carry holds after the blocks taken so far. -/
module

public import proofs.«01_k».proof.Proof.Sticks.Row
public import proofs.«01_k».proof.Proof.Fox.Places

@[expose] public section

set_option maxRecDepth 16384

noncomputable section

namespace Cert.Kernel7Ideal.Sticks

open Idealize.ShloMosaic Idealize.ShloMosaic.TcCoe Idealize.ShloMosaic.Tactic
open Cert.Kernel7Ideal Cert.Kernel7Ideal.Gen Cert.Sticks
open Cert.KernelIdeal.Fox (onHead headSum headSum_eq)

/-- One trip, by its parts. -/
theorem step_eq (y0 y1 : Vec Ideal S1x256x128 .bf16) (u : FVec Ideal S512x256 .bf16) (x1 x2 : Vec Ideal S1x2048x256 .bf16) (s : Carry Ideal) (h : k0_chk1 s.1) :
    step (negq 0 y0) (negq 1 y0) (negq 0 y1) (negq 1 y1) u k0_pay7 k0_pay8 x1 x2 s h =
      let b := Scalar.cmpi .sge s.1 1#32
      let ka := rows x1 (k0_off5 s.1) (k0_off5_inb s.1 h)
      let kb := rows x1 (k0_off6 s.1) (k0_off6_inb s.1 h)
      let la := rows x1 (k0_off7 s.1) (k0_off7_inb s.1 h)
      let lb := rows x1 (k0_off8 s.1) (k0_off8_inb s.1 h)
      let r0 := runs false u b (negq 0 y0) ka la s.2.2.1
      let r1 := runs false u b (negq 1 y0) ka la s.2.2.2.1
      let r2 := runs false u b (negq 0 y1) kb lb s.2.2.2.2.1
      let r3 := runs false u b (negq 1 y1) kb lb s.2.2.2.2.2.1
      (Scalar.subi s.1 2#32, Scalar.extui (Scalar.cmpf .ogt (k0_pay5 r0 r1 r2 r3) skip), r0, r1, r2, r3,
        accs false u b (negq 0 y0) (negq 1 y0) ka la (rows x2 (k0_off5 s.1) (k0_off5_inb s.1 h)) (rows x2 (k0_off7 s.1) (k0_off7_inb s.1 h))
          s.2.2.1 s.2.2.2.1 s.2.2.2.2.2.2.1,
        accs false u b (negq 0 y1) (negq 1 y1) kb lb (rows x2 (k0_off6 s.1) (k0_off6_inb s.1 h)) (rows x2 (k0_off8 s.1) (k0_off8_inb s.1 h))
          s.2.2.2.2.1 s.2.2.2.2.2.1 s.2.2.2.2.2.2.2) := rfl

/-- The first carry, by its parts. -/
theorem first_eq (i : grid0.Coords) (x0 : Vec Ideal S1x256x256 .bf16) (x1 x2 : Vec Ideal S1x2048x256 .bf16) (x3 : Vec Ideal S512x256 .bf16) :
    first i x0 x1 x2 x3 =
      let b := Scalar.cmpi .sge (BitVec.ofNat 32 (i 2).val) 1#32
      let u := sums x3
      let ka := rows x1 (k0_off1 i) (k0_off1_inb i)
      let kb := rows x1 (k0_off2 i) (k0_off2_inb i)
      let la := rows x1 (k0_off3 i) (k0_off3_inb i)
      let lb := rows x1 (k0_off4 i) (k0_off4_inb i)
      let r0 := runs true u b (negq 0 (qlo x0)) ka la k0_pay16
      let r1 := runs true u b (negq 1 (qlo x0)) ka la k0_pay16
      let r2 := runs true u b (negq 0 (qhi x0)) kb lb k0_pay16
      let r3 := runs true u b (negq 1 (qhi x0)) kb lb k0_pay16
      (Scalar.subi (BitVec.ofNat 32 (i 2).val) 2#32, Scalar.extui (Scalar.cmpf .ogt (k0_pay5 r0 r1 r2 r3) skip), r0, r1, r2, r3,
        accs true u b (negq 0 (qlo x0)) (negq 1 (qlo x0)) ka la (rows x2 (k0_off1 i) (k0_off1_inb i)) (rows x2 (k0_off3 i) (k0_off3_inb i))
          k0_pay16 k0_pay16 k0_pay17,
        accs true u b (negq 0 (qhi x0)) (negq 1 (qhi x0)) kb lb (rows x2 (k0_off2 i) (k0_off2_inb i)) (rows x2 (k0_off4 i) (k0_off4_inb i))
          k0_pay16 k0_pay16 k0_pay17) := rfl

theorem last_eq (i : grid0.Coords) (x0 : Vec Ideal S1x256x256 .bf16) (x1 x2 : Vec Ideal S1x2048x256 .bf16) (x3 : Vec Ideal S512x256 .bf16) :
    last i x0 x1 x2 x3 = loop (negq 0 (qlo x0)) (negq 1 (qlo x0)) (negq 0 (qhi x0)) (negq 1 (qhi x0)) (sums x3) k0_pay7 k0_pay8 x1 x2 3 (first i x0 x1 x2 x3) := by
  have e0 (y : Vec Ideal S1x256x128 .bf16) : k0_pay10 y = negq 0 y := rfl
  have e1 (y : Vec Ideal S1x256x128 .bf16) : k0_pay11 y = negq 1 y := rfl
  have e2 (y : Vec Ideal S1x256x128 .bf16) : k0_pay13 y = negq 0 y := rfl
  have e3 (y : Vec Ideal S1x256x128 .bf16) : k0_pay15 k0_pay8 (k0_pay14 y) = negq 1 y := rfl
  unfold last
  rw [e0, e1, e2, e3]

theorem skip_bot : (skip : Ideal .f32) = (⊥ : EReal) := rfl

theorem flag_one (r0 r1 r2 r3 : FVec Ideal S256x1 .f32) (ρ : ℝ) (h : r0 (ix2 0 0) = (ρ : EReal)) :
    Scalar.extui (Scalar.cmpf .ogt (k0_pay5 r0 r1 r2 r3) skip) = (1#32 : BitVec 32) := by
  have hp : (ρ : EReal) ≤ k0_pay5 r0 r1 r2 r3 := by
    unfold k0_pay5
    pointwise
    refine Finset.le_fold_max (c := (ρ : EReal)) |>.mpr (.inr ⟨(0, 0), Finset.mem_univ _, ?_⟩)
    rw [← h]
    exact (le_max_left _ _).trans ((le_max_left _ _).trans (le_max_left _ _))
  have hb : Ideal.cmp .ogt (k0_pay5 r0 r1 r2 r3) ⊥ = 1#1 := by
    simp [Ideal.cmp, lt_of_lt_of_le (EReal.bot_lt_coe ρ) hp]
  generalize k0_pay5 r0 r1 r2 r3 = w at hb ⊢
  have hc : Scalar.cmpf .ogt w skip = 1#1 := hb
  rw [hc]; rfl

/-- A query block's rows, the keys and the values of the sequence, in real numbers, lane by lane of the four heads. -/
structure Ready (x0 : Vec Ideal S1x256x256 .bf16) (x1 x2 : Vec Ideal S1x2048x256 .bf16) (u : FVec Ideal S512x256 .bf16) (Q : ℕ → ℕ → ℝ) (K V : ℕ → ℕ → ℝ) : Prop where
  q : ∀ i l : Fin 256, x0 (ix3 0 i l) = (Q i.val l.val : EReal)
  k : ∀ (s : Fin 2048) (l : Fin 256), x1 (ix3 0 s l) = (K s.val l.val : EReal)
  v : ∀ (s : Fin 2048) (l : Fin 256), x2 (ix3 0 s l) = (V s.val l.val : EReal)
  u : Summing u

/-- A head's score of a query row against the keys. -/
def sc (q : ℕ → ℝ) (K : ℕ → ℕ → ℝ) (h : ℕ) (s : ℕ) : ℝ := ∑ d : Fin 64, q (64 * h + d.val) * K s (64 * h + d.val)

variable {x0 : Vec Ideal S1x256x256 .bf16} {x1 x2 : Vec Ideal S1x2048x256 .bf16} {u : FVec Ideal S512x256 .bf16} {Q K V : ℕ → ℕ → ℝ}

theorem rows_apply {x : Vec Ideal S1x2048x256 .bf16} {X : ℕ → ℕ → ℝ} (hx : ∀ (s : Fin 2048) (l : Fin 256), x (ix3 0 s l) = (X s.val l.val : EReal))
    {o : Fin 3 → ℕ} (h : ∀ a, o a + S1x256x128.size a ≤ S1x2048x256.size a) {n c : ℕ} (e : o = ![0, n, c]) (s : Fin 256) (l : Fin 128) :
    rows x o h (ix3 0 s l) = (X (n + s.val) (c + l.val) : EReal) := by
  subst e
  have h1 : n + 256 ≤ 2048 := h 1
  have h2 : c + 128 ≤ 256 := h 2
  refine (View.ld_unit_apply_of _ _ _ _ _ (ix3 0 ⟨n + s.val, by omega⟩ ⟨c + l.val, by omega⟩) ?_).trans (hx _ _)
  intro a; match a with | ⟨0, _⟩ => rfl | ⟨1, _⟩ => simp | ⟨2, _⟩ => simp

theorem scores_of (hh : Fin 2) (y : Vec Ideal S1x256x128 .bf16) (k : Vec Ideal S1x256x128 .bf16) (i : Fin 256) (q : ℕ → ℝ) (n c h : ℕ) (hc : c + 64 * hh.val = 64 * h)
    (hq : ∀ l : Fin 128, y (ix3 0 i l) = (q (c + l.val) : EReal)) (hk : ∀ (s : Fin 256) (l : Fin 128), k (ix3 0 s l) = (K (n + s.val) (c + l.val) : EReal)) :
    Scores (negq hh y) k i (sc q K h) n := by
  intro s
  rw [nz_apply]
  have e : sc q K h (n + s.val) = headSum hh (fun l => (fun l => q (c + l) * K (n + s.val) (c + l)) l.val) := by
    refine Eq.trans ?_ (headSum_eq hh (fun l => q (c + l) * K (n + s.val) (c + l))).symm
    unfold sc
    refine Finset.sum_congr rfl fun d _ => ?_
    rw [show c + (64 * hh.val + d.val) = 64 * h + d.val by omega]
  rw [e]
  unfold headSum
  rw [← Finset.sum_neg_distrib, ← Cert.Fox.coe_sum]
  refine Finset.sum_congr rfl fun l _ => ?_
  rw [negq_apply, hq, hk]
  split
  · rw [← EReal.coe_neg, ← EReal.coe_mul, neg_mul]
  · rw [zero_mul, neg_zero]; rfl

/-- What the carry holds once the keys from `lo` on are taken: the next index, the flag up, every head's run, both accumulators. -/
structure Covers (Q K V : ℕ → ℕ → ℝ) (t0 j lo : ℕ) (s : Carry Ideal) : Prop where
  idx : s.1 = Scalar.subi (BitVec.ofNat 32 j) 2#32
  go : s.2.1 = 1#32
  r0 : ∀ i : Fin 256, s.2.2.1 (ix2 i 0) = (upper (entry (sc (Q i.val) K 0) (t0 + i.val)) lo : EReal)
  r1 : ∀ i : Fin 256, s.2.2.2.1 (ix2 i 0) = (upper (entry (sc (Q i.val) K 1) (t0 + i.val)) lo : EReal)
  r2 : ∀ i : Fin 256, s.2.2.2.2.1 (ix2 i 0) = (upper (entry (sc (Q i.val) K 2) (t0 + i.val)) lo : EReal)
  r3 : ∀ i : Fin 256, s.2.2.2.2.2.1 (ix2 i 0) = (upper (entry (sc (Q i.val) K 3) (t0 + i.val)) lo : EReal)
  a0 : ∀ (i : Fin 256) (l : Fin 128), s.2.2.2.2.2.2.1 (ix2 i l)
    = (upper (mix (if l.val < 64 then sc (Q i.val) K 0 else sc (Q i.val) K 1) (fun s => V s (0 + l.val)) (t0 + i.val)) lo : EReal)
  a1 : ∀ (i : Fin 256) (l : Fin 128), s.2.2.2.2.2.2.2 (ix2 i l)
    = (upper (mix (if l.val < 64 then sc (Q i.val) K 2 else sc (Q i.val) K 3) (fun s => V s (128 + l.val)) (t0 + i.val)) lo : EReal)

theorem trip_places : ∀ kb : Fin 6, let a := Scalar.subi (BitVec.ofNat 32 (kb.val + 2)) 2#32
    k0_off5 a = ![0, 256 * kb.val, 0] ∧ k0_off6 a = ![0, 256 * kb.val, 128] ∧ k0_off7 a = ![0, 256 * (kb.val - 1), 0] ∧ k0_off8 a = ![0, 256 * (kb.val - 1), 128]
    ∧ (Scalar.cmpi .sge a 1#32 = 1#1 ↔ 1 ≤ kb.val) ∧ Scalar.subi a 2#32 = Scalar.subi (BitVec.ofNat 32 kb.val) 2#32 := by decide +kernel

theorem qlo_apply (x0 : Vec Ideal S1x256x256 .bf16) (i : Fin 256) (l : Fin 128) : qlo x0 (ix3 0 i l) = x0 (ix3 0 i ⟨0 + l.val, by omega⟩) :=
  View.ld_unit_apply_of _ _ _ _ _ (ix3 0 i ⟨0 + l.val, by omega⟩) (by intro a; match a with | ⟨0, _⟩ => rfl | ⟨1, _⟩ => simp | ⟨2, _⟩ => simp)

theorem qhi_apply (x0 : Vec Ideal S1x256x256 .bf16) (i : Fin 256) (l : Fin 128) : qhi x0 (ix3 0 i l) = x0 (ix3 0 i ⟨128 + l.val, by omega⟩) :=
  View.ld_unit_apply_of _ _ _ _ _ (ix3 0 i ⟨128 + l.val, by omega⟩) (by intro a; match a with | ⟨0, _⟩ => rfl | ⟨1, _⟩ => simp | ⟨2, _⟩ => simp)

/-- Two blocks more. -/
theorem covers_two (R : Ready x0 x1 x2 u Q K V) {o : Bool} {t0 kb : ℕ} {b : BitVec 1} (ho : ∀ i : Fin 256, At o (t0 + i.val) (256 * kb) i) (hn : 256 * kb + 256 ≤ 2048)
    (hb : b = 1#1 ↔ 1 ≤ kb) {o0 o1 o2 o3 : Fin 3 → ℕ} (h0 : ∀ a, o0 a + S1x256x128.size a ≤ S1x2048x256.size a)
    (h1 : ∀ a, o1 a + S1x256x128.size a ≤ S1x2048x256.size a) (h2 : ∀ a, o2 a + S1x256x128.size a ≤ S1x2048x256.size a)
    (h3 : ∀ a, o3 a + S1x256x128.size a ≤ S1x2048x256.size a) (e0 : o0 = ![0, 256 * kb, 0]) (e1 : o1 = ![0, 256 * kb, 128])
    (e2 : o2 = ![0, 256 * (kb - 1), 0]) (e3 : o3 = ![0, 256 * (kb - 1), 128]) {j : ℕ} {s : Carry Ideal} (hs : Covers Q K V t0 j (256 * kb + 256) s) (j' : ℕ) (a : BitVec 32)
    (ha : a = Scalar.subi (BitVec.ofNat 32 j') 2#32) :
    Covers Q K V t0 j' (256 * (kb - 1)) (
      let ka := rows x1 o0 h0
      let kb := rows x1 o1 h1
      let la := rows x1 o2 h2
      let lb := rows x1 o3 h3
      let r0 := runs o u b (negq 0 (qlo x0)) ka la s.2.2.1
      let r1 := runs o u b (negq 1 (qlo x0)) ka la s.2.2.2.1
      let r2 := runs o u b (negq 0 (qhi x0)) kb lb s.2.2.2.2.1
      let r3 := runs o u b (negq 1 (qhi x0)) kb lb s.2.2.2.2.2.1
      (a, Scalar.extui (Scalar.cmpf .ogt (k0_pay5 r0 r1 r2 r3) skip), r0, r1, r2, r3,
        accs o u b (negq 0 (qlo x0)) (negq 1 (qlo x0)) ka la (rows x2 o0 h0) (rows x2 o2 h2) s.2.2.1 s.2.2.2.1 s.2.2.2.2.2.2.1,
        accs o u b (negq 0 (qhi x0)) (negq 1 (qhi x0)) kb lb (rows x2 o1 h1) (rows x2 o3 h3) s.2.2.2.2.1 s.2.2.2.2.2.1 s.2.2.2.2.2.2.2)) := by
  have ql (i : Fin 256) (l : Fin 128) : qlo x0 (ix3 0 i l) = (Q i.val (0 + l.val) : EReal) := (qlo_apply x0 i l).trans (R.q _ _)
  have qh (i : Fin 256) (l : Fin 128) : qhi x0 (ix3 0 i l) = (Q i.val (128 + l.val) : EReal) := (qhi_apply x0 i l).trans (R.q _ _)
  have s0 (i : Fin 256) := scores_of (K := K) 0 (qlo x0) (rows x1 o0 h0) i (Q i.val) (256 * kb) 0 0 rfl (ql i) (rows_apply R.k h0 e0)
  have s1 (i : Fin 256) := scores_of (K := K) 1 (qlo x0) (rows x1 o0 h0) i (Q i.val) (256 * kb) 0 1 rfl (ql i) (rows_apply R.k h0 e0)
  have s2 (i : Fin 256) := scores_of (K := K) 0 (qhi x0) (rows x1 o1 h1) i (Q i.val) (256 * kb) 128 2 rfl (qh i) (rows_apply R.k h1 e1)
  have s3 (i : Fin 256) := scores_of (K := K) 1 (qhi x0) (rows x1 o1 h1) i (Q i.val) (256 * kb) 128 3 rfl (qh i) (rows_apply R.k h1 e1)
  have p0 (i : Fin 256) := scores_of (K := K) 0 (qlo x0) (rows x1 o2 h2) i (Q i.val) (256 * (kb - 1)) 0 0 rfl (ql i) (rows_apply R.k h2 e2)
  have p1 (i : Fin 256) := scores_of (K := K) 1 (qlo x0) (rows x1 o2 h2) i (Q i.val) (256 * (kb - 1)) 0 1 rfl (ql i) (rows_apply R.k h2 e2)
  have p2 (i : Fin 256) := scores_of (K := K) 0 (qhi x0) (rows x1 o3 h3) i (Q i.val) (256 * (kb - 1)) 128 2 rfl (qh i) (rows_apply R.k h3 e3)
  have p3 (i : Fin 256) := scores_of (K := K) 1 (qhi x0) (rows x1 o3 h3) i (Q i.val) (256 * (kb - 1)) 128 3 rfl (qh i) (rows_apply R.k h3 e3)
  have t0' (i : Fin 256) := runs_real R.u (ho i) hn hb (s0 i) (p0 i) (hs.r0 i)
  exact
    { idx := ha
      go := flag_one _ _ _ _ _ (t0' 0)
      r0 := t0'
      r1 := fun i => runs_real R.u (ho i) hn hb (s1 i) (p1 i) (hs.r1 i)
      r2 := fun i => runs_real R.u (ho i) hn hb (s2 i) (p2 i) (hs.r2 i)
      r3 := fun i => runs_real R.u (ho i) hn hb (s3 i) (p3 i) (hs.r3 i)
      a0 := fun i l => accs_real R.u (ho i) hn hb (s0 i) (p0 i) (s1 i) (p1 i) (hs.r0 i) (hs.r1 i) l (fun s => V s (0 + l.val))
        (fun s => rows_apply R.v h0 e0 s l) (fun s => rows_apply R.v h2 e2 s l) _ (hs.a0 i l)
      a1 := fun i l => accs_real R.u (ho i) hn hb (s2 i) (p2 i) (s3 i) (p3 i) (hs.r2 i) (hs.r3 i) l (fun s => V s (128 + l.val))
        (fun s => rows_apply R.v h1 e1 s l) (fun s => rows_apply R.v h3 e3 s l) _ (hs.a1 i l) }

/-- A trip of the loop. -/
theorem covers_step (R : Ready x0 x1 x2 u Q K V) {t0 kb : ℕ} (hk : kb < 6) (ht : 256 * kb + 256 ≤ t0) {s : Carry Ideal} (hs : Covers Q K V t0 (kb + 2) (256 * kb + 256) s)
    (h : k0_chk1 s.1) :
    Covers Q K V t0 kb (256 * (kb - 1)) (step (negq 0 (qlo x0)) (negq 1 (qlo x0)) (negq 0 (qhi x0)) (negq 1 (qhi x0)) u k0_pay7 k0_pay8 x1 x2 s h) := by
  obtain ⟨e5, e6, e7, e8, hb, hi⟩ := trip_places ⟨kb, hk⟩
  dsimp only at e5 e6 e7 e8 hb hi
  rw [← hs.idx] at e5 e6 e7 e8 hb hi
  rw [step_eq]
  exact covers_two R (o := false) (fun i => show 256 * kb + 256 ≤ t0 + i.val by omega) (by omega) hb _ _ _ _ e5 e6 e7 e8 hs kb _ hi

theorem going : ∀ j : Fin 8, Scalar.andi (Scalar.cmpi .sge (Scalar.subi (BitVec.ofNat 32 j.val) 2#32) 0#32) (Scalar.cmpi .sgt 1#32 0#32) = 1#1 ↔ 2 ≤ j.val := by
  decide +kernel

/-- The whole loop: every key is taken. -/
theorem covers_loop (R : Ready x0 x1 x2 u Q K V) {t0 : ℕ} : ∀ (n j : ℕ) (s : Carry Ideal), j < 8 → j ≤ 2 * n + 1 → 256 * (j - 1) ≤ t0 → Covers Q K V t0 j (256 * (j - 1)) s →
    ∃ j', Covers Q K V t0 j' 0 (loop (negq 0 (qlo x0)) (negq 1 (qlo x0)) (negq 0 (qhi x0)) (negq 1 (qhi x0)) u k0_pay7 k0_pay8 x1 x2 n s) := by
  intro n
  induction n with
  | zero =>
    intro j s hj hn ht hs
    rw [show 256 * (j - 1) = 0 by omega] at hs
    exact ⟨j, hs⟩
  | succ n ih =>
    intro j s hj hn ht hs
    have hg : goes s ↔ 2 ≤ j := by
      unfold goes
      rw [hs.idx, hs.go]
      exact going ⟨j, hj⟩
    by_cases h2 : 2 ≤ j
    · obtain ⟨kb, rfl⟩ : ∃ kb, j = kb + 2 := ⟨j - 2, by omega⟩
      have hc : k0_chk1 s.1 := by
        rw [hs.idx]
        have h := (IntOp.andi_eq_one.mp ((going ⟨kb + 2, hj⟩).mpr h2)).1
        exact (inside ⟨kb + 2, hj⟩ h).2.1
      rw [loop, if_pos (hg.mpr h2), dif_pos hc]
      rw [show 256 * (kb + 2 - 1) = 256 * kb + 256 by omega] at hs ht
      exact ih kb _ (by omega) (by omega) (by omega) (covers_step R (by omega) ht hs hc)
    · rw [loop, if_neg (fun h => h2 (hg.mp h))]
      rw [show 256 * (j - 1) = 0 by omega] at hs
      exact ⟨j, hs⟩

theorem first_places : ∀ t : Fin grid0.N, let i := grid0.coords t
    k0_off1 i = ![0, 256 * (i 2).val, 0] ∧ k0_off2 i = ![0, 256 * (i 2).val, 128] ∧ k0_off3 i = ![0, 256 * ((i 2).val - 1), 0]
    ∧ k0_off4 i = ![0, 256 * ((i 2).val - 1), 128] ∧ (Scalar.cmpi .sge (BitVec.ofNat 32 (i 2).val) 1#32 = 1#1 ↔ 1 ≤ (i 2).val) := by decide +kernel

/-- The carry before any block. -/
theorem covers_none (Q K V : ℕ → ℕ → ℝ) (qi : ℕ) (j : ℕ) :
    Covers Q K V (256 * qi) j (256 * qi + 256) (Scalar.subi (BitVec.ofNat 32 j) 2#32, 1#32, k0_pay16, k0_pay16, k0_pay16, k0_pay16, k0_pay17, k0_pay17) := by
  have hr (z : ℕ → ℝ) (i : Fin 256) : (k0_pay16 (F := Ideal)) (ix2 i 0) = (upper (entry z (256 * qi + i.val)) (256 * qi + 256) : EReal) := by
    rw [upper_zero (f := entry z (256 * qi + i.val)) (lo := 256 * qi + 256) fun s hs => by unfold entry; rw [if_neg (by omega)]]
    exact Cert.Gates.zero_word
  have ha (z v : ℕ → ℝ) (i : Fin 256) (l : Fin 128) : (k0_pay17 (F := Ideal)) (ix2 i l) = (upper (mix z v (256 * qi + i.val)) (256 * qi + 256) : EReal) := by
    rw [upper_zero (f := mix z v (256 * qi + i.val)) (lo := 256 * qi + 256) fun s hs => by unfold mix weight; rw [if_neg (by omega), zero_mul]]
    exact Cert.Gates.zero_word
  exact ⟨rfl, rfl, fun i => hr _ i, fun i => hr _ i, fun i => hr _ i, fun i => hr _ i, fun i l => ha _ _ i l, fun i l => ha _ _ i l⟩

/-- The block stored, row by row and lane by lane. -/
theorem out_real (t : Fin grid0.N) {x3 : Vec Ideal S512x256 .bf16} (R : Ready x0 x1 x2 (sums x3) Q K V) (i j : Fin 256) :
    out (grid0.coords t) x0 x1 x2 x3 (ix3 0 i j)
      = (upper (mix (sc (Q i.val) K (j.val / 64)) (fun s => V s j.val) (256 * (grid0.coords t 2).val + i.val)) 0 : EReal) := by
  obtain ⟨e1, e2, e3, e4, hb⟩ := first_places t
  have hq : (grid0.coords t 2).val < 8 := (grid0.coords t 2).isLt
  have hf : Covers Q K V (256 * (grid0.coords t 2).val) (grid0.coords t 2).val (256 * ((grid0.coords t 2).val - 1)) (first (grid0.coords t) x0 x1 x2 x3) := by
    rw [first_eq]
    exact covers_two R (o := true) (fun i => rfl) (by omega) hb _ _ _ _ e1 e2 e3 e4 (covers_none Q K V _ 0) _ _ rfl
  obtain ⟨j', hl⟩ := covers_loop R 3 _ _ hq (by omega) (by omega) hf
  rw [← last_eq] at hl
  unfold out k0_pay3
  pointwise
  have hj := j.isLt
  by_cases h : j.val < 128
  · refine (dif_pos h).trans ((hl.a0 i ⟨j.val, h⟩).trans ?_)
    simp only [zero_add]
    refine congrArg (fun z => ((upper (mix z _ _) 0 : ℝ) : EReal)) ?_
    split
    · rw [show j.val / 64 = 0 by omega]
    · rw [show j.val / 64 = 1 by omega]
  · refine (dif_neg h).trans ((hl.a1 i ⟨j.val - 128, by omega⟩).trans ?_)
    simp only [show 128 + (j.val - 128) = j.val by omega]
    refine congrArg (fun z => ((upper (mix z _ _) 0 : ℝ) : EReal)) ?_
    split
    · rw [show j.val / 64 = 2 by omega]
    · rw [show j.val / 64 = 3 by omega]

end Cert.Kernel7Ideal.Sticks

end
-- ==== Proof.Sticks.Value.lean ====
/- The stick-breaking kernel's result array, in real numbers. -/
module

public import proofs.«01_k».proof.Proof.Sticks.Run
public import proofs.«01_k».proof.Proof.Sticks.Loop
public import Idealize.ShloMosaic.Lib.Pipeline.ValueKit.Geometry
public import Idealize.ShloMosaic.Lib.Pipeline.ValueKit.Point
public import Idealize.ShloMosaic.Lib.Pipeline.ValueKit.Acc

@[expose] public section

set_option maxRecDepth 16384

noncomputable section

namespace Cert.Kernel7Ideal.Sticks

open Idealize.ShloMosaic Idealize.ShloMosaic.TcCoe Idealize.ShloMosaic.Tactic
open Idealize.ShloMosaic.Pipeline (Dat Cfg Window)
open Cert.Kernel7Ideal Cert.Kernel7Ideal.Gen Cert.Sticks

variable (m : (ℓ : Loc nD τ sig) → Buf (Elt Ideal) ℓ) (c : Dev nD)

/-- The blocks' places: batch, query block and head group. -/
theorem index : ∀ t : Fin (cfg0 (F := Ideal)).N, let i := grid0.coords t
    win0_0.index t = ![(i 0).val, (i 2).val, (i 1).val] ∧ win0_1.index t = ![(i 0).val, 0, 4 + (i 1).val]
    ∧ win0_2.index t = ![(i 0).val, 0, 8 + (i 1).val] ∧ win0_3.index t = ![0, 0] ∧ win0_4.index t = ![(i 0).val, (i 2).val, (i 1).val] :=
  (by decide +kernel : ∀ t : Fin grid0.N, _)

/-- The projected array as the kernel's region finds it: batch by batch. -/
theorem projected (b : Fin 16) (s : Fin 2048) (k : Fin 3072) :
    V m c main_v0 (ix3 b s k) = m ((c : Thread nD τ).loc main_arg0) (ix2 ⟨b.val * 2048 + s.val, by omega⟩ k) := by
  entry_read
  pointwise

/-- A bit as a number. -/
theorem bit_real (b : BitVec 1) {p : Prop} [Decidable p] (h : b = 1#1 ↔ p) : (FloatOps.uitofp (F := Ideal) .bf16 b : EReal) = if p then 1 else 0 := by
  show (((b.toNat : ℝ)) : EReal) = _
  by_cases hp : p
  · rw [if_pos hp, h.mpr hp]; simp
  · rw [if_neg hp, (BitVec.eq_zero_or_eq_one b).resolve_right (fun e => hp (h.mp e))]; simp

theorem sge_small {a b : ℕ} (ha : a < 2147483648) (hb : b < 2147483648) :
    IntOp.cmpi .sge (BitVec.ofNat 32 a) (BitVec.ofNat 32 b) = 1#1 ↔ b ≤ a := by
  rw [IntOp.cmpi_sge, Cert.KernelIdeal.Fox.ofNat_toInt ha, Cert.KernelIdeal.Fox.ofNat_toInt hb]; omega

/-- The summing matrix as the region finds it. -/
theorem summing (j : Fin 512) (s : Fin 256) : V m c main_v9 (ix2 j s) = if s.val ≤ j.val % 256 then (1 : EReal) else 0 := by
  entry_read
  pointwise
  have hj := j.isLt
  split
  · exact bit_real _ ((sge_small (by omega) (by omega)).trans (by omega))
  · exact bit_real _ ((sge_small (by omega) (by omega)).trans (by omega))

variable (A : ℕ → ℕ → ℝ)

/-- Every block of a point, in real numbers. -/
theorem ready (hA : ∀ r k, m ((c : Thread nD τ).loc main_arg0) (ix2 r k) = (A r.val k.val : EReal)) (t : Fin (cfg0 (F := Ideal)).N) :
    let b := (grid0.coords t 0).val; let p := (grid0.coords t 1).val; let q := (grid0.coords t 2).val
    Ready (iblk m c 0 t) (iblk m c 1 t) (iblk m c 2 t) (sums (iblk m c 3 t))
      (fun i l => A (b * 2048 + (256 * q + i)) (256 * p + l)) (fun s l => A (b * 2048 + s) (1024 + (256 * p + l)))
      (fun s l => A (b * 2048 + s) (2048 + (256 * p + l))) := by
  intro b p q
  obtain ⟨e0, e1, e2, e3, e4⟩ := index t
  have hb : b < 16 := (grid0.coords t 0).isLt
  have hp : p < 4 := (grid0.coords t 1).isLt
  have hq : q < 8 := (grid0.coords t 2).isLt
  constructor
  · intro i l
    refine Eq.trans ?_ ((projected m c ⟨b, hb⟩ ⟨256 * q + i.val, by omega⟩ ⟨256 * p + l.val, by omega⟩).trans (hA _ _))
    blk_ext [iblk, e0]
  · intro s l
    refine Eq.trans ?_ ((projected m c ⟨b, hb⟩ s ⟨1024 + (256 * p + l.val), by omega⟩).trans (hA _ _))
    blk_ext [iblk, e1]
  · intro s l
    refine Eq.trans ?_ ((projected m c ⟨b, hb⟩ s ⟨2048 + (256 * p + l.val), by omega⟩).trans (hA _ _))
    blk_ext [iblk, e2]
  · intro j s
    refine Eq.trans ?_ (summing m c j s)
    unfold sums k0_pay6
    rw [View.ld_unit_zero (S := S512x256) (funext fun a => by fin_cases a <;> rfl)]
    pointwise
    blk_ext [iblk, e3]

theorem array (hA : ∀ r k, m ((c : Thread nD τ).loc main_arg0) (ix2 r k) = (A r.val k.val : EReal)) :
    (dats m 0 c).arrAt 4 (cfg0 (F := Ideal)).N = fun y : S16x2048x1024.Idx => ((Cert.Sticks.spec A (y 0).val (y 1).val (y 2).val : ℝ) : EReal) := by
  refine (dats m 0 c).arrAt_eq_of_covers 4 _ (by decide +kernel) fun t hf y => ?_
  obtain ⟨e0, e1, e2, e3, e4⟩ := index t
  have hb : (grid0.coords t 0).val < 16 := (grid0.coords t 0).isLt
  have hp : (grid0.coords t 1).val < 4 := (grid0.coords t 1).isLt
  have hq : (grid0.coords t 2).val < 8 := (grid0.coords t 2).isLt
  blk_simp [e4]
  rw [after_o]
  unfold outAt rOut
  rw [View.canon_unit_zero (S := S1x256x256) (funext fun a => by fin_cases a <;> rfl)]
  have hy : y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  rw [hy]
  refine (out_real t (ready m c A hA t) (y 1) (y 2)).trans (congrArg _ ?_)
  generalize (grid0.coords t 0).val = b at *
  generalize (grid0.coords t 1).val = p at *
  generalize (grid0.coords t 2).val = q at *
  have h2 : (y 2).val < 256 := (y 2).isLt
  show upper (mix (sc _ _ ((y 2).val / 64)) _ (256 * q + (y 1).val)) 0 = Cert.Sticks.spec A b (q * 256 + (y 1).val) (p * 256 + (y 2).val)
  unfold sc Cert.Sticks.spec
  have e1 (d : Fin 64) : p * 256 + (64 * ((y 2).val / 64) + d.val) = 64 * ((p * 256 + (y 2).val) / 64) + d.val := by omega
  simp only [Nat.mul_comm 256, e1]

end Cert.Kernel7Ideal.Sticks

end
-- ==== Proof.Sticks.Reference.lean ====
/- The plain stick-breaking attention of the reference program, in real numbers. -/
module

public import proofs.«01_k».proof.Proof.Gen.Reference7Ideal.Run
public import proofs.«01_k».proof.Proof.Sticks.Soft
public import proofs.«01_k».proof.Proof.Gates.Reference
public import Idealize.ShloMosaic.Lib.Pointwise
public import Idealize.ShloMosaic.Lib.MatmulPlain

@[expose] public section

set_option maxRecDepth 16384

noncomputable section

namespace Cert.Sticks

open Idealize.ShloMosaic Idealize.ShloMosaic.TcCoe Idealize.ShloMosaic.Tactic

theorem lane_numel (N : ℕ) : (⟨4, ![1, 1, 1, N]⟩ : Shape).numel = N := by
  show ∏ a : Fin 4, (![1, 1, 1, N] : Fin 4 → ℕ) a = N
  rw [Fin.prod_univ_four]
  show 1 * 1 * 1 * N = N
  omega

/-- The places of a window one lane wide, in order. -/
theorem lane_place {N : ℕ} (n : Fin (⟨4, ![1, 1, 1, N]⟩ : Shape).numel) :
    (⟨4, ![1, 1, 1, N]⟩ : Shape).rowMajor.symm n = ix4 (0 : Fin 1) (0 : Fin 1) (0 : Fin 1) (n.cast (lane_numel N)) := by
  rw [Equiv.symm_apply_eq]
  refine Fin.ext ?_
  rw [Shape.rowMajor_val_four]
  show n.val = ((0 * 1 + 0) * 1 + 0) * N + n.val
  simp

/-- A window reaching ahead over the whole axis sums everything from its place on. -/
theorem ahead_sum {A B C M : ℕ} (x : (⟨4, ![A, B, C, M + 1]⟩ : Shape).Idx → EReal) (f : ℕ → EReal)
    (h : (⟨4, ![A, B, C, M + 1]⟩ : Shape).ReduceWindows (![1, 1, 1, M + 1] : Fin 4 → Nat) ![1, 1, 1, 1] ![0, 0, 0, 0] ![0, 0, 0, M] ⟨4, ![A, B, C, M + 1]⟩)
    (q : Fin A) (l : Fin B) (t : Fin C) (n : Fin (M + 1)) (hx : ∀ i : Fin (M + 1), x (ix4 q l t i) = f i.val) :
    Ideal.hostReduceWindowAdd (![1, 1, 1, M + 1] : Fin 4 → Nat) ![1, 1, 1, 1] ![0, 0, 0, 0] ![0, 0, 0, M] h x 0 (ix4 q l t n)
      = ∑ s ∈ Finset.Ico n.val (M + 1), f s := by
  have hn := n.isLt
  have hq := q.isLt
  have hl := l.isLt
  have ht := t.isLt
  unfold Ideal.hostReduceWindowAdd Host.reduceWindow
  refine (Cert.Gates.fold_add _ _ _).trans ?_
  rw [zero_add, ← Fin.sum_univ_def]
  refine (Finset.sum_congr rfl fun w _ => ?_ : _ = ∑ w : Fin (⟨4, ![1, 1, 1, M + 1]⟩ : Shape).numel,
    (fun w : ℕ => if n.val + w < M + 1 then f (n.val + w) else 0) w.val).trans ?_
  · have hw : w.val < M + 1 := (w.cast (lane_numel _)).isLt
    dsimp only
    split
    · next hin =>
      have h3 := hin 3
      rw [lane_place] at h3
      change 0 ≤ n.val * 1 + w.val ∧ n.val * 1 + w.val - 0 < M + 1 at h3
      rw [if_pos (by omega), ← hx ⟨n.val + w.val, by omega⟩]
      refine congrArg x (funext fun a => Fin.ext ?_)
      match a with
      | ⟨0, _⟩ =>
        show q.val * 1 + ((⟨4, ![1, 1, 1, M + 1]⟩ : Shape).rowMajor.symm w 0).val - 0 = q.val
        rw [lane_place]
        show q.val * 1 + 0 - 0 = q.val
        omega
      | ⟨1, _⟩ =>
        show l.val * 1 + ((⟨4, ![1, 1, 1, M + 1]⟩ : Shape).rowMajor.symm w 1).val - 0 = l.val
        rw [lane_place]
        show l.val * 1 + 0 - 0 = l.val
        omega
      | ⟨2, _⟩ =>
        show t.val * 1 + ((⟨4, ![1, 1, 1, M + 1]⟩ : Shape).rowMajor.symm w 2).val - 0 = t.val
        rw [lane_place]
        show t.val * 1 + 0 - 0 = t.val
        omega
      | ⟨3, _⟩ =>
        show n.val * 1 + ((⟨4, ![1, 1, 1, M + 1]⟩ : Shape).rowMajor.symm w 3).val - 0 = n.val + w.val
        rw [lane_place]
        show n.val * 1 + w.val - 0 = n.val + w.val
        omega
    · next hin =>
      rw [if_neg fun hle => hin fun a => ?_]
      rw [lane_place]
      match a with
      | ⟨0, _⟩ =>
        show 0 ≤ q.val * 1 + 0 ∧ q.val * 1 + 0 - 0 < A
        omega
      | ⟨1, _⟩ =>
        show 0 ≤ l.val * 1 + 0 ∧ l.val * 1 + 0 - 0 < B
        omega
      | ⟨2, _⟩ =>
        show 0 ≤ t.val * 1 + 0 ∧ t.val * 1 + 0 - 0 < C
        omega
      | ⟨3, _⟩ =>
        show 0 ≤ n.val * 1 + w.val ∧ n.val * 1 + w.val - 0 < M + 1
        omega
  · rw [Fin.sum_univ_eq_sum_range (fun w : ℕ => if n.val + w < M + 1 then f (n.val + w) else 0), lane_numel, Finset.sum_Ico_eq_sum_range]
    generalize n.val = p at hn ⊢
    rw [← Finset.sum_filter]
    refine Finset.sum_congr ?_ fun _ _ => rfl
    ext w; simp only [Finset.mem_filter, Finset.mem_range]; omega

end Cert.Sticks

namespace Cert.Reference7Ideal.Sticks

open Idealize.ShloMosaic Idealize.ShloMosaic.TcCoe Idealize.ShloMosaic.Tactic
open Cert.Reference7Ideal Cert.Reference7Ideal.Gen Cert.Sticks Cert.Fox

/-- One of the three projected arrays, head by head: the columns from `o` on. -/
def heads (o : ℕ) (h : S16x2048x3072.Slices ![0, 0, o] S16x2048x1024) (x : FVec Ideal S32768x3072 .bf16) : FVec Ideal S16x16x2048x64 .f32 :=
  transpose S16x16x2048x64 [0, 2, 1, 3] (shapeCast S16x2048x16x64 (extractStridedSlice S16x2048x1024 ![0, 0, o]
    (extf .f32 (shapeCast S16x2048x3072 x shapeCasts_S32768x3072_S16x2048x3072) bitsLt_bf16_f32) h) shapeCasts_S16x2048x1024_S16x2048x16x64)
    transposes_S16x2048x16x64_S16x16x2048x64_0_2_1_3

/-- The scores. -/
def scores (x : FVec Ideal S32768x3072 .bf16) : FVec Ideal S16x16x2048x2048 .f32 :=
  Host.dotGeneral dot_S16x16x2048x64_S16x16x2048x64_S16x16x2048x2048_3_3_2_2_01_01 none
    (heads 0 slices_S16x2048x3072_S16x2048x1024_0_0_0 x) (heads 1024 slices_S16x2048x3072_S16x2048x1024_0_0_1024 x)

/-- A zero at every place. -/
def zeros : FVec Ideal S16x16x2048x2048 .f32 := broadcastInDim S16x16x2048x2048 ![] bcast_S_S16x16x2048x2048 (constant S_ .f32 0x00000000#32)

/-- Entries before the query are kept, the others are zero. -/
def before (x : FVec Ideal S16x16x2048x2048 .f32) : FVec Ideal S16x16x2048x2048 .f32 :=
  select (broadcastInDim S16x16x2048x2048 ![2, 3] bcast_S2048x2048_S16x16x2048x2048_2_3
      (cmpi .slt (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    x (broadcastInDim S16x16x2048x2048 ![] bcast_S_S16x16x2048x2048 (id (constant S_ .f32 0x00000000#32)))

/-- The smooth positive part, as printed. -/
def soft (y : FVec Ideal S16x16x2048x2048 .f32) : FVec Ideal S16x16x2048x2048 .f32 :=
  select (cmpf .une (subf y zeros) (subf y zeros)) (addf y zeros)
    (addf (maximumf y zeros) (Host.log1p (Host.exp (Host.negf (Host.absf (subf y zeros))))))

/-- The logarithm of each score's share. -/
def share (z : FVec Ideal S16x16x2048x2048 .f32) : FVec Ideal S16x16x2048x2048 .f32 := Host.negf (soft (Host.negf z))

/-- Sums from each key on. -/
def ahead (l : FVec Ideal S16x16x2048x2048 .f32) : FVec Ideal S16x16x2048x2048 .f32 :=
  Host.reduceWindowAdd ![1, 1, 1, 2048] ![1, 1, 1, 1] ![0, 0, 0, 0] ![0, 0, 0, 2047] l (broadcastInDim S_ ![] bcast_S_S_ (constant S_ .f32 0x00000000#32))
    reduceWindows_S16x16x2048x2048_S16x16x2048x2048_w1s1p0_0_w1s1p0_0_w1s1p0_0_w2048s1p0_2047 h_S_

/-- The weights, from the scores and what each key leaves. -/
def weights (z l : FVec Ideal S16x16x2048x2048 .f32) : FVec Ideal S16x16x2048x2048 .f32 :=
  before (Host.exp (addf (share z) (subf (ahead l) l)))

/-- The weighted values, in the layout returned. -/
def mixed (p : FVec Ideal S16x16x2048x2048 .f32) (v : FVec Ideal S16x16x2048x64 .f32) : FVec Ideal S16x2048x1024 .bf16 :=
  truncf .bf16 (shapeCast S16x2048x1024 (transpose S16x2048x16x64 [0, 2, 1, 3]
    (Host.dotGeneral dot_S16x16x2048x2048_S16x16x2048x64_S16x16x2048x64_3_2_2_3_01_01 none p v) transposes_S16x16x2048x64_S16x2048x16x64_0_2_1_3)
    shapeCasts_S16x2048x16x64_S16x2048x1024) bitsLt_bf16_f32

/-- The result array of an argument array. -/
def result (x : FVec Ideal S32768x3072 .bf16) : FVec Ideal S16x2048x1024 .bf16 :=
  mixed (weights (scores x) (before (share (Host.negf (scores x))))) (heads 2048 slices_S16x2048x3072_S16x2048x1024_0_0_2048 x)

theorem res_eq (m : (ℓ : Loc nD τ sig) → Buf (Elt Ideal) ℓ) (c : Dev nD) :
    Value.res_main_v31 m c = result (m ((c : Thread nD τ).loc main_arg0)) := rfl

theorem heads_apply (o : ℕ) (h : S16x2048x3072.Slices ![0, 0, o] S16x2048x1024) (ho : o + 1024 ≤ 3072) (x : FVec Ideal S32768x3072 .bf16)
    (b g : Fin 16) (t : Fin 2048) (d : Fin 64) :
    heads o h x (ix4 b g t d) = x (ix2 ⟨b.val * 2048 + t.val, by omega⟩ ⟨o + (g.val * 64 + d.val), by omega⟩) := by
  unfold heads
  pointwise

theorem scores_apply (x : FVec Ideal S32768x3072 .bf16) (b g : Fin 16) (t s : Fin 2048) :
    scores x (ix4 b g t s) = ∑ d : Fin 64, heads 0 slices_S16x2048x3072_S16x2048x1024_0_0_0 x (ix4 b g t d)
      * heads 1024 slices_S16x2048x3072_S16x2048x1024_0_0_1024 x (ix4 b g s d) := by
  unfold scores
  pointwise

theorem before_apply (x : FVec Ideal S16x16x2048x2048 .f32) (b g : Fin 16) (t s : Fin 2048) :
    before x (ix4 b g t s) = if s.val < t.val then x (ix4 b g t s) else 0 := by
  unfold before
  pointwise
  rw [show id (constant (F := Ideal) S_ FTy.f32 0x00000000#32) ix0 = (0 : EReal) from Cert.Gates.zero_word]
  unfold Scalar.select
  refine if_congr (?_ : _ = 1#1 ↔ _) rfl rfl
  have ht := t.isLt
  have hs := s.isLt
  have small {a : ℕ} (h : a < 2048) : (BitVec.ofNat 32 a).toInt = a := by
    rw [BitVec.toInt_ofNat']; norm_num [Int.bmod]; omega
  rw [IntOp.cmpi_slt, small hs, small ht]; omega

theorem soft_apply (y : FVec Ideal S16x16x2048x2048 .f32) (b g : Fin 16) (t s : Fin 2048) :
    soft y (ix4 b g t s) = max (y (ix4 b g t s)) 0 + Ideal.log (1 + Ideal.exp (-max (y (ix4 b g t s)) (-y (ix4 b g t s)))) := by
  unfold soft zeros
  pointwise
  generalize y (ix4 b g t s) = z
  simp
  rfl

theorem share_apply (z : FVec Ideal S16x16x2048x2048 .f32) (b g : Fin 16) (t s : Fin 2048) :
    share z (ix4 b g t s) = Cert.Gates.logGate (z (ix4 b g t s)) := by
  rw [← Cert.Gates.logGate_plain]
  exact congrArg (fun e : EReal => -e) (soft_apply (Host.negf z) b g t s)

theorem ahead_apply (l : FVec Ideal S16x16x2048x2048 .f32) (f : ℕ → EReal) (b g : Fin 16) (t s : Fin 2048) (hl : ∀ i : Fin 2048, l (ix4 b g t i) = f i.val) :
    ahead l (ix4 b g t s) = ∑ i ∈ Finset.Ico s.val 2048, f i := by
  rw [← ahead_sum (M := 2047) l f reduceWindows_S16x16x2048x2048_S16x16x2048x2048_w1s1p0_0_w1s1p0_0_w1s1p0_0_w2048s1p0_2047 b g t s hl]
  unfold ahead
  rw [show broadcastInDim S_ ![] bcast_S_S_ (constant (F := Ideal) S_ .f32 0x00000000#32) = fun _ => (0 : EReal) from funext fun i => Cert.Gates.zero_word]
  unfold Host.reduceWindowAdd
  rw [Ideal.hostReduceWindowAdd_def]

theorem mixed_apply (p : FVec Ideal S16x16x2048x2048 .f32) (v : FVec Ideal S16x16x2048x64 .f32) (b : Fin 16) (t : Fin 2048) (j : Fin 1024) :
    mixed p v (ix3 b t j) = ∑ s : Fin 2048, p (ix4 b ⟨j.val / 64, by omega⟩ t s) * v (ix4 b ⟨j.val / 64, by omega⟩ s ⟨j.val % 64, by omega⟩) := by
  unfold mixed
  pointwise

/-- The coercion over a range. -/
theorem coe_upper (f : ℕ → ℝ) (lo : ℕ) : (∑ i ∈ Finset.Ico lo 2048, ((f i : ℝ) : EReal)) = ((upper f lo : ℝ) : EReal) := by
  unfold upper
  induction Finset.Ico lo 2048 using Finset.induction_on with
  | empty => simp
  | insert a s ha ih => rw [Finset.sum_insert ha, Finset.sum_insert ha, ih, EReal.coe_add]

/-- A row's weights, on real scores. -/
theorem weights_real (z : FVec Ideal S16x16x2048x2048 .f32) (a : ℕ → ℝ) (b g : Fin 16) (t s : Fin 2048)
    (hz : ∀ s : Fin 2048, z (ix4 b g t s) = ((a s.val : ℝ) : EReal)) :
    weights z (before (share (Host.negf z))) (ix4 b g t s) = ((weight a t.val s.val : ℝ) : EReal) := by
  have hl (i : Fin 2048) : before (share (Host.negf z)) (ix4 b g t i) = ((entry a t.val i.val : ℝ) : EReal) := by
    rw [before_apply, share_apply]
    unfold entry
    split
    · rw [show (Host.negf z) (ix4 b g t i) = (-z (ix4 b g t i) : EReal) from rfl, hz, ← EReal.coe_neg, logGate_real, neg_neg]
    · rfl
  unfold weights
  rw [before_apply]
  unfold weight
  split
  next hs =>
    show Ideal.exp (share z (ix4 b g t s) + (ahead _ (ix4 b g t s) - before (share (Host.negf z)) (ix4 b g t s))) = _
    rw [share_apply, hz, logGate_real, ahead_apply _ (fun i => ((entry a t.val i : ℝ) : EReal)) b g t s hl, coe_upper, hl, lognot_neg, ← EReal.coe_sub, ← EReal.coe_add]
    rw [show entry a t.val s.val = lognot (a s.val) from if_pos hs,
      show a s.val + lognot (a s.val) + (upper (entry a t.val) s.val - lognot (a s.val)) = a s.val + upper (entry a t.val) s.val from by ring]
    rfl
  next => rfl

/-- The reference's result, on real arguments. -/
theorem res_spec (x : FVec Ideal S32768x3072 .bf16) (A : ℕ → ℕ → ℝ) (hA : ∀ r k, x (ix2 r k) = (A r.val k.val : EReal))
    (b : Fin 16) (t : Fin 2048) (j : Fin 1024) : result x (ix3 b t j) = ((Cert.Sticks.spec A b.val t.val j.val : ℝ) : EReal) := by
  have hj := j.isLt
  let g : Fin 16 := ⟨j.val / 64, by omega⟩
  let a : ℕ → ℝ := fun s => ∑ d : Fin 64, A (b.val * 2048 + t.val) (64 * (j.val / 64) + d.val) * A (b.val * 2048 + s) (1024 + (64 * (j.val / 64) + d.val))
  have hz (s : Fin 2048) : scores x (ix4 b g t s) = ((a s.val : ℝ) : EReal) := by
    rw [scores_apply]
    simp only [heads_apply 0 _ (by decide), heads_apply 1024 _ (by decide), hA, ← EReal.coe_mul, coe_sum]
    refine congrArg _ ?_
    have e (d : Fin 64) : j.val / 64 * 64 + d.val = 64 * (j.val / 64) + d.val := by omega
    simp only [g, a, e, Nat.zero_add]
  have hv (s : Fin 2048) : heads 2048 slices_S16x2048x3072_S16x2048x1024_0_0_2048 x (ix4 b g s ⟨j.val % 64, by omega⟩)
      = ((A (b.val * 2048 + s.val) (2048 + j.val) : ℝ) : EReal) := by
    rw [heads_apply 2048 _ (by decide), hA]
    refine congrArg (fun k => ((A (b.val * 2048 + s.val) k : ℝ) : EReal)) ?_
    show 2048 + (j.val / 64 * 64 + j.val % 64) = 2048 + j.val
    omega
  unfold result
  rw [mixed_apply]
  refine (Finset.sum_congr rfl fun s _ => ?_ : _ = ∑ s : Fin 2048, ((mix a (fun s => A (b.val * 2048 + s) (2048 + j.val)) t.val s.val : ℝ) : EReal)).trans ?_
  · exact (congrArg₂ (· * ·) (weights_real (scores x) a b g t s hz) (hv s)).trans (EReal.coe_mul _ _).symm
  · rw [coe_sum]
    refine congrArg _ ?_
    unfold Cert.Sticks.spec upper
    rw [Nat.Ico_zero_eq_range, Fin.sum_univ_eq_sum_range (fun s => mix a (fun s => A (b.val * 2048 + s) (2048 + j.val)) t.val s)]

end Cert.Reference7Ideal.Sticks

end
-- ==== Proof.Sticks.Claims.lean ====
/- The stick-breaking attention call's claims: the argument's finiteness read as real numbers, and the two programs' results side by side. -/
module

public import proofs.«01_k».proof.Defs
public import proofs.«01_k».proof.Proof.Gen.Pre_sticks_finite
public import proofs.«01_k».proof.Proof.Fox.Claims
public import proofs.«01_k».proof.Proof.SticksWords.Run
public import proofs.«01_k».proof.Proof.Sticks.Value
public import proofs.«01_k».proof.Proof.Sticks.Reference
public import Idealize.ShloMosaic.Lib.ReduceAll

@[expose] public section

set_option maxRecDepth 16384

noncomputable section

namespace Cert.Sticks

open Idealize.ShloMosaic Idealize.ShloMosaic.TcCoe Idealize.ShloMosaic.Tactic

/-- The precondition's reading: every entry of the argument is a real number. -/
theorem entries_real (x : FVec Ideal ⟨2, ![32768, 3072]⟩ .bf16) (h : Cert.Pre_sticks_finite.fn (F := Ideal) x = fun _ => 1#1) :
    ∀ i, (((x i).toReal : ℝ) : EReal) = x i := by
  have h0 := congrFun h ix0
  dsimp only [Cert.Pre_sticks_finite.fn] at h0
  exact fun i => Cert.Fox.real_of_lt (Host.reduce_andi_all _ _ _ _ _ h0 i)

end Cert.Sticks

namespace Cert.Proof

open Idealize.ShloMosaic Idealize.ShloMosaic.TcCoe

/-- The stick-breaking attention call's frame as printed: its run at words. -/
theorem frame_kernel7 : Cert.quiescent_Kernel7 := fun m ρ _ => Cert.Kernel7.Sticks.unchanged (F := Bits) m ρ

/-- The idealized call's frame. -/
theorem frame_ideal7 : Cert.quiescent_Kernel7Ideal := fun m ρ _ => Cert.Kernel7Ideal.Sticks.unchanged (F := Ideal) m ρ

theorem frame_ideal7_finite : Cert.quiescent_Kernel7Ideal_pre_sticks_finite := fun m ρ _ => Cert.Kernel7Ideal.Sticks.unchanged (F := Ideal) m ρ

/-- The reference's frame: it waits on nothing and writes no argument. -/
theorem frame_reference7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem frame_reference7_finite : Cert.quiescent_Reference7Ideal_pre_sticks_finite := fun m ρ _ => frame_reference7 m ρ trivial

/-- The idealized call's threshold is the table's. -/
theorem threshold : Cert.preserves_Kernel7_Kernel7Ideal :=
  ⟨rfl, fun _ => IdealRules.named_const.ideal_named _ _ _ _ rfl, IdealRules.named_const.ideal_named_scalar _ _ _ _ rfl⟩

/-- On finite arguments the stick-breaking kernel and the plain stick-breaking attention give the same array. -/
theorem sticks : Cert.algebraic_Kernel7Ideal_Reference7Ideal_pre_sticks_finite := by
  intro m g m' g' hfin hargs
  let A (c : Dev Cert.Kernel7Ideal.nD) (r k : ℕ) : ℝ :=
    (m ((c.tc : Thread Cert.Kernel7Ideal.nD Cert.Kernel7Ideal.τ).loc Cert.Kernel7Ideal.main_arg0) (ix2 ⟨r % 32768, Nat.mod_lt _ (by norm_num)⟩ ⟨k % 3072, Nat.mod_lt _ (by norm_num)⟩) : EReal).toReal
  have hA (c : Dev Cert.Kernel7Ideal.nD) (r : Fin 32768) (k : Fin 3072) :
      m ((c.tc : Thread Cert.Kernel7Ideal.nD Cert.Kernel7Ideal.τ).loc Cert.Kernel7Ideal.main_arg0) (ix2 r k) = (A c r.val k.val : EReal) := by
    refine Eq.trans (Cert.Sticks.entries_real _ (hfin c) (ix2 r k)).symm ?_
    simp only [A, Nat.mod_eq_of_lt r.isLt, Nat.mod_eq_of_lt k.isLt]
  refine ⟨fun c => fun y : Cert.Kernel7Ideal.S16x2048x1024.Idx => ((Cert.Sticks.spec (A c) (y 0).val (y 1).val (y 2).val : ℝ) : EReal), ?_, ?_⟩
  · refine (θ_run Cert.Kernel7Ideal.defs _ _).mono (fun r h c => ⟨?_, h.2.1 c⟩)
      (θ_run_and (Cert.Kernel7Ideal.Sticks.run_main (F := Ideal) m g) (Cert.Kernel7Ideal.Sticks.unchanged (F := Ideal) m g))
    exact ((h.1.1 c).1 4).trans (Cert.Kernel7Ideal.Sticks.array m c (A c) (hA c))
  · refine (θ_run Cert.Reference7Ideal.defs _ _).mono (fun r h c => ⟨(h c).1.trans ?_, (h c).2⟩) (Cert.Reference7Ideal.Value.run (F := Ideal) m' g')
    rw [Cert.Reference7Ideal.Sticks.res_eq]
    have e0 := hargs c
    funext y
    have hy : y = ix3 (y 0) (y 1) (y 2) := by
      funext a
      match a with
      | ⟨0, _⟩ => rfl
      | ⟨1, _⟩ => rfl
      | ⟨2, _⟩ => rfl
    rw [hy]
    exact Cert.Reference7Ideal.Sticks.res_spec _ (A c) (fun r k => (congrFun e0 (ix2 r k)).trans (hA c r k)) (y 0) (y 1) (y 2)

end Cert.Proof

end
-- ==== Proof.lean ====
/- The claims, assembled: the forgetting attention, the normalised projection, the experts, the gates' sums, the output projection, the second layer's projection with its gates, and the stick-breaking attention. -/
module

public import proofs.«01_k».proof.Defs
public import proofs.«01_k».proof.Proof.Fox.Claims
public import proofs.«01_k».proof.Proof.Proj.Claims
public import proofs.«01_k».proof.Proof.Experts.Claims
public import proofs.«01_k».proof.Proof.Gates.Claims
public import proofs.«01_k».proof.Proof.Router.Claims
public import proofs.«01_k».proof.Proof.Proj.GatedClaims
public import proofs.«01_k».proof.Proof.Sticks.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_experts_in_range.Gen.facts, Cert.Pre_router_finite.Gen.facts, Cert.Pre_sticks_finite.Gen.facts,
  frame_kernel, frame_ideal, frame_ideal_finite, frame_reference, frame_reference_finite, frame_kernel2, frame_ideal2, frame_reference2,
  frame_kernel3, frame_ideal3, frame_reference3, frame_reference3_in_range,
  frame_kernel4, frame_ideal4, frame_reference4, frame_kernel5, frame_ideal5, frame_ideal5_finite, frame_reference5, frame_reference5_finite,
  frame_kernel6, frame_ideal6, frame_reference6, frame_kernel7, frame_ideal7, frame_ideal7_finite, frame_reference7, frame_reference7_finite,
  trivial, attention, trivial, projection, trivial, experts, trivial, gates, trivial, oproj, trivial, projection_gates, threshold, sticks⟩

end Cert.Proof
